-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 [hPre_slots_in_range : Cert.Pre_slots_in_range.Facts] (m : (ℓ : Loc Cert.Kernel10.nD Cert.Kernel10.τ Cert.Kernel10.sig) → Buf (Elt Bits) ℓ) : Prop :=
  ∀ c : Dev Cert.Kernel10.nD,
    (Cert.Pre_slots_in_range.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4)) (m ((c.tc : Thread Cert.Kernel10.nD Cert.Kernel10.τ).loc Cert.Kernel10.main_arg5))) = (fun _ => 1#1)

def Pre_Kernel10Ideal [hPre_slots_in_range : Cert.Pre_slots_in_range.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_slots_in_range.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) = (fun _ => 1#1)

def Pre_Reference10Ideal [hPre_slots_in_range : Cert.Pre_slots_in_range.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_slots_in_range.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] [hPre_slots_in_range : Cert.Pre_slots_in_range.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] [hPre_slots_in_range : Cert.Pre_slots_in_range.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] [hPre_slots_in_range : Cert.Pre_slots_in_range.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v28) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] [hPre_slots_in_range : Cert.Pre_slots_in_range.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_in_range : Cert.Pre_in_range.Facts) (hPre_slots_in_range : Cert.Pre_slots_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10) (hPre_slots_in_range := hPre_slots_in_range)
    ∧ quiescent_Kernel10Ideal (hKernel10Ideal := hKernel10Ideal) (hPre_slots_in_range := hPre_slots_in_range)
    ∧ quiescent_Reference10Ideal (hReference10Ideal := hReference10Ideal) (hPre_slots_in_range := hPre_slots_in_range)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal) (hPre_slots_in_range := hPre_slots_in_range)
-- ==== Pre_in_range.lean ====
abbrev S288 : Shape := ⟨1, ![288]⟩
abbrev S1 : Shape := ⟨1, ![1]⟩
abbrev S147456 : Shape := ⟨1, ![147456]⟩
abbrev S32768x4096 : Shape := ⟨2, ![32768, 4096]⟩
abbrev S1x32x4096x8192 : Shape := ⟨4, ![1, 32, 4096, 8192]⟩
abbrev S1x32x8192 : Shape := ⟨3, ![1, 32, 8192]⟩
abbrev S1x32x4096x4096 : Shape := ⟨4, ![1, 32, 4096, 4096]⟩
abbrev S1x32x4096 : Shape := ⟨3, ![1, 32, 4096]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S147456 : S_.BroadcastsInDim S147456 (![] : Fin 0 → Fin S147456.rank)
  reducesTo_S147456_S_d0 : S147456.ReducesTo [0] S_

variable [Facts]

def fn {F : FTy → Type} [FloatOps F] (main_arg0 : IVec S288 32) (main_arg1 : IVec S1 32) (main_arg2 : IVec S147456 32) (main_arg3 : FVec F S32768x4096 .f32) (main_arg4 : FVec F S1x32x4096x8192 .f32) (main_arg5 : FVec F S1x32x8192 .f32) (main_arg6 : FVec F S1x32x4096x4096 .f32) (main_arg7 : FVec F S1x32x4096 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 0#32
  let main_v6 : IVec S147456 32 := broadcastInDim S147456 ![] bcast_S_S147456 main_c_2
  let main_v7 : IVec S147456 1 := cmpi .sge main_arg2 main_v6
  let main_c_3 : IVec S_ 32 := constantI S_ 32 32768#32
  let main_v8 : IVec S147456 32 := broadcastInDim S147456 ![] bcast_S_S147456 main_c_3
  let main_v9 : IVec S147456 1 := cmpi .slt main_arg2 main_v8
  let main_v10 : IVec S147456 1 := andi main_v7 main_v9
  let main_c_4 : IVec S_ 1 := constantI S_ 1 1#1
  let main_v11 : IVec S_ 1 := (fun x v => Host.reduce IntOp.andi x v reducesTo_S147456_S_d0 h_S_) main_v10 main_c_4
  let main_v12 : IVec S_ 1 := andi main_v5 main_v11
  main_v12
-- ==== Pre_slots_in_range.lean ====
abbrev S131072 : Shape := ⟨1, ![131072]⟩
abbrev S147456x4096 : Shape := ⟨2, ![147456, 4096]⟩
abbrev S32768x128 : Shape := ⟨2, ![32768, 128]⟩
abbrev S32768x4096 : Shape := ⟨2, ![32768, 4096]⟩
abbrev S1x4096 : Shape := ⟨2, ![1, 4096]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel

variable [Facts]

def fn {F : FTy → Type} [FloatOps F] (main_arg0 : IVec S131072 32) (main_arg1 : FVec F S147456x4096 .f32) (main_arg2 : FVec F S32768x128 .f32) (main_arg3 : FVec F S32768x4096 .f32) (main_arg4 : FVec F S1x4096 .f32) (main_arg5 : FVec F S1x4096 .f32) : IVec S_ 1 :=
  let main_c : IVec S_ 32 := constantI S_ 32 0#32
  let main_v0 : IVec S131072 32 := broadcastInDim S131072 ![] bcast_S_S131072 main_c
  let main_v1 : IVec S131072 1 := cmpi .sge main_arg0 main_v0
  let main_c_0 : IVec S_ 32 := constantI S_ 32 147456#32
  let main_v2 : IVec S131072 32 := broadcastInDim S131072 ![] bcast_S_S131072 main_c_0
  let main_v3 : IVec S131072 1 := cmpi .slt main_arg0 main_v2
  let main_v4 : IVec S131072 1 := andi main_v1 main_v3
  let main_c_1 : IVec S_ 1 := constantI S_ 1 1#1
  let main_v5 : IVec S_ 1 := (fun x v => Host.reduce IntOp.andi x v reducesTo_S131072_S_d0 h_S_) main_v4 main_c_1
  main_v5
-- ==== Kernel.lean ====
abbrev S288 : Shape := ⟨1, ![288]⟩
abbrev S1 : Shape := ⟨1, ![1]⟩
abbrev S147456 : Shape := ⟨1, ![147456]⟩
abbrev S32768x4096 : Shape := ⟨2, ![32768, 4096]⟩
abbrev S1x32x4096x8192 : Shape := ⟨4, ![1, 32, 4096, 8192]⟩
abbrev S1x32x8192 : Shape := ⟨3, ![1, 32, 8192]⟩
abbrev S1x32x4096x4096 : Shape := ⟨4, ![1, 32, 4096, 4096]⟩
abbrev S1x32x4096 : Shape := ⟨3, ![1, 32, 4096]⟩
abbrev S288x4x128 : Shape := ⟨3, ![288, 4, 128]⟩
abbrev S32x4096x8192 : Shape := ⟨3, ![32, 4096, 8192]⟩
abbrev S32x8192 : Shape := ⟨2, ![32, 8192]⟩
abbrev S32x1x8192 : Shape := ⟨3, ![32, 1, 8192]⟩
abbrev S32x4096x4096 : Shape := ⟨3, ![32, 4096, 4096]⟩
abbrev S32x4096 : Shape := ⟨2, ![32, 4096]⟩
abbrev S32x1x4096 : Shape := ⟨3, ![32, 1, 4096]⟩
abbrev S147456x4096 : Shape := ⟨2, ![147456, 4096]⟩
abbrev S1x4096x256 : Shape := ⟨3, ![1, 4096, 256]⟩
abbrev S1x1x256 : Shape := ⟨3, ![1, 1, 256]⟩
abbrev S1x256x4096 : Shape := ⟨3, ![1, 256, 4096]⟩
abbrev S1x1x4096 : Shape := ⟨3, ![1, 1, 4096]⟩
abbrev S512x4096 : Shape := ⟨2, ![512, 4096]⟩
abbrev S4x128 : Shape := ⟨2, ![4, 128]⟩
abbrev S_ : Shape := ⟨0, ![]⟩
abbrev S1x4x128 : Shape := ⟨3, ![1, 4, 128]⟩
abbrev S1x1 : Shape := ⟨2, ![1, 1]⟩
abbrev S1x4096 : Shape := ⟨2, ![1, 4096]⟩
abbrev S4096x256 : Shape := ⟨2, ![4096, 256]⟩
abbrev S512x256 : Shape := ⟨2, ![512, 256]⟩
abbrev S1x256 : Shape := ⟨2, ![1, 256]⟩
abbrev S1x256x512 : Shape := ⟨3, ![1, 256, 512]⟩
abbrev S256x512 : Shape := ⟨2, ![256, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 15
  | .vmem => 16
  | .smem => 3
  | _ => 0

abbrev bufTy : (tb : Table) → Fin (tcTables nBuf tb) → BufTy
  | .hbm, ⟨0, _⟩ => ⟨S147456, .i32⟩
  | .hbm, ⟨1, _⟩ => ⟨S32768x4096, .f32⟩
  | .hbm, ⟨2, _⟩ => ⟨S1x32x4096x8192, .f32⟩
  | .hbm, ⟨3, _⟩ => ⟨S1x32x8192, .f32⟩
  | .hbm, ⟨4, _⟩ => ⟨S1x32x4096x4096, .f32⟩
  | .hbm, ⟨5, _⟩ => ⟨S1x32x4096, .f32⟩
  | .hbm, ⟨6, _⟩ => ⟨S288x4x128, .i32⟩
  | .hbm, ⟨7, _⟩ => ⟨S32x4096x8192, .f32⟩
  | .hbm, ⟨8, _⟩ => ⟨S32x4096x8192, .bf16⟩
  | .hbm, ⟨9, _⟩ => ⟨S32x8192, .f32⟩
  | .hbm, ⟨10, _⟩ => ⟨S32x1x8192, .f32⟩
  | .hbm, ⟨11, _⟩ => ⟨S32x4096x4096, .f32⟩
  | .hbm, ⟨12, _⟩ => ⟨S32x4096, .f32⟩
  | .hbm, ⟨13, _⟩ => ⟨S32x1x4096, .f32⟩
  | .hbm, ⟨14, _⟩ => ⟨S147456x4096, .f32⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x256x4096, .f32⟩
  | .local _ .vmem, ⟨9, _⟩ => ⟨S1x256x4096, .f32⟩
  | .local _ .vmem, ⟨10, _⟩ => ⟨S1x1x4096, .f32⟩
  | .local _ .vmem, ⟨11, _⟩ => ⟨S1x1x4096, .f32⟩
  | .local _ .vmem, ⟨12, _⟩ => ⟨S512x4096, .f32⟩
  | .local _ .vmem, ⟨13, _⟩ => ⟨S512x4096, .f32⟩
  | .local _ .vmem, ⟨14, _⟩ => ⟨S512x4096, .f32⟩
  | .local _ .vmem, ⟨15, _⟩ => ⟨S512x4096, .bf16⟩
  | .local _ .smem, ⟨0, _⟩ => ⟨S288, .i32⟩
  | .local _ .smem, ⟨1, _⟩ => ⟨S1, .i32⟩
  | .local _ .smem, ⟨2, _⟩ => ⟨S4x128, .i32⟩
  | _, _ => ⟨S147456, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![288, 16], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_16 : BitVec 32 := 0#32
  let c512_i32 : BitVec 32 := 512#32
  let v27 : BitVec 32 := Scalar.addi c0_i32_16 c512_i32
  let c1_i32 : BitVec 32 := 1#32
  ⟨c0_i32_16, v27, c1_i32⟩
def k0_off2 (k0_t1 : Fin k0_t1_loop.trips) : Fin 2 → Nat :=
  let c0_i32_16 : BitVec 32 := 0#32
  let c1_i32 : BitVec 32 := 1#32
  let arg18 : BitVec 32 := Scf.iv c0_i32_16 c1_i32 k0_t1
  let c0_i32_18 : BitVec 32 := 0#32
  let v29 : BitVec 1 := Scalar.cmpi .sgt arg18 c0_i32_18
  let v30 : BitVec 32 := Scalar.extui v29
  let c0_i32_19 : BitVec 32 := 0#32
  let v31 : BitVec 1 := Scalar.cmpi .slt arg18 c0_i32_19
  let v32 : BitVec 32 := Scalar.extui v31
  let v33 : BitVec 32 := Scalar.subi v30 v32
  let c128_i32 : BitVec 32 := 128#32
  let c0_i32_20 : BitVec 32 := 0#32
  let v34 : BitVec 1 := Scalar.cmpi .sgt c128_i32 c0_i32_20
  let v35 : BitVec 32 := Scalar.extui v34
  let c0_i32_21 : BitVec 32 := 0#32
  let v36 : BitVec 1 := Scalar.cmpi .slt c128_i32 c0_i32_21
  let v37 : BitVec 32 := Scalar.extui v36
  let v38 : BitVec 32 := Scalar.subi v35 v37
  let v39 : BitVec 1 := Scalar.cmpi .ne v33 v38
  let v40 : BitVec 32 := Scalar.remsi arg18 c128_i32
  let c0_i32_22 : BitVec 32 := 0#32
  let v41 : BitVec 1 := Scalar.cmpi .ne v40 c0_i32_22
  let v42 : BitVec 1 := Scalar.andi v39 v41
  let v28 : BitVec 32 := Scalar.divsi arg18 c128_i32
  let c1_i32_23 : BitVec 32 := 1#32
  let v43 : BitVec 32 := Scalar.subi v28 c1_i32_23
  let v44 : BitVec 32 := Scalar.select v42 v43 v28
  let v55 : Index := Scalar.indexCast v44
  let c128_i32_24 : BitVec 32 := 128#32
  let c0_i32_25 : BitVec 32 := 0#32
  let v45 : BitVec 1 := Scalar.cmpi .eq c128_i32_24 c0_i32_25
  let c1_i32_26 : BitVec 32 := 1#32
  let v46 : BitVec 32 := Scalar.select v45 c1_i32_26 c128_i32_24
  let v47 : BitVec 32 := Scalar.remsi arg18 v46
  let c0_i32_28 : BitVec 32 := 0#32
  let v49 : BitVec 1 := Scalar.cmpi .slt v47 c0_i32_28
  let c0_i32_29 : BitVec 32 := 0#32
  let v50 : BitVec 1 := Scalar.cmpi .slt v46 c0_i32_29
  let v51 : BitVec 1 := Scalar.xori v49 v50
  let c0_i32_27 : BitVec 32 := 0#32
  let v48 : BitVec 1 := Scalar.cmpi .ne v47 c0_i32_27
  let v52 : BitVec 1 := Scalar.andi v51 v48
  let v53 : BitVec 32 := Scalar.addi v47 v46
  let v54 : BitVec 32 := Scalar.select v52 v53 v47
  let v56 : Index := Scalar.indexCast v54
  ![v55.toNat, v56.toNat]
def k0_off3 (k0_t1 : Fin k0_t1_loop.trips) : Fin 2 → Nat :=
  let c0_i32_16 : BitVec 32 := 0#32
  let c1_i32 : BitVec 32 := 1#32
  let arg18 : BitVec 32 := Scf.iv c0_i32_16 c1_i32 k0_t1
  let c0_i32_30 : BitVec 32 := 0#32
  ![arg18.toNat, 0]
def k0_off4 (v57 : BitVec 32) : Fin 2 → Nat :=
  let c0_i32_31 : BitVec 32 := 0#32
  ![v57.toNat, 0]

def k0_chk1 (i : grid0.Coords) (v57 : BitVec 32) : Prop :=
  (∀ (k0_h1 : k0_cond1 i = 1#1), ∀ a, (k0_off4 v57) a + S1x4096.size a ≤ S32768x4096.size a)
theorem k0_off4_inb : ∀ (i : grid0.Coords) (v57 : BitVec 32) (k0_hw1 : k0_chk1 i v57), ∀ (k0_h1 : k0_cond1 i = 1#1), ∀ a, (k0_off4 v57) a + S1x4096.size a ≤ S32768x4096.size a := fun i v57 k0_hw1 k0_h1 => k0_hw1 k0_h1

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t2_loop : Scf.Loop 32 :=
  let c0_i32_10 : BitVec 32 := 0#32
  let c512_i32 : BitVec 32 := 512#32
  let v23 : BitVec 32 := Scalar.addi c0_i32_10 c512_i32
  let c1_i32 : BitVec 32 := 1#32
  ⟨c0_i32_10, v23, c1_i32⟩
def k0_off5 (k0_t2 : Fin k0_t2_loop.trips) : Fin 2 → Nat :=
  let c0_i32_10 : BitVec 32 := 0#32
  let c1_i32 : BitVec 32 := 1#32
  let arg18 : BitVec 32 := Scf.iv c0_i32_10 c1_i32 k0_t2
  let c0_i32_18 : BitVec 32 := 0#32
  ![arg18.toNat, 0]
def k0_cond3 (i : grid0.Coords) : BitVec 1 :=
  let arg0 : BitVec 32 := BitVec.ofNat 32 (i 0).val
  let c1_i32_16 : BitVec 32 := 1#32
  let v29 : BitVec 32 := Scalar.addi arg0 c1_i32_16
  let c288_i32 : BitVec 32 := 288#32
  let v30 : BitVec 1 := Scalar.cmpi .slt v29 c288_i32
  let v31 : BitVec 32 := Scalar.extui v30
  let c0_i32_17 : BitVec 32 := 0#32
  let v32 : BitVec 1 := Scalar.cmpi .ne v31 c0_i32_17
  v32

def k0_off6 (i : grid0.Coords) : Fin 3 → Nat :=
  let arg0 : BitVec 32 := BitVec.ofNat 32 (i 0).val
  let c1_i32_18 : BitVec 32 := 1#32
  let v33 : BitVec 32 := Scalar.addi arg0 c1_i32_18
  let c0_i32_19 : BitVec 32 := 0#32
  let c0_i32_20 : BitVec 32 := 0#32
  ![v33.toNat, 0, 0]
@[reducible] def k0_t3_loop : Scf.Loop 32 :=
  let c0_i32_23 : BitVec 32 := 0#32
  let c512_i32_24 : BitVec 32 := 512#32
  let v38 : BitVec 32 := Scalar.addi c0_i32_23 c512_i32_24
  let c1_i32_25 : BitVec 32 := 1#32
  ⟨c0_i32_23, v38, c1_i32_25⟩
def k0_off7 (k0_t3 : Fin k0_t3_loop.trips) : Fin 2 → Nat :=
  let c0_i32_23 : BitVec 32 := 0#32
  let c1_i32_25 : BitVec 32 := 1#32
  let arg18 : BitVec 32 := Scf.iv c0_i32_23 c1_i32_25 k0_t3
  let c0_i32_27 : BitVec 32 := 0#32
  let v40 : BitVec 1 := Scalar.cmpi .sgt arg18 c0_i32_27
  let v41 : BitVec 32 := Scalar.extui v40
  let c0_i32_28 : BitVec 32 := 0#32
  let v42 : BitVec 1 := Scalar.cmpi .slt arg18 c0_i32_28
  let v43 : BitVec 32 := Scalar.extui v42
  let v44 : BitVec 32 := Scalar.subi v41 v43
  let c128_i32 : BitVec 32 := 128#32
  let c0_i32_29 : BitVec 32 := 0#32
  let v45 : BitVec 1 := Scalar.cmpi .sgt c128_i32 c0_i32_29
  let v46 : BitVec 32 := Scalar.extui v45
  let c0_i32_30 : BitVec 32 := 0#32
  let v47 : BitVec 1 := Scalar.cmpi .slt c128_i32 c0_i32_30
  let v48 : BitVec 32 := Scalar.extui v47
  let v49 : BitVec 32 := Scalar.subi v46 v48
  let v50 : BitVec 1 := Scalar.cmpi .ne v44 v49
  let v51 : BitVec 32 := Scalar.remsi arg18 c128_i32
  let c0_i32_31 : BitVec 32 := 0#32
  let v52 : BitVec 1 := Scalar.cmpi .ne v51 c0_i32_31
  let v53 : BitVec 1 := Scalar.andi v50 v52
  let v39 : BitVec 32 := Scalar.divsi arg18 c128_i32
  let c1_i32_32 : BitVec 32 := 1#32
  let v54 : BitVec 32 := Scalar.subi v39 c1_i32_32
  let v55 : BitVec 32 := Scalar.select v53 v54 v39
  let v66 : Index := Scalar.indexCast v55
  let c128_i32_33 : BitVec 32 := 128#32
  let c0_i32_34 : BitVec 32 := 0#32
  let v56 : BitVec 1 := Scalar.cmpi .eq c128_i32_33 c0_i32_34
  let c1_i32_35 : BitVec 32 := 1#32
  let v57 : BitVec 32 := Scalar.select v56 c1_i32_35 c128_i32_33
  let v58 : BitVec 32 := Scalar.remsi arg18 v57
  let c0_i32_37 : BitVec 32 := 0#32
  let v60 : BitVec 1 := Scalar.cmpi .slt v58 c0_i32_37
  let c0_i32_38 : BitVec 32 := 0#32
  let v61 : BitVec 1 := Scalar.cmpi .slt v57 c0_i32_38
  let v62 : BitVec 1 := Scalar.xori v60 v61
  let c0_i32_36 : BitVec 32 := 0#32
  let v59 : BitVec 1 := Scalar.cmpi .ne v58 c0_i32_36
  let v63 : BitVec 1 := Scalar.andi v62 v59
  let v64 : BitVec 32 := Scalar.addi v58 v57
  let v65 : BitVec 32 := Scalar.select v63 v64 v58
  let v67 : Index := Scalar.indexCast v65
  ![v66.toNat, v67.toNat]
def k0_off8 (k0_t3 : Fin k0_t3_loop.trips) : Fin 2 → Nat :=
  let c0_i32_23 : BitVec 32 := 0#32
  let c1_i32_25 : BitVec 32 := 1#32
  let arg18 : BitVec 32 := Scf.iv c0_i32_23 c1_i32_25 k0_t3
  let c0_i32_39 : BitVec 32 := 0#32
  ![arg18.toNat, 0]
def k0_off9 (v68 : BitVec 32) : Fin 2 → Nat :=
  let c0_i32_40 : BitVec 32 := 0#32
  ![v68.toNat, 0]

def k0_chk2 (i : grid0.Coords) (v68 : BitVec 32) : Prop :=
  (∀ (k0_h2 : k0_cond2 i = 1#1), ∀ (k0_h3 : k0_cond3 i = 1#1), ∀ a, (k0_off9 v68) a + S1x4096.size a ≤ S32768x4096.size a)
theorem k0_off9_inb : ∀ (i : grid0.Coords) (v68 : BitVec 32) (k0_hw2 : k0_chk2 i v68), ∀ (k0_h2 : k0_cond2 i = 1#1), ∀ (k0_h3 : k0_cond3 i = 1#1), ∀ a, (k0_off9 v68) a + S1x4096.size a ≤ S32768x4096.size a := fun i v68 k0_hw2 k0_h2 k0_h3 => k0_hw2 k0_h2 k0_h3

def k0_cond4 (i : grid0.Coords) (v8 : BitVec 32) : BitVec 1 :=
  let arg0 : BitVec 32 := BitVec.ofNat 32 (i 0).val
  let v9 : BitVec 1 := Scalar.cmpi .slt arg0 v8
  let arg1 : BitVec 32 := BitVec.ofNat 32 (i 1).val
  let c0_i32_4 : BitVec 32 := 0#32
  let v10 : BitVec 1 := Scalar.cmpi .eq arg1 c0_i32_4
  let v11 : BitVec 1 := Scalar.andi v9 v10
  let v12 : BitVec 32 := Scalar.extui v11
  let c0_i32_5 : BitVec 32 := 0#32
  let v13 : BitVec 1 := Scalar.cmpi .ne v12 c0_i32_5
  v13

def k0_cond5 (i : grid0.Coords) (v8 : BitVec 32) : BitVec 1 :=
  let arg0 : BitVec 32 := BitVec.ofNat 32 (i 0).val
  let v9 : BitVec 1 := Scalar.cmpi .slt arg0 v8
  let arg1 : BitVec 32 := BitVec.ofNat 32 (i 1).val
  let c0_i32_6 : BitVec 32 := 0#32
  let v14 : BitVec 1 := Scalar.cmpi .ne arg1 c0_i32_6
  let v15 : BitVec 1 := Scalar.andi v9 v14
  let v16 : BitVec 32 := Scalar.extui v15
  let c0_i32_7 : BitVec 32 := 0#32
  let v17 : BitVec 1 := Scalar.cmpi .ne v16 c0_i32_7
  v17

def k0_cond6 (i : grid0.Coords) (v8 : BitVec 32) : BitVec 1 :=
  let arg0 : BitVec 32 := BitVec.ofNat 32 (i 0).val
  let v9 : BitVec 1 := Scalar.cmpi .slt arg0 v8
  let v_true : BitVec 1 := 1#1
  let v18 : BitVec 1 := Scalar.xori v9 v_true
  let arg1 : BitVec 32 := BitVec.ofNat 32 (i 1).val
  let c0_i32_8 : BitVec 32 := 0#32
  let v19 : BitVec 1 := Scalar.cmpi .eq arg1 c0_i32_8
  let v20 : BitVec 1 := Scalar.andi v18 v19
  let v21 : BitVec 32 := Scalar.extui v20
  let c0_i32_9 : BitVec 32 := 0#32
  let v22 : BitVec 1 := Scalar.cmpi .ne v21 c0_i32_9
  v22

def cc0_transform_2 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c15_i32 : BitVec 32 := 15#32
  let v4 : BitVec 32 := Scalar.select v3 arg1 c15_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c15_i32 : BitVec 32 := 15#32
  let v4 : BitVec 32 := Scalar.select v3 arg1 c15_i32
  let c16_i32 : BitVec 32 := 16#32
  let v5 : BitVec 32 := Scalar.addi c16_i32 v4
  let c0_i32 : BitVec 32 := 0#32
  let c0_i32_0 : BitVec 32 := 0#32
  ![v1.toNat, c0_i32.toNat, v5.toNat]

def cc0_transform_4 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c15_i32 : BitVec 32 := 15#32
  let v4 : BitVec 32 := Scalar.select v3 arg1 c15_i32
  let c0_i32 : BitVec 32 := 0#32
  let c0_i32_0 : BitVec 32 := 0#32
  ![v1.toNat, c0_i32.toNat, v4.toNat]

def cc0_transform_5 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c15_i32 : BitVec 32 := 15#32
  let v4 : BitVec 32 := Scalar.select v3 arg1 c15_i32
  let c16_i32 : BitVec 32 := 16#32
  let v5 : BitVec 32 := Scalar.addi c16_i32 v4
  let c0_i32 : BitVec 32 := 0#32
  let c0_i32_0 : BitVec 32 := 0#32
  ![v1.toNat, c0_i32.toNat, v5.toNat]

def cc0_transform_6 (k0_off1_inb : ∀ i : grid0.Coords, ∀ a, (k0_off1 i) a + S1.size a ≤ S288.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c15_i32 : BitVec 32 := 15#32
  let v4 : BitVec 32 := Scalar.select v3 arg1 c15_i32
  let c0_i32 : BitVec 32 := 0#32
  let c0_i32_0 : BitVec 32 := 0#32
  ![v1.toNat, v4.toNat, c0_i32.toNat]

def cc0_transform_7 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S288 : Shape := ⟨1, ![288]⟩
abbrev S1 : Shape := ⟨1, ![1]⟩
abbrev S147456 : Shape := ⟨1, ![147456]⟩
abbrev S32768x4096 : Shape := ⟨2, ![32768, 4096]⟩
abbrev S1x32x4096x8192 : Shape := ⟨4, ![1, 32, 4096, 8192]⟩
abbrev S1x32x8192 : Shape := ⟨3, ![1, 32, 8192]⟩
abbrev S1x32x4096x4096 : Shape := ⟨4, ![1, 32, 4096, 4096]⟩
abbrev S1x32x4096 : Shape := ⟨3, ![1, 32, 4096]⟩
abbrev S32x4096x8192 : Shape := ⟨3, ![32, 4096, 8192]⟩
abbrev S32x8192 : Shape := ⟨2, ![32, 8192]⟩
abbrev S32x4096x4096 : Shape := ⟨3, ![32, 4096, 4096]⟩
abbrev S32x4096 : Shape := ⟨2, ![32, 4096]⟩
abbrev S_ : Shape := ⟨0, ![]⟩
abbrev S147456x1 : Shape := ⟨2, ![147456, 1]⟩
abbrev S147456x4096 : Shape := ⟨2, ![147456, 4096]⟩
abbrev S288x512x4096 : Shape := ⟨3, ![288, 512, 4096]⟩
abbrev S288x1 : Shape := ⟨2, ![288, 1]⟩
abbrev S288x4096x8192 : Shape := ⟨3, ![288, 4096, 8192]⟩
abbrev S288x512x8192 : Shape := ⟨3, ![288, 512, 8192]⟩
abbrev S288x8192 : Shape := ⟨2, ![288, 8192]⟩
abbrev S288x1x8192 : Shape := ⟨3, ![288, 1, 8192]⟩
abbrev S288x4096x4096 : Shape := ⟨3, ![288, 4096, 4096]⟩
abbrev S288x4096 : Shape := ⟨2, ![288, 4096]⟩
abbrev S288x1x4096 : Shape := ⟨3, ![288, 1, 4096]⟩
abbrev S288x1x1 : Shape := ⟨3, ![288, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456, .i32⟩
  | .hbm, ⟨3, _⟩ => ⟨S32768x4096, .f32⟩
  | .hbm, ⟨4, _⟩ => ⟨S1x32x4096x8192, .f32⟩
  | .hbm, ⟨5, _⟩ => ⟨S1x32x8192, .f32⟩
  | .hbm, ⟨6, _⟩ => ⟨S1x32x4096x4096, .f32⟩
  | .hbm, ⟨7, _⟩ => ⟨S1x32x4096, .f32⟩
  | .hbm, ⟨8, _⟩ => ⟨S32x4096x8192, .f32⟩
  | .hbm, ⟨9, _⟩ => ⟨S32x8192, .f32⟩
  | .hbm, ⟨10, _⟩ => ⟨S32x4096x4096, .f32⟩
  | .hbm, ⟨11, _⟩ => ⟨S32x4096, .f32⟩
  | .hbm, ⟨12, _⟩ => ⟨S_, .i32⟩
  | .hbm, ⟨13, _⟩ => ⟨S147456, .i32⟩
  | .hbm, ⟨14, _⟩ => ⟨S147456, .i1⟩
  | .hbm, ⟨15, _⟩ => ⟨S_, .i32⟩
  | .hbm, ⟨16, _⟩ => ⟨S147456, .i32⟩
  | .hbm, ⟨17, _⟩ => ⟨S147456, .i32⟩
  | .hbm, ⟨18, _⟩ => ⟨S147456, .i32⟩
  | .hbm, ⟨19, _⟩ => ⟨S147456x1, .i32⟩
  | .hbm, ⟨20, _⟩ => ⟨S147456x4096, .f32⟩
  | .hbm, ⟨21, _⟩ => ⟨S288x512x4096, .f32⟩
  | .hbm, ⟨22, _⟩ => ⟨S_, .i32⟩
  | .hbm, ⟨23, _⟩ => ⟨S288, .i32⟩
  | .hbm, ⟨24, _⟩ => ⟨S288, .i1⟩
  | .hbm, ⟨25, _⟩ => ⟨S_, .i32⟩
  | .hbm, ⟨26, _⟩ => ⟨S288, .i32⟩
  | .hbm, ⟨27, _⟩ => ⟨S288, .i32⟩
  | .hbm, ⟨28, _⟩ => ⟨S288, .i32⟩
  | .hbm, ⟨29, _⟩ => ⟨S288x1, .i32⟩
  | .hbm, ⟨30, _⟩ => ⟨S288x4096x8192, .f32⟩
  | .hbm, ⟨31, _⟩ => ⟨S288x512x8192, .f32⟩
  | .hbm, ⟨32, _⟩ => ⟨S_, .i32⟩
  | .hbm, ⟨33, _⟩ => ⟨S288, .i32⟩
  | .hbm, ⟨34, _⟩ => ⟨S288, .i1⟩
  | .hbm, ⟨35, _⟩ => ⟨S_, .i32⟩
  | .hbm, ⟨36, _⟩ => ⟨S288, .i32⟩
  | .hbm, ⟨37, _⟩ => ⟨S288, .i32⟩
  | .hbm, ⟨38, _⟩ => ⟨S288, .i32⟩
  | .hbm, ⟨39, _⟩ => ⟨S288x1, .i32⟩
  | .hbm, ⟨40, _⟩ => ⟨S288x8192, .f32⟩
  | .hbm, ⟨41, _⟩ => ⟨S288x1x8192, .f32⟩
  | .hbm, ⟨42, _⟩ => ⟨S288x512x8192, .f32⟩
  | .hbm, ⟨43, _⟩ => ⟨S288x512x8192, .f32⟩
  | .hbm, ⟨44, _⟩ => ⟨S288x512x4096, .f32⟩
  | .hbm, ⟨45, _⟩ => ⟨S_, .f32⟩
  | .hbm, ⟨46, _⟩ => ⟨S288x512x4096, .f32⟩
  | .hbm, ⟨47, _⟩ => ⟨S288x512x4096, .f32⟩
  | .hbm, ⟨48, _⟩ => ⟨S288x512x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S288x512x4096, .f32⟩
  | .hbm, ⟨53, _⟩ => ⟨S288x512x4096, .f32⟩
  | .hbm, ⟨54, _⟩ => ⟨S_, .f32⟩
  | .hbm, ⟨55, _⟩ => ⟨S288x512x4096, .f32⟩
  | .hbm, ⟨56, _⟩ => ⟨S288x512x4096, .f32⟩
  | .hbm, ⟨57, _⟩ => ⟨S_, .f32⟩
  | .hbm, ⟨58, _⟩ => ⟨S288x512x4096, .f32⟩
  | .hbm, ⟨59, _⟩ => ⟨S288x512x4096, .f32⟩
  | .hbm, ⟨60, _⟩ => ⟨S288x512x4096, .f32⟩
  | .hbm, ⟨61, _⟩ => ⟨S288x512x4096, .f32⟩
  | .hbm, ⟨62, _⟩ => ⟨S_, .f32⟩
  | .hbm, ⟨63, _⟩ => ⟨S288x512x4096, .f32⟩
  | .hbm, ⟨64, _⟩ => ⟨S288x512x4096, .f32⟩
  | .hbm, ⟨65, _⟩ => ⟨S_, .f32⟩
  | .hbm, ⟨66, _⟩ => ⟨S288x512x4096, .f32⟩
  | .hbm, ⟨67, _⟩ => ⟨S288x512x4096, .f32⟩
  | .hbm, ⟨68, _⟩ => ⟨S288x512x4096, .f32⟩
  | .hbm, ⟨69, _⟩ => ⟨S_, .f32⟩
  | .hbm, ⟨70, _⟩ => ⟨S288x512x4096, .f32⟩
  | .hbm, ⟨71, _⟩ => ⟨S288x512x4096, .f32⟩
  | .hbm, ⟨72, _⟩ => ⟨S288x512x4096, .f32⟩
  | .hbm, ⟨73, _⟩ => ⟨S_, .i32⟩
  | .hbm, ⟨74, _⟩ => ⟨S288, .i32⟩
  | .hbm, ⟨75, _⟩ => ⟨S288, .i1⟩
  | .hbm, ⟨76, _⟩ => ⟨S_, .i32⟩
  | .hbm, ⟨77, _⟩ => ⟨S288, .i32⟩
  | .hbm, ⟨78, _⟩ => ⟨S288, .i32⟩
  | .hbm, ⟨79, _⟩ => ⟨S288, .i32⟩
  | .hbm, ⟨80, _⟩ => ⟨S288x1, .i32⟩
  | .hbm, ⟨81, _⟩ => ⟨S288x4096x4096, .f32⟩
  | .hbm, ⟨82, _⟩ => ⟨S288x512x4096, .f32⟩
  | .hbm, ⟨83, _⟩ => ⟨S_, .i32⟩
  | .hbm, ⟨84, _⟩ => ⟨S288, .i32⟩
  | .hbm, ⟨85, _⟩ => ⟨S288, .i1⟩
  | .hbm, ⟨86, _⟩ => ⟨S_, .i32⟩
  | .hbm, ⟨87, _⟩ => ⟨S288, .i32⟩
  | .hbm, ⟨88, _⟩ => ⟨S288, .i32⟩
  | .hbm, ⟨89, _⟩ => ⟨S288, .i32⟩
  | .hbm, ⟨90, _⟩ => ⟨S288x1, .i32⟩
  | .hbm, ⟨91, _⟩ => ⟨S288x4096, .f32⟩
  | .hbm, ⟨92, _⟩ => ⟨S288x1x4096, .f32⟩
  | .hbm, ⟨93, _⟩ => ⟨S288x512x4096, .f32⟩
  | .hbm, ⟨94, _⟩ => ⟨S288x512x4096, .f32⟩
  | .hbm, ⟨95, _⟩ => ⟨S288, .i32⟩
  | .hbm, ⟨96, _⟩ => ⟨S288, .i32⟩
  | .hbm, ⟨97, _⟩ => ⟨S288, .i1⟩
  | .hbm, ⟨98, _⟩ => ⟨S288x1x1, .i1⟩
  | .hbm, ⟨99, _⟩ => ⟨S_, .f32⟩
  | .hbm, ⟨100, _⟩ => ⟨S_, .f32⟩
  | .hbm, ⟨101, _⟩ => ⟨S288x512x4096, .i1⟩
  | .hbm, ⟨102, _⟩ => ⟨S288x512x4096, .f32⟩
  | .hbm, ⟨103, _⟩ => ⟨S288x512x4096, .f32⟩
  | .hbm, ⟨104, _⟩ => ⟨S147456x4096, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_cst_6 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_13 : Ref sig .tc := ⟨.hbm, 83, rfl⟩
abbrev main_v55 : Ref sig .tc := ⟨.hbm, 84, rfl⟩
abbrev main_v56 : Ref sig .tc := ⟨.hbm, 85, rfl⟩
abbrev main_c_14 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== Kernel2.lean ====
abbrev S32768x4096 : Shape := ⟨2, ![32768, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .f32⟩
  | .hbm, ⟨2, _⟩ => ⟨S4096x4096, .bf16⟩
  | .hbm, ⟨3, _⟩ => ⟨S32768x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 32, 4, 2], ![false, false, false, false]⟩

def k0_cond3 (i : grid0.Coords) : BitVec 1 :=
  let arg3 : BitVec 32 := BitVec.ofNat 32 (i 3).val
  let c1_i32_6 : BitVec 32 := 1#32
  let v12 : BitVec 1 := Scalar.cmpi .eq arg3 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference2Ideal.lean ====
abbrev S32768x4096 : Shape := ⟨2, ![32768, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .f32⟩
  | .hbm, ⟨2, _⟩ => ⟨S32768x4096, .f32⟩
  | .hbm, ⟨3, _⟩ => ⟨S32768x4096, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S32768x4096 : Shape := ⟨2, ![32768, 4096]⟩
abbrev S4096x6144 : Shape := ⟨2, ![4096, 6144]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S32768x4096, .bf16⟩
  | .hbm, ⟨1, _⟩ => ⟨S4096x6144, .f32⟩
  | .hbm, ⟨2, _⟩ => ⟨S4096x6144, .bf16⟩
  | .hbm, ⟨3, _⟩ => ⟨S32768x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 32, 6, 2], ![false, false, false, false]⟩

def k0_cond3 (i : grid0.Coords) : BitVec 1 :=
  let arg3 : BitVec 32 := BitVec.ofNat 32 (i 3).val
  let c1_i32_6 : BitVec 32 := 1#32
  let v12 : BitVec 1 := Scalar.cmpi .eq arg3 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference3Ideal.lean ====
abbrev S32768x4096 : Shape := ⟨2, ![32768, 4096]⟩
abbrev S4096x6144 : Shape := ⟨2, ![4096, 6144]⟩
abbrev S32768x6144 : Shape := ⟨2, ![32768, 6144]⟩

abbrev nBuf : Space → Nat
  | .hbm => 4
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x6144, .f32⟩
  | .hbm, ⟨2, _⟩ => ⟨S32768x4096, .f32⟩
  | .hbm, ⟨3, _⟩ => ⟨S32768x6144, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel4.lean ====
abbrev S32768x2048 : Shape := ⟨2, ![32768, 2048]⟩
abbrev S1x2048x4096 : Shape := ⟨3, ![1, 2048, 4096]⟩
abbrev S32768x4096 : Shape := ⟨2, ![32768, 4096]⟩
abbrev S2048x4096 : Shape := ⟨2, ![2048, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S1x2048x4096, .f32⟩
  | .hbm, ⟨2, _⟩ => ⟨S32768x4096, .f32⟩
  | .hbm, ⟨3, _⟩ => ⟨S32768x4096, .f32⟩
  | .hbm, ⟨4, _⟩ => ⟨S2048x4096, .f32⟩
  | .hbm, ⟨5, _⟩ => ⟨S2048x4096, .bf16⟩
  | .hbm, ⟨6, _⟩ => ⟨S32768x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![1, 32, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]
-- ==== Reference4Ideal.lean ====
abbrev S32768x2048 : Shape := ⟨2, ![32768, 2048]⟩
abbrev S1x2048x4096 : Shape := ⟨3, ![1, 2048, 4096]⟩
abbrev S32768x4096 : Shape := ⟨2, ![32768, 4096]⟩
abbrev S_ : Shape := ⟨0, ![]⟩
abbrev S2048x4096 : Shape := ⟨2, ![2048, 4096]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x4096, .f32⟩
  | .hbm, ⟨2, _⟩ => ⟨S32768x4096, .f32⟩
  | .hbm, ⟨3, _⟩ => ⟨S32768x4096, .f32⟩
  | .hbm, ⟨4, _⟩ => ⟨S32768x4096, .f32⟩
  | .hbm, ⟨5, _⟩ => ⟨S32768x4096, .f32⟩
  | .hbm, ⟨6, _⟩ => ⟨S_, .f32⟩
  | .hbm, ⟨7, _⟩ => ⟨S32768x4096, .f32⟩
  | .hbm, ⟨8, _⟩ => ⟨S32768x4096, .f32⟩
  | .hbm, ⟨9, _⟩ => ⟨S_, .f32⟩
  | .hbm, ⟨10, _⟩ => ⟨S32768x4096, .f32⟩
  | .hbm, ⟨11, _⟩ => ⟨S32768x4096, .f32⟩
  | .hbm, ⟨12, _⟩ => ⟨S32768x2048, .f32⟩
  | .hbm, ⟨13, _⟩ => ⟨S2048x4096, .f32⟩
  | .hbm, ⟨14, _⟩ => ⟨S32768x4096, .f32⟩
  | .hbm, ⟨15, _⟩ => ⟨S32768x4096, .f32⟩
  | .hbm, ⟨16, _⟩ => ⟨S32768x4096, .f32⟩
  | .hbm, ⟨17, _⟩ => ⟨S32768x4096, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel5.lean ====
abbrev S32768x2048 : Shape := ⟨2, ![32768, 2048]⟩
abbrev S1x2048x4096 : Shape := ⟨3, ![1, 2048, 4096]⟩
abbrev S32768x4096 : Shape := ⟨2, ![32768, 4096]⟩
abbrev S2048x4096 : Shape := ⟨2, ![2048, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S1x2048x4096, .f32⟩
  | .hbm, ⟨2, _⟩ => ⟨S32768x4096, .f32⟩
  | .hbm, ⟨3, _⟩ => ⟨S2048x4096, .f32⟩
  | .hbm, ⟨4, _⟩ => ⟨S2048x4096, .bf16⟩
  | .hbm, ⟨5, _⟩ => ⟨S32768x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 32, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== Reference5Ideal.lean ====
abbrev S32768x2048 : Shape := ⟨2, ![32768, 2048]⟩
abbrev S1x2048x4096 : Shape := ⟨3, ![1, 2048, 4096]⟩
abbrev S32768x4096 : Shape := ⟨2, ![32768, 4096]⟩
abbrev S_ : Shape := ⟨0, ![]⟩
abbrev S2048x4096 : Shape := ⟨2, ![2048, 4096]⟩

abbrev nBuf : Space → Nat
  | .hbm => 15
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x4096, .f32⟩
  | .hbm, ⟨2, _⟩ => ⟨S32768x4096, .f32⟩
  | .hbm, ⟨3, _⟩ => ⟨S32768x4096, .f32⟩
  | .hbm, ⟨4, _⟩ => ⟨S32768x4096, .f32⟩
  | .hbm, ⟨5, _⟩ => ⟨S_, .f32⟩
  | .hbm, ⟨6, _⟩ => ⟨S32768x4096, .f32⟩
  | .hbm, ⟨7, _⟩ => ⟨S32768x4096, .f32⟩
  | .hbm, ⟨8, _⟩ => ⟨S_, .f32⟩
  | .hbm, ⟨9, _⟩ => ⟨S32768x4096, .f32⟩
  | .hbm, ⟨10, _⟩ => ⟨S32768x4096, .f32⟩
  | .hbm, ⟨11, _⟩ => ⟨S32768x2048, .f32⟩
  | .hbm, ⟨12, _⟩ => ⟨S2048x4096, .f32⟩
  | .hbm, ⟨13, _⟩ => ⟨S32768x4096, .f32⟩
  | .hbm, ⟨14, _⟩ => ⟨S32768x4096, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S32768x4096 : Shape := ⟨2, ![32768, 4096]⟩
abbrev S4096x2048 : Shape := ⟨2, ![4096, 2048]⟩
abbrev S32768x2048 : Shape := ⟨2, ![32768, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S4096x2048, .bf16⟩
  | .hbm, ⟨3, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 32, 2, 2], ![false, false, false, false]⟩

def k0_cond3 (i : grid0.Coords) : BitVec 1 :=
  let arg3 : BitVec 32 := BitVec.ofNat 32 (i 3).val
  let c1_i32_6 : BitVec 32 := 1#32
  let v12 : BitVec 1 := Scalar.cmpi .eq arg3 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference6Ideal.lean ====
abbrev S32768x4096 : Shape := ⟨2, ![32768, 4096]⟩
abbrev S4096x2048 : Shape := ⟨2, ![4096, 2048]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x2048, .f32⟩
  | .hbm, ⟨2, _⟩ => ⟨S32768x4096, .f32⟩
  | .hbm, ⟨3, _⟩ => ⟨S32768x2048, .f32⟩
  | .hbm, ⟨4, _⟩ => ⟨S32768x2048, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S32768x2048 : Shape := ⟨2, ![32768, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S1x2048, .f32⟩
  | .hbm, ⟨3, _⟩ => ⟨S2048x2048, .f32⟩
  | .hbm, ⟨4, _⟩ => ⟨S2048x2048, .bf16⟩
  | .hbm, ⟨5, _⟩ => ⟨S2048, .f32⟩
  | .hbm, ⟨6, _⟩ => ⟨S1x2048, .f32⟩
  | .hbm, ⟨7, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![1, 32, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]
-- ==== Reference7Ideal.lean ====
abbrev S32768x2048 : Shape := ⟨2, ![32768, 2048]⟩
abbrev S1x2048x2048 : Shape := ⟨3, ![1, 2048, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S1x2048, .f32⟩
  | .hbm, ⟨3, _⟩ => ⟨S32768x2048, .f32⟩
  | .hbm, ⟨4, _⟩ => ⟨S2048x2048, .f32⟩
  | .hbm, ⟨5, _⟩ => ⟨S32768x2048, .f32⟩
  | .hbm, ⟨6, _⟩ => ⟨S2048, .f32⟩
  | .hbm, ⟨7, _⟩ => ⟨S1x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel8.lean ====
abbrev S32768x4096 : Shape := ⟨2, ![32768, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S32768x4096, .f32⟩
  | .hbm, ⟨6, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S32768x4096 : Shape := ⟨2, ![32768, 4096]⟩
abbrev S4096 : Shape := ⟨1, ![4096]⟩
abbrev S_ : Shape := ⟨0, ![]⟩
abbrev S32768 : Shape := ⟨1, ![32768]⟩
abbrev S32768x1 : Shape := ⟨2, ![32768, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S32768x4096, .f32⟩
  | .hbm, ⟨10, _⟩ => ⟨S32768x4096, .f32⟩
  | .hbm, ⟨11, _⟩ => ⟨S32768x4096, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x4096, .f32⟩
  | .hbm, ⟨19, _⟩ => ⟨S32768x4096, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x4096, .f32⟩
  | .hbm, ⟨25, _⟩ => ⟨S32768x4096, .f32⟩
  | .hbm, ⟨26, _⟩ => ⟨S1x4096, .f32⟩
  | .hbm, ⟨27, _⟩ => ⟨S32768x4096, .f32⟩
  | .hbm, ⟨28, _⟩ => ⟨S32768x4096, .f32⟩
  | .hbm, ⟨29, _⟩ => ⟨S1x4096, .f32⟩
  | .hbm, ⟨30, _⟩ => ⟨S32768x4096, .f32⟩
  | .hbm, ⟨31, _⟩ => ⟨S32768x4096, .f32⟩
  | .hbm, ⟨32, _⟩ => ⟨S32768x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel9.lean ====
abbrev S32768x4096 : Shape := ⟨2, ![32768, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S32768x4096, .f32⟩
  | .hbm, ⟨1, _⟩ => ⟨S32768x4096, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S32768x4096, .f32⟩
  | .hbm, ⟨9, _⟩ => ⟨S32768x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S32768x4096 : Shape := ⟨2, ![32768, 4096]⟩
abbrev S1x4096 : Shape := ⟨2, ![1, 4096]⟩
abbrev S_ : Shape := ⟨0, ![]⟩
abbrev S32768 : Shape := ⟨1, ![32768]⟩
abbrev S32768x1 : Shape := ⟨2, ![32768, 1]⟩
abbrev S4096 : Shape := ⟨1, ![4096]⟩

abbrev nBuf : Space → Nat
  | .hbm => 40
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S32768x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S32768x4096, .f32⟩
  | .hbm, ⟨6, _⟩ => ⟨S32768x4096, .f32⟩
  | .hbm, ⟨7, _⟩ => ⟨S32768x4096, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x4096, .f32⟩
  | .hbm, ⟨15, _⟩ => ⟨S32768x4096, .f32⟩
  | .hbm, ⟨16, _⟩ => ⟨S32768x4096, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x4096, .f32⟩
  | .hbm, ⟨24, _⟩ => ⟨S32768x4096, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x4096, .f32⟩
  | .hbm, ⟨30, _⟩ => ⟨S32768x4096, .f32⟩
  | .hbm, ⟨31, _⟩ => ⟨S4096, .f32⟩
  | .hbm, ⟨32, _⟩ => ⟨S1x4096, .f32⟩
  | .hbm, ⟨33, _⟩ => ⟨S32768x4096, .f32⟩
  | .hbm, ⟨34, _⟩ => ⟨S32768x4096, .f32⟩
  | .hbm, ⟨35, _⟩ => ⟨S4096, .f32⟩
  | .hbm, ⟨36, _⟩ => ⟨S1x4096, .f32⟩
  | .hbm, ⟨37, _⟩ => ⟨S32768x4096, .f32⟩
  | .hbm, ⟨38, _⟩ => ⟨S32768x4096, .f32⟩
  | .hbm, ⟨39, _⟩ => ⟨S32768x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel10.lean ====
abbrev S131072 : Shape := ⟨1, ![131072]⟩
abbrev S147456x4096 : Shape := ⟨2, ![147456, 4096]⟩
abbrev S32768x128 : Shape := ⟨2, ![32768, 128]⟩
abbrev S32768x4096 : Shape := ⟨2, ![32768, 4096]⟩
abbrev S1x4096 : Shape := ⟨2, ![1, 4096]⟩
abbrev S256x4x128 : Shape := ⟨3, ![256, 4, 128]⟩
abbrev S4096 : Shape := ⟨1, ![4096]⟩
abbrev S128x128 : Shape := ⟨2, ![128, 128]⟩
abbrev S128x4096 : Shape := ⟨2, ![128, 4096]⟩
abbrev S2x4x128x4096 : Shape := ⟨4, ![2, 4, 128, 4096]⟩
abbrev S2x4x128 : Shape := ⟨3, ![2, 4, 128]⟩
abbrev S_ : Shape := ⟨0, ![]⟩
abbrev S2 : Shape := ⟨1, ![2]⟩
abbrev S1x4x128 : Shape := ⟨3, ![1, 4, 128]⟩
abbrev S4x128 : Shape := ⟨2, ![4, 128]⟩
abbrev S1x1x1 : Shape := ⟨3, ![1, 1, 1]⟩
abbrev S1 : Shape := ⟨1, ![1]⟩
abbrev S1x1x1x4096 : Shape := ⟨4, ![1, 1, 1, 4096]⟩
abbrev S128x1 : Shape := ⟨2, ![128, 1]⟩
abbrev S1x1x128x512 : Shape := ⟨4, ![1, 1, 128, 512]⟩
abbrev S128x512 : Shape := ⟨2, ![128, 512]⟩
abbrev S128 : Shape := ⟨1, ![128]⟩

abbrev nBuf : Space → Nat
  | .hbm => 12
  | .vmem => 10
  | .smem => 1
  | _ => 0

abbrev bufTy : (tb : Table) → Fin (tcTables nBuf tb) → BufTy
  | .hbm, ⟨0, _⟩ => ⟨S131072, .i32⟩
  | .hbm, ⟨1, _⟩ => ⟨S147456x4096, .f32⟩
  | .hbm, ⟨2, _⟩ => ⟨S32768x128, .f32⟩
  | .hbm, ⟨3, _⟩ => ⟨S32768x4096, .f32⟩
  | .hbm, ⟨4, _⟩ => ⟨S1x4096, .f32⟩
  | .hbm, ⟨5, _⟩ => ⟨S1x4096, .f32⟩
  | .hbm, ⟨6, _⟩ => ⟨S256x4x128, .i32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S32768x4096, .f32⟩
  | .local _ .vmem, ⟨0, _⟩ => ⟨S128x128, .f32⟩
  | .local _ .vmem, ⟨1, _⟩ => ⟨S128x128, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S2x4x128x4096, .f32⟩
  | .local _ .vmem, ⟨9, _⟩ => ⟨S128x4096, .f32⟩
  | .local _ .smem, ⟨0, _⟩ => ⟨S2x4x128, .i32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_161 : BitVec 32 := 0#32
  let c128_i32_162 : BitVec 32 := 128#32
  let v297 : BitVec 32 := Scalar.addi c0_i32_161 c128_i32_162
  let c1_i32_163 : BitVec 32 := 1#32
  ⟨c0_i32_161, v297, c1_i32_163⟩
def k0_off1 (k0_t1 : Fin k0_t1_loop.trips) : Fin 3 → Nat :=
  let c0_179 : Index := 0#32
  let c0_i32_161 : BitVec 32 := 0#32
  let c1_i32_163 : BitVec 32 := 1#32
  let arg13 : BitVec 32 := Scf.iv c0_i32_161 c1_i32_163 k0_t1
  let c4_i32 : BitVec 32 := 4#32
  let v298 : BitVec 32 := Scalar.muli arg13 c4_i32
  let c0_i32_165 : BitVec 32 := 0#32
  let v299 : BitVec 32 := Scalar.addi v298 c0_i32_165
  let c0_i32_167 : BitVec 32 := 0#32
  let v301 : BitVec 1 := Scalar.cmpi .sgt v299 c0_i32_167
  let v302 : BitVec 32 := Scalar.extui v301
  let c0_i32_168 : BitVec 32 := 0#32
  let v303 : BitVec 1 := Scalar.cmpi .slt v299 c0_i32_168
  let v304 : BitVec 32 := Scalar.extui v303
  let v305 : BitVec 32 := Scalar.subi v302 v304
  let c128_i32_166 : BitVec 32 := 128#32
  let c0_i32_169 : BitVec 32 := 0#32
  let v306 : BitVec 1 := Scalar.cmpi .sgt c128_i32_166 c0_i32_169
  let v307 : BitVec 32 := Scalar.extui v306
  let c0_i32_170 : BitVec 32 := 0#32
  let v308 : BitVec 1 := Scalar.cmpi .slt c128_i32_166 c0_i32_170
  let v309 : BitVec 32 := Scalar.extui v308
  let v310 : BitVec 32 := Scalar.subi v307 v309
  let v311 : BitVec 1 := Scalar.cmpi .ne v305 v310
  let v312 : BitVec 32 := Scalar.remsi v299 c128_i32_166
  let c0_i32_171 : BitVec 32 := 0#32
  let v313 : BitVec 1 := Scalar.cmpi .ne v312 c0_i32_171
  let v314 : BitVec 1 := Scalar.andi v311 v313
  let v300 : BitVec 32 := Scalar.divsi v299 c128_i32_166
  let c1_i32_172 : BitVec 32 := 1#32
  let v315 : BitVec 32 := Scalar.subi v300 c1_i32_172
  let v316 : BitVec 32 := Scalar.select v314 v315 v300
  let v327 : Index := Scalar.indexCast v316
  let c128_i32_173 : BitVec 32 := 128#32
  let c0_i32_174 : BitVec 32 := 0#32
  let v317 : BitVec 1 := Scalar.cmpi .eq c128_i32_173 c0_i32_174
  let c1_i32_175 : BitVec 32 := 1#32
  let v318 : BitVec 32 := Scalar.select v317 c1_i32_175 c128_i32_173
  let v319 : BitVec 32 := Scalar.remsi v299 v318
  let c0_i32_177 : BitVec 32 := 0#32
  let v321 : BitVec 1 := Scalar.cmpi .slt v319 c0_i32_177
  let c0_i32_178 : BitVec 32 := 0#32
  let v322 : BitVec 1 := Scalar.cmpi .slt v318 c0_i32_178
  let v323 : BitVec 1 := Scalar.xori v321 v322
  let c0_i32_176 : BitVec 32 := 0#32
  let v320 : BitVec 1 := Scalar.cmpi .ne v319 c0_i32_176
  let v324 : BitVec 1 := Scalar.andi v323 v320
  let v325 : BitVec 32 := Scalar.addi v319 v318
  let v326 : BitVec 32 := Scalar.select v324 v325 v319
  let v328 : Index := Scalar.indexCast v326
  ![0, v327.toNat, v328.toNat]
def k0_off2 (k0_t1 : Fin k0_t1_loop.trips) : Fin 4 → Nat :=
  let c0_i32_180 : BitVec 32 := 0#32
  let c0_i32_181 : BitVec 32 := 0#32
  let c0_i32_161 : BitVec 32 := 0#32
  let c1_i32_163 : BitVec 32 := 1#32
  let arg13 : BitVec 32 := Scf.iv c0_i32_161 c1_i32_163 k0_t1
  let c0_i32_183 : BitVec 32 := 0#32
  ![0, 0, arg13.toNat, 0]
def k0_off3 (v329 : BitVec 32) : Fin 2 → Nat :=
  let c0_i32_184 : BitVec 32 := 0#32
  ![v329.toNat, 0]

def k0_chk1 (i : grid0.Coords) (v329 : BitVec 32) : Prop :=
  (∀ (k0_h1 : k0_cond1 i = 1#1), ∀ a, (k0_off3 v329) a + S1x4096.size a ≤ S147456x4096.size a)
theorem k0_off3_inb : ∀ (i : grid0.Coords) (v329 : BitVec 32) (k0_hw1 : k0_chk1 i v329), ∀ (k0_h1 : k0_cond1 i = 1#1), ∀ a, (k0_off3 v329) a + S1x4096.size a ≤ S147456x4096.size a := fun i v329 k0_hw1 k0_h1 => k0_hw1 k0_h1

def k0_off4 (k0_t1 : Fin k0_t1_loop.trips) : Fin 3 → Nat :=
  let c0_200 : Index := 0#32
  let c0_i32_161 : BitVec 32 := 0#32
  let c1_i32_163 : BitVec 32 := 1#32
  let arg13 : BitVec 32 := Scf.iv c0_i32_161 c1_i32_163 k0_t1
  let c4_i32_185 : BitVec 32 := 4#32
  let v335 : BitVec 32 := Scalar.muli arg13 c4_i32_185
  let c1_i32_186 : BitVec 32 := 1#32
  let v336 : BitVec 32 := Scalar.addi v335 c1_i32_186
  let c0_i32_188 : BitVec 32 := 0#32
  let v338 : BitVec 1 := Scalar.cmpi .sgt v336 c0_i32_188
  let v339 : BitVec 32 := Scalar.extui v338
  let c0_i32_189 : BitVec 32 := 0#32
  let v340 : BitVec 1 := Scalar.cmpi .slt v336 c0_i32_189
  let v341 : BitVec 32 := Scalar.extui v340
  let v342 : BitVec 32 := Scalar.subi v339 v341
  let c128_i32_187 : BitVec 32 := 128#32
  let c0_i32_190 : BitVec 32 := 0#32
  let v343 : BitVec 1 := Scalar.cmpi .sgt c128_i32_187 c0_i32_190
  let v344 : BitVec 32 := Scalar.extui v343
  let c0_i32_191 : BitVec 32 := 0#32
  let v345 : BitVec 1 := Scalar.cmpi .slt c128_i32_187 c0_i32_191
  let v346 : BitVec 32 := Scalar.extui v345
  let v347 : BitVec 32 := Scalar.subi v344 v346
  let v348 : BitVec 1 := Scalar.cmpi .ne v342 v347
  let v349 : BitVec 32 := Scalar.remsi v336 c128_i32_187
  let c0_i32_192 : BitVec 32 := 0#32
  let v350 : BitVec 1 := Scalar.cmpi .ne v349 c0_i32_192
  let v351 : BitVec 1 := Scalar.andi v348 v350
  let v337 : BitVec 32 := Scalar.divsi v336 c128_i32_187
  let c1_i32_193 : BitVec 32 := 1#32
  let v352 : BitVec 32 := Scalar.subi v337 c1_i32_193
  let v353 : BitVec 32 := Scalar.select v351 v352 v337
  let v364 : Index := Scalar.indexCast v353
  let c128_i32_194 : BitVec 32 := 128#32
  let c0_i32_195 : BitVec 32 := 0#32
  let v354 : BitVec 1 := Scalar.cmpi .eq c128_i32_194 c0_i32_195
  let c1_i32_196 : BitVec 32 := 1#32
  let v355 : BitVec 32 := Scalar.select v354 c1_i32_196 c128_i32_194
  let v356 : BitVec 32 := Scalar.remsi v336 v355
  let c0_i32_198 : BitVec 32 := 0#32
  let v358 : BitVec 1 := Scalar.cmpi .slt v356 c0_i32_198
  let c0_i32_199 : BitVec 32 := 0#32
  let v359 : BitVec 1 := Scalar.cmpi .slt v355 c0_i32_199
  let v360 : BitVec 1 := Scalar.xori v358 v359
  let c0_i32_197 : BitVec 32 := 0#32
  let v357 : BitVec 1 := Scalar.cmpi .ne v356 c0_i32_197
  let v361 : BitVec 1 := Scalar.andi v360 v357
  let v362 : BitVec 32 := Scalar.addi v356 v355
  let v363 : BitVec 32 := Scalar.select v361 v362 v356
  let v365 : Index := Scalar.indexCast v363
  ![0, v364.toNat, v365.toNat]
def k0_off5 (k0_t1 : Fin k0_t1_loop.trips) : Fin 4 → Nat :=
  let c0_i32_201 : BitVec 32 := 0#32
  let c1_i32_202 : BitVec 32 := 1#32
  let c0_i32_161 : BitVec 32 := 0#32
  let c1_i32_163 : BitVec 32 := 1#32
  let arg13 : BitVec 32 := Scf.iv c0_i32_161 c1_i32_163 k0_t1
  let c0_i32_204 : BitVec 32 := 0#32
  ![0, 1, arg13.toNat, 0]
def k0_off6 (v366 : BitVec 32) : Fin 2 → Nat :=
  let c0_i32_205 : BitVec 32 := 0#32
  ![v366.toNat, 0]

def k0_chk2 (i : grid0.Coords) (v366 : BitVec 32) : Prop :=
  (∀ (k0_h1 : k0_cond1 i = 1#1), ∀ a, (k0_off6 v366) a + S1x4096.size a ≤ S147456x4096.size a)
theorem k0_off6_inb : ∀ (i : grid0.Coords) (v366 : BitVec 32) (k0_hw2 : k0_chk2 i v366), ∀ (k0_h1 : k0_cond1 i = 1#1), ∀ a, (k0_off6 v366) a + S1x4096.size a ≤ S147456x4096.size a := fun i v366 k0_hw2 k0_h1 => k0_hw2 k0_h1

def k0_off7 (k0_t1 : Fin k0_t1_loop.trips) : Fin 3 → Nat :=
  let c0_221 : Index := 0#32
  let c0_i32_161 : BitVec 32 := 0#32
  let c1_i32_163 : BitVec 32 := 1#32
  let arg13 : BitVec 32 := Scf.iv c0_i32_161 c1_i32_163 k0_t1
  let c4_i32_206 : BitVec 32 := 4#32
  let v372 : BitVec 32 := Scalar.muli arg13 c4_i32_206
  let c2_i32_207 : BitVec 32 := 2#32
  let v373 : BitVec 32 := Scalar.addi v372 c2_i32_207
  let c0_i32_209 : BitVec 32 := 0#32
  let v375 : BitVec 1 := Scalar.cmpi .sgt v373 c0_i32_209
  let v376 : BitVec 32 := Scalar.extui v375
  let c0_i32_210 : BitVec 32 := 0#32
  let v377 : BitVec 1 := Scalar.cmpi .slt v373 c0_i32_210
  let v378 : BitVec 32 := Scalar.extui v377
  let v379 : BitVec 32 := Scalar.subi v376 v378
  let c128_i32_208 : BitVec 32 := 128#32
  let c0_i32_211 : BitVec 32 := 0#32
  let v380 : BitVec 1 := Scalar.cmpi .sgt c128_i32_208 c0_i32_211
  let v381 : BitVec 32 := Scalar.extui v380
  let c0_i32_212 : BitVec 32 := 0#32
  let v382 : BitVec 1 := Scalar.cmpi .slt c128_i32_208 c0_i32_212
  let v383 : BitVec 32 := Scalar.extui v382
  let v384 : BitVec 32 := Scalar.subi v381 v383
  let v385 : BitVec 1 := Scalar.cmpi .ne v379 v384
  let v386 : BitVec 32 := Scalar.remsi v373 c128_i32_208
  let c0_i32_213 : BitVec 32 := 0#32
  let v387 : BitVec 1 := Scalar.cmpi .ne v386 c0_i32_213
  let v388 : BitVec 1 := Scalar.andi v385 v387
  let v374 : BitVec 32 := Scalar.divsi v373 c128_i32_208
  let c1_i32_214 : BitVec 32 := 1#32
  let v389 : BitVec 32 := Scalar.subi v374 c1_i32_214
  let v390 : BitVec 32 := Scalar.select v388 v389 v374
  let v401 : Index := Scalar.indexCast v390
  let c128_i32_215 : BitVec 32 := 128#32
  let c0_i32_216 : BitVec 32 := 0#32
  let v391 : BitVec 1 := Scalar.cmpi .eq c128_i32_215 c0_i32_216
  let c1_i32_217 : BitVec 32 := 1#32
  let v392 : BitVec 32 := Scalar.select v391 c1_i32_217 c128_i32_215
  let v393 : BitVec 32 := Scalar.remsi v373 v392
  let c0_i32_219 : BitVec 32 := 0#32
  let v395 : BitVec 1 := Scalar.cmpi .slt v393 c0_i32_219
  let c0_i32_220 : BitVec 32 := 0#32
  let v396 : BitVec 1 := Scalar.cmpi .slt v392 c0_i32_220
  let v397 : BitVec 1 := Scalar.xori v395 v396
  let c0_i32_218 : BitVec 32 := 0#32
  let v394 : BitVec 1 := Scalar.cmpi .ne v393 c0_i32_218
  let v398 : BitVec 1 := Scalar.andi v397 v394
  let v399 : BitVec 32 := Scalar.addi v393 v392
  let v400 : BitVec 32 := Scalar.select v398 v399 v393
  let v402 : Index := Scalar.indexCast v400
  ![0, v401.toNat, v402.toNat]
def k0_off8 (k0_t1 : Fin k0_t1_loop.trips) : Fin 4 → Nat :=
  let c0_i32_222 : BitVec 32 := 0#32
  let c2_i32_223 : BitVec 32 := 2#32
  let c0_i32_161 : BitVec 32 := 0#32
  let c1_i32_163 : BitVec 32 := 1#32
  let arg13 : BitVec 32 := Scf.iv c0_i32_161 c1_i32_163 k0_t1
  let c0_i32_225 : BitVec 32 := 0#32
  ![0, 2, arg13.toNat, 0]
def k0_off9 (v403 : BitVec 32) : Fin 2 → Nat :=
  let c0_i32_226 : BitVec 32 := 0#32
  ![v403.toNat, 0]

def k0_chk3 (i : grid0.Coords) (v403 : BitVec 32) : Prop :=
  (∀ (k0_h1 : k0_cond1 i = 1#1), ∀ a, (k0_off9 v403) a + S1x4096.size a ≤ S147456x4096.size a)
theorem k0_off9_inb : ∀ (i : grid0.Coords) (v403 : BitVec 32) (k0_hw3 : k0_chk3 i v403), ∀ (k0_h1 : k0_cond1 i = 1#1), ∀ a, (k0_off9 v403) a + S1x4096.size a ≤ S147456x4096.size a := fun i v403 k0_hw3 k0_h1 => k0_hw3 k0_h1

def k0_off10 (k0_t1 : Fin k0_t1_loop.trips) : Fin 3 → Nat :=
  let c0_241 : Index := 0#32
  let c0_i32_161 : BitVec 32 := 0#32
  let c1_i32_163 : BitVec 32 := 1#32
  let arg13 : BitVec 32 := Scf.iv c0_i32_161 c1_i32_163 k0_t1
  let c4_i32_227 : BitVec 32 := 4#32
  let v409 : BitVec 32 := Scalar.muli arg13 c4_i32_227
  let c3_i32 : BitVec 32 := 3#32
  let v410 : BitVec 32 := Scalar.addi v409 c3_i32
  let c0_i32_229 : BitVec 32 := 0#32
  let v412 : BitVec 1 := Scalar.cmpi .sgt v410 c0_i32_229
  let v413 : BitVec 32 := Scalar.extui v412
  let c0_i32_230 : BitVec 32 := 0#32
  let v414 : BitVec 1 := Scalar.cmpi .slt v410 c0_i32_230
  let v415 : BitVec 32 := Scalar.extui v414
  let v416 : BitVec 32 := Scalar.subi v413 v415
  let c128_i32_228 : BitVec 32 := 128#32
  let c0_i32_231 : BitVec 32 := 0#32
  let v417 : BitVec 1 := Scalar.cmpi .sgt c128_i32_228 c0_i32_231
  let v418 : BitVec 32 := Scalar.extui v417
  let c0_i32_232 : BitVec 32 := 0#32
  let v419 : BitVec 1 := Scalar.cmpi .slt c128_i32_228 c0_i32_232
  let v420 : BitVec 32 := Scalar.extui v419
  let v421 : BitVec 32 := Scalar.subi v418 v420
  let v422 : BitVec 1 := Scalar.cmpi .ne v416 v421
  let v423 : BitVec 32 := Scalar.remsi v410 c128_i32_228
  let c0_i32_233 : BitVec 32 := 0#32
  let v424 : BitVec 1 := Scalar.cmpi .ne v423 c0_i32_233
  let v425 : BitVec 1 := Scalar.andi v422 v424
  let v411 : BitVec 32 := Scalar.divsi v410 c128_i32_228
  let c1_i32_234 : BitVec 32 := 1#32
  let v426 : BitVec 32 := Scalar.subi v411 c1_i32_234
  let v427 : BitVec 32 := Scalar.select v425 v426 v411
  let v438 : Index := Scalar.indexCast v427
  let c128_i32_235 : BitVec 32 := 128#32
  let c0_i32_236 : BitVec 32 := 0#32
  let v428 : BitVec 1 := Scalar.cmpi .eq c128_i32_235 c0_i32_236
  let c1_i32_237 : BitVec 32 := 1#32
  let v429 : BitVec 32 := Scalar.select v428 c1_i32_237 c128_i32_235
  let v430 : BitVec 32 := Scalar.remsi v410 v429
  let c0_i32_239 : BitVec 32 := 0#32
  let v432 : BitVec 1 := Scalar.cmpi .slt v430 c0_i32_239
  let c0_i32_240 : BitVec 32 := 0#32
  let v433 : BitVec 1 := Scalar.cmpi .slt v429 c0_i32_240
  let v434 : BitVec 1 := Scalar.xori v432 v433
  let c0_i32_238 : BitVec 32 := 0#32
  let v431 : BitVec 1 := Scalar.cmpi .ne v430 c0_i32_238
  let v435 : BitVec 1 := Scalar.andi v434 v431
  let v436 : BitVec 32 := Scalar.addi v430 v429
  let v437 : BitVec 32 := Scalar.select v435 v436 v430
  let v439 : Index := Scalar.indexCast v437
  ![0, v438.toNat, v439.toNat]
def k0_off11 (k0_t1 : Fin k0_t1_loop.trips) : Fin 4 → Nat :=
  let c0_i32_242 : BitVec 32 := 0#32
  let c3_i32_243 : BitVec 32 := 3#32
  let c0_i32_161 : BitVec 32 := 0#32
  let c1_i32_163 : BitVec 32 := 1#32
  let arg13 : BitVec 32 := Scf.iv c0_i32_161 c1_i32_163 k0_t1
  let c0_i32_245 : BitVec 32 := 0#32
  ![0, 3, arg13.toNat, 0]
def k0_off12 (v440 : BitVec 32) : Fin 2 → Nat :=
  let c0_i32_246 : BitVec 32 := 0#32
  ![v440.toNat, 0]

def k0_chk4 (i : grid0.Coords) (v440 : BitVec 32) : Prop :=
  (∀ (k0_h1 : k0_cond1 i = 1#1), ∀ a, (k0_off12 v440) a + S1x4096.size a ≤ S147456x4096.size a)
theorem k0_off12_inb : ∀ (i : grid0.Coords) (v440 : BitVec 32) (k0_hw4 : k0_chk4 i v440), ∀ (k0_h1 : k0_cond1 i = 1#1), ∀ a, (k0_off12 v440) a + S1x4096.size a ≤ S147456x4096.size a := fun i v440 k0_hw4 k0_h1 => k0_hw4 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c256_i32 : BitVec 32 := 256#32
  let v14 : BitVec 1 := Scalar.cmpi .slt v13 c256_i32
  let v15 : BitVec 32 := Scalar.extui v14
  let c0_i32_6 : BitVec 32 := 0#32
  let v16 : BitVec 1 := Scalar.cmpi .ne v15 c0_i32_6
  v16

def k0_off13 (i : grid0.Coords) : Fin 3 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  let c0_i32_151 : BitVec 32 := 0#32
  let c0_i32_152 : BitVec 32 := 0#32
  ![v290.toNat, 0, 0]
def k0_off14 (i : grid0.Coords) : Fin 3 → Nat :=
  let arg0 : BitVec 32 := BitVec.ofNat 32 (i 0).val
  let c1_i32_149 : BitVec 32 := 1#32
  let v289 : BitVec 32 := Scalar.addi arg0 c1_i32_149
  let c0_i32_153 : BitVec 32 := 0#32
  let c0_i32_154 : BitVec 32 := 0#32
  ![v289.toNat, 0, 0]
@[reducible] def k0_t2_loop : Scf.Loop 32 :=
  let c0_i32_159 : BitVec 32 := 0#32
  let c128_i32_160 : BitVec 32 := 128#32
  let v299 : BitVec 32 := Scalar.addi c0_i32_159 c128_i32_160
  let c1_i32_161 : BitVec 32 := 1#32
  ⟨c0_i32_159, v299, c1_i32_161⟩
def k0_off15 (i : grid0.Coords) (k0_t2 : Fin k0_t2_loop.trips) : Fin 3 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  let v329 : Index := Scalar.indexCast v290
  let c0_i32_159 : BitVec 32 := 0#32
  let c1_i32_161 : BitVec 32 := 1#32
  let arg13 : BitVec 32 := Scf.iv c0_i32_159 c1_i32_161 k0_t2
  let c4_i32 : BitVec 32 := 4#32
  let v300 : BitVec 32 := Scalar.muli arg13 c4_i32
  let c0_i32_163 : BitVec 32 := 0#32
  let v301 : BitVec 32 := Scalar.addi v300 c0_i32_163
  let c0_i32_165 : BitVec 32 := 0#32
  let v303 : BitVec 1 := Scalar.cmpi .sgt v301 c0_i32_165
  let v304 : BitVec 32 := Scalar.extui v303
  let c0_i32_166 : BitVec 32 := 0#32
  let v305 : BitVec 1 := Scalar.cmpi .slt v301 c0_i32_166
  let v306 : BitVec 32 := Scalar.extui v305
  let v307 : BitVec 32 := Scalar.subi v304 v306
  let c128_i32_164 : BitVec 32 := 128#32
  let c0_i32_167 : BitVec 32 := 0#32
  let v308 : BitVec 1 := Scalar.cmpi .sgt c128_i32_164 c0_i32_167
  let v309 : BitVec 32 := Scalar.extui v308
  let c0_i32_168 : BitVec 32 := 0#32
  let v310 : BitVec 1 := Scalar.cmpi .slt c128_i32_164 c0_i32_168
  let v311 : BitVec 32 := Scalar.extui v310
  let v312 : BitVec 32 := Scalar.subi v309 v311
  let v313 : BitVec 1 := Scalar.cmpi .ne v307 v312
  let v314 : BitVec 32 := Scalar.remsi v301 c128_i32_164
  let c0_i32_169 : BitVec 32 := 0#32
  let v315 : BitVec 1 := Scalar.cmpi .ne v314 c0_i32_169
  let v316 : BitVec 1 := Scalar.andi v313 v315
  let v302 : BitVec 32 := Scalar.divsi v301 c128_i32_164
  let c1_i32_170 : BitVec 32 := 1#32
  let v317 : BitVec 32 := Scalar.subi v302 c1_i32_170
  let v318 : BitVec 32 := Scalar.select v316 v317 v302
  let v330 : Index := Scalar.indexCast v318
  let c128_i32_171 : BitVec 32 := 128#32
  let c0_i32_172 : BitVec 32 := 0#32
  let v319 : BitVec 1 := Scalar.cmpi .eq c128_i32_171 c0_i32_172
  let c1_i32_173 : BitVec 32 := 1#32
  let v320 : BitVec 32 := Scalar.select v319 c1_i32_173 c128_i32_171
  let v321 : BitVec 32 := Scalar.remsi v301 v320
  let c0_i32_175 : BitVec 32 := 0#32
  let v323 : BitVec 1 := Scalar.cmpi .slt v321 c0_i32_175
  let c0_i32_176 : BitVec 32 := 0#32
  let v324 : BitVec 1 := Scalar.cmpi .slt v320 c0_i32_176
  let v325 : BitVec 1 := Scalar.xori v323 v324
  let c0_i32_174 : BitVec 32 := 0#32
  let v322 : BitVec 1 := Scalar.cmpi .ne v321 c0_i32_174
  let v326 : BitVec 1 := Scalar.andi v325 v322
  let v327 : BitVec 32 := Scalar.addi v321 v320
  let v328 : BitVec 32 := Scalar.select v326 v327 v321
  let v331 : Index := Scalar.indexCast v328
  ![v329.toNat, v330.toNat, v331.toNat]
def k0_off16 (i : grid0.Coords) : Fin 1 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  ![v290.toNat]
def k0_off17 (i : grid0.Coords) (k0_t2 : Fin k0_t2_loop.trips) : Fin 4 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  let c0_i32_177 : BitVec 32 := 0#32
  let c0_i32_159 : BitVec 32 := 0#32
  let c1_i32_161 : BitVec 32 := 1#32
  let arg13 : BitVec 32 := Scf.iv c0_i32_159 c1_i32_161 k0_t2
  let c0_i32_178 : BitVec 32 := 0#32
  ![v290.toNat, 0, arg13.toNat, 0]
def k0_off18 (v332 : BitVec 32) : Fin 2 → Nat :=
  let c0_i32_179 : BitVec 32 := 0#32
  ![v332.toNat, 0]

def k0_chk5 (i : grid0.Coords) (v332 : BitVec 32) : Prop :=
  (∀ (k0_h2 : k0_cond2 i = 1#1), ∀ a, (k0_off18 v332) a + S1x4096.size a ≤ S147456x4096.size a)
theorem k0_off18_inb : ∀ (i : grid0.Coords) (v332 : BitVec 32) (k0_hw5 : k0_chk5 i v332), ∀ (k0_h2 : k0_cond2 i = 1#1), ∀ a, (k0_off18 v332) a + S1x4096.size a ≤ S147456x4096.size a := fun i v332 k0_hw5 k0_h2 => k0_hw5 k0_h2

def k0_off19 (i : grid0.Coords) (k0_t2 : Fin k0_t2_loop.trips) : Fin 3 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  let v367 : Index := Scalar.indexCast v290
  let c0_i32_159 : BitVec 32 := 0#32
  let c1_i32_161 : BitVec 32 := 1#32
  let arg13 : BitVec 32 := Scf.iv c0_i32_159 c1_i32_161 k0_t2
  let c4_i32_180 : BitVec 32 := 4#32
  let v338 : BitVec 32 := Scalar.muli arg13 c4_i32_180
  let c1_i32_181 : BitVec 32 := 1#32
  let v339 : BitVec 32 := Scalar.addi v338 c1_i32_181
  let c0_i32_183 : BitVec 32 := 0#32
  let v341 : BitVec 1 := Scalar.cmpi .sgt v339 c0_i32_183
  let v342 : BitVec 32 := Scalar.extui v341
  let c0_i32_184 : BitVec 32 := 0#32
  let v343 : BitVec 1 := Scalar.cmpi .slt v339 c0_i32_184
  let v344 : BitVec 32 := Scalar.extui v343
  let v345 : BitVec 32 := Scalar.subi v342 v344
  let c128_i32_182 : BitVec 32 := 128#32
  let c0_i32_185 : BitVec 32 := 0#32
  let v346 : BitVec 1 := Scalar.cmpi .sgt c128_i32_182 c0_i32_185
  let v347 : BitVec 32 := Scalar.extui v346
  let c0_i32_186 : BitVec 32 := 0#32
  let v348 : BitVec 1 := Scalar.cmpi .slt c128_i32_182 c0_i32_186
  let v349 : BitVec 32 := Scalar.extui v348
  let v350 : BitVec 32 := Scalar.subi v347 v349
  let v351 : BitVec 1 := Scalar.cmpi .ne v345 v350
  let v352 : BitVec 32 := Scalar.remsi v339 c128_i32_182
  let c0_i32_187 : BitVec 32 := 0#32
  let v353 : BitVec 1 := Scalar.cmpi .ne v352 c0_i32_187
  let v354 : BitVec 1 := Scalar.andi v351 v353
  let v340 : BitVec 32 := Scalar.divsi v339 c128_i32_182
  let c1_i32_188 : BitVec 32 := 1#32
  let v355 : BitVec 32 := Scalar.subi v340 c1_i32_188
  let v356 : BitVec 32 := Scalar.select v354 v355 v340
  let v368 : Index := Scalar.indexCast v356
  let c128_i32_189 : BitVec 32 := 128#32
  let c0_i32_190 : BitVec 32 := 0#32
  let v357 : BitVec 1 := Scalar.cmpi .eq c128_i32_189 c0_i32_190
  let c1_i32_191 : BitVec 32 := 1#32
  let v358 : BitVec 32 := Scalar.select v357 c1_i32_191 c128_i32_189
  let v359 : BitVec 32 := Scalar.remsi v339 v358
  let c0_i32_193 : BitVec 32 := 0#32
  let v361 : BitVec 1 := Scalar.cmpi .slt v359 c0_i32_193
  let c0_i32_194 : BitVec 32 := 0#32
  let v362 : BitVec 1 := Scalar.cmpi .slt v358 c0_i32_194
  let v363 : BitVec 1 := Scalar.xori v361 v362
  let c0_i32_192 : BitVec 32 := 0#32
  let v360 : BitVec 1 := Scalar.cmpi .ne v359 c0_i32_192
  let v364 : BitVec 1 := Scalar.andi v363 v360
  let v365 : BitVec 32 := Scalar.addi v359 v358
  let v366 : BitVec 32 := Scalar.select v364 v365 v359
  let v369 : Index := Scalar.indexCast v366
  ![v367.toNat, v368.toNat, v369.toNat]
def k0_off20 (i : grid0.Coords) : Fin 1 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  ![v290.toNat]
def k0_off21 (i : grid0.Coords) (k0_t2 : Fin k0_t2_loop.trips) : Fin 4 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  let c1_i32_195 : BitVec 32 := 1#32
  let c0_i32_159 : BitVec 32 := 0#32
  let c1_i32_161 : BitVec 32 := 1#32
  let arg13 : BitVec 32 := Scf.iv c0_i32_159 c1_i32_161 k0_t2
  let c0_i32_196 : BitVec 32 := 0#32
  ![v290.toNat, 1, arg13.toNat, 0]
def k0_off22 (v370 : BitVec 32) : Fin 2 → Nat :=
  let c0_i32_197 : BitVec 32 := 0#32
  ![v370.toNat, 0]

def k0_chk6 (i : grid0.Coords) (v370 : BitVec 32) : Prop :=
  (∀ (k0_h2 : k0_cond2 i = 1#1), ∀ a, (k0_off22 v370) a + S1x4096.size a ≤ S147456x4096.size a)
theorem k0_off22_inb : ∀ (i : grid0.Coords) (v370 : BitVec 32) (k0_hw6 : k0_chk6 i v370), ∀ (k0_h2 : k0_cond2 i = 1#1), ∀ a, (k0_off22 v370) a + S1x4096.size a ≤ S147456x4096.size a := fun i v370 k0_hw6 k0_h2 => k0_hw6 k0_h2

def k0_off23 (i : grid0.Coords) (k0_t2 : Fin k0_t2_loop.trips) : Fin 3 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  let v405 : Index := Scalar.indexCast v290
  let c0_i32_159 : BitVec 32 := 0#32
  let c1_i32_161 : BitVec 32 := 1#32
  let arg13 : BitVec 32 := Scf.iv c0_i32_159 c1_i32_161 k0_t2
  let c4_i32_198 : BitVec 32 := 4#32
  let v376 : BitVec 32 := Scalar.muli arg13 c4_i32_198
  let c2_i32_199 : BitVec 32 := 2#32
  let v377 : BitVec 32 := Scalar.addi v376 c2_i32_199
  let c0_i32_201 : BitVec 32 := 0#32
  let v379 : BitVec 1 := Scalar.cmpi .sgt v377 c0_i32_201
  let v380 : BitVec 32 := Scalar.extui v379
  let c0_i32_202 : BitVec 32 := 0#32
  let v381 : BitVec 1 := Scalar.cmpi .slt v377 c0_i32_202
  let v382 : BitVec 32 := Scalar.extui v381
  let v383 : BitVec 32 := Scalar.subi v380 v382
  let c128_i32_200 : BitVec 32 := 128#32
  let c0_i32_203 : BitVec 32 := 0#32
  let v384 : BitVec 1 := Scalar.cmpi .sgt c128_i32_200 c0_i32_203
  let v385 : BitVec 32 := Scalar.extui v384
  let c0_i32_204 : BitVec 32 := 0#32
  let v386 : BitVec 1 := Scalar.cmpi .slt c128_i32_200 c0_i32_204
  let v387 : BitVec 32 := Scalar.extui v386
  let v388 : BitVec 32 := Scalar.subi v385 v387
  let v389 : BitVec 1 := Scalar.cmpi .ne v383 v388
  let v390 : BitVec 32 := Scalar.remsi v377 c128_i32_200
  let c0_i32_205 : BitVec 32 := 0#32
  let v391 : BitVec 1 := Scalar.cmpi .ne v390 c0_i32_205
  let v392 : BitVec 1 := Scalar.andi v389 v391
  let v378 : BitVec 32 := Scalar.divsi v377 c128_i32_200
  let c1_i32_206 : BitVec 32 := 1#32
  let v393 : BitVec 32 := Scalar.subi v378 c1_i32_206
  let v394 : BitVec 32 := Scalar.select v392 v393 v378
  let v406 : Index := Scalar.indexCast v394
  let c128_i32_207 : BitVec 32 := 128#32
  let c0_i32_208 : BitVec 32 := 0#32
  let v395 : BitVec 1 := Scalar.cmpi .eq c128_i32_207 c0_i32_208
  let c1_i32_209 : BitVec 32 := 1#32
  let v396 : BitVec 32 := Scalar.select v395 c1_i32_209 c128_i32_207
  let v397 : BitVec 32 := Scalar.remsi v377 v396
  let c0_i32_211 : BitVec 32 := 0#32
  let v399 : BitVec 1 := Scalar.cmpi .slt v397 c0_i32_211
  let c0_i32_212 : BitVec 32 := 0#32
  let v400 : BitVec 1 := Scalar.cmpi .slt v396 c0_i32_212
  let v401 : BitVec 1 := Scalar.xori v399 v400
  let c0_i32_210 : BitVec 32 := 0#32
  let v398 : BitVec 1 := Scalar.cmpi .ne v397 c0_i32_210
  let v402 : BitVec 1 := Scalar.andi v401 v398
  let v403 : BitVec 32 := Scalar.addi v397 v396
  let v404 : BitVec 32 := Scalar.select v402 v403 v397
  let v407 : Index := Scalar.indexCast v404
  ![v405.toNat, v406.toNat, v407.toNat]
def k0_off24 (i : grid0.Coords) : Fin 1 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  ![v290.toNat]
def k0_off25 (i : grid0.Coords) (k0_t2 : Fin k0_t2_loop.trips) : Fin 4 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  let c2_i32_213 : BitVec 32 := 2#32
  let c0_i32_159 : BitVec 32 := 0#32
  let c1_i32_161 : BitVec 32 := 1#32
  let arg13 : BitVec 32 := Scf.iv c0_i32_159 c1_i32_161 k0_t2
  let c0_i32_214 : BitVec 32 := 0#32
  ![v290.toNat, 2, arg13.toNat, 0]
def k0_off26 (v408 : BitVec 32) : Fin 2 → Nat :=
  let c0_i32_215 : BitVec 32 := 0#32
  ![v408.toNat, 0]

def k0_chk7 (i : grid0.Coords) (v408 : BitVec 32) : Prop :=
  (∀ (k0_h2 : k0_cond2 i = 1#1), ∀ a, (k0_off26 v408) a + S1x4096.size a ≤ S147456x4096.size a)
theorem k0_off26_inb : ∀ (i : grid0.Coords) (v408 : BitVec 32) (k0_hw7 : k0_chk7 i v408), ∀ (k0_h2 : k0_cond2 i = 1#1), ∀ a, (k0_off26 v408) a + S1x4096.size a ≤ S147456x4096.size a := fun i v408 k0_hw7 k0_h2 => k0_hw7 k0_h2

def k0_off27 (i : grid0.Coords) (k0_t2 : Fin k0_t2_loop.trips) : Fin 3 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  let v443 : Index := Scalar.indexCast v290
  let c0_i32_159 : BitVec 32 := 0#32
  let c1_i32_161 : BitVec 32 := 1#32
  let arg13 : BitVec 32 := Scf.iv c0_i32_159 c1_i32_161 k0_t2
  let c4_i32_216 : BitVec 32 := 4#32
  let v414 : BitVec 32 := Scalar.muli arg13 c4_i32_216
  let c3_i32 : BitVec 32 := 3#32
  let v415 : BitVec 32 := Scalar.addi v414 c3_i32
  let c0_i32_218 : BitVec 32 := 0#32
  let v417 : BitVec 1 := Scalar.cmpi .sgt v415 c0_i32_218
  let v418 : BitVec 32 := Scalar.extui v417
  let c0_i32_219 : BitVec 32 := 0#32
  let v419 : BitVec 1 := Scalar.cmpi .slt v415 c0_i32_219
  let v420 : BitVec 32 := Scalar.extui v419
  let v421 : BitVec 32 := Scalar.subi v418 v420
  let c128_i32_217 : BitVec 32 := 128#32
  let c0_i32_220 : BitVec 32 := 0#32
  let v422 : BitVec 1 := Scalar.cmpi .sgt c128_i32_217 c0_i32_220
  let v423 : BitVec 32 := Scalar.extui v422
  let c0_i32_221 : BitVec 32 := 0#32
  let v424 : BitVec 1 := Scalar.cmpi .slt c128_i32_217 c0_i32_221
  let v425 : BitVec 32 := Scalar.extui v424
  let v426 : BitVec 32 := Scalar.subi v423 v425
  let v427 : BitVec 1 := Scalar.cmpi .ne v421 v426
  let v428 : BitVec 32 := Scalar.remsi v415 c128_i32_217
  let c0_i32_222 : BitVec 32 := 0#32
  let v429 : BitVec 1 := Scalar.cmpi .ne v428 c0_i32_222
  let v430 : BitVec 1 := Scalar.andi v427 v429
  let v416 : BitVec 32 := Scalar.divsi v415 c128_i32_217
  let c1_i32_223 : BitVec 32 := 1#32
  let v431 : BitVec 32 := Scalar.subi v416 c1_i32_223
  let v432 : BitVec 32 := Scalar.select v430 v431 v416
  let v444 : Index := Scalar.indexCast v432
  let c128_i32_224 : BitVec 32 := 128#32
  let c0_i32_225 : BitVec 32 := 0#32
  let v433 : BitVec 1 := Scalar.cmpi .eq c128_i32_224 c0_i32_225
  let c1_i32_226 : BitVec 32 := 1#32
  let v434 : BitVec 32 := Scalar.select v433 c1_i32_226 c128_i32_224
  let v435 : BitVec 32 := Scalar.remsi v415 v434
  let c0_i32_228 : BitVec 32 := 0#32
  let v437 : BitVec 1 := Scalar.cmpi .slt v435 c0_i32_228
  let c0_i32_229 : BitVec 32 := 0#32
  let v438 : BitVec 1 := Scalar.cmpi .slt v434 c0_i32_229
  let v439 : BitVec 1 := Scalar.xori v437 v438
  let c0_i32_227 : BitVec 32 := 0#32
  let v436 : BitVec 1 := Scalar.cmpi .ne v435 c0_i32_227
  let v440 : BitVec 1 := Scalar.andi v439 v436
  let v441 : BitVec 32 := Scalar.addi v435 v434
  let v442 : BitVec 32 := Scalar.select v440 v441 v435
  let v445 : Index := Scalar.indexCast v442
  ![v443.toNat, v444.toNat, v445.toNat]
def k0_off28 (i : grid0.Coords) : Fin 1 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  ![v290.toNat]
def k0_off29 (i : grid0.Coords) (k0_t2 : Fin k0_t2_loop.trips) : Fin 4 → Nat :=
  let c1_i32_150 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_150 v9
  let c3_i32_230 : BitVec 32 := 3#32
  let c0_i32_159 : BitVec 32 := 0#32
  let c1_i32_161 : BitVec 32 := 1#32
  let arg13 : BitVec 32 := Scf.iv c0_i32_159 c1_i32_161 k0_t2
  let c0_i32_231 : BitVec 32 := 0#32
  ![v290.toNat, 3, arg13.toNat, 0]
def k0_off30 (v446 : BitVec 32) : Fin 2 → Nat :=
  let c0_i32_232 : BitVec 32 := 0#32
  ![v446.toNat, 0]

def k0_chk8 (i : grid0.Coords) (v446 : BitVec 32) : Prop :=
  (∀ (k0_h2 : k0_cond2 i = 1#1), ∀ a, (k0_off30 v446) a + S1x4096.size a ≤ S147456x4096.size a)
theorem k0_off30_inb : ∀ (i : grid0.Coords) (v446 : BitVec 32) (k0_hw8 : k0_chk8 i v446), ∀ (k0_h2 : k0_cond2 i = 1#1), ∀ a, (k0_off30 v446) a + S1x4096.size a ≤ S147456x4096.size a := fun i v446 k0_hw8 k0_h2 => k0_hw8 k0_h2

@[reducible] def k0_t3_loop : Scf.Loop 32 :=
  let c0_i32_7 : BitVec 32 := 0#32
  let c128_i32 : BitVec 32 := 128#32
  let v17 : BitVec 32 := Scalar.addi c0_i32_7 c128_i32
  let c1_i32_8 : BitVec 32 := 1#32
  ⟨c0_i32_7, v17, c1_i32_8⟩
def k0_off31 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off32 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_149 : BitVec 32 := 0#32
  let c0_i32_7 : BitVec 32 := 0#32
  let c1_i32_8 : BitVec 32 := 1#32
  let arg13 : BitVec 32 := Scf.iv c0_i32_7 c1_i32_8 k0_t3
  let c0_i32_150 : BitVec 32 := 0#32
  ![v9.toNat, 0, arg13.toNat, 0]
def k0_off33 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_153 : BitVec 32 := 1#32
  let c0_i32_7 : BitVec 32 := 0#32
  let c1_i32_8 : BitVec 32 := 1#32
  let arg13 : BitVec 32 := Scf.iv c0_i32_7 c1_i32_8 k0_t3
  let c0_i32_154 : BitVec 32 := 0#32
  ![v9.toNat, 1, arg13.toNat, 0]
def k0_off34 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_157 : BitVec 32 := 2#32
  let c0_i32_7 : BitVec 32 := 0#32
  let c1_i32_8 : BitVec 32 := 1#32
  let arg13 : BitVec 32 := Scf.iv c0_i32_7 c1_i32_8 k0_t3
  let c0_i32_158 : BitVec 32 := 0#32
  ![v9.toNat, 2, arg13.toNat, 0]
def k0_off35 (i : grid0.Coords) (k0_t3 : Fin k0_t3_loop.trips) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let c0_i32_7 : BitVec 32 := 0#32
  let c1_i32_8 : BitVec 32 := 1#32
  let arg13 : BitVec 32 := Scf.iv c0_i32_7 c1_i32_8 k0_t3
  let c0_i32_161 : BitVec 32 := 0#32
  ![v9.toNat, 3, arg13.toNat, 0]
def k0_off36 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v23 : Index := Scalar.indexCast v9
  let c0_11 : Index := 0#32
  let c0_12 : Index := 0#32
  let c0_13 : Index := 0#32
  ![v23.toNat, 0, 0, 0]
def k0_off37 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v28 : Index := Scalar.indexCast v9
  let c1 : Index := 1#32
  let c0_14 : Index := 0#32
  let c0_15 : Index := 0#32
  ![v28.toNat, 1, 0, 0]
def k0_off38 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v34 : Index := Scalar.indexCast v9
  let c2 : Index := 2#32
  let c0_16 : Index := 0#32
  let c0_17 : Index := 0#32
  ![v34.toNat, 2, 0, 0]
def k0_off39 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : Index := Scalar.indexCast v9
  let c3 : Index := 3#32
  let c0_18 : Index := 0#32
  let c0_19 : Index := 0#32
  ![v40.toNat, 3, 0, 0]
def k0_off40 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c0_24 : Index := 0#32
  let c0_25 : Index := 0#32
  let c512 : Index := 512#32
  ![v53.toNat, 0, 0, 512]
def k0_off41 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v58 : Index := Scalar.indexCast v9
  let c1_26 : Index := 1#32
  let c0_27 : Index := 0#32
  let c512_28 : Index := 512#32
  ![v58.toNat, 1, 0, 512]
def k0_off42 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : Index := Scalar.indexCast v9
  let c2_29 : Index := 2#32
  let c0_30 : Index := 0#32
  let c512_31 : Index := 512#32
  ![v64.toNat, 2, 0, 512]
def k0_off43 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v70 : Index := Scalar.indexCast v9
  let c3_32 : Index := 3#32
  let c0_33 : Index := 0#32
  let c512_34 : Index := 512#32
  ![v70.toNat, 3, 0, 512]
def k0_off44 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v83 : Index := Scalar.indexCast v9
  let c0_40 : Index := 0#32
  let c0_41 : Index := 0#32
  let c1024 : Index := 1024#32
  ![v83.toNat, 0, 0, 1024]
def k0_off45 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : Index := Scalar.indexCast v9
  let c1_42 : Index := 1#32
  let c0_43 : Index := 0#32
  let c1024_44 : Index := 1024#32
  ![v88.toNat, 1, 0, 1024]
def k0_off46 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v94 : Index := Scalar.indexCast v9
  let c2_45 : Index := 2#32
  let c0_46 : Index := 0#32
  let c1024_47 : Index := 1024#32
  ![v94.toNat, 2, 0, 1024]
def k0_off47 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : Index := Scalar.indexCast v9
  let c3_48 : Index := 3#32
  let c0_49 : Index := 0#32
  let c1024_50 : Index := 1024#32
  ![v100.toNat, 3, 0, 1024]
def k0_off48 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v113 : Index := Scalar.indexCast v9
  let c0_56 : Index := 0#32
  let c0_57 : Index := 0#32
  let c1536 : Index := 1536#32
  ![v113.toNat, 0, 0, 1536]
def k0_off49 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v118 : Index := Scalar.indexCast v9
  let c1_58 : Index := 1#32
  let c0_59 : Index := 0#32
  let c1536_60 : Index := 1536#32
  ![v118.toNat, 1, 0, 1536]
def k0_off50 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v124 : Index := Scalar.indexCast v9
  let c2_61 : Index := 2#32
  let c0_62 : Index := 0#32
  let c1536_63 : Index := 1536#32
  ![v124.toNat, 2, 0, 1536]
def k0_off51 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v130 : Index := Scalar.indexCast v9
  let c3_64 : Index := 3#32
  let c0_65 : Index := 0#32
  let c1536_66 : Index := 1536#32
  ![v130.toNat, 3, 0, 1536]
def k0_off52 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v143 : Index := Scalar.indexCast v9
  let c0_72 : Index := 0#32
  let c0_73 : Index := 0#32
  let c2048 : Index := 2048#32
  ![v143.toNat, 0, 0, 2048]
def k0_off53 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v148 : Index := Scalar.indexCast v9
  let c1_74 : Index := 1#32
  let c0_75 : Index := 0#32
  let c2048_76 : Index := 2048#32
  ![v148.toNat, 1, 0, 2048]
def k0_off54 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : Index := Scalar.indexCast v9
  let c2_77 : Index := 2#32
  let c0_78 : Index := 0#32
  let c2048_79 : Index := 2048#32
  ![v154.toNat, 2, 0, 2048]
def k0_off55 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v160 : Index := Scalar.indexCast v9
  let c3_80 : Index := 3#32
  let c0_81 : Index := 0#32
  let c2048_82 : Index := 2048#32
  ![v160.toNat, 3, 0, 2048]
def k0_off56 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v173 : Index := Scalar.indexCast v9
  let c0_88 : Index := 0#32
  let c0_89 : Index := 0#32
  let c2560 : Index := 2560#32
  ![v173.toNat, 0, 0, 2560]
def k0_off57 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v178 : Index := Scalar.indexCast v9
  let c1_90 : Index := 1#32
  let c0_91 : Index := 0#32
  let c2560_92 : Index := 2560#32
  ![v178.toNat, 1, 0, 2560]
def k0_off58 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v184 : Index := Scalar.indexCast v9
  let c2_93 : Index := 2#32
  let c0_94 : Index := 0#32
  let c2560_95 : Index := 2560#32
  ![v184.toNat, 2, 0, 2560]
def k0_off59 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v190 : Index := Scalar.indexCast v9
  let c3_96 : Index := 3#32
  let c0_97 : Index := 0#32
  let c2560_98 : Index := 2560#32
  ![v190.toNat, 3, 0, 2560]
def k0_off60 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v203 : Index := Scalar.indexCast v9
  let c0_104 : Index := 0#32
  let c0_105 : Index := 0#32
  let c3072 : Index := 3072#32
  ![v203.toNat, 0, 0, 3072]
def k0_off61 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v208 : Index := Scalar.indexCast v9
  let c1_106 : Index := 1#32
  let c0_107 : Index := 0#32
  let c3072_108 : Index := 3072#32
  ![v208.toNat, 1, 0, 3072]
def k0_off62 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v214 : Index := Scalar.indexCast v9
  let c2_109 : Index := 2#32
  let c0_110 : Index := 0#32
  let c3072_111 : Index := 3072#32
  ![v214.toNat, 2, 0, 3072]
def k0_off63 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v220 : Index := Scalar.indexCast v9
  let c3_112 : Index := 3#32
  let c0_113 : Index := 0#32
  let c3072_114 : Index := 3072#32
  ![v220.toNat, 3, 0, 3072]
def k0_off64 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v233 : Index := Scalar.indexCast v9
  let c0_120 : Index := 0#32
  let c0_121 : Index := 0#32
  let c3584 : Index := 3584#32
  ![v233.toNat, 0, 0, 3584]
def k0_off65 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v238 : Index := Scalar.indexCast v9
  let c1_122 : Index := 1#32
  let c0_123 : Index := 0#32
  let c3584_124 : Index := 3584#32
  ![v238.toNat, 1, 0, 3584]
def k0_off66 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v244 : Index := Scalar.indexCast v9
  let c2_125 : Index := 2#32
  let c0_126 : Index := 0#32
  let c3584_127 : Index := 3584#32
  ![v244.toNat, 2, 0, 3584]
def k0_off67 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v250 : Index := Scalar.indexCast v9
  let c3_128 : Index := 3#32
  let c0_129 : Index := 0#32
  let c3584_130 : Index := 3584#32
  ![v250.toNat, 3, 0, 3584]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S131072 : Shape := ⟨1, ![131072]⟩
abbrev S147456x4096 : Shape := ⟨2, ![147456, 4096]⟩
abbrev S32768x128 : Shape := ⟨2, ![32768, 128]⟩
abbrev S32768x4096 : Shape := ⟨2, ![32768, 4096]⟩
abbrev S1x4096 : Shape := ⟨2, ![1, 4096]⟩
abbrev S_ : Shape := ⟨0, ![]⟩
abbrev S131072x1 : Shape := ⟨2, ![131072, 1]⟩
abbrev S131072x4096 : Shape := ⟨2, ![131072, 4096]⟩
abbrev S32768x4x4096 : Shape := ⟨3, ![32768, 4, 4096]⟩
abbrev S32768x4 : Shape := ⟨2, ![32768, 4]⟩
abbrev S32768x4x1 : Shape := ⟨3, ![32768, 4, 1]⟩
abbrev S32768 : Shape := ⟨1, ![32768]⟩
abbrev S32768x1 : Shape := ⟨2, ![32768, 1]⟩
abbrev S4096 : Shape := ⟨1, ![4096]⟩

abbrev nBuf : Space → Nat
  | .hbm => 57
  | .vmem => 0
  | .smem => 0
  | _ => 0

abbrev bufTy : (tb : Table) → Fin (tcTables nBuf tb) → BufTy
  | .hbm, ⟨0, _⟩ => ⟨S131072, .i32⟩
  | .hbm, ⟨1, _⟩ => ⟨S147456x4096, .f32⟩
  | .hbm, ⟨2, _⟩ => ⟨S32768x128, .f32⟩
  | .hbm, ⟨3, _⟩ => ⟨S32768x4096, .f32⟩
  | .hbm, ⟨4, _⟩ => ⟨S1x4096, .f32⟩
  | .hbm, ⟨5, _⟩ => ⟨S1x4096, .f32⟩
  | .hbm, ⟨6, _⟩ => ⟨S_, .i32⟩
  | .hbm, ⟨7, _⟩ => ⟨S131072, .i32⟩
  | .hbm, ⟨8, _⟩ => ⟨S131072, .i1⟩
  | .hbm, ⟨9, _⟩ => ⟨S_, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S131072x1, .i32⟩
  | .hbm, ⟨14, _⟩ => ⟨S131072x4096, .f32⟩
  | .hbm, ⟨15, _⟩ => ⟨S32768x4x4096, .f32⟩
  | .hbm, ⟨16, _⟩ => ⟨S32768x4, .f32⟩
  | .hbm, ⟨17, _⟩ => ⟨S32768x4x1, .f32⟩
  | .hbm, ⟨18, _⟩ => ⟨S32768x4x4096, .f32⟩
  | .hbm, ⟨19, _⟩ => ⟨S32768x4x4096, .f32⟩
  | .hbm, ⟨20, _⟩ => ⟨S_, .f32⟩
  | .hbm, ⟨21, _⟩ => ⟨S32768x4096, .f32⟩
  | .hbm, ⟨22, _⟩ => ⟨S_, .f32⟩
  | .hbm, ⟨23, _⟩ => ⟨S32768x4096, .f32⟩
  | .hbm, ⟨24, _⟩ => ⟨S32768x4096, .f32⟩
  | .hbm, ⟨25, _⟩ => ⟨S32768x4096, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x4096, .f32⟩
  | .hbm, ⟨33, _⟩ => ⟨S32768x4096, .f32⟩
  | .hbm, ⟨34, _⟩ => ⟨S32768x4096, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x4096, .f32⟩
  | .hbm, ⟨42, _⟩ => ⟨S32768x4096, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x4096, .f32⟩
  | .hbm, ⟨48, _⟩ => ⟨S32768x4096, .f32⟩
  | .hbm, ⟨49, _⟩ => ⟨S4096, .f32⟩
  | .hbm, ⟨50, _⟩ => ⟨S1x4096, .f32⟩
  | .hbm, ⟨51, _⟩ => ⟨S32768x4096, .f32⟩
  | .hbm, ⟨52, _⟩ => ⟨S32768x4096, .f32⟩
  | .hbm, ⟨53, _⟩ => ⟨S4096, .f32⟩
  | .hbm, ⟨54, _⟩ => ⟨S1x4096, .f32⟩
  | .hbm, ⟨55, _⟩ => ⟨S32768x4096, .f32⟩
  | .hbm, ⟨56, _⟩ => ⟨S32768x4096, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.Idl.Rows.lean ====
/- The rows of the gather: which elements of the slot buffer and of the token array a single row transfer moves,
   what each transfer delivers, and how the whole buffers come apart into the 512 rows and back together. -/
module

public import proofs.«01_k».proof.Proof.Gen.KernelIdeal.Loops
public import Idealize.ShloMosaic.Lib.Batch
public import Idealize.ShloMosaic.Lib.Ring
public import Idealize.ShloMosaic.Lib.WordCmp
public import Idealize.ShloMosaic.Lib.ValueIdxCore
public import Idealize.ShloMosaic.Lib.Pipeline.Frame

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resources: the pipeline's beside the transfer counters. -/
local notation "𝕄" => MT nD τ sig Unit (Elt F) ℕ (Pipeline.UD sig nD τ) ℕ

/-- The token array, the slot buffer, the id buffer and the blocks' ids, as memrefs. -/
abbrev mH : Memref sig .tc .hbm S32768x4096 .f32 := Memref.whole main_arg3
abbrev mX : Memref sig .tc .vmem S512x4096 .f32 := Memref.whole cc0_scratch0
abbrev mY : Memref sig .tc .vmem S512x4096 .bf16 := Memref.whole cc0_scratch1
abbrev mI : Memref sig .tc .smem S4x128 .i32 := Memref.whole cc0_scratch2
abbrev mT : Memref sig .tc .hbm S288x4x128 .i32 := Memref.whole main_v0

/-- The id of row `n` of block `b`: the ids lie 128 to a line. -/
def tokAt (T : S288x4x128.Idx → BitVec 32) (b : Fin 288) (n : Fin 512) : BitVec 32 :=
  T (ix3 b ⟨n.val / 128, by have := n.isLt; omega⟩ ⟨n.val % 128, Nat.mod_lt _ (by decide)⟩)

/-- The same id as a row of the token array (the last row for an id past the end). -/
def rowAt (T : S288x4x128.Idx → BitVec 32) (b : Fin 288) (n : Fin 512) : Fin 32768 :=
  ⟨min (tokAt T b n).toNat 32767, by omega⟩

theorem rowAt_val (T : S288x4x128.Idx → BitVec 32) (hT : ∀ j, (T j).toNat < 32768) (b : Fin 288) (n : Fin 512) :
    (rowAt T b n).val = (tokAt T b n).toNat := by
  have := hT (ix3 b ⟨n.val / 128, by have := n.isLt; omega⟩ ⟨n.val % 128, Nat.mod_lt _ (by decide)⟩)
  show min (tokAt T b n).toNat 32767 = (tokAt T b n).toNat
  unfold tokAt; omega

/-- What the slot buffer holds when block `b` has been gathered. -/
def gath (T : S288x4x128.Idx → BitVec 32) (h : S32768x4096.Idx → Elt F .f32) (b : Fin 288) : S512x4096.Idx → Elt F .f32 :=
  fun i => h (ix2 (rowAt T b (i 0)) (i 1))

/-- What the id buffer holds when block `b`'s ids have arrived. -/
def idsOf (T : S288x4x128.Idx → BitVec 32) (b : Fin 288) : S4x128.Idx → BitVec 32 :=
  fun j => T (ix3 b (j 0) (j 1))

/-- Row `n` of the slot buffer, and row `k` of the token array. -/
def rowX (n : Fin 512) : Finset S512x4096.Idx := Finset.univ.filter fun i => (i 0).val = n.val
def rowH (k : Fin 32768) : Finset S32768x4096.Idx := Finset.univ.filter fun i => (i 0).val = k.val

theorem mem_rowX (n : Fin 512) (i : S512x4096.Idx) : i ∈ rowX n ↔ (i 0).val = n.val := by
  unfold rowX; rw [Finset.mem_filter]; exact ⟨fun h => h.2, fun h => ⟨Finset.mem_univ _, h⟩⟩
theorem mem_rowH (n : Fin 32768) (i : S32768x4096.Idx) : i ∈ rowH n ↔ (i 0).val = n.val := by
  unfold rowH; rw [Finset.mem_filter]; exact ⟨fun h => h.2, fun h => ⟨Finset.mem_univ _, h⟩⟩

theorem rowX_disjoint : ∀ b b' : Fin 512, b ≠ b' → Disjoint (rowX b) (rowX b') := fun b b' hne => by
  rw [Finset.disjoint_left]; intro y hy hy'; rw [mem_rowX] at hy hy'; exact hne (Fin.ext (by omega))
theorem rowX_cover : Finset.univ.biUnion rowX = Finset.univ := by
  ext y; simp only [Finset.mem_biUnion, Finset.mem_univ, true_and, iff_true]; exact ⟨y 0, (mem_rowX _ _).mpr rfl⟩

variable (c : Dev nD)

/-- A row of the slot buffer in hand beside a read share of one row of the token array. -/
abbrev pairAt (T : S288x4x128.Idx → BitVec 32) (h : S32768x4096.Idx → Elt F .f32) (b : Fin 288) (g : S512x4096.Idx → Elt F .f32) (n : Fin 512) : sProp 𝕄 :=
  iprop((mX.view.loc (c : Thread nD τ) ↦[rowX n]{fullShare} g)
    ∗ (mH.view.loc (c : Thread nD τ) ↦[rowH (rowAt T b n)]{Transfers.shareTok fullShare 512 n} h))

/-- The rest of that read share: every other row of the token array. -/
abbrev restAt (T : S288x4x128.Idx → BitVec 32) (h : S32768x4096.Idx → Elt F .f32) (b : Fin 288) (n : Fin 512) : sProp 𝕄 :=
  mH.view.loc (c : Thread nD τ) ↦[Finset.univ \ rowH (rowAt T b n)]{Transfers.shareTok fullShare 512 n} h

/-- The read shares' remainders, all of them. -/
def restAll (T : S288x4x128.Idx → BitVec 32) (h : S32768x4096.Idx → Elt F .f32) (b : Fin 288) : sProp 𝕄 :=
  iprop((bigSep Finset.univ (restAt c T h b)) ∗ (mH.view.loc (c : Thread nD τ) ↦{Transfers.shareDrop fullShare 512} h))

/-- What transfer `n` of block `b` hands back: the slot's row at the gathered value and the read share. -/
abbrev delivAt (T : S288x4x128.Idx → BitVec 32) (h : S32768x4096.Idx → Elt F .f32) (b : Fin 288) : Fin 512 → sProp 𝕄 :=
  pairAt c T h b (gath T h b)

instance delivAt_storable (T : S288x4x128.Idx → BitVec 32) (h : S32768x4096.Idx → Elt F .f32) (b : Fin 288) (n : Fin 512) :
    BI.Storable (upEmb : UEmb _ 𝕄) (delivAt c T h b n) := by
  unfold delivAt pairAt; infer_instance

/-- The token array under its 512 read shares: each one's row apart from its other rows. -/
theorem toks_rows (T : S288x4x128.Idx → BitVec 32) (h : S32768x4096.Idx → Elt F .f32) (b : Fin 288) :
    (bigSep Finset.univ (fun n : Fin 512 => mH.view.loc (c : Thread nD τ) ↦[Finset.univ]{Transfers.shareTok fullShare 512 n} h) : sProp 𝕄)
      = iprop(bigSep Finset.univ (fun n : Fin 512 => mH.view.loc (c : Thread nD τ) ↦[rowH (rowAt T b n)]{Transfers.shareTok fullShare 512 n} h)
          ∗ bigSep Finset.univ (restAt c T h b)) := by
  refine Eq.trans ?_ (BI.bigSep_sep _ _ _)
  refine congrArg (bigSep Finset.univ) (funext fun n => ?_)
  have he := pointsTo_split_subset (Ix := Unit) (Name := ℕ) (U := Pipeline.UD sig nD τ) (Lvl := ℕ) (ℓ := mH.view.loc (c : Thread nD τ)) (q := Transfers.shareTok fullShare 512 n) (f := h)
    (Finset.subset_univ (rowH (rowAt T b n)))
  exact BI.equiv_iff.mp ⟨he.1, he.2⟩

/-- The buffers whole are the 512 pairs and the remainders, -/
theorem split_rows (T : S288x4x128.Idx → BitVec 32) (h : S32768x4096.Idx → Elt F .f32) (b : Fin 288) (g : S512x4096.Idx → Elt F .f32) :
    iprop((mX.view.loc (c : Thread nD τ) ↦{fullShare} g) ∗ (mH.view.loc (c : Thread nD τ) ↦{fullShare} h))
      ⊢ (iprop(bigSep Finset.univ (pairAt c T h b g) ∗ restAll c T h b) : sProp 𝕄) := by
  have hP : bigSep Finset.univ (pairAt c T h b g)
      = (iprop(bigSep Finset.univ (fun n : Fin 512 => mX.view.loc (c : Thread nD τ) ↦[rowX n]{fullShare} g)
        ∗ bigSep Finset.univ (fun n : Fin 512 => mH.view.loc (c : Thread nD τ) ↦[rowH (rowAt T b n)]{Transfers.shareTok fullShare 512 n} h)) : sProp 𝕄) :=
    BI.bigSep_sep _ _ _
  have hB := Ring.pointsTo_blocks (Ix := Unit) (Name := ℕ) (U := Pipeline.UD sig nD τ) (Lvl := ℕ) (ℓ := mX.view.loc (c : Thread nD τ)) (q := fullShare) rowX rowX_disjoint rowX_cover g
  unfold restAll
  rw [hP, hB]
  iintro ⟨HX, HH⟩
  ihave HH' := (Transfers.pointsTo_toks_split (ℓ := mH.view.loc (c : Thread nD τ)) (S := Finset.univ) (f := h) fullShare 512) $$ HH
  icases HH' with ⟨HD, HT⟩
  ihave HT' := (Entails.of_eq (toks_rows c T h b)) $$ HT
  icases HT' with ⟨HA, HB⟩
  isplitl [HX HA]
  · isplitl [HX] <;> iassumption
  · isplitl [HB] <;> iassumption

/-- and back. -/
theorem join_rows (T : S288x4x128.Idx → BitVec 32) (h : S32768x4096.Idx → Elt F .f32) (b : Fin 288) (g : S512x4096.Idx → Elt F .f32) :
    (iprop(bigSep Finset.univ (pairAt c T h b g) ∗ restAll c T h b) : sProp 𝕄)
      ⊢ iprop((mX.view.loc (c : Thread nD τ) ↦{fullShare} g) ∗ (mH.view.loc (c : Thread nD τ) ↦{fullShare} h)) := by
  have hP : bigSep Finset.univ (pairAt c T h b g)
      = (iprop(bigSep Finset.univ (fun n : Fin 512 => mX.view.loc (c : Thread nD τ) ↦[rowX n]{fullShare} g)
        ∗ bigSep Finset.univ (fun n : Fin 512 => mH.view.loc (c : Thread nD τ) ↦[rowH (rowAt T b n)]{Transfers.shareTok fullShare 512 n} h)) : sProp 𝕄) :=
    BI.bigSep_sep _ _ _
  have hB := Ring.pointsTo_blocks (Ix := Unit) (Name := ℕ) (U := Pipeline.UD sig nD τ) (Lvl := ℕ) (ℓ := mX.view.loc (c : Thread nD τ)) (q := fullShare) rowX rowX_disjoint rowX_cover g
  unfold restAll
  rw [hP, hB]
  iintro ⟨⟨HX, HA⟩, HB, HD⟩
  isplitl [HX]; · iassumption
  iapply (Transfers.pointsTo_toks_join (ℓ := mH.view.loc (c : Thread nD τ)) (S := Finset.univ) (f := h) fullShare 512)
  isplitl [HD]; · iassumption
  iapply (Entails.of_eq (toks_rows c T h b).symm)
  isplitl [HA] <;> iassumption

end Cert.KernelIdeal.Exp

end
-- ==== Proof.Idl.Issue.lean ====
/- One row transfer of the gather: the elements its two ends name, the value that lands, and the trip of either issue
   loop (the first block's and the next block's) stepped over the batch of 512 transfers. -/
module

public import proofs.«01_k».proof.Proof.Idl.Rows

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A one-row slice of the slot buffer is that row; -/
theorem sliceX_set (off : Fin 2 → ℕ) (hin) (hs) (n : Fin 512) (h0 : off = ![n.val, 0]) :
    (mX.slice (Rect.unit (s := S512x4096) off S1x4096.size hin) hs).view.set = rowX n := by
  subst h0
  refine (View.set_slice_whole _ _).trans ?_
  ext y
  rw [Rect.mem_set_unit, mem_rowX]
  have h1 : (y 1).val < 4096 := (y 1).isLt
  constructor
  · intro H; have a0 : n.val ≤ (y 0).val ∧ (y 0).val < n.val + 1 := H 0; omega
  · intro H a; fin_cases a
    · show n.val ≤ (y 0).val ∧ (y 0).val < n.val + 1; omega
    · show 0 ≤ (y 1).val ∧ (y 1).val < 0 + 4096; omega

/-- a one-row slice of the token array likewise. -/
theorem sliceH_set (off : Fin 2 → ℕ) (hin) (hs) (n : Fin 32768) (h0 : off = ![n.val, 0]) :
    (mH.slice (Rect.unit (s := S32768x4096) off S1x4096.size hin) hs).view.set = rowH n := by
  subst h0
  refine (View.set_slice_whole _ _).trans ?_
  ext y
  rw [Rect.mem_set_unit, mem_rowH]
  have h1 : (y 1).val < 4096 := (y 1).isLt
  constructor
  · intro H; have a0 : n.val ≤ (y 0).val ∧ (y 0).val < n.val + 1 := H 0; omega
  · intro H a; fin_cases a
    · show n.val ≤ (y 0).val ∧ (y 0).val < n.val + 1; omega
    · show 0 ≤ (y 1).val ∧ (y 1).val < 0 + 4096; omega

/-- What lands in row `n` when the token array's row `k` is sent there. -/
theorem landed (offX offH : Fin 2 → ℕ) (hinX) (hsX) (hinH) (hsH) (n : Fin 512) (k : Fin 32768) (hX : offX = ![n.val, 0]) (hH : offH = ![k.val, 0])
    (g : S512x4096.Idx → Elt F .f32) (h : S32768x4096.Idx → Elt F .f32) (i : S512x4096.Idx) (hi : i ∈ rowX n) :
    (mX.slice (Rect.unit (s := S512x4096) offX S1x4096.size hinX) hsX).view.write (Elt F) g
        ((mH.slice (Rect.unit (s := S32768x4096) offH S1x4096.size hinH) hsH).view.read (Elt F) h) Finset.univ i
      = h (ix2 k (i 1)) := by
  rw [← sliceX_set offX hinX hsX n hX] at hi
  obtain ⟨x, -, rfl⟩ := Finset.mem_map.mp hi
  subst hX hH
  rw [View.write_emb_of_mem _ _ (Finset.mem_univ _), View.read_apply]
  have hx0 : (x 0).val < 1 := (x 0).isLt
  show h _ = h _
  congr 1
  funext a
  fin_cases a
  · refine Fin.ext ?_
    show k.val + 1 * (x 0).val = k.val; omega
  · refine Fin.ext ?_
    show 0 + 1 * (x 1).val = 0 + 1 * (x 1).val; omega

variable (c : Dev nD)

theorem inb_row0 : ∀ a, (![0, 0] : Fin 2 → ℕ) a + S1x4096.size a ≤ S512x4096.size a := by decide

/-- The units one row transfer puts on its semaphore. -/
def rowUnits : ℕ := (mX.slice (Rect.unit (s := S512x4096) ![0, 0] S1x4096.size inb_row0) (fun _ => rfl)).view.dmaCredit

theorem rowUnits_pos : 0 < rowUnits := View.dmaCredit_pos _ (by decide)

/-- The transfers of block `b`, `j` issued and `u` units consumed: on the rows' semaphore. -/
abbrev flight (T : S288x4x128.Idx → BitVec 32) (h : S32768x4096.Idx → Elt F .f32) (b : Fin 288) (j u : ℕ) : sProp 𝕄 :=
  Transfers.Batch (countersEmb (U := Pipeline.UD sig nD τ)) (c : Thread nD τ) (.dma cc0_scratch4.sem) () rowUnits (delivAt c T h b) j u

/-- ONE TRANSFER issued: number `n` of the batch, from the token row the id names. -/
theorem issue_row (T : S288x4x128.Idx → BitVec 32) (h : S32768x4096.Idx → Elt F .f32) (b : Fin 288) (g : S512x4096.Idx → Elt F .f32)
    (n : Fin 512) (offX offH : Fin 2 → ℕ) (hinX) (hsX) (hinH) (hsH) (hX : offX = ![n.val, 0]) (hH : offH = ![(rowAt T b n).val, 0])
    (w1) (w2) (w3) {k : PUnit → Prog (TpuEff nD τ sig (Elt F) Λ₀ .tc) Unit} {Q : Unit → sProp 𝕄} :
    iprop(pairAt c T h b g n ∗ flight c T h b n.val 0)
      ⊢ iprop((flight c T h b (n.val + 1) 0 -∗ wp frame (wpE (defs₀ (F := F)) Variants.none (c : Thread nD τ) none) Set.univ (k ⟨⟩) Q)
        -∗ wp frame (wpE defs₀ Variants.none (c : Thread nD τ) none) Set.univ
            (.op (.enqueueDma (mH.slice (Rect.unit (s := S32768x4096) offH S1x4096.size hinH) hsH)
              (.here (mX.slice (Rect.unit (s := S512x4096) offX S1x4096.size hinX) hsX)) (.dma cc0_scratch4.sem) w1 w2 w3) k) Q) := by
  have hsX' := sliceX_set offX hinX hsX n hX
  have hsH' := sliceH_set offH hinH hsH (rowAt T b n) hH
  have hR := Transfers.wp_dmaBatch (Ix := Unit) (Name := ℕ) (U := Pipeline.UD sig nD τ) (Lvl := ℕ) (defs := defs₀ (F := F)) (Q := Q) (k := k)
    (countersEmb (U := Pipeline.UD sig nD τ)) Variants.none (c : Thread nD τ) none
    (src := mH.slice (Rect.unit (s := S32768x4096) offH S1x4096.size hinH) hsH) (via := ReadAs.same)
    (dst := mX.slice (Rect.unit (s := S512x4096) offX S1x4096.size hinX) hsX) (hsrc := w1) (hdst := w2) (hsem := w3)
    (q := Transfers.shareTok fullShare 512 n) (fs := h) (Sd := rowX n) (fd := g) (D := delivAt c T h b) (j := n.val) (u := 0)
    () rowUnits rfl (hsX' ▸ Finset.Subset.refl _) n.isLt (Nat.zero_le _) (by
      rw [hsH']
      refine sep_mono_left (Entails.of_eq (pointsTo_congr fun i hi => ?_))
      have hi0 : n = (i 0 : Fin 512) := Fin.ext ((mem_rowX n i).mp hi).symm
      refine (landed offX offH hinX hsX hinH hsH n (rowAt T b n) hX hH g h i hi).trans ?_
      exact congrArg (fun z => h (ix2 (rowAt T b z) (i 1))) hi0)
  rw [hsH'] at hR
  iintro ⟨⟨HX, HH⟩, HB⟩ Hk
  iapply hR $$ [HX HH HB]
  · isplitl [HH]; · iassumption
    isplitl [HX] <;> iassumption
  iexact Hk

end Cert.KernelIdeal.Exp

end
-- ==== Proof.Idl.Trips.lean ====
/- The two issue loops, trip by trip: each reads the id of its row and starts that row's transfer. -/
module

public import proofs.«01_k».proof.Proof.Idl.Issue

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem trips1 : k0_t1_loop.trips = 512 := by decide +kernel
theorem trips2 : k0_t2_loop.trips = 512 := by decide +kernel
theorem trips3 : k0_t3_loop.trips = 512 := by decide +kernel

/-- A returned value bound. -/
theorem ret_bind' {E : Type → Type} {α β : Type} (a : α) (k : α → Prog E β) : (Prog.ret a).bind k = k a := rfl

/-! ## The offsets in closed form -/

theorem off2_eq : ∀ k : Fin k0_t1_loop.trips, k0_off2 k = ![k.val / 128, k.val % 128] := by decide +kernel
theorem off7_eq : ∀ k : Fin k0_t3_loop.trips, k0_off7 k = ![k.val / 128, k.val % 128] := by decide +kernel
theorem off3_eq : ∀ k : Fin k0_t1_loop.trips, k0_off3 k = ![k.val, 0] := by decide +kernel
theorem off5_eq : ∀ k : Fin k0_t2_loop.trips, k0_off5 k = ![k.val, 0] := by decide +kernel
theorem off8_eq : ∀ k : Fin k0_t3_loop.trips, k0_off8 k = ![k.val, 0] := by decide +kernel
theorem off4_eq (v : BitVec 32) : k0_off4 v = ![v.toNat, 0] := rfl
theorem off9_eq (v : BitVec 32) : k0_off9 v = ![v.toNat, 0] := rfl

theorem chk_of {v : BitVec 32} (hv : v.toNat < 32768) : ∀ a, (![v.toNat, 0] : Fin 2 → ℕ) a + S1x4096.size a ≤ S32768x4096.size a := by
  intro a; fin_cases a
  · show v.toNat + 1 ≤ 32768; omega
  · show 0 + 4096 ≤ 4096; omega
theorem chk1_of (i : grid0.Coords) {v : BitVec 32} (hv : v.toNat < 32768) : k0_chk1 i v := fun _ => chk_of hv
theorem chk2_of (i : grid0.Coords) {v : BitVec 32} (hv : v.toNat < 32768) : k0_chk2 i v := fun _ _ => chk_of hv

variable (c : Dev nD)
  (i : grid0.Coords) (arg2 : Memref sig .tc .smem S288 .i32) (harg2 : arg2.IsWhole) (arg3 : Memref sig .tc .smem S1 .i32) (harg3 : arg3.IsWhole)
  (arg6 : Memref sig .tc .vmem S1x4096x256 .bf16) (harg6 : arg6.IsWhole) (arg7 : Memref sig .tc .vmem S1x4096x256 .bf16) (harg7 : arg7.IsWhole)
  (arg8 : Memref sig .tc .vmem S1x1x256 .f32) (harg8 : arg8.IsWhole) (arg9 : Memref sig .tc .vmem S1x1x256 .f32) (harg9 : arg9.IsWhole)
  (arg10 : Memref sig .tc .vmem S1x256x4096 .f32) (harg10 : arg10.IsWhole) (arg11 : Memref sig .tc .vmem S1x1x4096 .f32) (harg11 : arg11.IsWhole)
  (arg12 : Memref sig .tc .vmem S512x4096 .f32) (harg12 : arg12.IsWhole)
  (T : S288x4x128.Idx → BitVec 32) (hT : ∀ j, (T j).toNat < 32768) (h : S32768x4096.Idx → Elt F .f32) (b : Fin 288) (g : S512x4096.Idx → Elt F .f32)

/-- The id of row `n`, as the loop reads it. -/
theorem word_at (n : Fin 512) (off : Fin 2 → ℕ) (hin) (h0 : off = ![n.val / 128, n.val % 128]) :
    idsOf T b ((Rect.unit (s := S4x128) off S1x1.size hin).point numel1_S1x1) = tokAt T b n := by
  subst h0
  rfl

/-- Before trip `k` of an issue loop over block `b`: `k` transfers issued, the rows from `k` on still in hand. -/
def issueInv (k : ℕ) (_ : Unit) : sProp 𝕄 :=
  iprop((mI.view.loc (c : Thread nD τ) ↦{fullShare} idsOf T b) ∗ flight c T h b k 0
    ∗ bigSep (Ring.rangeSet 512 k 512) (pairAt c T h b g))

include hT

/-- One trip of that loop: the id of row `k` read, its transfer issued. -/
theorem trip1 (k0_h1 : k0_cond1 i = 1#1) (k : Fin k0_t1_loop.trips) (acc : Unit) :
    issueInv c T h b g k.val acc ⊢ wp frame (wpE (defs₀ (F := F)) Variants.none (c : Thread nD τ) none) Set.univ
      (k0_t1_body (F := F) i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 k0_h1 k acc) (issueInv c T h b g (k.val + 1)) := by
  have hk : k.val < 512 := lt_of_lt_of_eq k.isLt trips1
  unfold issueInv
  rw [Ring.bigSep_rangeSet_head (Φ := pairAt c T h b g) hk hk]
  iintro ⟨HI, HB, HP, HPs⟩
  unfold k0_t1_body
  sl_exec (disch := first | exact chk1_of i (hT _))
  have hv := word_at T b ⟨k.val, hk⟩ (k0_off2 k) (k0_off2_inb i k k0_h1) (off2_eq k)
  iapply (issue_row c T h b g ⟨k.val, hk⟩ (k0_off3 k) _ _ _ _ _ (off3_eq k) (by
    rw [rowAt_val T hT]
    exact congrArg (fun v : BitVec 32 => (![v.toNat, 0] : Fin 2 → ℕ)) hv) _ _ _) $$ [HP HB]
  · isplitl [HP] <;> iassumption
  iintro HB
  sl_exec
  sl_step
  isplitl [HI]; · iassumption
  isplitl [HB] <;> iassumption

/-- One trip of that loop: the id of row `k` read, its transfer issued. -/
theorem trip3 (k0_h2 : k0_cond2 i = 1#1) (k0_h3 : k0_cond3 i = 1#1) (k : Fin k0_t3_loop.trips) (acc : Unit) :
    issueInv c T h b g k.val acc ⊢ wp frame (wpE (defs₀ (F := F)) Variants.none (c : Thread nD τ) none) Set.univ
      (k0_t3_body (F := F) i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 k0_h2 k0_h3 k acc) (issueInv c T h b g (k.val + 1)) := by
  have hk : k.val < 512 := lt_of_lt_of_eq k.isLt trips3
  unfold issueInv
  rw [Ring.bigSep_rangeSet_head (Φ := pairAt c T h b g) hk hk]
  iintro ⟨HI, HB, HP, HPs⟩
  unfold k0_t3_body
  sl_exec (disch := first | exact chk2_of i (hT _))
  have hv := word_at T b ⟨k.val, hk⟩ (k0_off7 k) (k0_off7_inb i k k0_h2 k0_h3) (off7_eq k)
  iapply (issue_row c T h b g ⟨k.val, hk⟩ (k0_off8 k) _ _ _ _ _ (off8_eq k) (by
    rw [rowAt_val T hT]
    exact congrArg (fun v : BitVec 32 => (![v.toNat, 0] : Fin 2 → ℕ)) hv) _ _ _) $$ [HP HB]
  · isplitl [HP] <;> iassumption
  iintro HB
  sl_exec
  sl_step
  isplitl [HI]; · iassumption
  isplitl [HB] <;> iassumption

omit hT

/-- Before trip `k` of the drain loop: `k` transfers' units consumed; after the last one the semaphore is back at zero and
    every row and read share has been handed back. -/
def drainInv (k : ℕ) (_ : Unit) : sProp 𝕄 :=
  iprop((∃ W, owes (c : Thread nD τ) 0 W)
    ∗ (if k < 512 then flight c T h b 512 (k * rowUnits)
       else iprop(bigSep Finset.univ (delivAt c T h b) ∗ semVal ((c : Thread nD τ), SemLoc.dma cc0_scratch4.sem) 0)))

/-- One trip of the drain loop: the units of one row waited for. -/
theorem trip2 (k0_h2 : k0_cond2 i = 1#1) (k : Fin k0_t2_loop.trips) (acc : Unit) :
    drainInv c T h b k.val acc ⊢ wp frame (wpE (defs₀ (F := F)) Variants.none (c : Thread nD τ) none) Set.univ
      (k0_t2_body (F := F) i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 k0_h2 k acc) (drainInv c T h b (k.val + 1)) := by
  have hk : k.val < 512 := lt_of_lt_of_eq k.isLt trips2
  unfold drainInv
  simp only [if_pos hk]
  unfold k0_t2_body
  rcases Nat.lt_or_ge (k.val + 1) 512 with h1 | h1
  · simp only [if_pos h1]
    iintro ⟨⟨%W, HO⟩, HB⟩
    iapply (Transfers.wp_waitBatch (Ix := Unit) (Name := ℕ) (U := Pipeline.UD sig nD τ) (Lvl := ℕ) (defs := defs₀ (F := F))
      (countersEmb (U := Pipeline.UD sig nD τ)) Variants.none (c : Thread nD τ) none (D := delivAt c T h b) (u := k.val * rowUnits) (W := W)
      (srcw := mH.slice (Rect.unit (s := S32768x4096) ![0, 0] S1x4096.size inb_S32768x4096_S1x4096_0_0) (fun _ => rfl))
      (dstw := mX.slice (Rect.unit (s := S512x4096) (k0_off5 k) S1x4096.size (k0_off5_inb i k k0_h2)) (fun _ => rfl))
      (hsrc := View.wordExact_bits rfl) (hdst := View.wordExact_bits rfl)
      () (N := rowUnits) rfl (by
        have := Nat.mul_lt_mul_of_pos_right h1 rowUnits_pos
        rw [Nat.succ_mul, Nat.mul_comm 512] at this; exact this)) $$ [HB HO]
    · isplitl [HB] <;> iassumption
    iintro ⟨HB, HO⟩
    simp only [ret_bind']
    sl_step
    isplitl [HO]; · iexists _; iassumption
    rw [Nat.succ_mul]
    iassumption
  · simp only [if_neg (Nat.not_lt.mpr h1)]
    iintro ⟨⟨%W, HO⟩, HB⟩
    iapply (Transfers.wp_waitBatchLast (Ix := Unit) (Name := ℕ) (U := Pipeline.UD sig nD τ) (Lvl := ℕ) (defs := defs₀ (F := F))
      (countersEmb (U := Pipeline.UD sig nD τ)) Variants.none (c : Thread nD τ) none (D := delivAt c T h b) (u := k.val * rowUnits) (W := W)
      (srcw := mH.slice (Rect.unit (s := S32768x4096) ![0, 0] S1x4096.size inb_S32768x4096_S1x4096_0_0) (fun _ => rfl))
      (dstw := mX.slice (Rect.unit (s := S512x4096) (k0_off5 k) S1x4096.size (k0_off5_inb i k k0_h2)) (fun _ => rfl))
      (hsrc := View.wordExact_bits rfl) (hdst := View.wordExact_bits rfl)
      () (N := rowUnits) rfl rowUnits_pos (by
        rw [← Nat.succ_mul, Nat.mul_comm rowUnits, show k.val.succ = 512 by omega])) $$ [HB HO]
    · isplitl [HB] <;> iassumption
    iintro ⟨HD, HS, HO⟩
    simp only [ret_bind']
    sl_step
    isplitl [HO]; · iexists _; iassumption
    isplitl [HD] <;> iassumption

end Cert.KernelIdeal.Exp

end
-- ==== Proof.Idl.Phases.lean ====
/- The body's three phases: the first block's transfers started; the current block's rows taken and the next block's
   transfers started; the work on the rows. The body is the three in turn. -/
module

public import proofs.«01_k».proof.Proof.Idl.Trips

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (i : grid0.Coords) (arg2 : Memref sig .tc .smem S288 .i32) (harg2 : arg2.IsWhole) (arg3 : Memref sig .tc .smem S1 .i32) (harg3 : arg3.IsWhole)
  (arg6 : Memref sig .tc .vmem S1x4096x256 .bf16) (harg6 : arg6.IsWhole) (arg7 : Memref sig .tc .vmem S1x4096x256 .bf16) (harg7 : arg7.IsWhole)
  (arg8 : Memref sig .tc .vmem S1x1x256 .f32) (harg8 : arg8.IsWhole) (arg9 : Memref sig .tc .vmem S1x1x256 .f32) (harg9 : arg9.IsWhole)
  (arg10 : Memref sig .tc .vmem S1x256x4096 .f32) (harg10 : arg10.IsWhole) (arg11 : Memref sig .tc .vmem S1x1x4096 .f32) (harg11 : arg11.IsWhole)
  (arg12 : Memref sig .tc .vmem S512x4096 .f32) (harg12 : arg12.IsWhole)

/-- At the very first point: the first block's ids fetched and its 512 transfers started. -/
def fetchP : Prog (TpuEff nD τ sig (Elt F) Λ₀ .tc) PUnit := do
  if k0_h1 : k0_cond1 i = 1#1 then do
    let v23 : Memref sig .tc .hbm S1x4x128 .i32 := mT.slice (Rect.unit (s := S288x4x128) ![0, 0, 0] S1x4x128.size inb_S288x4x128_S1x4x128_0_0_0) (fun _ => rfl)
    let v24 : Memref sig .tc .hbm S4x128 .i32 := v23.squeeze S4x128 squeezes_S1x4x128_S4x128
    Prog.lift (.enqueueDma v24 (.here mI) (.dma cc0_scratch3.sem) ((View.wordExact_bits rfl).reshape _ _) (Memref.isWhole_whole cc0_scratch2).wordExact ⟨Or.inl rfl, trivial⟩)
    let v25 : Memref sig .tc .hbm S1x4x128 .i32 := mT.slice (Rect.unit (s := S288x4x128) ![0, 0, 0] S1x4x128.size inb_S288x4x128_S1x4x128_0_0_0) (fun _ => rfl)
    let v26 : Memref sig .tc .hbm S4x128 .i32 := v25.squeeze S4x128 squeezes_S1x4x128_S4x128
    Prog.lift (.waitDma2 cc0_scratch3.sem v26 mI ((View.wordExact_bits rfl).reshape _ _) (Memref.isWhole_whole cc0_scratch2).wordExact)
    Scf.Loop.for k0_t1_loop (k0_t1_ok i k0_h1) ⟨⟩ (k0_t1_body i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 k0_h1)
    pure ⟨⟩
  else do
    pure ⟨⟩
  pure ⟨⟩

/-- At a block's first point: its rows awaited and rounded, the next block's ids fetched and its transfers started. -/
def takeP : Prog (TpuEff nD τ sig (Elt F) Λ₀ .tc) PUnit := do
  if k0_h2 : k0_cond2 i = 1#1 then do
    Scf.Loop.for k0_t2_loop (k0_t2_ok i k0_h2) ⟨⟩ (k0_t2_body i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 k0_h2)
    let v24 : Vec F S512x4096 .f32 ← Prog.lift (.load mX (Rect.unit (s := S512x4096) ![0, 0] S512x4096.size inb_S512x4096_S512x4096_0_0).toLoadRect (View.loadsAt_vmem h_S512x4096))
    let v26 : Vec F S512x4096 .bf16 ← Prog.lift (.load mY (Rect.unit (s := S512x4096) ![0, 0] S512x4096.size inb_S512x4096_S512x4096_0_0).toLoadRect (View.loadsAt_vmem h_S512x4096))
    Prog.lift (.store mY (Rect.unit (s := S512x4096) ![0, 0] S512x4096.size inb_S512x4096_S512x4096_0_0) (k0_pay1 v24) Finset.univ (View.stores_vmem h_S512x4096 ((Memref.isWhole_whole cc0_scratch1).storeExact_slice rfl _ packedbf16_S512x4096_S512x4096_0_0) (fun _ => rfl)) (.inl rfl))
    if k0_h3 : k0_cond3 i = 1#1 then do
      let v34 : Memref sig .tc .hbm S1x4x128 .i32 := mT.slice (Rect.unit (s := S288x4x128) (k0_off6 i) S1x4x128.size (k0_off6_inb i k0_h2 k0_h3)) (fun _ => rfl)
      let v35 : Memref sig .tc .hbm S4x128 .i32 := v34.squeeze S4x128 squeezes_S1x4x128_S4x128
      Prog.lift (.enqueueDma v35 (.here mI) (.dma cc0_scratch3.sem) ((View.wordExact_bits rfl).reshape _ _) (Memref.isWhole_whole cc0_scratch2).wordExact ⟨Or.inl rfl, trivial⟩)
      let v36 : Memref sig .tc .hbm S1x4x128 .i32 := mT.slice (Rect.unit (s := S288x4x128) (k0_off6 i) S1x4x128.size (k0_off6_inb i k0_h2 k0_h3)) (fun _ => rfl)
      let v37 : Memref sig .tc .hbm S4x128 .i32 := v36.squeeze S4x128 squeezes_S1x4x128_S4x128
      Prog.lift (.waitDma2 cc0_scratch3.sem v37 mI ((View.wordExact_bits rfl).reshape _ _) (Memref.isWhole_whole cc0_scratch2).wordExact)
      Scf.Loop.for k0_t3_loop (k0_t3_ok i k0_h2 k0_h3) ⟨⟩ (k0_t3_body i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 k0_h2 k0_h3)
      pure ⟨⟩
    else do
      pure ⟨⟩
    pure ⟨⟩
  else do
    pure ⟨⟩
  pure ⟨⟩

/-- At every point: the partial products of a used block added up, an unused block's rows set to zero. -/
def workP : Prog (TpuEff nD τ sig (Elt F) Λ₀ .tc) PUnit := do
  let v8 : Elt F .i32 ← smemLoad arg3 (Rect.unit (s := S1) ![0] S1.size inb_S1_S1_0) numel1_S1 rfl
  if k0_h4 : k0_cond4 i v8 = 1#1 then do
    let ⟨v51, v55⟩ : Σ' (v51 : FVec F S512x256 .bf16), FVec F S512x512 .f32 ← k0_part1 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4
    let ⟨v82, v84⟩ : Σ' (v82 : FVec F S512x512 .f32), FVec F S1x512 .f32 ← k0_part2 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 v51 v55
    let v113 : FVec F S512x512 .f32 ← k0_part3 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 v51 v82 v84
    let v114 : Vec F S512x512 .f32 ← Prog.lift (.load arg12 (Rect.unit (s := S512x4096) ![0, 3072] S512x512.size inb_S512x4096_S512x512_0_3072).toLoadRect (View.loadsAt_vmem h_S512x512))
    Prog.lift (.store arg12 (Rect.unit (s := S512x4096) ![0, 3072] S512x512.size inb_S512x4096_S512x512_0_3072) v113 Finset.univ (View.stores_vmem_bits_univ h_S512x512 rfl) (.inl rfl))
    let v115 : Vec F S1x256x512 .f32 ← Prog.lift (.load arg10 (Rect.unit (s := S1x256x4096) ![0, 0, 3584] S1x256x512.size inb_S1x256x4096_S1x256x512_0_0_3584).toLoadRect (View.loadsAt_vmem h_S1x256x512))
    let v119 : Vec F S1x1x512 .f32 ← Prog.lift (.load arg11 (Rect.unit (s := S1x1x4096) ![0, 0, 3584] S1x1x512.size inb_S1x1x4096_S1x1x512_0_0_3584).toLoadRect (View.loadsAt_vmem h_S1x1x512))
    let v123 : Vec F S512x512 .f32 ← Prog.lift (.load arg12 (Rect.unit (s := S512x4096) ![0, 3584] S512x512.size inb_S512x4096_S512x512_0_3584).toLoadRect (View.loadsAt_vmem h_S512x512))
    Prog.lift (.store arg12 (Rect.unit (s := S512x4096) ![0, 3584] S512x512.size inb_S512x4096_S512x512_0_3584) (k0_pay2 v51 v115 v119) Finset.univ (View.stores_vmem_bits_univ h_S512x512 rfl) (.inl rfl))
    pure ⟨⟩
  else do
    pure ⟨⟩
  if k0_h5 : k0_cond5 i v8 = 1#1 then do
    let ⟨v51, v55⟩ : Σ' (v51 : FVec F S512x256 .bf16), FVec F S512x512 .f32 ← k0_part4 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4
    k0_part5 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 v51 v55
    let ⟨v111, v112⟩ : Σ' (v111 : FVec F S512x512 .f32), Vec F S512x512 .f32 ← k0_part6 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 v51
    let v115 : Vec F S512x512 .f32 ← Prog.lift (.load arg12 (Rect.unit (s := S512x4096) ![0, 3584] S512x512.size inb_S512x4096_S512x512_0_3584).toLoadRect (View.loadsAt_vmem h_S512x512))
    Prog.lift (.store arg12 (Rect.unit (s := S512x4096) ![0, 3584] S512x512.size inb_S512x4096_S512x512_0_3584) (k0_pay3 v111 v112) Finset.univ (View.stores_vmem_bits_univ h_S512x512 rfl) (.inl rfl))
    pure ⟨⟩
  else do
    pure ⟨⟩
  if k0_h6 : k0_cond6 i v8 = 1#1 then do
    let v24 : Vec F S512x4096 .f32 ← Prog.lift (.load arg12 (Rect.unit (s := S512x4096) ![0, 0] S512x4096.size inb_S512x4096_S512x4096_0_0).toLoadRect (View.loadsAt_vmem h_S512x4096))
    Prog.lift (.store arg12 (Rect.unit (s := S512x4096) ![0, 0] S512x4096.size inb_S512x4096_S512x4096_0_0) (k0_pay4 (F := F)) Finset.univ (View.stores_vmem_bits_univ h_S512x4096 rfl) (.inl rfl))
    pure ⟨⟩
  else do
    pure ⟨⟩
  pure ⟨⟩

set_option maxRecDepth 65536 in
/-- The body is its phases. -/
theorem body_eq : cc0_moe_experts (F := F) i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4
    = (do let _ ← fetchP i arg2 harg2 arg3 harg3 arg6 harg6 arg7 harg7 arg8 harg8 arg9 harg9 arg10 harg10 arg11 harg11 arg12 harg12
          let _ ← takeP i arg2 harg2 arg3 harg3 arg6 harg6 arg7 harg7 arg8 harg8 arg9 harg9 arg10 harg10 arg11 harg11 arg12 harg12
          workP i arg2 harg2 arg3 harg3 arg6 harg6 arg7 harg7 arg8 harg8 arg9 harg9 arg10 harg10 arg11 harg11 arg12 harg12) := by
  rw [cc0_moe_experts_eq_skeleton]
  unfold cc0_moe_experts_skel fetchP takeP
  by_cases k0_h1 : k0_cond1 i = 1#1 <;> by_cases k0_h2 : k0_cond2 i = 1#1 <;> by_cases k0_h3 : k0_cond3 i = 1#1 <;>
    simp only [k0_h1, k0_h2, k0_h3, dif_pos, dif_neg, not_false_eq_true, bind_assoc, pure_bind] <;> rfl

end Cert.KernelIdeal.Exp

end
-- ==== Proof.Idl.Gather.lean ====
/- The gather's two phases: what each takes and leaves. Between blocks the next block's 512 transfers are in flight; after the
   last block nothing is. -/
module

public import proofs.«01_k».proof.Proof.Idl.Phases
public import Idealize.ShloMosaic.Lib.ValueLayout
public import Idealize.ShloMosaic.Lib.VecWindow

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
  (i : grid0.Coords) (arg2 : Memref sig .tc .smem S288 .i32) (harg2 : arg2.IsWhole) (arg3 : Memref sig .tc .smem S1 .i32) (harg3 : arg3.IsWhole)
  (arg6 : Memref sig .tc .vmem S1x4096x256 .bf16) (harg6 : arg6.IsWhole) (arg7 : Memref sig .tc .vmem S1x4096x256 .bf16) (harg7 : arg7.IsWhole)
  (arg8 : Memref sig .tc .vmem S1x1x256 .f32) (harg8 : arg8.IsWhole) (arg9 : Memref sig .tc .vmem S1x1x256 .f32) (harg9 : arg9.IsWhole)
  (arg10 : Memref sig .tc .vmem S1x256x4096 .f32) (harg10 : arg10.IsWhole) (arg11 : Memref sig .tc .vmem S1x1x4096 .f32) (harg11 : arg11.IsWhole)
  (arg12 : Memref sig .tc .vmem S512x4096 .f32) (harg12 : arg12.IsWhole)
  (T : S288x4x128.Idx → BitVec 32) (hT : ∀ j, (T j).toNat < 32768) (h : S32768x4096.Idx → Elt F .f32)

/-- Nothing in flight: the id buffer and the slot buffer at anything, the token array whole, the rows' semaphore at zero. -/
def quiet : sProp 𝕄 :=
  iprop((∃ f, mI.view.loc (c : Thread nD τ) ↦{fullShare} f) ∗ (∃ g, mX.view.loc (c : Thread nD τ) ↦{fullShare} g)
    ∗ (mH.view.loc (c : Thread nD τ) ↦{fullShare} h) ∗ semVal ((c : Thread nD τ), SemLoc.dma cc0_scratch4.sem) 0)

/-- Block `b` on its way: its ids in the id buffer, its 512 transfers in flight. -/
def flying (b : Fin 288) : sProp 𝕄 :=
  iprop((mI.view.loc (c : Thread nD τ) ↦{fullShare} idsOf T b) ∗ flight c T h b 512 0 ∗ restAll c T h b)

/-- What stands before block `b` is taken. -/
def ready (b : ℕ) : sProp 𝕄 := if hb : b < 288 then flying c T h ⟨b, hb⟩ else quiet c h

/-- The ids of a block, sent whole to the id buffer. -/
theorem ids_arrive (b : Fin 288) (off : Fin 3 → ℕ) (hin) (hs) (hq) (h0 : off = ![b.val, 0, 0]) :
    ((mT.slice (Rect.unit (s := S288x4x128) off S1x4x128.size hin) hs).squeeze S4x128 hq).view.read (Elt F) T = idsOf T b := by
  subst h0
  funext j
  obtain ⟨p, q, rfl⟩ : ∃ p q, j = ix2 p q := ⟨j 0, j 1, eq_ix2 j⟩
  show T ((mT.slice (Rect.unit (s := S288x4x128) ![b.val, 0, 0] S1x4x128.size hin) hs).view.emb (Shape.reshapeEquiv hq.numel_eq (ix2 p q))) = T (ix3 b p q)
  rw [reshapeEquiv_ix2_1ab]
  congr 1
  funext a
  fin_cases a <;> refine Fin.ext ?_
  · show b.val + 1 * 0 = b.val; omega
  · show 0 + 1 * p.val = p.val; omega
  · show 0 + 1 * q.val = q.val; omega

include hT in
theorem fetch_run (h1 : k0_cond1 i = 1#1) (Q : PUnit → sProp 𝕄) :
    iprop((mT.view.loc (c : Thread nD τ) ↦{fullShare} T) ∗ semVal ((c : Thread nD τ), SemLoc.dma cc0_scratch3.sem) 0 ∗ (∃ W, owes (c : Thread nD τ) 0 W) ∗ quiet c h
      ∗ (((mT.view.loc (c : Thread nD τ) ↦{fullShare} T) ∗ semVal ((c : Thread nD τ), SemLoc.dma cc0_scratch3.sem) 0 ∗ (∃ W, owes (c : Thread nD τ) 0 W) ∗ flying c T h 0) -∗ Q ⟨⟩))
      ⊢ wp frame (wpE (defs₀ (F := F)) Variants.none (c : Thread nD τ) none) Set.univ (fetchP i arg2 harg2 arg3 harg3 arg6 harg6 arg7 harg7 arg8 harg8 arg9 harg9 arg10 harg10 arg11 harg11 arg12 harg12) Q := by
  unfold quiet flying
  iintro ⟨HT, HS3, ⟨%W, HO⟩, ⟨⟨%f, HI⟩, ⟨%g, HX⟩, HH, HS⟩, Hk⟩
  unfold fetchP
  sl_exec (disch := first | sl_exact h1)
  have hi : View.write (Elt F) mI.view f (fetch_run.sl.dma0 T) Finset.univ = idsOf T 0 :=
    (View.write_whole_univ _ _ _).trans (ids_arrive T 0 ![0, 0, 0] _ _ _ rfl)
  rw [hi]
  ihave HP := (split_rows c T h 0 g) $$ [HX HH]
  · isplitl [HX] <;> iassumption
  icases HP with ⟨HP, HR⟩
  imod (Transfers.batch_alloc' (Ix := Unit) (Name := ℕ) (U := Pipeline.UD sig nD τ) (Lvl := ℕ) (countersEmb (U := Pipeline.UD sig nD τ))
    (c : Thread nD τ) () rowUnits (delivAt c T h 0) (sm := .dma cc0_scratch4.sem) (E := Set.univ)) $$ HS with HB
  sl_for (issueInv c T h 0 g) $$ [HI HB HP]
  · intro k acc; exact trip1 c i arg2 harg2 arg3 harg3 arg6 harg6 arg7 harg7 arg8 harg8 arg9 harg9 arg10 harg10 arg11 harg11 arg12 harg12 T hT h 0 g h1 k acc
  · unfold issueInv
    rw [Ring.rangeSet_univ]
    isplitl [HI]; · iassumption
    isplitl [HB] <;> iassumption
  iintro %acc HInv
  unfold issueInv
  rw [show Scf.trips k0_t1_loop.lb k0_t1_loop.ub k0_t1_loop.st = 512 from trips1]
  icases HInv with ⟨HI, HB, -⟩
  sl_step
  iapply Hk
  isplitl [HT]; · iassumption
  isplitl [HS3]; · iexact HS3
  isplitl [HO]; · iexists _; iassumption
  isplitl [HI]; · iassumption
  isplitl [HB] <;> iassumption

omit hT in
/-- A whole store into the rounded buffer leaves what was stored; -/
theorem stored_Y (f : S512x4096.Idx → Elt F .bf16) (hin) (w : S512x4096.Idx → Elt F .bf16) :
    mY.view.writes (Elt F) f [⟨Rect.unit (s := S512x4096) ![0, 0] S512x4096.size hin, w⟩] = w := by
  have h := View.read_writes_full (Val := Elt F) mY.view f hin w []
  rwa [View.read_whole] at h

omit hT in
/-- a whole load of the slot buffer reads what it holds. -/
theorem loaded_X (f : S512x4096.Idx → Elt F .f32) (hin) :
    View.readAt (Elt F) mX.view (Rect.unit (s := S512x4096) ![0, 0] S512x4096.size hin).toLoadRect f = f := by
  have h := View.readAt_full (Val := Elt F) mX.view f hin
  rwa [View.read_whole] at h

omit hT in
/-- The id block of the next point, as an offset. -/
theorem off6_eq : ∀ i : grid0.Coords, (k0_cond3 i = 1#1) → k0_off6 i = ![(i 0).val + 1, 0, 0] := by
  intro i _
  have hi : (i 0).val < 288 := (i 0).isLt
  show ![(BitVec.ofNat 32 (i 0).val + 1#32).toNat, 0, 0] = _
  have e : (BitVec.ofNat 32 (i 0).val + 1#32).toNat = (i 0).val + 1 := by
    rw [BitVec.toNat_add, BitVec.toNat_ofNat]
    show ((i 0).val % 2 ^ 32 + 1) % 2 ^ 32 = _
    omega
  rw [e]

include hT in
/-- A block's first point: the block's rows land in the rounded buffer; the next block, if there is one, is under way. -/
theorem take_run (b : Fin 288) (h2 : k0_cond2 i = 1#1) (hb : (i 0).val = b.val) (h3 : k0_cond3 i = 1#1 ↔ b.val + 1 < 288) (Q : PUnit → sProp 𝕄) :
    iprop((mT.view.loc (c : Thread nD τ) ↦{fullShare} T) ∗ semVal ((c : Thread nD τ), SemLoc.dma cc0_scratch3.sem) 0 ∗ (∃ W, owes (c : Thread nD τ) 0 W)
      ∗ (∃ y, mY.view.loc (c : Thread nD τ) ↦{fullShare} y) ∗ flying c T h b
      ∗ (((mT.view.loc (c : Thread nD τ) ↦{fullShare} T) ∗ semVal ((c : Thread nD τ), SemLoc.dma cc0_scratch3.sem) 0 ∗ (∃ W, owes (c : Thread nD τ) 0 W)
          ∗ (mY.view.loc (c : Thread nD τ) ↦{fullShare} k0_pay1 (gath T h b)) ∗ ready c T h (b.val + 1)) -∗ Q ⟨⟩))
      ⊢ wp frame (wpE (defs₀ (F := F)) Variants.none (c : Thread nD τ) none) Set.univ (takeP i arg2 harg2 arg3 harg3 arg6 harg6 arg7 harg7 arg8 harg8 arg9 harg9 arg10 harg10 arg11 harg11 arg12 harg12) Q := by
  unfold flying
  iintro ⟨HT, HS3, ⟨%W, HO⟩, ⟨%y, HY⟩, ⟨HI, HB, HR⟩, Hk⟩
  unfold takeP
  sl_exec (disch := first | sl_exact h2)
  sl_for (drainInv c T h b) $$ [HB HO]
  · intro k acc; exact trip2 c i arg2 harg2 arg3 harg3 arg6 harg6 arg7 harg7 arg8 harg8 arg9 harg9 arg10 harg10 arg11 harg11 arg12 harg12 T h b h2 k acc
  · unfold drainInv
    rw [if_pos (by decide), Nat.zero_mul]
    isplitl [HO]; · iexists _; iassumption
    iassumption
  iintro %acc HInv
  unfold drainInv
  rw [show Scf.trips k0_t2_loop.lb k0_t2_loop.ub k0_t2_loop.st = 512 from trips2, if_neg (by decide)]
  icases HInv with ⟨⟨%W2, HO⟩, HD, HS⟩
  ihave HX' := (join_rows c T h b (gath T h b)) $$ [HD HR]
  · isplitl [HD] <;> iassumption
  icases HX' with ⟨HX, HH⟩
  by_cases h3' : k0_cond3 i = 1#1
  · have hb1 := h3.mp h3'
    unfold ready
    rw [dif_pos hb1]
    sl_exec (disch := first | sl_exact h3')
    have hi : View.write (Elt F) mI.view (idsOf T b) (take_run.sl.dma3 i T h2 h3') Finset.univ = idsOf T ⟨b.val + 1, hb1⟩ :=
      (View.write_whole_univ _ _ _).trans (ids_arrive T ⟨b.val + 1, hb1⟩ (k0_off6 i) _ _ _ (by rw [off6_eq i h3', hb]))
    have hy : mY.view.writes (Elt F) mY.view.junk (take_run.sl.HY_1 T h b) = k0_pay1 (gath T h b) := by
      refine (stored_Y _ _ _).trans ?_
      exact congrArg k0_pay1 (loaded_X _ _)
    rw [hi, hy]
    ihave HP := (split_rows c T h ⟨b.val + 1, hb1⟩ (gath T h b)) $$ [HX HH]
    · isplitl [HX] <;> iassumption
    icases HP with ⟨HP, HR⟩
    imod (Transfers.batch_alloc' (Ix := Unit) (Name := ℕ) (U := Pipeline.UD sig nD τ) (Lvl := ℕ) (countersEmb (U := Pipeline.UD sig nD τ))
      (c : Thread nD τ) () rowUnits (delivAt c T h ⟨b.val + 1, hb1⟩) (sm := .dma cc0_scratch4.sem) (E := Set.univ)) $$ HS with HB
    sl_for (issueInv c T h ⟨b.val + 1, hb1⟩ (gath T h b)) $$ [HI HB HP]
    · intro k acc; exact trip3 c i arg2 harg2 arg3 harg3 arg6 harg6 arg7 harg7 arg8 harg8 arg9 harg9 arg10 harg10 arg11 harg11 arg12 harg12 T hT h ⟨b.val + 1, hb1⟩ (gath T h b) h2 h3' k acc
    · unfold issueInv
      rw [Ring.rangeSet_univ]
      isplitl [HI]; · iassumption
      isplitl [HB] <;> iassumption
    iintro %acc HInv
    unfold issueInv
    rw [show Scf.trips k0_t3_loop.lb k0_t3_loop.ub k0_t3_loop.st = 512 from trips3]
    icases HInv with ⟨HI, HB, -⟩
    unfold take_run.sl.prog.cont_2
    beta_reduce
    sl_step
    iapply Hk
    isplitl [HT]; · iassumption
    isplitl [HS3]; · iexact HS3
    isplitl [HO]; · iexists _; iassumption
    isplitl [HY]; · iassumption
    unfold flying
    isplitl [HI]; · iassumption
    isplitl [HB] <;> iassumption
  · have hb1 := fun hh => h3' (h3.mpr hh)
    unfold ready
    rw [dif_neg hb1]
    sl_exec (disch := first | sl_exact h3')
    rw [stored_Y, loaded_X]
    simp only [ret_bind']
    sl_step
    iapply Hk
    isplitl [HT]; · iassumption
    isplitl [HS3]; · iexact HS3
    isplitl [HO]; · iexists _; iassumption
    isplitl [HY]; · iassumption
    unfold quiet
    isplitl [HI]; · iexists _; iassumption
    isplitl [HX]; · iexists _; iassumption
    isplitl [HH] <;> iassumption

end Cert.KernelIdeal.Exp

end
-- ==== Proof.Idl.Work.lean ====
/- The work at a point in its three alternatives: the first partial product with the bias, a further partial product
   added, zeros. -/
module

public import proofs.«01_k».proof.Proof.Idl.Phases

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (i : grid0.Coords) (arg2 : Memref sig .tc .smem S288 .i32) (harg2 : arg2.IsWhole) (arg3 : Memref sig .tc .smem S1 .i32) (harg3 : arg3.IsWhole)
  (arg6 : Memref sig .tc .vmem S1x4096x256 .bf16) (harg6 : arg6.IsWhole) (arg7 : Memref sig .tc .vmem S1x4096x256 .bf16) (harg7 : arg7.IsWhole)
  (arg8 : Memref sig .tc .vmem S1x1x256 .f32) (harg8 : arg8.IsWhole) (arg9 : Memref sig .tc .vmem S1x1x256 .f32) (harg9 : arg9.IsWhole)
  (arg10 : Memref sig .tc .vmem S1x256x4096 .f32) (harg10 : arg10.IsWhole) (arg11 : Memref sig .tc .vmem S1x1x4096 .f32) (harg11 : arg11.IsWhole)
  (arg12 : Memref sig .tc .vmem S512x4096 .f32) (harg12 : arg12.IsWhole)

/-- A used block at its first point: the first partial product and the bias stored. -/
def work4 (v8 : Elt F .i32) : Prog (TpuEff nD τ sig (Elt F) Λ₀ .tc) PUnit := do
  if k0_h4 : k0_cond4 i v8 = 1#1 then do
    let ⟨v51, v55⟩ : Σ' (v51 : FVec F S512x256 .bf16), FVec F S512x512 .f32 ← k0_part1 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4
    let ⟨v82, v84⟩ : Σ' (v82 : FVec F S512x512 .f32), FVec F S1x512 .f32 ← k0_part2 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 v51 v55
    let v113 : FVec F S512x512 .f32 ← k0_part3 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 v51 v82 v84
    let v114 : Vec F S512x512 .f32 ← Prog.lift (.load arg12 (Rect.unit (s := S512x4096) ![0, 3072] S512x512.size inb_S512x4096_S512x512_0_3072).toLoadRect (View.loadsAt_vmem h_S512x512))
    Prog.lift (.store arg12 (Rect.unit (s := S512x4096) ![0, 3072] S512x512.size inb_S512x4096_S512x512_0_3072) v113 Finset.univ (View.stores_vmem_bits_univ h_S512x512 rfl) (.inl rfl))
    let v115 : Vec F S1x256x512 .f32 ← Prog.lift (.load arg10 (Rect.unit (s := S1x256x4096) ![0, 0, 3584] S1x256x512.size inb_S1x256x4096_S1x256x512_0_0_3584).toLoadRect (View.loadsAt_vmem h_S1x256x512))
    let v119 : Vec F S1x1x512 .f32 ← Prog.lift (.load arg11 (Rect.unit (s := S1x1x4096) ![0, 0, 3584] S1x1x512.size inb_S1x1x4096_S1x1x512_0_0_3584).toLoadRect (View.loadsAt_vmem h_S1x1x512))
    let v123 : Vec F S512x512 .f32 ← Prog.lift (.load arg12 (Rect.unit (s := S512x4096) ![0, 3584] S512x512.size inb_S512x4096_S512x512_0_3584).toLoadRect (View.loadsAt_vmem h_S512x512))
    Prog.lift (.store arg12 (Rect.unit (s := S512x4096) ![0, 3584] S512x512.size inb_S512x4096_S512x512_0_3584) (k0_pay2 v51 v115 v119) Finset.univ (View.stores_vmem_bits_univ h_S512x512 rfl) (.inl rfl))
    pure ⟨⟩
  else do
    pure ⟨⟩
  pure ⟨⟩

/-- A used block at a later point: the partial product added to the stored rows. -/
def work5 (v8 : Elt F .i32) : Prog (TpuEff nD τ sig (Elt F) Λ₀ .tc) PUnit := do
  if k0_h5 : k0_cond5 i v8 = 1#1 then do
    let ⟨v51, v55⟩ : Σ' (v51 : FVec F S512x256 .bf16), FVec F S512x512 .f32 ← k0_part4 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4
    k0_part5 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 v51 v55
    let ⟨v111, v112⟩ : Σ' (v111 : FVec F S512x512 .f32), Vec F S512x512 .f32 ← k0_part6 i arg2 harg2 arg3 harg3 mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4 v51
    let v115 : Vec F S512x512 .f32 ← Prog.lift (.load arg12 (Rect.unit (s := S512x4096) ![0, 3584] S512x512.size inb_S512x4096_S512x512_0_3584).toLoadRect (View.loadsAt_vmem h_S512x512))
    Prog.lift (.store arg12 (Rect.unit (s := S512x4096) ![0, 3584] S512x512.size inb_S512x4096_S512x512_0_3584) (k0_pay3 v111 v112) Finset.univ (View.stores_vmem_bits_univ h_S512x512 rfl) (.inl rfl))
    pure ⟨⟩
  else do
    pure ⟨⟩
  pure ⟨⟩

/-- An unused block at its first point: zeros stored. -/
def work6 (v8 : Elt F .i32) : Prog (TpuEff nD τ sig (Elt F) Λ₀ .tc) PUnit := do
  if k0_h6 : k0_cond6 i v8 = 1#1 then do
    let v24 : Vec F S512x4096 .f32 ← Prog.lift (.load arg12 (Rect.unit (s := S512x4096) ![0, 0] S512x4096.size inb_S512x4096_S512x4096_0_0).toLoadRect (View.loadsAt_vmem h_S512x4096))
    Prog.lift (.store arg12 (Rect.unit (s := S512x4096) ![0, 0] S512x4096.size inb_S512x4096_S512x4096_0_0) (k0_pay4 (F := F)) Finset.univ (View.stores_vmem_bits_univ h_S512x4096 rfl) (.inl rfl))
    pure ⟨⟩
  else do
    pure ⟨⟩
  pure ⟨⟩

/-- The work is the three in turn, at the table word read. -/
theorem workP_eq : workP (F := F) i arg2 harg2 arg3 harg3 arg6 harg6 arg7 harg7 arg8 harg8 arg9 harg9 arg10 harg10 arg11 harg11 arg12 harg12
    = (do let v8 : Elt F .i32 ← smemLoad arg3 (Rect.unit (s := S1) ![0] S1.size inb_S1_S1_0) numel1_S1 rfl
          let _ ← work4 i arg2 harg2 arg3 harg3 arg6 harg6 arg7 harg7 arg8 harg8 arg9 harg9 arg10 harg10 arg11 harg11 arg12 harg12 v8
          let _ ← work5 i arg2 harg2 arg3 harg3 arg6 harg6 arg7 harg7 arg8 harg8 arg9 harg9 arg10 harg10 arg11 harg11 arg12 harg12 v8
          work6 i arg12 v8) := by
  unfold workP work4 work5 work6
  refine congrArg (bind _) (funext fun v8 => ?_)
  by_cases k0_h4 : k0_cond4 i v8 = 1#1 <;> by_cases k0_h5 : k0_cond5 i v8 = 1#1 <;> by_cases k0_h6 : k0_cond6 i v8 = 1#1 <;>
    simp only [k0_h4, k0_h5, k0_h6, dif_pos, dif_neg, not_false_eq_true, bind_assoc, pure_bind]

/-- Its run: the windows at anything, the rounded rows as they are. -/
theorem work4_run (c : Dev nD) (v8 : Elt F .i32) (y : Buf (Elt F) (mY.view.loc (c : Thread nD τ))) (Q : PUnit → sProp 𝕄) :
    iprop((∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (mY.view.loc (c : Thread nD τ) ↦{fullShare} y)
      ∗ (((∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
        ∗ (mY.view.loc (c : Thread nD τ) ↦{fullShare} y)) -∗ Q ⟨⟩))
      ⊢ wp frame (wpE (defs₀ (F := F)) Variants.none (c : Thread nD τ) none) Set.univ (work4 i arg2 harg2 arg3 harg3 arg6 harg6 arg7 harg7 arg8 harg8 arg9 harg9 arg10 harg10 arg11 harg11 arg12 harg12 v8) Q := by
  unfold owns
  iintro ⟨⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, HY, Hk⟩
  unfold work4
  by_cases h4 : k0_cond4 i v8 = 1#1
  · rw [dif_pos h4]
    rw [k0_part1_eq_skeleton, k0_part2_eq_skeleton, k0_part3_eq_skeleton]
    unfold k0_part1_skel k0_part2_skel k0_part3_skel
    sl_exec
    sl_step
    iapply Hk
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexact HY
  · rw [dif_neg h4]
    sl_step
    iapply Hk
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexact HY

/-- Its run: the windows at anything, the rounded rows as they are. -/
theorem work5_run (c : Dev nD) (v8 : Elt F .i32) (y : Buf (Elt F) (mY.view.loc (c : Thread nD τ))) (Q : PUnit → sProp 𝕄) :
    iprop((∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (mY.view.loc (c : Thread nD τ) ↦{fullShare} y)
      ∗ (((∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
        ∗ (mY.view.loc (c : Thread nD τ) ↦{fullShare} y)) -∗ Q ⟨⟩))
      ⊢ wp frame (wpE (defs₀ (F := F)) Variants.none (c : Thread nD τ) none) Set.univ (work5 i arg2 harg2 arg3 harg3 arg6 harg6 arg7 harg7 arg8 harg8 arg9 harg9 arg10 harg10 arg11 harg11 arg12 harg12 v8) Q := by
  unfold owns
  iintro ⟨⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, HY, Hk⟩
  unfold work5
  by_cases h4 : k0_cond5 i v8 = 1#1
  · rw [dif_pos h4]
    rw [k0_part4_eq_skeleton, k0_part5_eq_skeleton, k0_part6_eq_skeleton]
    unfold k0_part4_skel k0_part5_skel k0_part6_skel
    sl_exec
    sl_step
    iapply Hk
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexact HY
  · rw [dif_neg h4]
    sl_step
    iapply Hk
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexact HY

/-- Its run: the windows at anything, the rounded rows as they are. -/
theorem work6_run (c : Dev nD) (v8 : Elt F .i32) (y : Buf (Elt F) (mY.view.loc (c : Thread nD τ))) (Q : PUnit → sProp 𝕄) :
    iprop((∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (mY.view.loc (c : Thread nD τ) ↦{fullShare} y)
      ∗ (((∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
        ∗ (mY.view.loc (c : Thread nD τ) ↦{fullShare} y)) -∗ Q ⟨⟩))
      ⊢ wp frame (wpE (defs₀ (F := F)) Variants.none (c : Thread nD τ) none) Set.univ (work6 i arg12 v8) Q := by
  unfold owns
  iintro ⟨⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, HY, Hk⟩
  unfold work6
  by_cases h4 : k0_cond6 i v8 = 1#1
  · rw [dif_pos h4]
    sl_exec
    sl_step
    iapply Hk
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexact HY
  · rw [dif_neg h4]
    sl_step
    iapply Hk
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexact HY

end Cert.KernelIdeal.Exp

end
-- ==== Proof.Idl.Point.lean ====
/- One grid point of the body: what stands before it, what stands after it. -/
module

public import proofs.«01_k».proof.Proof.Idl.Gather
public import Idealize.ShloMosaic.Lib.WordCmp
public import proofs.«01_k».proof.Proof.Idl.Work

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
  (i : grid0.Coords) (arg6 : Memref sig .tc .vmem S1x4096x256 .bf16) (harg6 : arg6.IsWhole) (arg7 : Memref sig .tc .vmem S1x4096x256 .bf16) (harg7 : arg7.IsWhole)
  (arg8 : Memref sig .tc .vmem S1x1x256 .f32) (harg8 : arg8.IsWhole) (arg9 : Memref sig .tc .vmem S1x1x256 .f32) (harg9 : arg9.IsWhole)
  (arg10 : Memref sig .tc .vmem S1x256x4096 .f32) (harg10 : arg10.IsWhole) (arg11 : Memref sig .tc .vmem S1x1x4096 .f32) (harg11 : arg11.IsWhole)
  (arg12 : Memref sig .tc .vmem S512x4096 .f32) (harg12 : arg12.IsWhole)
  (T : S288x4x128.Idx → BitVec 32) (hT : ∀ j, (T j).toNat < 32768) (h : S32768x4096.Idx → Elt F .f32)

/-! ## The conditions at a point -/

theorem cond1_iff : k0_cond1 i = 1#1 ↔ (i 1).val = 0 ∧ (i 0).val = 0 := by
  have h0 : (i 0).val < 288 := (i 0).isLt
  have h1 : (i 1).val < 16 := (i 1).isLt
  simp only [k0_cond1]
  word_cmp

theorem cond2_iff : k0_cond2 i = 1#1 ↔ (i 1).val = 0 := by
  have h1 : (i 1).val < 16 := (i 1).isLt
  simp only [k0_cond2]
  word_cmp

theorem cond3_iff : k0_cond3 i = 1#1 ↔ (i 0).val + 1 < 288 := by
  have h0 : (i 0).val < 288 := (i 0).isLt
  have e : Scalar.addi (BitVec.ofNat 32 (i 0).val) 1#32 = BitVec.ofNat 32 ((i 0).val + 1) := (BitVec.ofNat_add _ _).symm
  simp only [k0_cond3, e]
  word_cmp

/-! ## The phases at the points that skip them -/

theorem fetch_skip (h1 : ¬k0_cond1 i = 1#1) (Q : PUnit → sProp 𝕄) :
    Q ⟨⟩ ⊢ wp frame (wpE (defs₀ (F := F)) Variants.none (c : Thread nD τ) none) Set.univ (fetchP i (Memref.whole main_arg0) (Memref.isWhole_whole _) (Memref.whole main_arg1) (Memref.isWhole_whole _) arg6 harg6 arg7 harg7 arg8 harg8 arg9 harg9 arg10 harg10 arg11 harg11 arg12 harg12) Q := by
  unfold fetchP
  rw [dif_neg h1]
  iintro H
  sl_step
  iexact H

theorem take_skip (h1 : ¬k0_cond2 i = 1#1) (Q : PUnit → sProp 𝕄) :
    Q ⟨⟩ ⊢ wp frame (wpE (defs₀ (F := F)) Variants.none (c : Thread nD τ) none) Set.univ (takeP i (Memref.whole main_arg0) (Memref.isWhole_whole _) (Memref.whole main_arg1) (Memref.isWhole_whole _) arg6 harg6 arg7 harg7 arg8 harg8 arg9 harg9 arg10 harg10 arg11 harg11 arg12 harg12) Q := by
  unfold takeP
  rw [dif_neg h1]
  iintro H
  sl_step
  iexact H

/-! ## Between points -/

/-- What stands before point `n`: nothing in flight before the first; from then on the block after the one last taken is
    under way, and the rounded buffer holds the one last taken. -/
def stage (n : ℕ) (hn : n ≤ 4608) : sProp 𝕄 :=
  if h0 : n = 0 then iprop((∃ y, mY.view.loc (c : Thread nD τ) ↦{fullShare} y) ∗ quiet c h)
  else iprop((mY.view.loc (c : Thread nD τ) ↦{fullShare} k0_pay1 (gath T h ⟨(n - 1) / 16, by omega⟩)) ∗ ready c T h ((n - 1) / 16 + 1))

theorem stage_zero : stage c T h 0 (by decide) = iprop((∃ y, mY.view.loc (c : Thread nD τ) ↦{fullShare} y) ∗ quiet c h) := by
  unfold stage; rw [dif_pos rfl]

theorem stage_of (n : ℕ) (hn : n ≤ 4608) (b : Fin 288) (h0 : n ≠ 0) (hb : (n - 1) / 16 = b.val) :
    stage c T h n hn = iprop((mY.view.loc (c : Thread nD τ) ↦{fullShare} k0_pay1 (gath T h b)) ∗ ready c T h (b.val + 1)) := by
  obtain ⟨b, hb'⟩ := b
  dsimp only at hb
  subst hb
  unfold stage; rw [dif_neg h0]

theorem ready_of (b : Fin 288) : ready c T h b.val = flying c T h b := by
  unfold ready; rw [dif_pos b.isLt]

theorem ready_last : ready c T h 288 = quiet c h := by
  unfold ready; rw [dif_neg (by decide)]

include hT in
/-- The gather at a point: from what stands before it to what stands after it. -/
theorem gather_run (n : ℕ) (hn : n < 4608) (e0 : (i 0).val = n / 16) (e1 : (i 1).val = n % 16) (Q : PUnit → sProp 𝕄) :
    iprop((mT.view.loc (c : Thread nD τ) ↦{fullShare} T) ∗ semVal ((c : Thread nD τ), SemLoc.dma cc0_scratch3.sem) 0 ∗ (∃ W, owes (c : Thread nD τ) 0 W) ∗ stage c T h n hn.le
      ∗ (((mT.view.loc (c : Thread nD τ) ↦{fullShare} T) ∗ semVal ((c : Thread nD τ), SemLoc.dma cc0_scratch3.sem) 0 ∗ (∃ W, owes (c : Thread nD τ) 0 W) ∗ stage c T h (n + 1) hn) -∗ Q ⟨⟩))
      ⊢ wp frame (wpE (defs₀ (F := F)) Variants.none (c : Thread nD τ) none) Set.univ (fetchP i (Memref.whole main_arg0) (Memref.isWhole_whole _) (Memref.whole main_arg1) (Memref.isWhole_whole _) arg6 harg6 arg7 harg7 arg8 harg8 arg9 harg9 arg10 harg10 arg11 harg11 arg12 harg12) fun _ => wp frame (wpE (defs₀ (F := F)) Variants.none (c : Thread nD τ) none) Set.univ (takeP i (Memref.whole main_arg0) (Memref.isWhole_whole _) (Memref.whole main_arg1) (Memref.isWhole_whole _) arg6 harg6 arg7 harg7 arg8 harg8 arg9 harg9 arg10 harg10 arg11 harg11 arg12 harg12) Q := by
  have hb : n / 16 < 288 := by omega
  by_cases hf : n % 16 = 0
  · have h2 : k0_cond2 i = 1#1 := (cond2_iff i).mpr (e1.trans hf)
    have h3 : k0_cond3 i = 1#1 ↔ (⟨n / 16, hb⟩ : Fin 288).val + 1 < 288 := by rw [cond3_iff, e0]
    have hs : stage c T h (n + 1) hn = iprop((mY.view.loc (c : Thread nD τ) ↦{fullShare} k0_pay1 (gath T h ⟨n / 16, hb⟩)) ∗ ready c T h (n / 16 + 1)) :=
      stage_of c T h (n + 1) hn ⟨n / 16, hb⟩ (by omega) (by rw [Nat.add_sub_cancel])
    rw [hs]
    by_cases h0 : n = 0
    · subst h0
      have h1 : k0_cond1 i = 1#1 := (cond1_iff i).mpr ⟨e1, e0⟩
      rw [stage_zero]
      iintro ⟨HT, HS, HO, ⟨HY, HQ⟩, Hk⟩
      iapply (fetch_run c i _ _ _ _ arg6 harg6 arg7 harg7 arg8 harg8 arg9 harg9 arg10 harg10 arg11 harg11 arg12 harg12 T hT h h1)
      isplitl [HT]; · iexact HT
      isplitl [HS]; · iexact HS
      isplitl [HO]; · iexact HO
      isplitl [HQ]; · iexact HQ
      iintro ⟨HT, HS, HO, HF⟩
      iapply (take_run c i _ _ _ _ arg6 harg6 arg7 harg7 arg8 harg8 arg9 harg9 arg10 harg10 arg11 harg11 arg12 harg12 T hT h ⟨0 / 16, hb⟩ h2 e0 h3)
      isplitl [HT]; · iexact HT
      isplitl [HS]; · iexact HS
      isplitl [HO]; · iexact HO
      isplitl [HY]; · iexact HY
      isplitl [HF]; · iexact HF
      iintro ⟨HT, HS, HO, HY, HR⟩
      iapply Hk
      isplitl [HT]; · iexact HT
      isplitl [HS]; · iexact HS
      isplitl [HO]; · iexact HO
      isplitl [HY]; · iexact HY
      iexact HR
    · have h1 : ¬k0_cond1 i = 1#1 := fun hh => by have := (cond1_iff i).mp hh; omega
      have hp : stage c T h n hn.le = iprop((mY.view.loc (c : Thread nD τ) ↦{fullShare} k0_pay1 (gath T h ⟨n / 16 - 1, by omega⟩)) ∗ flying c T h ⟨n / 16, hb⟩) := by
        rw [stage_of c T h n hn.le ⟨n / 16 - 1, by omega⟩ h0 (by show (n - 1) / 16 = n / 16 - 1; omega), ← ready_of c T h ⟨n / 16, hb⟩,
          show (⟨n / 16 - 1, by omega⟩ : Fin 288).val + 1 = (⟨n / 16, hb⟩ : Fin 288).val from by show n / 16 - 1 + 1 = n / 16; omega]
      rw [hp]
      iintro ⟨HT, HS, HO, ⟨HY, HF⟩, Hk⟩
      iapply (fetch_skip c i arg6 harg6 arg7 harg7 arg8 harg8 arg9 harg9 arg10 harg10 arg11 harg11 arg12 harg12 h1)
      iapply (take_run c i _ _ _ _ arg6 harg6 arg7 harg7 arg8 harg8 arg9 harg9 arg10 harg10 arg11 harg11 arg12 harg12 T hT h ⟨n / 16, hb⟩ h2 e0 h3)
      isplitl [HT]; · iexact HT
      isplitl [HS]; · iexact HS
      isplitl [HO]; · iexact HO
      isplitl [HY]; · iexists _; iexact HY
      isplitl [HF]; · iexact HF
      iintro ⟨HT, HS, HO, HY, HR⟩
      iapply Hk
      isplitl [HT]; · iexact HT
      isplitl [HS]; · iexact HS
      isplitl [HO]; · iexact HO
      isplitl [HY]; · iexact HY
      iexact HR
  · have h1 : ¬k0_cond1 i = 1#1 := fun hh => by have := (cond1_iff i).mp hh; omega
    have h2 : ¬k0_cond2 i = 1#1 := fun hh => by have := (cond2_iff i).mp hh; omega
    rw [stage_of c T h (n + 1) hn ⟨n / 16, hb⟩ (by omega) (by rw [Nat.add_sub_cancel]),
      stage_of c T h n hn.le ⟨n / 16, hb⟩ (by omega) (by show (n - 1) / 16 = n / 16; omega)]
    iintro ⟨HT, HS, HO, HG, Hk⟩
    iapply (fetch_skip c i arg6 harg6 arg7 harg7 arg8 harg8 arg9 harg9 arg10 harg10 arg11 harg11 arg12 harg12 h1)
    iapply (take_skip c i arg6 harg6 arg7 harg7 arg8 harg8 arg9 harg9 arg10 harg10 arg11 harg11 arg12 harg12 h2)
    iapply Hk
    isplitl [HT]; · iexact HT
    isplitl [HS]; · iexact HS
    isplitl [HO]; · iexact HO
    iexact HG

/-- The number of used blocks, read from its table. -/
theorem word_run (q : PosShare TreeShare) (tn : S1.Idx → BitVec 32) (Q : BitVec 32 → sProp 𝕄) :
    iprop(((Memref.whole main_arg1).view.loc (c : Thread nD τ) ↦{q} tn)
      ∗ (((Memref.whole main_arg1).view.loc (c : Thread nD τ) ↦{q} tn) -∗ Q (tn (ix1 0))))
      ⊢ wp frame (wpE (defs₀ (F := F)) Variants.none (c : Thread nD τ) none) Set.univ (smemLoad (Memref.whole main_arg1) (Rect.unit (s := S1) ![0] S1.size inb_S1_S1_0) numel1_S1 rfl) Q := by
  iintro ⟨HN, Hk⟩
  sl_exec
  sl_step
  have e : ∀ h0, View.readAt (Elt F) (Memref.whole main_arg1).view (Rect.unit (s := S1) ![0] S1.size inb_S1_S1_0).toLoadRect tn (Shape.Idx.first h0) = tn (ix1 0) := fun _ =>
    congrArg tn (funext fun a => Fin.ext (by
      have : ∀ x : Fin (S1.size a), x.val = 0 := by
        match a with
        | ⟨0, _⟩ => intro x; have : x.val < 1 := x.isLt; omega
      exact (this _).trans (this _).symm))
  rw [e]
  iapply Hk
  iexact HN

/-- The work at a point, whatever the windows hold. -/
theorem work_run (y : Buf (Elt F) (mY.view.loc (c : Thread nD τ))) (q : PosShare TreeShare) (tn : S1.Idx → BitVec 32) (Q : PUnit → sProp 𝕄) :
    iprop(((Memref.whole main_arg1).view.loc (c : Thread nD τ) ↦{q} tn) ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (mY.view.loc (c : Thread nD τ) ↦{fullShare} y)
      ∗ ((((Memref.whole main_arg1).view.loc (c : Thread nD τ) ↦{q} tn) ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
        ∗ (mY.view.loc (c : Thread nD τ) ↦{fullShare} y)) -∗ Q ⟨⟩))
      ⊢ wp frame (wpE (defs₀ (F := F)) Variants.none (c : Thread nD τ) none) Set.univ (workP i (Memref.whole main_arg0) (Memref.isWhole_whole _) (Memref.whole main_arg1) (Memref.isWhole_whole _) arg6 harg6 arg7 harg7 arg8 harg8 arg9 harg9 arg10 harg10 arg11 harg11 arg12 harg12) Q := by
  rw [workP_eq]
  iintro ⟨HN, H6, H7, H8, H9, H10, H11, H12, HY, Hk⟩
  rw [wp_bind]
  iapply (word_run c q tn)
  isplitl [HN]; · iexact HN
  iintro HN
  rw [wp_bind]
  iapply (work4_run i _ _ _ _ arg6 harg6 arg7 harg7 arg8 harg8 arg9 harg9 arg10 harg10 arg11 harg11 arg12 harg12 c _ y)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HY]; · iexact HY
  iintro ⟨H6, H7, H8, H9, H10, H11, H12, HY⟩
  rw [wp_bind]
  iapply (work5_run i _ _ _ _ arg6 harg6 arg7 harg7 arg8 harg8 arg9 harg9 arg10 harg10 arg11 harg11 arg12 harg12 c _ y)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HY]; · iexact HY
  iintro ⟨H6, H7, H8, H9, H10, H11, H12, HY⟩
  iapply (work6_run i arg6 arg7 arg8 arg9 arg10 arg11 arg12 c _ y)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HY]; · iexact HY
  iintro HA
  iapply Hk
  isplitl [HN]; · iexact HN
  iexact HA

include hT in
/-- The body at a point. -/
theorem point_run (n : ℕ) (hn : n < 4608) (e0 : (i 0).val = n / 16) (e1 : (i 1).val = n % 16)
    (q : PosShare TreeShare) (tn : S1.Idx → BitVec 32) (Q : PUnit → sProp 𝕄) :
    iprop((mT.view.loc (c : Thread nD τ) ↦{fullShare} T) ∗ semVal ((c : Thread nD τ), SemLoc.dma cc0_scratch3.sem) 0 ∗ (∃ W, owes (c : Thread nD τ) 0 W) ∗ stage c T h n hn.le ∗ ((Memref.whole main_arg1).view.loc (c : Thread nD τ) ↦{q} tn) ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)
      ∗ (((mT.view.loc (c : Thread nD τ) ↦{fullShare} T) ∗ semVal ((c : Thread nD τ), SemLoc.dma cc0_scratch3.sem) 0 ∗ (∃ W, owes (c : Thread nD τ) 0 W) ∗ stage c T h (n + 1) hn ∗ ((Memref.whole main_arg1).view.loc (c : Thread nD τ) ↦{q} tn) ∗ (∃ d, owns (c : Thread nD τ) arg6 fullShare d)
      ∗ (∃ d, owns (c : Thread nD τ) arg7 fullShare d)
      ∗ (∃ d, owns (c : Thread nD τ) arg8 fullShare d)
      ∗ (∃ d, owns (c : Thread nD τ) arg9 fullShare d)
      ∗ (∃ d, owns (c : Thread nD τ) arg10 fullShare d)
      ∗ (∃ d, owns (c : Thread nD τ) arg11 fullShare d)
      ∗ (∃ d, owns (c : Thread nD τ) arg12 fullShare d)) -∗ Q ⟨⟩))
      ⊢ wp frame (wpE (defs₀ (F := F)) Variants.none (c : Thread nD τ) none) Set.univ (cc0_moe_experts (F := F) i (Memref.whole main_arg0) (Memref.isWhole_whole _) (Memref.whole main_arg1) (Memref.isWhole_whole _) mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4) Q := by
  rw [body_eq, wp_bind]
  iintro ⟨HT, HS, HO, HG, HN, H6, H7, H8, H9, H10, H11, H12, Hk⟩
  simp only [wp_bind]
  iapply (gather_run c i arg6 harg6 arg7 harg7 arg8 harg8 arg9 harg9 arg10 harg10 arg11 harg11 arg12 harg12 T hT h n hn e0 e1)
  isplitl [HT]; · iexact HT
  isplitl [HS]; · iexact HS
  isplitl [HO]; · iexact HO
  isplitl [HG]; · iexact HG
  rw [stage_of c T h (n + 1) hn ⟨n / 16, by omega⟩ (by omega) (by rw [Nat.add_sub_cancel])]
  iintro ⟨HT, HS, HO, HY, HR⟩
  iapply (work_run c i arg6 harg6 arg7 harg7 arg8 harg8 arg9 harg9 arg10 harg10 arg11 harg11 arg12 harg12 _ q tn)
  isplitl [HN]; · iexact HN
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HY]; · iexact HY
  iintro ⟨HN, H6, H7, H8, H9, H10, H11, H12, HY⟩
  iapply Hk
  isplitl [HT]; · iexact HT
  isplitl [HS]; · iexact HS
  isplitl [HO]; · iexact HO
  isplitl [HY HR]
  · isplitl [HY]; · iexact HY
    iexact HR
  isplitl [HN]; · iexact HN
  isplitl [H6]; · iexact H6
  isplitl [H7]; · iexact H7
  isplitl [H8]; · iexact H8
  isplitl [H9]; · iexact H9
  isplitl [H10]; · iexact H10
  isplitl [H11]; · iexact H11
  iexact H12

end Cert.KernelIdeal.Exp

end
-- ==== Proof.Idl.Ok.lean ====
/- What the precondition says of the words of the tables, and that the blocks it names are inside the arrays. -/
module

public import proofs.«01_k».proof.Proof.Gen.KernelIdeal.Launch
public import proofs.«01_k».proof.Proof.Gen.Pre_in_range
public import Idealize.ShloMosaic.Lib.WordCmp
public import Idealize.ShloMosaic.Lib.ReduceAll
public import Idealize.ShloMosaic.Lib.Affine
public import Idealize.ShloMosaic.Lib.StableHlo.Predicate

@[expose] public section

set_option maxRecDepth 16384

noncomputable section

namespace Cert.KernelIdeal.Exp

open Cert.KernelIdeal Cert.KernelIdeal.Gen
open Idealize.ShloMosaic Idealize.ShloMosaic.TcCoe

variable {F : FTy → Type} [FloatOps F]

/-- A word between two small bounds, read as a natural number. -/
theorem word_lt (x : BitVec 32) (k : BitVec 32) (hk : k.toNat < 2 ^ 31)
    (h : IntOp.andi (IntOp.cmpi .sge x 0#32) (IntOp.cmpi .slt x k) = 1#1) : x.toNat < k.toNat := by
  simp only [IntOp.andi, IntOp.cmpi] at h
  have h1 : (0#32).sle x = true ∧ x.slt k = true := by
    revert h
    cases (0#32).sle x <;> cases x.slt k <;> decide
  simp only [BitVec.sle, BitVec.slt, decide_eq_true_eq] at h1
  have hx : (0 : ℤ) ≤ x.toInt := by simpa using h1.1
  have hx2 : x.toInt = x.toNat := by
    rw [BitVec.toInt_eq_toNat_cond] at hx ⊢
    have := x.isLt
    split_ifs at hx ⊢ <;> omega
  have hk2 : k.toInt = k.toNat := StableHlo.Predicate.toInt_eq_toNat_of_lt hk
  omega

instance : Subsingleton Cert.Pre_in_range.S_.Idx := ⟨fun a b => funext fun k => k.elim0⟩

/-- The precondition: each expert's word is below 32, each row's word below 32768. -/
theorem in_range_iff [Cert.Pre_in_range.Facts] (a0 : IVec Cert.Pre_in_range.S288 32) (a1 : IVec Cert.Pre_in_range.S1 32)
    (a2 : IVec Cert.Pre_in_range.S147456 32) (a3 : FVec F Cert.Pre_in_range.S32768x4096 .f32) (a4 : FVec F Cert.Pre_in_range.S1x32x4096x8192 .f32)
    (a5 : FVec F Cert.Pre_in_range.S1x32x8192 .f32) (a6 : FVec F Cert.Pre_in_range.S1x32x4096x4096 .f32) (a7 : FVec F Cert.Pre_in_range.S1x32x4096 .f32)
    (h : Cert.Pre_in_range.fn a0 a1 a2 a3 a4 a5 a6 a7 = fun _ => 1#1) :
    (∀ j, (a0 j).toNat < 32) ∧ ∀ j, (a2 j).toNat < 32768 := by
  have h0 := congrFun h (fun k => k.elim0)
  unfold Cert.Pre_in_range.fn at h0
  dsimp only at h0
  have hh := (show ∀ x y : BitVec 1, IntOp.andi x y = 1#1 → x = 1#1 ∧ y = 1#1 by decide) _ _ h0
  exact ⟨fun j => word_lt _ 32#32 (by decide) (Host.reduce_andi_all _ _ _ _ _ hh.1 j),
    fun j => word_lt _ 32768#32 (by decide) (Host.reduce_andi_all _ _ _ _ _ hh.2 j)⟩

/-- The block a window takes along the hidden axis: below 16 at every point. -/
theorem blk_lt (n : BitVec 1) (i : grid0.Coords) : (Scalar.select n (BitVec.ofNat 32 (i 1).val) 15#32).toNat < 16 := by
  have h1 : (i 1).val < 16 := (i 1).isLt
  unfold Scalar.select
  split_ifs
  · rw [BitVec.toNat_ofNat]; omega
  · decide

/-- Sixteen more than a word below 16. -/
theorem add16 (x : BitVec 32) (hx : x.toNat < 16) : (Scalar.addi 16#32 x).toNat = 16 + x.toNat := by
  show (16#32 + x).toNat = _
  rw [BitVec.toNat_add]
  show (16 + x.toNat) % 2 ^ 32 = _
  omega

variable (pf : pre0.Contents (Elt F))

/-- With every expert's word below 32, every window's block is inside its array. -/
theorem ok_of (h : ∀ j : S288.Idx, (show BitVec 32 from pf 0 j).toNat < 32) : ok0 pf := by
  unfold ok0
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inl rfl⟩, fun i => ⟨fun a => ?_, .inl rfl⟩, fun i => ⟨fun a => ?_, .inl rfl⟩, fun i => ⟨fun a => ?_, .inl rfl⟩⟩
  · have hb := blk_lt (Scalar.cmpi .slt (BitVec.ofNat 32 (i 0).val) (pf.at 1 (Rect.unit (s := S1) ![0] S1.size Facts₀.inb_S1_S1_0) Facts₀.numel1_S1)) i
    have he := h ((Rect.unit (s := S288) ![(Scalar.indexCast (BitVec.ofNat 32 (i 0).val)).toNat] S1.size (Facts₀.k0_off1_inb i)).emb (Shape.Idx.first (Facts₀.numel1_S1.symm ▸ Nat.one_pos)))
    fin_cases a
    · exact Nat.mul_le_mul_right 1 (Nat.succ_le_of_lt he)
    · exact (show (0 + 1) * 4096 ≤ 4096 by omega)
    · exact Nat.mul_le_mul_right 256 (Nat.succ_le_of_lt (hb.trans (show 16 < 32 by decide)))
  · have hb := blk_lt (Scalar.cmpi .slt (BitVec.ofNat 32 (i 0).val) (pf.at 1 (Rect.unit (s := S1) ![0] S1.size Facts₀.inb_S1_S1_0) Facts₀.numel1_S1)) i
    have hc := (add16 _ hb).trans_lt (show _ < 32 by omega)
    have he := h ((Rect.unit (s := S288) ![(Scalar.indexCast (BitVec.ofNat 32 (i 0).val)).toNat] S1.size (Facts₀.k0_off1_inb i)).emb (Shape.Idx.first (Facts₀.numel1_S1.symm ▸ Nat.one_pos)))
    fin_cases a
    · exact Nat.mul_le_mul_right 1 (Nat.succ_le_of_lt he)
    · exact (show (0 + 1) * 4096 ≤ 4096 by omega)
    · exact Nat.mul_le_mul_right 256 (Nat.succ_le_of_lt hc)
  · have hb := blk_lt (Scalar.cmpi .slt (BitVec.ofNat 32 (i 0).val) (pf.at 1 (Rect.unit (s := S1) ![0] S1.size Facts₀.inb_S1_S1_0) Facts₀.numel1_S1)) i
    have he := h ((Rect.unit (s := S288) ![(Scalar.indexCast (BitVec.ofNat 32 (i 0).val)).toNat] S1.size (Facts₀.k0_off1_inb i)).emb (Shape.Idx.first (Facts₀.numel1_S1.symm ▸ Nat.one_pos)))
    fin_cases a
    · exact Nat.mul_le_mul_right 1 (Nat.succ_le_of_lt he)
    · exact (show (0 + 1) * 1 ≤ 1 by omega)
    · exact Nat.mul_le_mul_right 256 (Nat.succ_le_of_lt (hb.trans (show 16 < 32 by decide)))
  · have hb := blk_lt (Scalar.cmpi .slt (BitVec.ofNat 32 (i 0).val) (pf.at 1 (Rect.unit (s := S1) ![0] S1.size Facts₀.inb_S1_S1_0) Facts₀.numel1_S1)) i
    have hc := (add16 _ hb).trans_lt (show _ < 32 by omega)
    have he := h ((Rect.unit (s := S288) ![(Scalar.indexCast (BitVec.ofNat 32 (i 0).val)).toNat] S1.size (Facts₀.k0_off1_inb i)).emb (Shape.Idx.first (Facts₀.numel1_S1.symm ▸ Nat.one_pos)))
    fin_cases a
    · exact Nat.mul_le_mul_right 1 (Nat.succ_le_of_lt he)
    · exact (show (0 + 1) * 1 ≤ 1 by omega)
    · exact Nat.mul_le_mul_right 256 (Nat.succ_le_of_lt hc)
  · have hb := blk_lt (Scalar.cmpi .slt (BitVec.ofNat 32 (i 0).val) (pf.at 1 (Rect.unit (s := S1) ![0] S1.size Facts₀.inb_S1_S1_0) Facts₀.numel1_S1)) i
    have he := h ((Rect.unit (s := S288) ![(Scalar.indexCast (BitVec.ofNat 32 (i 0).val)).toNat] S1.size (Facts₀.k0_off1_inb i)).emb (Shape.Idx.first (Facts₀.numel1_S1.symm ▸ Nat.one_pos)))
    fin_cases a
    · exact Nat.mul_le_mul_right 1 (Nat.succ_le_of_lt he)
    · exact Nat.mul_le_mul_right 256 (Nat.succ_le_of_lt hb)
    · exact (show (0 + 1) * 4096 ≤ 4096 by omega)
  · have he := h ((Rect.unit (s := S288) ![(Scalar.indexCast (BitVec.ofNat 32 (i 0).val)).toNat] S1.size (Facts₀.k0_off1_inb i)).emb (Shape.Idx.first (Facts₀.numel1_S1.symm ▸ Nat.one_pos)))
    fin_cases a
    · exact Nat.mul_le_mul_right 1 (Nat.succ_le_of_lt he)
    · exact (show (0 + 1) * 1 ≤ 1 by omega)
    · exact (show (0 + 1) * 4096 ≤ 4096 by omega)

end Cert.KernelIdeal.Exp

end
-- ==== Proof.Idl.Frame.lean ====
/- The launch: the body at every point, from the tables and the arrays as @main's host operations leave them. -/
module

public import proofs.«01_k».proof.Proof.Idl.Point
public import proofs.«01_k».proof.Proof.Idl.Ok
public import Idealize.ShloMosaic.Lib.Pipeline.Frame
public import Idealize.ShloMosaic.Lib.Pipeline.FrameBody

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer's contents where the region begins: @main's host operations done. -/
def Vh (c : Dev nD) (b : Ref sig .tc) : Buf (Elt F) ((c : Thread nD τ).loc b) :=
  StableHlo.after hostOps0 (fun b => m (c, b)) b

/-- The two tables there (there is one device). -/
def pfh : pre0.Contents (Elt F) := fun k => Vh m 0 (pre0.ref k)

/-- Each row's word, in blocks. -/
abbrev Th (c : Dev nD) : S288x4x128.Idx → BitVec 32 := Vh m c main_v0
/-- The rows to gather from. -/
abbrev hh (c : Dev nD) : S32768x4096.Idx → Elt F .f32 := Vh m c main_arg3

/-! ## What the launch hands over besides the windows -/

/-- The kernel's own two semaphores. -/
abbrev osem0 : Fin 2 → SemLoc sig := fun j => (![SemLoc.dma 14, SemLoc.dma 15] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl

/-- The arrays the body moves rows of itself. -/
def H0 : Finset (Ref sig .tc) := {main_v0, main_arg3}
theorem H0_sub : H0 ⊆ Pipeline.restRefsP sig pre0 spec0 := by decide
theorem hPts0_eq (c : Dev nD) :
    (bigSep H0 (fun b => ((c : Thread nD τ).loc b) ↦{fullShare} Vh m c b) : sProp 𝕄)
      = iprop((mT.view.loc (c : Thread nD τ) ↦{fullShare} Th m c) ∗ (mH.view.loc (c : Thread nD τ) ↦{fullShare} hh m c)) := by
  rw [BI.bigSep_eq_bigSepL_of_eq [main_v0, main_arg3] (by decide) (by decide)]; rfl

theorem tables_eq (c : Dev nD) (pf : pre0.Contents (Elt F)) :
    (Pipeline.ΦT pre0 pf c : sProp 𝕄)
      = iprop(((Memref.whole main_arg0).view.loc (c : Thread nD τ) ↦{fullShare.right} pf 0) ∗ ((Memref.whole main_arg1).view.loc (c : Thread nD τ) ↦{fullShare.right} pf 1)) := by
  unfold Pipeline.ΦT Pipeline.prefHeld
  exact bigSep_univ_eq_bigSepL [(0 : Fin 2), (1 : Fin 2)] (by decide) (by decide) _

/-! ## The proof data -/

/-- What stands before point `n`. -/
def inv (c : Dev nD) (n : ℕ) (hn : n ≤ 4608) : sProp 𝕄 :=
  iprop((∃ r, prngReg c r) ∗ (mT.view.loc (c : Thread nD τ) ↦{fullShare} Th m c) ∗ semVal ((c : Thread nD τ), SemLoc.dma cc0_scratch3.sem) 0
    ∗ Pipeline.ΦT pre0 (pfh m) c ∗ stage c (Th m c) (hh m c) n hn)

variable (hok : ok0 (pfh m))

/-- The tables' contents with their side condition. -/
abbrev adm : (p : Fin 1) → (pcfgs (F := F) p).Adm := fun _ => ⟨pfh m, hok⟩

/-- No window's contents are followed. -/
def forgets0 : Fin 7 → Bool := fun _ => true

theorem le_N (t : Fin ((cfg0 (adm m hok 0)).N + 1)) : t.val ≤ 4608 :=
  (Nat.le_of_lt_succ t.isLt).trans (le_of_eq N_0)

def dats (c : Dev nD) : Dat τ (Elt F) Unit ℕ (Pipeline.UD sig nD τ) ℕ (cfg0 (adm m hok 0)) c where
  A w := Vh m c (Pipeline.arrRef spec0 w)
  after w t := Pipeline.Dat.unnamed (cfg := cfg0 (adm m hok 0)) w t
  Φ t := inv m c t.val (le_N m hok t)
  q w := Pipeline.shareOf spec0 w
  owed _ := 0

/-- A window's staging buffer at point `t`. -/
abbrev ms (t : Fin (cfg0 (adm m hok 0)).N) (w : Fin 7) := ((cfg0 (adm m hok 0)).win w).stage ((cfg0 (adm m hok 0)).slots t w)

abbrev bodyAt (t : Fin (cfg0 (adm m hok 0)).N) : Prog (TpuEff nD τ sig (Elt F) Λ₀ .tc) PUnit :=
  cc0_moe_experts (grid0.coords t) (Memref.whole main_arg0) (Memref.isWhole_whole _) (Memref.whole main_arg1) (Memref.isWhole_whole _) mT (Memref.isWhole_whole _) mH (Memref.isWhole_whole _)
    (ms m hok t 0) (hstage0_0 (((cfg0 (adm m hok 0)).slots t 0).cast nbuf0_0)) (ms m hok t 1) (hstage0_1 (((cfg0 (adm m hok 0)).slots t 1).cast nbuf0_1))
    (ms m hok t 2) (hstage0_2 (((cfg0 (adm m hok 0)).slots t 2).cast nbuf0_2)) (ms m hok t 3) (hstage0_3 (((cfg0 (adm m hok 0)).slots t 3).cast nbuf0_3))
    (ms m hok t 4) (hstage0_4 (((cfg0 (adm m hok 0)).slots t 4).cast nbuf0_4)) (ms m hok t 5) (hstage0_5 (((cfg0 (adm m hok 0)).slots t 5).cast nbuf0_5))
    (ms m hok t 6) (hstage0_6 (((cfg0 (adm m hok 0)).slots t 6).cast nbuf0_6)) mX (Memref.isWhole_whole _) mY (Memref.isWhole_whole _) mI (Memref.isWhole_whole _) cc0_scratch3 cc0_scratch4

def held7 (c : Dev nD) (t : Fin (cfg0 (adm m hok 0)).N) : sProp 𝕄 :=
  iprop((∃ d, owns (c : Thread nD τ) (ms m hok t 0) fullShare d) ∗ (∃ d, owns (c : Thread nD τ) (ms m hok t 1) fullShare d)
    ∗ (∃ d, owns (c : Thread nD τ) (ms m hok t 2) fullShare d) ∗ (∃ d, owns (c : Thread nD τ) (ms m hok t 3) fullShare d)
    ∗ (∃ d, owns (c : Thread nD τ) (ms m hok t 4) fullShare d) ∗ (∃ d, owns (c : Thread nD τ) (ms m hok t 5) fullShare d)
    ∗ (∃ d, owns (c : Thread nD τ) (ms m hok t 6) fullShare d))

theorem coords_0 (t : Fin grid0.N) : (grid0.coords t 0).val = t.val / 16 := by
  have h := Pipeline.Grid.coords_val t 0 (S := 16) (B := 288) (by decide) rfl
  have h2 : t.val < 4608 := t.isLt
  omega
theorem coords_1 (t : Fin grid0.N) : (grid0.coords t 1).val = t.val % 16 := by
  have h := Pipeline.Grid.coords_val t 1 (S := 1) (B := 16) (by decide) rfl
  omega

/-- The body between what stands before a point and what stands after it. -/
theorem body_run (c : Dev nD)
  (i : grid0.Coords) (arg6 : Memref sig .tc .vmem S1x4096x256 .bf16) (harg6 : arg6.IsWhole) (arg7 : Memref sig .tc .vmem S1x4096x256 .bf16) (harg7 : arg7.IsWhole)
  (arg8 : Memref sig .tc .vmem S1x1x256 .f32) (harg8 : arg8.IsWhole) (arg9 : Memref sig .tc .vmem S1x1x256 .f32) (harg9 : arg9.IsWhole)
  (arg10 : Memref sig .tc .vmem S1x256x4096 .f32) (harg10 : arg10.IsWhole) (arg11 : Memref sig .tc .vmem S1x1x4096 .f32) (harg11 : arg11.IsWhole)
  (arg12 : Memref sig .tc .vmem S512x4096 .f32) (harg12 : arg12.IsWhole)
    (hT : ∀ j, (Th m c j).toNat < 32768) (n : ℕ) (hn : n < 4608) (e0 : (i 0).val = n / 16) (e1 : (i 1).val = n % 16) (P : Waits sig Unit → Prop) (hP : ∀ W, P W) :
    iprop(inv m c n hn.le ∗ (∃ W, iprop(⌜P W⌝ ∗ owes (c : Thread nD τ) 0 W)) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d))
      ⊢ wp frame (wpE (defs₀ (F := F)) Variants.none (c : Thread nD τ) none) Set.univ
        (cc0_moe_experts i (Memref.whole main_arg0) (Memref.isWhole_whole _) (Memref.whole main_arg1) (Memref.isWhole_whole _) mT (Memref.isWhole_whole _) mH (Memref.isWhole_whole _)
          arg6 harg6 arg7 harg7 arg8 harg8 arg9 harg9 arg10 harg10 arg11 harg11 arg12 harg12 mX (Memref.isWhole_whole _) mY (Memref.isWhole_whole _) mI (Memref.isWhole_whole _) cc0_scratch3 cc0_scratch4)
        fun _ => iprop(inv m c (n + 1) hn ∗ (∃ W, iprop(⌜P W⌝ ∗ owes (c : Thread nD τ) 0 W)) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) := by
  unfold inv
  rw [tables_eq]
  iintro ⟨⟨Hg, HT, HS, ⟨HA0, HA1⟩, Hst⟩, ⟨%W, %hW, HO⟩, G0, G1, G2, G3, G4, G5, G6⟩
  iapply (point_run c i arg6 harg6 arg7 harg7 arg8 harg8 arg9 harg9 arg10 harg10 arg11 harg11 arg12 harg12 (Th m c) hT (hh m c) n hn e0 e1 fullShare.right (pfh m 1) _)
  isplitl [HT]; · iexact HT
  isplitl [HS]; · iexact HS
  isplitl [HO]; · iexists W; iexact HO
  isplitl [Hst]; · iexact Hst
  isplitl [HA1]; · iexact HA1
  isplitl [G0]; · iexact G0
  isplitl [G1]; · iexact G1
  isplitl [G2]; · iexact G2
  isplitl [G3]; · iexact G3
  isplitl [G4]; · iexact G4
  isplitl [G5]; · iexact G5
  isplitl [G6]; · iexact G6
  iintro ⟨HT, HS, ⟨%W', HO⟩, Hst, HA1, G0, G1, G2, G3, G4, G5, G6⟩
  isplitl [Hg HT HS HA0 HA1 Hst]
  · isplitl [Hg]; · iexact Hg
    isplitl [HT]; · iexact HT
    isplitl [HS]; · iexact HS
    isplitl [HA0 HA1]
    · isplitl [HA0]; · iexact HA0
      iexact HA1
    iexact Hst
  isplitl [HO]
  · iexists W'; isplitr; · ipureintro; exact hP W'
    iexact HO
  isplitl [G0]; · iexact G0
  isplitl [G1]; · iexact G1
  isplitl [G2]; · iexact G2
  isplitl [G3]; · iexact G3
  isplitl [G4]; · iexact G4
  isplitl [G5]; · iexact G5
  iexact G6

theorem lt_N (t : Fin (cfg0 (adm m hok 0)).N) : t.val < 4608 := lt_of_lt_of_eq t.isLt N_0

theorem inv_eq (c : Dev nD) (t : Fin ((cfg0 (adm m hok 0)).N + 1)) : (dats m hok c).Φ t = inv m c t.val (le_N m hok t) := by
  dsimp only [dats]

theorem inv_castSucc (c : Dev nD) (t : Fin (cfg0 (adm m hok 0)).N) : (dats m hok c).Φ t.castSucc = inv m c t.val (lt_N m hok t).le := by
  rw [inv_eq]; simp only [Fin.val_castSucc]
theorem inv_succ (c : Dev nD) (t : Fin (cfg0 (adm m hok 0)).N) : (dats m hok c).Φ t.succ = inv m c (t.val + 1) (lt_N m hok t) := by
  rw [inv_eq]; simp only [Fin.val_succ]

theorem sound_body (c : Dev nD) (hT : ∀ j, (Th m c j).toNat < 32768) (t : Fin (cfg0 (adm m hok 0)).N) :
    iprop((dats m hok c).Φ t.castSucc ∗ (dats m hok c).owesAt () t.castSucc ∗ held7 m hok c t)
      ⊢ wp frame (wpE (defs₀ (F := F)) Variants.none c none) Set.univ (bodyAt m hok t)
        fun _ => iprop((dats m hok c).Φ t.succ ∗ (dats m hok c).owesAt () t.succ ∗ held7 m hok c t) := by
  rw [inv_castSucc, inv_succ]
  unfold Dat.owesAt Pipeline.owesWithin
  rw [show (dats m hok c).owed t.castSucc = 0 from rfl, show (dats m hok c).owed t.succ = 0 from rfl]
  exact body_run m c (grid0.coords t) (ms m hok t 0) (hstage0_0 (((cfg0 (adm m hok 0)).slots t 0).cast nbuf0_0)) (ms m hok t 1) (hstage0_1 (((cfg0 (adm m hok 0)).slots t 1).cast nbuf0_1))
    (ms m hok t 2) (hstage0_2 (((cfg0 (adm m hok 0)).slots t 2).cast nbuf0_2)) (ms m hok t 3) (hstage0_3 (((cfg0 (adm m hok 0)).slots t 3).cast nbuf0_3))
    (ms m hok t 4) (hstage0_4 (((cfg0 (adm m hok 0)).slots t 4).cast nbuf0_4)) (ms m hok t 5) (hstage0_5 (((cfg0 (adm m hok 0)).slots t 5).cast nbuf0_5))
    (ms m hok t 6) (hstage0_6 (((cfg0 (adm m hok 0)).slots t 6).cast nbuf0_6)) hT t.val (lt_N m hok t) (coords_0 t) (coords_1 t)
    (fun W => (W : Set (SemLoc sig × Unit)) ⊆ (dats m hok c).bound () t.castSucc) (fun _ _ _ => Or.inl trivial)

theorem defs₀_row (t : Fin (cfg0 (adm m hok 0)).N) :
    defs₀ (F := F) .tc (cfg0 (adm m hok 0)).body ((cfg0 (adm m hok 0)).bodyArgs t ((cfg0 (adm m hok 0)).slots t)) = bodyAt m hok t := by
  unfold defs₀; rw [Defs.onTc_tc]

theorem body_obligation (c : Dev nD) (hT : ∀ j, (Th m c j).toNat < 32768) :
    BodyObligation (dats m hok c) (defs₀ (F := F)) Variants.none () Set.univ forgets0 := fun t => by
  rw [bigSep_W0, bigSep_W0, defs₀_row]
  exact triple_restated (sound_body m hok c hT t) rfl .rfl fun _ => .rfl

/-! ## Into the pipeline and out of it -/

theorem enter (c : Dev nD) :
    iprop(Pipeline.ΦDR osem0 spec0 H0 ∅ (Vh m) c ∗ Pipeline.ΦT pre0 (pfh m) c) ⊢ (dats m hok c).Φ 0 := by
  rw [show (dats m hok c).Φ 0 = inv m c 0 (by decide) from rfl]
  unfold inv
  rw [Pipeline.ΦDR_eq, scopedRest0_eq, ownSems00_eq, hPts0_eq, stage_zero]
  unfold quiet
  iintro ⟨⟨⟨HX, HY, HI⟩, Hg, ⟨HS3, HS4⟩, ⟨HT, HH⟩, -⟩, HA⟩
  isplitl [Hg]; · iexact Hg
  isplitl [HT]; · iexact HT
  isplitl [HS3]; · iexact HS3
  isplitl [HA]; · iexact HA
  isplitl [HY]; · iexact HY
  isplitl [HI]; · iexact HI
  isplitl [HX]; · iexact HX
  isplitl [HH]; · iexact HH
  iexact HS4

theorem leave (c : Dev nD) : (dats m hok c).Φ (Fin.last (cfg0 (adm m hok 0)).N) ⊢ Pipeline.ΦDR osem0 spec0 H0 ∅ (Vh m) c := by
  rw [show (dats m hok c).Φ (Fin.last (cfg0 (adm m hok 0)).N) = inv m c 4608 le_rfl from rfl]
  refine BIBase.Entails.trans ?_ (Pipeline.ΦDR_empty_intro osem0 spec0 H0 (Vh m) c)
  unfold inv
  rw [Pipeline.ΦD_eq, scopedRest0_eq, ownSems00_eq, hPts0_eq, stage_of c _ _ 4608 le_rfl ⟨287, by decide⟩ (by decide) (by decide),
    show ((⟨287, by decide⟩ : Fin 288).val + 1) = 288 from rfl, ready_last]
  unfold quiet
  iintro ⟨Hg, HT, HS3, -, HY, ⟨HI, HX, HH, HS4⟩⟩
  isplitl [HX HY HI]
  · isplitl [HX]; · iexact HX
    isplitl [HY]; · iexists _; iexact HY
    iexact HI
  isplitl [Hg]; · iexact Hg
  isplitl [HS3 HS4]
  · isplitl [HS3]; · iexact HS3
    iexact HS4
  isplitl [HT]; · iexact HT
  iexact HH

/-! ## The launch -/

set_option backward.isDefEq.respectTransparency.types false in
theorem run_main (hT : ∀ c j, (Th m c j).toNat < 32768) :
    θ_run defs (onTc (τ := τ) (main (F := F))) (s₀ m ρ)
      (fun r => Pipeline.RDat.FramePostR (Pipeline.pin pcfgs (adm m hok) 0) (fun c => (dats m hok c).toRForget forgets0) ∅ (Vh m) r ∧ r.2.sem = fun _ => 0) :=
  Pipeline.RDat.θ_run_frameP_dmaR_shared (Q' := _) pcfgs (adm m hok) 0 launch₀0 osem0 defs₀ Variants.none
    (fun c => (dats m hok c).toRForget forgets0) ownSemFacts0 H0 ∅ H0_sub (Finset.empty_subset _) m ρ main
    (hbody := fun c => (body_obligation m hok c (hT c)).loose.toRForget)
    (hq := fun _ _ _ => rfl) (howed := fun _ _ => rfl) (V := Vh m)
    (hmain := Pipeline.hmainP_prefix pcfgs 0 defs₀ Variants.none m main hostOps0 hostOps0_sub ⟨rfl, rfl, rfl, rfl, rfl, rfl, rfl, rfl⟩ main_chain)
    (hA := fun _ _ => rfl) (hpf := fun c k => by rw [Subsingleton.elim c 0]; rfl)
    (hin := enter m hok) (hout := leave m hok)

end Cert.KernelIdeal.Exp

end
-- ==== Proof.Idl.Quiet.lean ====
/- After the run: the arguments as they were, every semaphore at zero. -/
module

public import proofs.«01_k».proof.Proof.Idl.Frame
public import Idealize.ShloMosaic.Lib.StableHlo.RunRead

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host operations before the region -/

theorem Vh_arg0 (c : Dev nD) : Vh m c main_arg0 = m ((c : Thread nD τ).loc main_arg0) :=
  StableHlo.after_unwritten [main_v0, main_v1, main_v2, main_v3, main_v4, main_v5, main_v6, main_v7] rfl (by decide) _

theorem Vh_arg1 (c : Dev nD) : Vh m c main_arg1 = m ((c : Thread nD τ).loc main_arg1) :=
  StableHlo.after_unwritten [main_v0, main_v1, main_v2, main_v3, main_v4, main_v5, main_v6, main_v7] rfl (by decide) _

theorem Vh_arg2 (c : Dev nD) : Vh m c main_arg2 = m ((c : Thread nD τ).loc main_arg2) :=
  StableHlo.after_unwritten [main_v0, main_v1, main_v2, main_v3, main_v4, main_v5, main_v6, main_v7] rfl (by decide) _

theorem Vh_arg3 (c : Dev nD) : Vh m c main_arg3 = m ((c : Thread nD τ).loc main_arg3) :=
  StableHlo.after_unwritten [main_v0, main_v1, main_v2, main_v3, main_v4, main_v5, main_v6, main_v7] rfl (by decide) _

theorem Vh_arg4 (c : Dev nD) : Vh m c main_arg4 = m ((c : Thread nD τ).loc main_arg4) :=
  StableHlo.after_unwritten [main_v0, main_v1, main_v2, main_v3, main_v4, main_v5, main_v6, main_v7] rfl (by decide) _

theorem Vh_arg5 (c : Dev nD) : Vh m c main_arg5 = m ((c : Thread nD τ).loc main_arg5) :=
  StableHlo.after_unwritten [main_v0, main_v1, main_v2, main_v3, main_v4, main_v5, main_v6, main_v7] rfl (by decide) _

theorem Vh_arg6 (c : Dev nD) : Vh m c main_arg6 = m ((c : Thread nD τ).loc main_arg6) :=
  StableHlo.after_unwritten [main_v0, main_v1, main_v2, main_v3, main_v4, main_v5, main_v6, main_v7] rfl (by decide) _

theorem Vh_arg7 (c : Dev nD) : Vh m c main_arg7 = m ((c : Thread nD τ).loc main_arg7) :=
  StableHlo.after_unwritten [main_v0, main_v1, main_v2, main_v3, main_v4, main_v5, main_v6, main_v7] rfl (by decide) _

/-- The rows' words in blocks are the argument's, in the same order. -/
theorem Vh_v0 (c : Dev nD) : Th m c = shapeCast S288x4x128 (show S147456.Idx → BitVec 32 from m ((c : Thread nD τ).loc main_arg2)) Facts₀.shapeCasts_S147456_S288x4x128 := by
  unfold Th Vh
  refine (StableHlo.after_last_write (i := 0) [main_v1, main_v2, main_v3, main_v4, main_v5, main_v6, main_v7] rfl rfl (by decide) _).trans ?_
  rw [StableHlo.reshape_result]
  rfl

/-! ## The frame -/

/-- What the precondition asks of the argument arrays. -/
def Ranged [Cert.Pre_in_range.Facts] : Prop := ∀ c : Dev nD,
  Cert.Pre_in_range.fn (F := F) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) = fun _ => 1#1

variable [Cert.Pre_in_range.Facts] {m}

theorem Ranged.ok (h : Ranged m) : ok0 (pfh m) :=
  ok_of (pfh m) fun j => by
    have e := (in_range_iff _ _ _ _ _ _ _ _ (h 0)).1 j
    rw [show pfh m 0 = m (((0 : Dev nD) : Thread nD τ).loc main_arg0) from Vh_arg0 m 0]
    exact e

theorem Ranged.rows (h : Ranged m) (c : Dev nD) (j : S288x4x128.Idx) : (Th m c j).toNat < 32768 := by
  rw [Vh_v0]
  exact (in_range_iff _ _ _ _ _ _ _ _ (h c)).2 _

theorem kept (hok : ok0 (pfh m)) {r : PUnit × MemSt nD τ sig (Elt F)}
    (h : Pipeline.RDat.FramePostR (Pipeline.pin pcfgs (adm m hok) 0) (fun c => (dats m hok c).toRForget forgets0) ∅ (Vh m) r) (c : Dev nD)
    (b : Ref sig .tc) (hb : b ∈ Pipeline.restRefs sig spec0 \ ∅) : r.2.mem ((c : Thread nD τ).loc b) = Vh m c b :=
  (h c).2 b hb

theorem frame (h : Ranged m) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run _ _ _).mono (fun r hr => ⟨fun c => ⟨
    (kept h.ok hr.1 c main_arg0 (by decide)).trans (Vh_arg0 m c),
    (kept h.ok hr.1 c main_arg1 (by decide)).trans (Vh_arg1 m c),
    (kept h.ok hr.1 c main_arg2 (by decide)).trans (Vh_arg2 m c),
    (kept h.ok hr.1 c main_arg3 (by decide)).trans (Vh_arg3 m c),
    (kept h.ok hr.1 c main_arg4 (by decide)).trans (Vh_arg4 m c),
    (kept h.ok hr.1 c main_arg5 (by decide)).trans (Vh_arg5 m c),
    (kept h.ok hr.1 c main_arg6 (by decide)).trans (Vh_arg6 m c),
    (kept h.ok hr.1 c main_arg7 (by decide)).trans (Vh_arg7 m c)⟩, hr.2⟩)
    (run_main m ρ h.ok h.rows)

end Cert.KernelIdeal.Exp

end
-- ==== Proof.Idl.Exact.lean ====
module

public import proofs.«01_k».proof.Defs
public import proofs.«01_k».proof.Proof.Gen.Kernel.Launch
public import proofs.«01_k».proof.Proof.Gen.Pre_in_range
public import proofs.«01_k».proof.Proof.Idl.Quiet

/-! The bit-level experts' kernel runs the very program of the idealized one: the same bodies under
    the same labels, the same entry function. So its frame is the one already proved, read at bits. -/

@[expose] public section

noncomputable section

namespace Cert.Kernel.Exp

open Idealize.ShloMosaic Idealize.ShloMosaic.TcCoe Idealize.SL.Sem

set_option maxRecDepth 100000
set_option maxHeartbeats 4000000

variable {F : FTy → Type} [FloatOps F]

/-- The two body tables agree label by label. -/
theorem same_bodies : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => with_unfolding_all rfl

/-- So do the tables of the pipelines over them. -/
theorem same_defs : Cert.Kernel.defs (F := F) = Cert.KernelIdeal.defs (F := F) := by
  unfold Cert.Kernel.defs Cert.KernelIdeal.defs
  exact congrArg (Idealize.ShloMosaic.Pipeline.defs _) same_bodies

/-- And the entry functions. -/
theorem same_main : Cert.Kernel.main (F := F) = Cert.KernelIdeal.main (F := F) := by
  with_unfolding_all rfl

/-- The bit-level program runs to its end and leaves its arguments as they were. -/
theorem frame : Cert.quiescent_Kernel := fun m g h => by
  have e := Cert.KernelIdeal.Exp.frame (F := Bits) (m := m) g h
  rw [← same_defs, ← same_main] at e
  exact e

end Cert.Kernel.Exp

end
-- ==== Proof.Val.Tiles.lean ====
/- The output block in its eight column tiles: what stores of the tiles leave, and what a load of one reads. -/
module

public import proofs.«01_k».proof.Proof.Idl.Work
public import Idealize.ShloMosaic.Lib.WritesUnit

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Tiles of 512 columns -/

/-- The columns from `o` of a block of the down weights. -/
def tileW {α : Type} (d : S1x256x4096.Idx → α) (o : ℕ) (ho : o + 512 ≤ 4096) : S1x256x512.Idx → α :=
  fun x => d (ix3 (x 0) (x 1) ⟨o + (x 2).val, by have : (x 2).val < 512 := (x 2).isLt; omega⟩)
/-- The columns from `o` of a row of biases. -/
def tileB {α : Type} (d : S1x1x4096.Idx → α) (o : ℕ) (ho : o + 512 ≤ 4096) : S1x1x512.Idx → α :=
  fun x => d (ix3 (x 0) (x 1) ⟨o + (x 2).val, by have : (x 2).val < 512 := (x 2).isLt; omega⟩)
/-- The columns from `o` of an output block. -/
def tileO {α : Type} (d : S512x4096.Idx → α) (o : ℕ) (ho : o + 512 ≤ 4096) : S512x512.Idx → α :=
  fun x => d (ix2 (x 0) ⟨o + (x 1).val, by have : (x 1).val < 512 := (x 1).isLt; omega⟩)

theorem ld_tileW {sp : Space} (M : Memref sig .tc sp S1x256x4096 .f32) (f : M.view.ty.Contents (Elt F)) (o : ℕ) (ho : o + 512 ≤ 4096) (h) :
    View.readAt (Elt F) M.view (Rect.unit (s := S1x256x4096) ![0, 0, o] S1x256x512.size h).toLoadRect f = tileW (M.view.read (Elt F) f) o ho := by
  funext x
  refine congrArg (M.view.read (Elt F) f) (funext fun a => Fin.ext ?_)
  match a with
  | ⟨0, _⟩ => exact (Nat.zero_add _).trans (Nat.one_mul _)
  | ⟨1, _⟩ => exact (Nat.zero_add _).trans (Nat.one_mul _)
  | ⟨2, _⟩ => exact congrArg (o + ·) (Nat.one_mul _)

theorem ld_tileB {sp : Space} (M : Memref sig .tc sp S1x1x4096 .f32) (f : M.view.ty.Contents (Elt F)) (o : ℕ) (ho : o + 512 ≤ 4096) (h) :
    View.readAt (Elt F) M.view (Rect.unit (s := S1x1x4096) ![0, 0, o] S1x1x512.size h).toLoadRect f = tileB (M.view.read (Elt F) f) o ho := by
  funext x
  refine congrArg (M.view.read (Elt F) f) (funext fun a => Fin.ext ?_)
  match a with
  | ⟨0, _⟩ => exact (Nat.zero_add _).trans (Nat.one_mul _)
  | ⟨1, _⟩ => exact (Nat.zero_add _).trans (Nat.one_mul _)
  | ⟨2, _⟩ => exact congrArg (o + ·) (Nat.one_mul _)

theorem ld_tileO {sp : Space} (M : Memref sig .tc sp S512x4096 .f32) (f : M.view.ty.Contents (Elt F)) (o : ℕ) (ho : o + 512 ≤ 4096) (h) :
    View.readAt (Elt F) M.view (Rect.unit (s := S512x4096) ![0, o] S512x512.size h).toLoadRect f = tileO (M.view.read (Elt F) f) o ho := by
  funext x
  refine congrArg (M.view.read (Elt F) f) (funext fun a => Fin.ext ?_)
  match a with
  | ⟨0, _⟩ => exact (Nat.zero_add _).trans (Nat.one_mul _)
  | ⟨1, _⟩ => exact congrArg (o + ·) (Nat.one_mul _)

/-- A load of a whole buffer. -/
theorem ld_whole {sp : Space} {s : Shape} {e : EltTy} (M : Memref sig .tc sp s e) (f : M.view.ty.Contents (Elt F)) (off : Fin s.rank → ℕ) (h0 : ∀ a, off a = 0) (h) :
    View.readAt (Elt F) M.view (Rect.unit (s := s) off s.size h).toLoadRect f = M.view.read (Elt F) f := by
  funext x
  refine congrArg (M.view.read (Elt F) f) (funext fun a => Fin.ext ?_)
  show off a + 1 * (x a).val = (x a).val
  rw [h0, Nat.one_mul, Nat.zero_add]

/-- Stores of the eight tiles of `G` leave `G`. -/
theorem tiles8 {sp : Space} (M : Memref sig .tc sp S512x4096 .f32) (f : M.view.ty.Contents (Elt F)) (G : S512x4096.Idx → Elt F .f32)
    (i0 i1 i2 i3 i4 i5 i6 i7) (w0 w1 w2 w3 w4 w5 w6 w7 : S512x512.Idx → Elt F .f32)
    (h0 : w0 = tileO G 0 (by decide)) (h1 : w1 = tileO G 512 (by decide)) (h2 : w2 = tileO G 1024 (by decide)) (h3 : w3 = tileO G 1536 (by decide))
    (h4 : w4 = tileO G 2048 (by decide)) (h5 : w5 = tileO G 2560 (by decide)) (h6 : w6 = tileO G 3072 (by decide)) (h7 : w7 = tileO G 3584 (by decide)) :
    M.view.read (Elt F) (M.view.writes (Elt F) f [⟨Rect.unit ![0, 3584] S512x512.size i7, w7⟩, ⟨Rect.unit ![0, 3072] S512x512.size i6, w6⟩,
      ⟨Rect.unit ![0, 2560] S512x512.size i5, w5⟩, ⟨Rect.unit ![0, 2048] S512x512.size i4, w4⟩, ⟨Rect.unit ![0, 1536] S512x512.size i3, w3⟩,
      ⟨Rect.unit ![0, 1024] S512x512.size i2, w2⟩, ⟨Rect.unit ![0, 512] S512x512.size i1, w1⟩, ⟨Rect.unit ![0, 0] S512x512.size i0, w0⟩]) = G := by
  subst h0 h1 h2 h3 h4 h5 h6 h7
  funext y
  have hy : (y 1).val < 4096 := (y 1).isLt
  have key : ∀ (o : ℕ) (ho : o + 512 ≤ 4096) (h : o ≤ (y 1).val ∧ (y 1).val < o + 512),
      tileO G o ho (ix2 (y 0) ⟨(y 1).val - o, by omega⟩) = G y := fun o ho h => congrArg G (funext fun a => Fin.ext (by
    match a with
    | ⟨0, _⟩ => rfl
    | ⟨1, _⟩ => show o + ((y 1).val - o) = (y 1).val; omega))
  have pos : ∀ (o : ℕ) (h : o ≤ (y 1).val ∧ (y 1).val < o + 512) (a : Fin 2),
      (y a).val = (![0, o] : Fin 2 → ℕ) a + ((ix2 (y 0) ⟨(y 1).val - o, by omega⟩ : S512x512.Idx) a).val := fun o h a => by
    match a with
    | ⟨0, _⟩ => exact (Nat.zero_add _).symm
    | ⟨1, _⟩ => show (y 1).val = o + ((y 1).val - o); omega
  by_cases c7 : 3584 ≤ (y 1).val
  · rw [View.read_writes_cons_unit_of_mem M.view f i7 _ _ y _ rfl (pos 3584 ⟨c7, by omega⟩)]; exact key _ _ ⟨c7, by omega⟩
  rw [View.read_writes_cons_unit_of_not_mem M.view f i7 _ _ y rfl 1 (Or.inl (show (y 1).val < 3584 by omega))]
  by_cases c6 : 3072 ≤ (y 1).val
  · rw [View.read_writes_cons_unit_of_mem M.view f i6 _ _ y _ rfl (pos 3072 ⟨c6, by omega⟩)]; exact key _ _ ⟨c6, by omega⟩
  rw [View.read_writes_cons_unit_of_not_mem M.view f i6 _ _ y rfl 1 (Or.inl (show (y 1).val < 3072 by omega))]
  by_cases c5 : 2560 ≤ (y 1).val
  · rw [View.read_writes_cons_unit_of_mem M.view f i5 _ _ y _ rfl (pos 2560 ⟨c5, by omega⟩)]; exact key _ _ ⟨c5, by omega⟩
  rw [View.read_writes_cons_unit_of_not_mem M.view f i5 _ _ y rfl 1 (Or.inl (show (y 1).val < 2560 by omega))]
  by_cases c4 : 2048 ≤ (y 1).val
  · rw [View.read_writes_cons_unit_of_mem M.view f i4 _ _ y _ rfl (pos 2048 ⟨c4, by omega⟩)]; exact key _ _ ⟨c4, by omega⟩
  rw [View.read_writes_cons_unit_of_not_mem M.view f i4 _ _ y rfl 1 (Or.inl (show (y 1).val < 2048 by omega))]
  by_cases c3 : 1536 ≤ (y 1).val
  · rw [View.read_writes_cons_unit_of_mem M.view f i3 _ _ y _ rfl (pos 1536 ⟨c3, by omega⟩)]; exact key _ _ ⟨c3, by omega⟩
  rw [View.read_writes_cons_unit_of_not_mem M.view f i3 _ _ y rfl 1 (Or.inl (show (y 1).val < 1536 by omega))]
  by_cases c2 : 1024 ≤ (y 1).val
  · rw [View.read_writes_cons_unit_of_mem M.view f i2 _ _ y _ rfl (pos 1024 ⟨c2, by omega⟩)]; exact key _ _ ⟨c2, by omega⟩
  rw [View.read_writes_cons_unit_of_not_mem M.view f i2 _ _ y rfl 1 (Or.inl (show (y 1).val < 1024 by omega))]
  by_cases c1 : 512 ≤ (y 1).val
  · rw [View.read_writes_cons_unit_of_mem M.view f i1 _ _ y _ rfl (pos 512 ⟨c1, by omega⟩)]; exact key _ _ ⟨c1, by omega⟩
  rw [View.read_writes_cons_unit_of_not_mem M.view f i1 _ _ y rfl 1 (Or.inl (show (y 1).val < 512 by omega))]
  rw [View.read_writes_cons_unit_of_mem M.view f i0 _ _ y _ rfl (pos 0 ⟨Nat.zero_le _, by omega⟩)]; exact key _ _ ⟨Nat.zero_le _, by omega⟩

/-! ## What the work leaves in the output block -/

/-- The first partial product with the bias, column by column through the tiles. -/
def firstC (act : FVec F S512x256 .bf16) (wd : S1x256x4096.Idx → Elt F .f32) (bd : S1x1x4096.Idx → Elt F .f32) : S512x4096.Idx → Elt F .f32 := fun y =>
  k0_pay2 act (tileW wd (512 * ((y 1).val / 512)) (by have : (y 1).val < 4096 := (y 1).isLt; omega)) (tileB bd (512 * ((y 1).val / 512)) (by have : (y 1).val < 4096 := (y 1).isLt; omega))
    (ix2 (y 0) ⟨(y 1).val % 512, Nat.mod_lt _ (by decide)⟩)

/-- A further partial product added. -/
def restC (act : FVec F S512x256 .bf16) (wd : S1x256x4096.Idx → Elt F .f32) (o : S512x4096.Idx → Elt F .f32) : S512x4096.Idx → Elt F .f32 := fun y =>
  k0_pay3 (k0_pay25 act (tileW wd (512 * ((y 1).val / 512)) (by have : (y 1).val < 4096 := (y 1).isLt; omega))) (tileO o (512 * ((y 1).val / 512)) (by have : (y 1).val < 4096 := (y 1).isLt; omega))
    (ix2 (y 0) ⟨(y 1).val % 512, Nat.mod_lt _ (by decide)⟩)

theorem tileO_firstC (act : FVec F S512x256 .bf16) (wd : S1x256x4096.Idx → Elt F .f32) (bd : S1x1x4096.Idx → Elt F .f32) (k : ℕ) (hk : 512 * k + 512 ≤ 4096) :
    tileO (firstC act wd bd) (512 * k) hk = k0_pay2 act (tileW wd (512 * k) hk) (tileB bd (512 * k) hk) := by
  funext x
  have hx : (x 1).val < 512 := (x 1).isLt
  have key : ∀ (o' : ℕ) (ho : o' + 512 ≤ 4096) (q : Fin 512), o' = 512 * k → q = x 1 →
      k0_pay2 act (tileW wd (o') ho) (tileB bd (o') ho) (ix2 (x 0) q) = k0_pay2 act (tileW wd (512 * k) hk) (tileB bd (512 * k) hk) x := by
    rintro _ _ _ rfl rfl
    exact congrArg (k0_pay2 act (tileW wd (512 * k) hk) (tileB bd (512 * k) hk)) (eq_ix2 x).symm
  exact key _ _ _ (show 512 * ((512 * k + (x 1).val) / 512) = 512 * k by omega)
    (Fin.ext (show (512 * k + (x 1).val) % 512 = (x 1).val by omega))

theorem tileO_restC (act : FVec F S512x256 .bf16) (wd : S1x256x4096.Idx → Elt F .f32) (o : S512x4096.Idx → Elt F .f32) (k : ℕ) (hk : 512 * k + 512 ≤ 4096) :
    tileO (restC act wd o) (512 * k) hk = k0_pay3 (k0_pay25 act (tileW wd (512 * k) hk)) (tileO o (512 * k) hk) := by
  funext x
  have hx : (x 1).val < 512 := (x 1).isLt
  have key : ∀ (o' : ℕ) (ho : o' + 512 ≤ 4096) (q : Fin 512), o' = 512 * k → q = x 1 →
      k0_pay3 (k0_pay25 act (tileW wd (o') ho)) (tileO o (o') ho) (ix2 (x 0) q) = k0_pay3 (k0_pay25 act (tileW wd (512 * k) hk)) (tileO o (512 * k) hk) x := by
    rintro _ _ _ rfl rfl
    exact congrArg (k0_pay3 (k0_pay25 act (tileW wd (512 * k) hk)) (tileO o (512 * k) hk)) (eq_ix2 x).symm
  exact key _ _ _ (show 512 * ((512 * k + (x 1).val) / 512) = 512 * k by omega)
    (Fin.ext (show (512 * k + (x 1).val) % 512 = (x 1).val by omega))

end Cert.KernelIdeal.Exp

end
-- ==== Proof.Val.WorkVal.lean ====
/- The work at a point with its values: what each of the three alternatives leaves in the output block. -/
module

public import proofs.«01_k».proof.Proof.Val.Tiles

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (i : grid0.Coords) (arg2 : Memref sig .tc .smem S288 .i32) (harg2 : arg2.IsWhole) (arg3 : Memref sig .tc .smem S1 .i32) (harg3 : arg3.IsWhole)
  (arg6 : Memref sig .tc .vmem S1x4096x256 .bf16) (harg6 : arg6.IsWhole) (arg7 : Memref sig .tc .vmem S1x4096x256 .bf16) (harg7 : arg7.IsWhole)
  (arg8 : Memref sig .tc .vmem S1x1x256 .f32) (harg8 : arg8.IsWhole) (arg9 : Memref sig .tc .vmem S1x1x256 .f32) (harg9 : arg9.IsWhole)
  (arg10 : Memref sig .tc .vmem S1x256x4096 .f32) (harg10 : arg10.IsWhole) (arg11 : Memref sig .tc .vmem S1x1x4096 .f32) (harg11 : arg11.IsWhole)
  (arg12 : Memref sig .tc .vmem S512x4096 .f32) (harg12 : arg12.IsWhole)

/-- The activation from the loads is that from the blocks. -/
theorem act_eq (c : Dev nD) (f6 : arg6.view.ty.Contents (Elt F)) (f7 : arg7.view.ty.Contents (Elt F)) (f8 : arg8.view.ty.Contents (Elt F)) (f9 : arg9.view.ty.Contents (Elt F))
    (y : Buf (Elt F) (mY.view.loc (c : Thread nD τ))) {β : Type} (G : FVec F S512x256 .bf16 → β) :
    G (k0_pay5 (View.readAt (Elt F) mY.view (Rect.unit ![0, 0] S512x4096.size inb_S512x4096_S512x4096_0_0).toLoadRect y)
        (View.readAt (Elt F) arg6.view (Rect.unit ![0, 0, 0] S1x4096x256.size inb_S1x4096x256_S1x4096x256_0_0_0).toLoadRect f6)
        (View.readAt (Elt F) arg8.view (Rect.unit ![0, 0, 0] S1x1x256.size inb_S1x1x256_S1x1x256_0_0_0).toLoadRect f8)
        (View.readAt (Elt F) arg7.view (Rect.unit ![0, 0, 0] S1x4096x256.size inb_S1x4096x256_S1x4096x256_0_0_0).toLoadRect f7)
        (View.readAt (Elt F) arg9.view (Rect.unit ![0, 0, 0] S1x1x256.size inb_S1x1x256_S1x1x256_0_0_0).toLoadRect f9))
      = G (k0_pay5 y (arg6.view.read (Elt F) f6) (arg8.view.read (Elt F) f8) (arg7.view.read (Elt F) f7) (arg9.view.read (Elt F) f9)) := by
  have z3 : ∀ a : Fin 3, (![0, 0, 0] : Fin 3 → ℕ) a = 0 := by decide
  have z2 : ∀ a : Fin 2, (![0, 0] : Fin 2 → ℕ) a = 0 := by decide
  rw [ld_whole arg6 f6 _ z3, ld_whole arg7 f7 _ z3, ld_whole arg8 f8 _ z3, ld_whole arg9 f9 _ z3, ld_whole mY y _ z2]
  rfl

/-- A used block at its first point. -/
theorem work4_val (c : Dev nD) (v8 : Elt F .i32) (h : k0_cond4 i v8 = 1#1) (y : Buf (Elt F) (mY.view.loc (c : Thread nD τ)))
    (d6 : S1x4096x256.Idx → Elt F .bf16) (d7 : S1x4096x256.Idx → Elt F .bf16) (d8 : S1x1x256.Idx → Elt F .f32) (d9 : S1x1x256.Idx → Elt F .f32)
    (d10 : S1x256x4096.Idx → Elt F .f32) (d11 : S1x1x4096.Idx → Elt F .f32) (d12 : S512x4096.Idx → Elt F .f32) (Q : PUnit → sProp 𝕄) :
    iprop(owns (c : Thread nD τ) arg6 fullShare d6
      ∗ owns (c : Thread nD τ) arg7 fullShare d7
      ∗ owns (c : Thread nD τ) arg8 fullShare d8
      ∗ owns (c : Thread nD τ) arg9 fullShare d9
      ∗ owns (c : Thread nD τ) arg10 fullShare d10
      ∗ owns (c : Thread nD τ) arg11 fullShare d11 ∗ owns (c : Thread nD τ) arg12 fullShare d12
      ∗ (mY.view.loc (c : Thread nD τ) ↦{fullShare} y)
      ∗ ((owns (c : Thread nD τ) arg6 fullShare d6
      ∗ owns (c : Thread nD τ) arg7 fullShare d7
      ∗ owns (c : Thread nD τ) arg8 fullShare d8
      ∗ owns (c : Thread nD τ) arg9 fullShare d9
      ∗ owns (c : Thread nD τ) arg10 fullShare d10
      ∗ owns (c : Thread nD τ) arg11 fullShare d11 ∗ owns (c : Thread nD τ) arg12 fullShare (firstC (k0_pay5 y d6 d8 d7 d9) d10 d11)
      ∗ (mY.view.loc (c : Thread nD τ) ↦{fullShare} y)) -∗ Q ⟨⟩))
      ⊢ wp frame (wpE (defs₀ (F := F)) Variants.none (c : Thread nD τ) none) Set.univ (work4 i arg2 harg2 arg3 harg3 arg6 harg6 arg7 harg7 arg8 harg8 arg9 harg9 arg10 harg10 arg11 harg11 arg12 harg12 v8) Q := by
  unfold owns
  iintro ⟨⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, HY, Hk⟩
  unfold work4
  rw [dif_pos h]
  rw [k0_part1_eq_skeleton, k0_part2_eq_skeleton, k0_part3_eq_skeleton]
  unfold k0_part1_skel k0_part2_skel k0_part3_skel
  sl_exec
  sl_step
  iapply Hk
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists _; isplitr; swap; · iexact H12
    ipureintro
    subst e6 e7 e8 e9 e10 e11 e12
    refine tiles8 arg12 f12 _ _ _ _ _ _ _ _ _ _ _ _ _ _ _ _ _ ?_ ?_ ?_ ?_ ?_ ?_ ?_ ?_
    · refine Eq.trans ?_ (tileO_firstC _ _ _ 0 (by decide)).symm
      rw [← ld_tileW arg10 f10 0 (by decide) inb_S1x256x4096_S1x256x512_0_0_0, ← ld_tileB arg11 f11 0 (by decide) inb_S1x1x4096_S1x1x512_0_0_0]
      exact act_eq arg6 arg7 arg8 arg9 c f6 f7 f8 f9 y (fun a => k0_pay2 a _ _)
    · refine Eq.trans ?_ (tileO_firstC _ _ _ 1 (by decide)).symm
      rw [← ld_tileW arg10 f10 512 (by decide) inb_S1x256x4096_S1x256x512_0_0_512, ← ld_tileB arg11 f11 512 (by decide) inb_S1x1x4096_S1x1x512_0_0_512]
      exact act_eq arg6 arg7 arg8 arg9 c f6 f7 f8 f9 y (fun a => k0_pay2 a _ _)
    · refine Eq.trans ?_ (tileO_firstC _ _ _ 2 (by decide)).symm
      rw [← ld_tileW arg10 f10 1024 (by decide) inb_S1x256x4096_S1x256x512_0_0_1024, ← ld_tileB arg11 f11 1024 (by decide) inb_S1x1x4096_S1x1x512_0_0_1024]
      exact act_eq arg6 arg7 arg8 arg9 c f6 f7 f8 f9 y (fun a => k0_pay2 a _ _)
    · refine Eq.trans ?_ (tileO_firstC _ _ _ 3 (by decide)).symm
      rw [← ld_tileW arg10 f10 1536 (by decide) inb_S1x256x4096_S1x256x512_0_0_1536, ← ld_tileB arg11 f11 1536 (by decide) inb_S1x1x4096_S1x1x512_0_0_1536]
      exact act_eq arg6 arg7 arg8 arg9 c f6 f7 f8 f9 y (fun a => k0_pay2 a _ _)
    · refine Eq.trans ?_ (tileO_firstC _ _ _ 4 (by decide)).symm
      rw [← ld_tileW arg10 f10 2048 (by decide) inb_S1x256x4096_S1x256x512_0_0_2048, ← ld_tileB arg11 f11 2048 (by decide) inb_S1x1x4096_S1x1x512_0_0_2048]
      exact act_eq arg6 arg7 arg8 arg9 c f6 f7 f8 f9 y (fun a => k0_pay2 a _ _)
    · refine Eq.trans ?_ (tileO_firstC _ _ _ 5 (by decide)).symm
      rw [← ld_tileW arg10 f10 2560 (by decide) inb_S1x256x4096_S1x256x512_0_0_2560, ← ld_tileB arg11 f11 2560 (by decide) inb_S1x1x4096_S1x1x512_0_0_2560]
      exact act_eq arg6 arg7 arg8 arg9 c f6 f7 f8 f9 y (fun a => k0_pay2 a _ _)
    · refine Eq.trans ?_ (tileO_firstC _ _ _ 6 (by decide)).symm
      rw [← ld_tileW arg10 f10 3072 (by decide) inb_S1x256x4096_S1x256x512_0_0_3072, ← ld_tileB arg11 f11 3072 (by decide) inb_S1x1x4096_S1x1x512_0_0_3072]
      exact act_eq arg6 arg7 arg8 arg9 c f6 f7 f8 f9 y (fun a => k0_pay2 a _ _)
    · refine Eq.trans ?_ (tileO_firstC _ _ _ 7 (by decide)).symm
      rw [← ld_tileW arg10 f10 3584 (by decide) inb_S1x256x4096_S1x256x512_0_0_3584, ← ld_tileB arg11 f11 3584 (by decide) inb_S1x1x4096_S1x1x512_0_0_3584]
      exact act_eq arg6 arg7 arg8 arg9 c f6 f7 f8 f9 y (fun a => k0_pay2 a _ _)

  iexact HY

theorem work4_val_skip (c : Dev nD) (v8 : Elt F .i32) (h : ¬k0_cond4 i v8 = 1#1) (Q : PUnit → sProp 𝕄) :
    Q ⟨⟩ ⊢ wp frame (wpE (defs₀ (F := F)) Variants.none (c : Thread nD τ) none) Set.univ (work4 i arg2 harg2 arg3 harg3 arg6 harg6 arg7 harg7 arg8 harg8 arg9 harg9 arg10 harg10 arg11 harg11 arg12 harg12 v8) Q := by
  unfold work4
  rw [dif_neg h]
  iintro H
  sl_step
  iexact H

/-- A used block at a later point. -/
theorem work5_val (c : Dev nD) (v8 : Elt F .i32) (h : k0_cond5 i v8 = 1#1) (y : Buf (Elt F) (mY.view.loc (c : Thread nD τ)))
    (d6 : S1x4096x256.Idx → Elt F .bf16) (d7 : S1x4096x256.Idx → Elt F .bf16) (d8 : S1x1x256.Idx → Elt F .f32) (d9 : S1x1x256.Idx → Elt F .f32)
    (d10 : S1x256x4096.Idx → Elt F .f32) (d11 : S1x1x4096.Idx → Elt F .f32) (d12 : S512x4096.Idx → Elt F .f32) (Q : PUnit → sProp 𝕄) :
    iprop(owns (c : Thread nD τ) arg6 fullShare d6
      ∗ owns (c : Thread nD τ) arg7 fullShare d7
      ∗ owns (c : Thread nD τ) arg8 fullShare d8
      ∗ owns (c : Thread nD τ) arg9 fullShare d9
      ∗ owns (c : Thread nD τ) arg10 fullShare d10
      ∗ owns (c : Thread nD τ) arg11 fullShare d11 ∗ owns (c : Thread nD τ) arg12 fullShare d12
      ∗ (mY.view.loc (c : Thread nD τ) ↦{fullShare} y)
      ∗ ((owns (c : Thread nD τ) arg6 fullShare d6
      ∗ owns (c : Thread nD τ) arg7 fullShare d7
      ∗ owns (c : Thread nD τ) arg8 fullShare d8
      ∗ owns (c : Thread nD τ) arg9 fullShare d9
      ∗ owns (c : Thread nD τ) arg10 fullShare d10
      ∗ owns (c : Thread nD τ) arg11 fullShare d11 ∗ owns (c : Thread nD τ) arg12 fullShare (restC (k0_pay5 y d6 d8 d7 d9) d10 d12)
      ∗ (mY.view.loc (c : Thread nD τ) ↦{fullShare} y)) -∗ Q ⟨⟩))
      ⊢ wp frame (wpE (defs₀ (F := F)) Variants.none (c : Thread nD τ) none) Set.univ (work5 i arg2 harg2 arg3 harg3 arg6 harg6 arg7 harg7 arg8 harg8 arg9 harg9 arg10 harg10 arg11 harg11 arg12 harg12 v8) Q := by
  unfold owns
  iintro ⟨⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, HY, Hk⟩
  unfold work5
  rw [dif_pos h]
  rw [k0_part4_eq_skeleton, k0_part5_eq_skeleton, k0_part6_eq_skeleton]
  unfold k0_part4_skel k0_part5_skel k0_part6_skel
  sl_exec
  sl_step
  iapply Hk
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists _; isplitr; swap; · iexact H12
    ipureintro
    subst e6 e7 e8 e9 e10 e11 e12
    refine tiles8 arg12 f12 _ _ _ _ _ _ _ _ _ _ _ _ _ _ _ _ _ ?_ ?_ ?_ ?_ ?_ ?_ ?_ ?_
    · refine Eq.trans ?_ (tileO_restC _ _ _ 0 (by decide)).symm
      rw [← ld_tileW arg10 f10 0 (by decide) inb_S1x256x4096_S1x256x512_0_0_0, ← ld_tileO arg12 f12 0 (by decide) inb_S512x4096_S512x512_0_0]
      exact act_eq arg6 arg7 arg8 arg9 c f6 f7 f8 f9 y (fun a => k0_pay3 (k0_pay25 a _) _)
    · refine Eq.trans ?_ (tileO_restC _ _ _ 1 (by decide)).symm
      rw [← ld_tileW arg10 f10 512 (by decide) inb_S1x256x4096_S1x256x512_0_0_512, ← ld_tileO arg12 f12 512 (by decide) inb_S512x4096_S512x512_0_512]
      exact act_eq arg6 arg7 arg8 arg9 c f6 f7 f8 f9 y (fun a => k0_pay3 (k0_pay25 a _) _)
    · refine Eq.trans ?_ (tileO_restC _ _ _ 2 (by decide)).symm
      rw [← ld_tileW arg10 f10 1024 (by decide) inb_S1x256x4096_S1x256x512_0_0_1024, ← ld_tileO arg12 f12 1024 (by decide) inb_S512x4096_S512x512_0_1024]
      exact act_eq arg6 arg7 arg8 arg9 c f6 f7 f8 f9 y (fun a => k0_pay3 (k0_pay25 a _) _)
    · refine Eq.trans ?_ (tileO_restC _ _ _ 3 (by decide)).symm
      rw [← ld_tileW arg10 f10 1536 (by decide) inb_S1x256x4096_S1x256x512_0_0_1536, ← ld_tileO arg12 f12 1536 (by decide) inb_S512x4096_S512x512_0_1536]
      exact act_eq arg6 arg7 arg8 arg9 c f6 f7 f8 f9 y (fun a => k0_pay3 (k0_pay25 a _) _)
    · refine Eq.trans ?_ (tileO_restC _ _ _ 4 (by decide)).symm
      rw [← ld_tileW arg10 f10 2048 (by decide) inb_S1x256x4096_S1x256x512_0_0_2048, ← ld_tileO arg12 f12 2048 (by decide) inb_S512x4096_S512x512_0_2048]
      exact act_eq arg6 arg7 arg8 arg9 c f6 f7 f8 f9 y (fun a => k0_pay3 (k0_pay25 a _) _)
    · refine Eq.trans ?_ (tileO_restC _ _ _ 5 (by decide)).symm
      rw [← ld_tileW arg10 f10 2560 (by decide) inb_S1x256x4096_S1x256x512_0_0_2560, ← ld_tileO arg12 f12 2560 (by decide) inb_S512x4096_S512x512_0_2560]
      exact act_eq arg6 arg7 arg8 arg9 c f6 f7 f8 f9 y (fun a => k0_pay3 (k0_pay25 a _) _)
    · refine Eq.trans ?_ (tileO_restC _ _ _ 6 (by decide)).symm
      rw [← ld_tileW arg10 f10 3072 (by decide) inb_S1x256x4096_S1x256x512_0_0_3072, ← ld_tileO arg12 f12 3072 (by decide) inb_S512x4096_S512x512_0_3072]
      exact act_eq arg6 arg7 arg8 arg9 c f6 f7 f8 f9 y (fun a => k0_pay3 (k0_pay25 a _) _)
    · refine Eq.trans ?_ (tileO_restC _ _ _ 7 (by decide)).symm
      rw [← ld_tileW arg10 f10 3584 (by decide) inb_S1x256x4096_S1x256x512_0_0_3584, ← ld_tileO arg12 f12 3584 (by decide) inb_S512x4096_S512x512_0_3584]
      exact act_eq arg6 arg7 arg8 arg9 c f6 f7 f8 f9 y (fun a => k0_pay3 (k0_pay25 a _) _)

  iexact HY

theorem work5_val_skip (c : Dev nD) (v8 : Elt F .i32) (h : ¬k0_cond5 i v8 = 1#1) (Q : PUnit → sProp 𝕄) :
    Q ⟨⟩ ⊢ wp frame (wpE (defs₀ (F := F)) Variants.none (c : Thread nD τ) none) Set.univ (work5 i arg2 harg2 arg3 harg3 arg6 harg6 arg7 harg7 arg8 harg8 arg9 harg9 arg10 harg10 arg11 harg11 arg12 harg12 v8) Q := by
  unfold work5
  rw [dif_neg h]
  iintro H
  sl_step
  iexact H

/-- An unused block at its first point. -/
theorem work6_val (c : Dev nD) (v8 : Elt F .i32) (h : k0_cond6 i v8 = 1#1) (y : Buf (Elt F) (mY.view.loc (c : Thread nD τ)))
    (d6 : S1x4096x256.Idx → Elt F .bf16) (d7 : S1x4096x256.Idx → Elt F .bf16) (d8 : S1x1x256.Idx → Elt F .f32) (d9 : S1x1x256.Idx → Elt F .f32)
    (d10 : S1x256x4096.Idx → Elt F .f32) (d11 : S1x1x4096.Idx → Elt F .f32) (d12 : S512x4096.Idx → Elt F .f32) (Q : PUnit → sProp 𝕄) :
    iprop(owns (c : Thread nD τ) arg6 fullShare d6
      ∗ owns (c : Thread nD τ) arg7 fullShare d7
      ∗ owns (c : Thread nD τ) arg8 fullShare d8
      ∗ owns (c : Thread nD τ) arg9 fullShare d9
      ∗ owns (c : Thread nD τ) arg10 fullShare d10
      ∗ owns (c : Thread nD τ) arg11 fullShare d11 ∗ owns (c : Thread nD τ) arg12 fullShare d12
      ∗ (mY.view.loc (c : Thread nD τ) ↦{fullShare} y)
      ∗ ((owns (c : Thread nD τ) arg6 fullShare d6
      ∗ owns (c : Thread nD τ) arg7 fullShare d7
      ∗ owns (c : Thread nD τ) arg8 fullShare d8
      ∗ owns (c : Thread nD τ) arg9 fullShare d9
      ∗ owns (c : Thread nD τ) arg10 fullShare d10
      ∗ owns (c : Thread nD τ) arg11 fullShare d11 ∗ owns (c : Thread nD τ) arg12 fullShare (k0_pay4 (F := F))
      ∗ (mY.view.loc (c : Thread nD τ) ↦{fullShare} y)) -∗ Q ⟨⟩))
      ⊢ wp frame (wpE (defs₀ (F := F)) Variants.none (c : Thread nD τ) none) Set.univ (work6 i arg12 v8) Q := by
  unfold owns
  iintro ⟨⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, HY, Hk⟩
  unfold work6
  rw [dif_pos h]
  sl_exec
  sl_step
  iapply Hk
  isplitl [H6]
  · iexists f6; isplitr; swap; · iexact H6
    ipureintro; exact e6
  isplitl [H7]
  · iexists f7; isplitr; swap; · iexact H7
    ipureintro; exact e7
  isplitl [H8]
  · iexists f8; isplitr; swap; · iexact H8
    ipureintro; exact e8
  isplitl [H9]
  · iexists f9; isplitr; swap; · iexact H9
    ipureintro; exact e9
  isplitl [H10]
  · iexists f10; isplitr; swap; · iexact H10
    ipureintro; exact e10
  isplitl [H11]
  · iexists f11; isplitr; swap; · iexact H11
    ipureintro; exact e11
  isplitl [H12]
  · iexists _; isplitr; swap; · iexact H12
    ipureintro
    funext z
    exact View.read_writes_cons_unit_of_mem arg12.view f12 _ _ _ z z rfl fun a => by
      match a with
      | ⟨0, _⟩ => exact (Nat.zero_add _).symm
      | ⟨1, _⟩ => exact (Nat.zero_add _).symm
  iexact HY

theorem work6_val_skip (c : Dev nD) (v8 : Elt F .i32) (h : ¬k0_cond6 i v8 = 1#1) (Q : PUnit → sProp 𝕄) :
    Q ⟨⟩ ⊢ wp frame (wpE (defs₀ (F := F)) Variants.none (c : Thread nD τ) none) Set.univ (work6 i arg12 v8) Q := by
  unfold work6
  rw [dif_neg h]
  iintro H
  sl_step
  iexact H

end Cert.KernelIdeal.Exp

end
-- ==== Proof.Val.Step.lean ====
/- The body at every point with its values, and the launch that follows the output block through the points. -/
module

public import proofs.«01_k».proof.Proof.Idl.Frame
public import proofs.«01_k».proof.Proof.Val.WorkVal
public import proofs.«01_k».proof.Proof.Idl.Ok
public import Idealize.ShloMosaic.Lib.Pipeline.Frame
public import Idealize.ShloMosaic.Lib.Pipeline.FrameBody

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The work at a point -/

/-- What the work at a point leaves in an output block that held `o`. -/
def stepC (i : grid0.Coords) (v8 : BitVec 32) (act : FVec F S512x256 .bf16) (wd : S1x256x4096.Idx → Elt F .f32) (bd : S1x1x4096.Idx → Elt F .f32)
    (o : S512x4096.Idx → Elt F .f32) : S512x4096.Idx → Elt F .f32 :=
  if k0_cond6 i v8 = 1#1 then (k0_pay4 (F := F)) else if k0_cond5 i v8 = 1#1 then restC act wd (if k0_cond4 i v8 = 1#1 then firstC act wd bd else o)
    else if k0_cond4 i v8 = 1#1 then firstC act wd bd else o

section Work

variable (c : Dev nD)
  (i : grid0.Coords) (arg6 : Memref sig .tc .vmem S1x4096x256 .bf16) (harg6 : arg6.IsWhole) (arg7 : Memref sig .tc .vmem S1x4096x256 .bf16) (harg7 : arg7.IsWhole)
  (arg8 : Memref sig .tc .vmem S1x1x256 .f32) (harg8 : arg8.IsWhole) (arg9 : Memref sig .tc .vmem S1x1x256 .f32) (harg9 : arg9.IsWhole)
  (arg10 : Memref sig .tc .vmem S1x256x4096 .f32) (harg10 : arg10.IsWhole) (arg11 : Memref sig .tc .vmem S1x1x4096 .f32) (harg11 : arg11.IsWhole)
  (arg12 : Memref sig .tc .vmem S512x4096 .f32) (harg12 : arg12.IsWhole)

theorem work4_step (v8 : Elt F .i32) (y : Buf (Elt F) (mY.view.loc (c : Thread nD τ)))
    (d6 : S1x4096x256.Idx → Elt F .bf16) (d7 : S1x4096x256.Idx → Elt F .bf16) (d8 : S1x1x256.Idx → Elt F .f32) (d9 : S1x1x256.Idx → Elt F .f32)
    (d10 : S1x256x4096.Idx → Elt F .f32) (d11 : S1x1x4096.Idx → Elt F .f32) (d12 : S512x4096.Idx → Elt F .f32)
    (Q : PUnit → sProp 𝕄) :
    iprop(owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (mY.view.loc (c : Thread nD τ) ↦{fullShare} y)
      ∗ ((owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare (if k0_cond4 i v8 = 1#1 then (firstC (k0_pay5 y d6 d8 d7 d9) d10 d11) else d12) ∗ (mY.view.loc (c : Thread nD τ) ↦{fullShare} y)) -∗ Q ⟨⟩))
      ⊢ wp frame (wpE (defs₀ (F := F)) Variants.none (c : Thread nD τ) none) Set.univ (work4 i (Memref.whole main_arg0) (Memref.isWhole_whole _) (Memref.whole main_arg1) (Memref.isWhole_whole _) arg6 harg6 arg7 harg7 arg8 harg8 arg9 harg9 arg10 harg10 arg11 harg11 arg12 harg12 v8) Q := by
  by_cases hc : k0_cond4 i v8 = 1#1
  · rw [if_pos hc]
    exact work4_val i _ _ _ _ arg6 harg6 arg7 harg7 arg8 harg8 arg9 harg9 arg10 harg10 arg11 harg11 arg12 harg12 c v8 hc y d6 d7 d8 d9 d10 d11 d12 Q
  · rw [if_neg hc]
    iintro ⟨H6, H7, H8, H9, H10, H11, H12, HY, Hk⟩
    iapply (work4_val_skip (c := c) (h := hc) (v8 := v8))
    iapply Hk
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HY

theorem work5_step (v8 : Elt F .i32) (y : Buf (Elt F) (mY.view.loc (c : Thread nD τ)))
    (d6 : S1x4096x256.Idx → Elt F .bf16) (d7 : S1x4096x256.Idx → Elt F .bf16) (d8 : S1x1x256.Idx → Elt F .f32) (d9 : S1x1x256.Idx → Elt F .f32)
    (d10 : S1x256x4096.Idx → Elt F .f32) (d11 : S1x1x4096.Idx → Elt F .f32) (d12 : S512x4096.Idx → Elt F .f32)
    (Q : PUnit → sProp 𝕄) :
    iprop(owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (mY.view.loc (c : Thread nD τ) ↦{fullShare} y)
      ∗ ((owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare (if k0_cond5 i v8 = 1#1 then (restC (k0_pay5 y d6 d8 d7 d9) d10 d12) else d12) ∗ (mY.view.loc (c : Thread nD τ) ↦{fullShare} y)) -∗ Q ⟨⟩))
      ⊢ wp frame (wpE (defs₀ (F := F)) Variants.none (c : Thread nD τ) none) Set.univ (work5 i (Memref.whole main_arg0) (Memref.isWhole_whole _) (Memref.whole main_arg1) (Memref.isWhole_whole _) arg6 harg6 arg7 harg7 arg8 harg8 arg9 harg9 arg10 harg10 arg11 harg11 arg12 harg12 v8) Q := by
  by_cases hc : k0_cond5 i v8 = 1#1
  · rw [if_pos hc]
    exact work5_val i _ _ _ _ arg6 harg6 arg7 harg7 arg8 harg8 arg9 harg9 arg10 harg10 arg11 harg11 arg12 harg12 c v8 hc y d6 d7 d8 d9 d10 d11 d12 Q
  · rw [if_neg hc]
    iintro ⟨H6, H7, H8, H9, H10, H11, H12, HY, Hk⟩
    iapply (work5_val_skip (c := c) (h := hc) (v8 := v8))
    iapply Hk
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HY

theorem work6_step (v8 : Elt F .i32) (y : Buf (Elt F) (mY.view.loc (c : Thread nD τ)))
    (d6 : S1x4096x256.Idx → Elt F .bf16) (d7 : S1x4096x256.Idx → Elt F .bf16) (d8 : S1x1x256.Idx → Elt F .f32) (d9 : S1x1x256.Idx → Elt F .f32)
    (d10 : S1x256x4096.Idx → Elt F .f32) (d11 : S1x1x4096.Idx → Elt F .f32) (d12 : S512x4096.Idx → Elt F .f32)
    (Q : PUnit → sProp 𝕄) :
    iprop(owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (mY.view.loc (c : Thread nD τ) ↦{fullShare} y)
      ∗ ((owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare (if k0_cond6 i v8 = 1#1 then (k0_pay4 (F := F)) else d12) ∗ (mY.view.loc (c : Thread nD τ) ↦{fullShare} y)) -∗ Q ⟨⟩))
      ⊢ wp frame (wpE (defs₀ (F := F)) Variants.none (c : Thread nD τ) none) Set.univ (work6 i arg12 v8) Q := by
  by_cases hc : k0_cond6 i v8 = 1#1
  · rw [if_pos hc]
    exact work6_val i arg6 arg7 arg8 arg9 arg10 arg11 arg12 c v8 hc y d6 d7 d8 d9 d10 d11 d12 Q
  · rw [if_neg hc]
    iintro ⟨H6, H7, H8, H9, H10, H11, H12, HY, Hk⟩
    iapply (work6_val_skip (c := c) (h := hc) (v8 := v8))
    iapply Hk
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HY

theorem work_val (y : Buf (Elt F) (mY.view.loc (c : Thread nD τ))) (q : PosShare TreeShare) (tn : S1.Idx → BitVec 32)
    (d6 : S1x4096x256.Idx → Elt F .bf16) (d7 : S1x4096x256.Idx → Elt F .bf16) (d8 : S1x1x256.Idx → Elt F .f32) (d9 : S1x1x256.Idx → Elt F .f32)
    (d10 : S1x256x4096.Idx → Elt F .f32) (d11 : S1x1x4096.Idx → Elt F .f32) (d12 : S512x4096.Idx → Elt F .f32)
    (Q : PUnit → sProp 𝕄) :
    iprop(((Memref.whole main_arg1).view.loc (c : Thread nD τ) ↦{q} tn) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (mY.view.loc (c : Thread nD τ) ↦{fullShare} y)
      ∗ ((((Memref.whole main_arg1).view.loc (c : Thread nD τ) ↦{q} tn) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare (stepC i (tn (ix1 0)) (k0_pay5 y d6 d8 d7 d9) d10 d11 d12) ∗ (mY.view.loc (c : Thread nD τ) ↦{fullShare} y)) -∗ Q ⟨⟩))
      ⊢ wp frame (wpE (defs₀ (F := F)) Variants.none (c : Thread nD τ) none) Set.univ (workP i (Memref.whole main_arg0) (Memref.isWhole_whole _) (Memref.whole main_arg1) (Memref.isWhole_whole _) arg6 harg6 arg7 harg7 arg8 harg8 arg9 harg9 arg10 harg10 arg11 harg11 arg12 harg12) Q := by
  rw [workP_eq]
  unfold stepC
  iintro ⟨HN, H6, H7, H8, H9, H10, H11, H12, HY, Hk⟩
  rw [wp_bind]
  iapply (word_run c q tn)
  isplitl [HN]; · iexact HN
  iintro HN
  rw [wp_bind]
  iapply (work4_step c i arg6 harg6 arg7 harg7 arg8 harg8 arg9 harg9 arg10 harg10 arg11 harg11 arg12 harg12 _ y d6 d7 d8 d9 d10 d11 d12)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HY]; · iexact HY
  iintro ⟨H6, H7, H8, H9, H10, H11, H12, HY⟩
  rw [wp_bind]
  iapply (work5_step c i arg6 harg6 arg7 harg7 arg8 harg8 arg9 harg9 arg10 harg10 arg11 harg11 arg12 harg12 _ y d6 d7 d8 d9 d10 d11 _)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HY]; · iexact HY
  iintro ⟨H6, H7, H8, H9, H10, H11, H12, HY⟩
  iapply (work6_step c i arg6 arg7 arg8 arg9 arg10 arg11 arg12 _ y d6 d7 d8 d9 d10 d11 _)
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HY]; · iexact HY
  iintro HA
  iapply Hk
  isplitl [HN]; · iexact HN
  iexact HA

end Work

end Cert.KernelIdeal.Exp

end
-- ==== Proof.Val.Body.lean ====
/- The body at every point with its values. -/
module

public import proofs.«01_k».proof.Proof.Idl.Frame
public import proofs.«01_k».proof.Proof.Val.Step
public import proofs.«01_k».proof.Proof.Idl.Ok
public import Idealize.ShloMosaic.Lib.Pipeline.Frame
public import Idealize.ShloMosaic.Lib.Pipeline.FrameBody

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Point

variable (c : Dev nD)
  (i : grid0.Coords) (arg6 : Memref sig .tc .vmem S1x4096x256 .bf16) (harg6 : arg6.IsWhole) (arg7 : Memref sig .tc .vmem S1x4096x256 .bf16) (harg7 : arg7.IsWhole)
  (arg8 : Memref sig .tc .vmem S1x1x256 .f32) (harg8 : arg8.IsWhole) (arg9 : Memref sig .tc .vmem S1x1x256 .f32) (harg9 : arg9.IsWhole)
  (arg10 : Memref sig .tc .vmem S1x256x4096 .f32) (harg10 : arg10.IsWhole) (arg11 : Memref sig .tc .vmem S1x1x4096 .f32) (harg11 : arg11.IsWhole)
  (arg12 : Memref sig .tc .vmem S512x4096 .f32) (harg12 : arg12.IsWhole)
  (T : S288x4x128.Idx → BitVec 32) (hT : ∀ j, (T j).toNat < 32768) (h : S32768x4096.Idx → Elt F .f32)

include hT in
theorem point_val (n : ℕ) (hn : n < 4608) (e0 : (i 0).val = n / 16) (e1 : (i 1).val = n % 16)
    (q : PosShare TreeShare) (tn : S1.Idx → BitVec 32)
    (d6 : S1x4096x256.Idx → Elt F .bf16) (d7 : S1x4096x256.Idx → Elt F .bf16) (d8 : S1x1x256.Idx → Elt F .f32) (d9 : S1x1x256.Idx → Elt F .f32)
    (d10 : S1x256x4096.Idx → Elt F .f32) (d11 : S1x1x4096.Idx → Elt F .f32) (d12 : S512x4096.Idx → Elt F .f32)
    (Q : PUnit → sProp 𝕄) :
    iprop((mT.view.loc (c : Thread nD τ) ↦{fullShare} T) ∗ semVal ((c : Thread nD τ), SemLoc.dma cc0_scratch3.sem) 0 ∗ (∃ W, owes (c : Thread nD τ) 0 W) ∗ stage c T h n hn.le ∗ ((Memref.whole main_arg1).view.loc (c : Thread nD τ) ↦{q} tn) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12
      ∗ (((mT.view.loc (c : Thread nD τ) ↦{fullShare} T) ∗ semVal ((c : Thread nD τ), SemLoc.dma cc0_scratch3.sem) 0 ∗ (∃ W, owes (c : Thread nD τ) 0 W) ∗ stage c T h (n + 1) hn ∗ ((Memref.whole main_arg1).view.loc (c : Thread nD τ) ↦{q} tn) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare (stepC i (tn (ix1 0)) (k0_pay5 (k0_pay1 (gath T h ⟨n / 16, by omega⟩)) d6 d8 d7 d9) d10 d11 d12)) -∗ Q ⟨⟩))
      ⊢ wp frame (wpE (defs₀ (F := F)) Variants.none (c : Thread nD τ) none) Set.univ (cc0_moe_experts (F := F) i (Memref.whole main_arg0) (Memref.isWhole_whole _) (Memref.whole main_arg1) (Memref.isWhole_whole _) mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4) Q := by
  rw [body_eq, wp_bind]
  iintro ⟨HT, HS, HO, HG, HN, H6, H7, H8, H9, H10, H11, H12, Hk⟩
  simp only [wp_bind]
  iapply (gather_run c i arg6 harg6 arg7 harg7 arg8 harg8 arg9 harg9 arg10 harg10 arg11 harg11 arg12 harg12 T hT h n hn e0 e1)
  isplitl [HT]; · iexact HT
  isplitl [HS]; · iexact HS
  isplitl [HO]; · iexact HO
  isplitl [HG]; · iexact HG
  rw [stage_of c T h (n + 1) hn ⟨n / 16, by omega⟩ (by omega) (by rw [Nat.add_sub_cancel])]
  iintro ⟨HT, HS, HO, HY, HR⟩
  iapply (work_val c i arg6 harg6 arg7 harg7 arg8 harg8 arg9 harg9 arg10 harg10 arg11 harg11 arg12 harg12 _ q tn d6 d7 d8 d9 d10 d11 d12)
  isplitl [HN]; · iexact HN
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HY]; · iexact HY
  iintro ⟨HN, H6, H7, H8, H9, H10, H11, H12, HY⟩
  iapply Hk
  isplitl [HT]; · iexact HT
  isplitl [HS]; · iexact HS
  isplitl [HO]; · iexact HO
  isplitl [HY HR]
  · isplitl [HY]; · iexact HY
    iexact HR
  isplitl [HN]; · iexact HN
  isplitl [H6]; · iexact H6
  isplitl [H7]; · iexact H7
  isplitl [H8]; · iexact H8
  isplitl [H9]; · iexact H9
  isplitl [H10]; · iexact H10
  isplitl [H11]; · iexact H11
  iexact H12

end Point

variable (m : (ℓ : Loc nD τ sig) → Buf (Elt F) ℓ) (ρ : Dev nD → PrngReg)

/-- The body between what stands before a point and what stands after it. -/
theorem body_val (c : Dev nD)
  (i : grid0.Coords) (arg6 : Memref sig .tc .vmem S1x4096x256 .bf16) (harg6 : arg6.IsWhole) (arg7 : Memref sig .tc .vmem S1x4096x256 .bf16) (harg7 : arg7.IsWhole)
  (arg8 : Memref sig .tc .vmem S1x1x256 .f32) (harg8 : arg8.IsWhole) (arg9 : Memref sig .tc .vmem S1x1x256 .f32) (harg9 : arg9.IsWhole)
  (arg10 : Memref sig .tc .vmem S1x256x4096 .f32) (harg10 : arg10.IsWhole) (arg11 : Memref sig .tc .vmem S1x1x4096 .f32) (harg11 : arg11.IsWhole)
  (arg12 : Memref sig .tc .vmem S512x4096 .f32) (harg12 : arg12.IsWhole)
    (hT : ∀ j, (Th m c j).toNat < 32768) (n : ℕ) (hn : n < 4608) (e0 : (i 0).val = n / 16) (e1 : (i 1).val = n % 16) (P : Waits sig Unit → Prop) (hP : ∀ W, P W)
    (d6 : S1x4096x256.Idx → Elt F .bf16) (d7 : S1x4096x256.Idx → Elt F .bf16) (d8 : S1x1x256.Idx → Elt F .f32) (d9 : S1x1x256.Idx → Elt F .f32)
    (d10 : S1x256x4096.Idx → Elt F .f32) (d11 : S1x1x4096.Idx → Elt F .f32) (d12 : S512x4096.Idx → Elt F .f32)
    : iprop(inv m c n hn.le ∗ (∃ W, iprop(⌜P W⌝ ∗ owes (c : Thread nD τ) 0 W)) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12)
      ⊢ wp frame (wpE (defs₀ (F := F)) Variants.none (c : Thread nD τ) none) Set.univ (cc0_moe_experts (F := F) i (Memref.whole main_arg0) (Memref.isWhole_whole _) (Memref.whole main_arg1) (Memref.isWhole_whole _) mT (Memref.isWhole_whole _) mH (Memref.isWhole_whole _) arg6 harg6 arg7 harg7 arg8 harg8 arg9 harg9 arg10 harg10 arg11 harg11 arg12 harg12 mX (Memref.isWhole_whole _) mY (Memref.isWhole_whole _) mI (Memref.isWhole_whole _) cc0_scratch3 cc0_scratch4)
        fun _ => iprop(inv m c (n + 1) hn ∗ (∃ W, iprop(⌜P W⌝ ∗ owes (c : Thread nD τ) 0 W)) ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare (stepC i ((show S1.Idx → BitVec 32 from pfh m 1) (ix1 0)) (k0_pay5 (k0_pay1 (gath (Th m c) (hh m c) ⟨n / 16, by omega⟩)) d6 d8 d7 d9) d10 d11 d12)) := by
  unfold inv
  rw [tables_eq]
  iintro ⟨⟨Hg, HT, HS, ⟨HA0, HA1⟩, Hst⟩, ⟨%W, %hW, HO⟩, H6, H7, H8, H9, H10, H11, H12⟩
  iapply (point_val c i arg6 harg6 arg7 harg7 arg8 harg8 arg9 harg9 arg10 harg10 arg11 harg11 arg12 harg12 (Th m c) hT (hh m c) n hn e0 e1 fullShare.right (pfh m 1) d6 d7 d8 d9 d10 d11 d12 _)
  isplitl [HT]; · iexact HT
  isplitl [HS]; · iexact HS
  isplitl [HO]; · iexists W; iexact HO
  isplitl [Hst]; · iexact Hst
  isplitl [HA1]; · iexact HA1
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨HT, HS, ⟨%W', HO⟩, Hst, HA1, H6, H7, H8, H9, H10, H11, H12⟩
  isplitl [Hg HT HS HA0 HA1 Hst]
  · isplitl [Hg]; · iexact Hg
    isplitl [HT]; · iexact HT
    isplitl [HS]; · iexact HS
    isplitl [HA0 HA1]
    · isplitl [HA0]; · iexact HA0
      iexact HA1
    iexact Hst
  isplitl [HO]
  · iexists W'; isplitr; · ipureintro; exact hP W'
    iexact HO
  isplitl [H6]; · iexact H6
  isplitl [H7]; · iexact H7
  isplitl [H8]; · iexact H8
  isplitl [H9]; · iexact H9
  isplitl [H10]; · iexact H10
  isplitl [H11]; · iexact H11
  iexact H12

end Cert.KernelIdeal.Exp

end
-- ==== Proof.Val.Outs.lean ====
/- The launch that follows the output block through the points. -/
module

public import proofs.«01_k».proof.Proof.Idl.Frame
public import proofs.«01_k».proof.Proof.Val.Body
public import proofs.«01_k».proof.Proof.Idl.Ok
public import Idealize.ShloMosaic.Lib.Pipeline.Frame
public import Idealize.ShloMosaic.Lib.Pipeline.FrameBody

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hok : ok0 (pfh m))

/-- The number of used blocks. -/
abbrev usedW : BitVec 32 := (show S1.Idx → BitVec 32 from pfh m 1) (ix1 0)

/-- Window 0's block at a point. -/
def blk0 (c : Dev nD) (t : Fin (cfg0 (adm m hok 0)).N) : S1x4096x256.Idx → Elt F .bf16 := (((cfg0 (adm m hok 0)).win 0).blk t).view.read (Elt F) (Vh m c (Pipeline.arrRef spec0 0))
/-- Window 1's block at a point. -/
def blk1 (c : Dev nD) (t : Fin (cfg0 (adm m hok 0)).N) : S1x4096x256.Idx → Elt F .bf16 := (((cfg0 (adm m hok 0)).win 1).blk t).view.read (Elt F) (Vh m c (Pipeline.arrRef spec0 1))
/-- Window 2's block at a point. -/
def blk2 (c : Dev nD) (t : Fin (cfg0 (adm m hok 0)).N) : S1x1x256.Idx → Elt F .f32 := (((cfg0 (adm m hok 0)).win 2).blk t).view.read (Elt F) (Vh m c (Pipeline.arrRef spec0 2))
/-- Window 3's block at a point. -/
def blk3 (c : Dev nD) (t : Fin (cfg0 (adm m hok 0)).N) : S1x1x256.Idx → Elt F .f32 := (((cfg0 (adm m hok 0)).win 3).blk t).view.read (Elt F) (Vh m c (Pipeline.arrRef spec0 3))
/-- Window 4's block at a point. -/
def blk4 (c : Dev nD) (t : Fin (cfg0 (adm m hok 0)).N) : S1x256x4096.Idx → Elt F .f32 := (((cfg0 (adm m hok 0)).win 4).blk t).view.read (Elt F) (Vh m c (Pipeline.arrRef spec0 4))
/-- Window 5's block at a point. -/
def blk5 (c : Dev nD) (t : Fin (cfg0 (adm m hok 0)).N) : S1x1x4096.Idx → Elt F .f32 := (((cfg0 (adm m hok 0)).win 5).blk t).view.read (Elt F) (Vh m c (Pipeline.arrRef spec0 5))

/-- The activation at a point. -/
def actAt (c : Dev nD) (t : Fin (cfg0 (adm m hok 0)).N) : FVec F S512x256 .bf16 :=
  k0_pay5 (k0_pay1 (gath (Th m c) (hh m c) ⟨t.val / 16, by have := lt_N m hok t; omega⟩)) (blk0 m hok c t) (blk2 m hok c t) (blk1 m hok c t) (blk3 m hok c t)

/-- The output block after a point, from before it. -/
def stepAt (c : Dev nD) (t : Fin (cfg0 (adm m hok 0)).N) (o : S512x4096.Idx → Elt F .f32) : S512x4096.Idx → Elt F .f32 :=
  stepC (grid0.coords t) (usedW m) (actAt m hok c t) (blk4 m hok c t) (blk5 m hok c t) o

/-- The output block after point `n`. -/
def outs (c : Dev nD) : (n : ℕ) → n < (cfg0 (adm m hok 0)).N → S512x4096.Idx → Elt F .f32
  | 0, h => stepAt m hok c ⟨0, h⟩ (k0_pay4 (F := F))
  | n + 1, h => stepAt m hok c ⟨n + 1, h⟩ (outs c n (Nat.lt_of_succ_lt h))

def afterV (c : Dev nD) : (w : Fin 7) → (t : Fin (cfg0 (adm m hok 0)).N) → ((cfg0 (adm m hok 0)).win w).block.Idx → Elt F ((cfg0 (adm m hok 0)).win w).elt
  | 0 => fun t => blk0 m hok c t
  | 1 => fun t => blk1 m hok c t
  | 2 => fun t => blk2 m hok c t
  | 3 => fun t => blk3 m hok c t
  | 4 => fun t => blk4 m hok c t
  | 5 => fun t => blk5 m hok c t
  | 6 => fun t => outs m hok c t.val t.isLt
  | ⟨_ + 7, h⟩ => absurd h (Nat.not_lt.2 (Nat.le_add_left _ _))

def datsV (c : Dev nD) : Dat τ (Elt F) Unit ℕ (Pipeline.UD sig nD τ) ℕ (cfg0 (adm m hok 0)) c where
  A w := Vh m c (Pipeline.arrRef spec0 w)
  after w t := afterV m hok c w t
  Φ t := inv m c t.val (le_N m hok t)
  q w := Pipeline.shareOf spec0 w
  owed _ := 0

/-! ## What the windows hold before a point -/

theorem before0 (c : Dev nD) (t : Fin (cfg0 (adm m hok 0)).N) (d) : (datsV m hok c).before 0 t d = blk0 m hok c t := by
  refine ((datsV m hok c).before_in_eq_fetched 0 rfl (fun _ => rfl) (fun _ _ _ => rfl) (fun _ => rfl) t d).trans ?_
  unfold Dat.fetched Dat.blockOf
  dsimp only [datsV]
  rfl
theorem before1 (c : Dev nD) (t : Fin (cfg0 (adm m hok 0)).N) (d) : (datsV m hok c).before 1 t d = blk1 m hok c t := by
  refine ((datsV m hok c).before_in_eq_fetched 1 rfl (fun _ => rfl) (fun _ _ _ => rfl) (fun _ => rfl) t d).trans ?_
  unfold Dat.fetched Dat.blockOf
  dsimp only [datsV]
  rfl
theorem before2 (c : Dev nD) (t : Fin (cfg0 (adm m hok 0)).N) (d) : (datsV m hok c).before 2 t d = blk2 m hok c t := by
  refine ((datsV m hok c).before_in_eq_fetched 2 rfl (fun _ => rfl) (fun _ _ _ => rfl) (fun _ => rfl) t d).trans ?_
  unfold Dat.fetched Dat.blockOf
  dsimp only [datsV]
  rfl
theorem before3 (c : Dev nD) (t : Fin (cfg0 (adm m hok 0)).N) (d) : (datsV m hok c).before 3 t d = blk3 m hok c t := by
  refine ((datsV m hok c).before_in_eq_fetched 3 rfl (fun _ => rfl) (fun _ _ _ => rfl) (fun _ => rfl) t d).trans ?_
  unfold Dat.fetched Dat.blockOf
  dsimp only [datsV]
  rfl
theorem before4 (c : Dev nD) (t : Fin (cfg0 (adm m hok 0)).N) (d) : (datsV m hok c).before 4 t d = blk4 m hok c t := by
  refine ((datsV m hok c).before_in_eq_fetched 4 rfl (fun _ => rfl) (fun _ _ _ => rfl) (fun _ => rfl) t d).trans ?_
  unfold Dat.fetched Dat.blockOf
  dsimp only [datsV]
  rfl
theorem before5 (c : Dev nD) (t : Fin (cfg0 (adm m hok 0)).N) (d) : (datsV m hok c).before 5 t d = blk5 m hok c t := by
  refine ((datsV m hok c).before_in_eq_fetched 5 rfl (fun _ => rfl) (fun _ _ _ => rfl) (fun _ => rfl) t d).trans ?_
  unfold Dat.fetched Dat.blockOf
  dsimp only [datsV]
  rfl

/-! ## The three conditions on the words -/

theorem andi_ext (a b : BitVec 1) : Scalar.cmpi .ne (Scalar.extui (Scalar.andi a b) : BitVec 32) 0#32 = 1#1 ↔ a = 1#1 ∧ b = 1#1 := by
  revert a b; decide

theorem xor_one (a : BitVec 1) : Scalar.xori a 1#1 = 1#1 ↔ ¬a = 1#1 := by
  revert a; decide

/-- A block is used. -/
abbrev usedB (i : grid0.Coords) (v8 : BitVec 32) : Prop := Scalar.cmpi .slt (BitVec.ofNat 32 (i 0).val) v8 = 1#1

theorem eq0 (i : grid0.Coords) : Scalar.cmpi .eq (BitVec.ofNat 32 (i 1).val) 0#32 = 1#1 ↔ (i 1).val = 0 := by
  have h1 : (i 1).val < 16 := (i 1).isLt
  word_cmp
theorem ne0 (i : grid0.Coords) : Scalar.cmpi .ne (BitVec.ofNat 32 (i 1).val) 0#32 = 1#1 ↔ ¬(i 1).val = 0 := by
  have h1 : (i 1).val < 16 := (i 1).isLt
  word_cmp

theorem cond4_iff (i : grid0.Coords) (v8 : BitVec 32) : k0_cond4 i v8 = 1#1 ↔ usedB i v8 ∧ (i 1).val = 0 := by
  rw [← eq0]; exact andi_ext _ _
theorem cond5_iff (i : grid0.Coords) (v8 : BitVec 32) : k0_cond5 i v8 = 1#1 ↔ usedB i v8 ∧ ¬(i 1).val = 0 := by
  rw [← ne0]; exact andi_ext _ _
theorem cond6_iff (i : grid0.Coords) (v8 : BitVec 32) : k0_cond6 i v8 = 1#1 ↔ ¬usedB i v8 ∧ (i 1).val = 0 := by
  rw [← eq0, ← xor_one]; exact andi_ext _ _

/-- At a used block's first point. -/
theorem stepC_first (i : grid0.Coords) (v8 : BitVec 32) (hu : usedB i v8) (h0 : (i 1).val = 0) (act : FVec F S512x256 .bf16) (wd bd o) : stepC i v8 act wd bd o = firstC act wd bd := by
  unfold stepC
  rw [if_neg (fun h => ((cond6_iff _ _).mp h).1 hu), if_neg (fun h => ((cond5_iff _ _).mp h).2 h0), if_pos ((cond4_iff _ _).mpr ⟨hu, h0⟩)]
theorem stepC_rest (i : grid0.Coords) (v8 : BitVec 32) (hu : usedB i v8) (h0 : ¬(i 1).val = 0) (act : FVec F S512x256 .bf16) (wd bd o) : stepC i v8 act wd bd o = restC act wd o := by
  unfold stepC
  rw [if_neg (fun h => ((cond6_iff _ _).mp h).1 hu), if_pos ((cond5_iff _ _).mpr ⟨hu, h0⟩), if_neg (fun h => h0 ((cond4_iff _ _).mp h).2)]
theorem stepC_zero (i : grid0.Coords) (v8 : BitVec 32) (hu : ¬usedB i v8) (h0 : (i 1).val = 0) (act : FVec F S512x256 .bf16) (wd bd o) : stepC i v8 act wd bd o = k0_pay4 (F := F) := by
  unfold stepC
  rw [if_pos ((cond6_iff _ _).mpr ⟨hu, h0⟩)]
theorem stepC_idle (i : grid0.Coords) (v8 : BitVec 32) (hu : ¬usedB i v8) (h0 : ¬(i 1).val = 0) (act : FVec F S512x256 .bf16) (wd bd o) : stepC i v8 act wd bd o = o := by
  unfold stepC
  rw [if_neg (fun h => h0 ((cond6_iff _ _).mp h).2), if_neg (fun h => hu ((cond5_iff _ _).mp h).1), if_neg (fun h => hu ((cond4_iff _ _).mp h).1)]

/-- At a block's first point what the buffer held does not matter. -/
theorem stepC_fresh (i : grid0.Coords) (v8 : BitVec 32) (h0 : (i 1).val = 0) (act : FVec F S512x256 .bf16) (wd bd o o') : stepC i v8 act wd bd o = stepC i v8 act wd bd o' := by
  by_cases hu : usedB i v8
  · rw [stepC_first i v8 hu h0, stepC_first i v8 hu h0]
  · rw [stepC_zero i v8 hu h0, stepC_zero i v8 hu h0]

/-! ## The output window's schedule -/

theorem flush6 (t : Fin (cfg0 (adm m hok 0)).N) : ((cfg0 (adm m hok 0)).win 6).flush t = true ↔ t.val % 16 = 15 := by
  refine Window.flush_reads _ rfl (0 : Fin 2) (show 1 < grid0.bound 0 by decide) (show grid0.fixedAfter reads0_6 0 = true by decide) (fun i i' h => ?_) (P := 16) (m := 15)
    (show grid0.stride 0 = 16 by decide) rfl t
  have h0 := congrFun (show cc0_transform_8 i = cc0_transform_8 i' from h) 0
  have hi : (i 0).val < 288 := (i 0).isLt
  have hi' : (i' 0).val < 288 := (i' 0).isLt
  have e : (BitVec.ofNat 32 (i 0).val).toNat = (BitVec.ofNat 32 (i' 0).val).toNat := h0
  rw [BitVec.toNat_ofNat, BitVec.toNat_ofNat] at e
  exact Fin.ext (by omega)

theorem flush6_false (t : Fin (cfg0 (adm m hok 0)).N) (h : t.val % 16 ≠ 15) : ((cfg0 (adm m hok 0)).win 6).flush t = false :=
  Bool.eq_false_iff.mpr fun hh => h ((flush6 m hok t).mp hh)

theorem word_atD : (pfh m).atD 1 ![0] = usedW m := by
  unfold Pipeline.Prefetch.Contents.atD
  rw [dif_pos (by decide)]
  exact congrArg (show S1.Idx → BitVec 32 from pfh m 1) (funext fun a => Fin.ext (by
    match a with
    | ⟨0, _⟩ => rfl))

theorem idle_word (v8 : BitVec 32) (i : grid0.Coords) :
    (!(k0_cond4 i v8 == 1#1) && !(k0_cond5 i v8 == 1#1) && !(k0_cond6 i v8 == 1#1)) = true ↔ ¬usedB i v8 ∧ ¬(i 1).val = 0 := by
  have h4 := cond4_iff i v8
  have h5 := cond5_iff i v8
  have h6 := cond6_iff i v8
  rw [Bool.and_eq_true, Bool.and_eq_true, Bool.not_eq_true', Bool.not_eq_true', Bool.not_eq_true', beq_eq_false_iff_ne, beq_eq_false_iff_ne, beq_eq_false_iff_ne, Ne, Ne, Ne, h4, h5, h6]
  by_cases a : usedB i v8 <;> by_cases b : (i 1).val = 0 <;> simp [a, b]

theorem idle_pf (pf : pre0.Contents (Elt F)) (i : grid0.Coords) :
    idle0 pf 6 i = (!(k0_cond4 i (pf.atD 1 ![0]) == 1#1) && !(k0_cond5 i (pf.atD 1 ![0]) == 1#1) && !(k0_cond6 i (pf.atD 1 ![0]) == 1#1)) := rfl

/-- The output window is idle at an unused block's later points. -/
theorem idle6 (t : Fin (cfg0 (adm m hok 0)).N) : (cfg0 (adm m hok 0)).idle 6 ((cfg0 (adm m hok 0)).grid.coords t) = true ↔ ¬usedB (grid0.coords t) (usedW m) ∧ ¬t.val % 16 = 0 := by
  show idle0 (pfh m) 6 (grid0.coords t) = true ↔ _
  rw [idle_pf, word_atD, idle_word, coords_1]

theorem left6_live (c : Dev nD) (t : Fin (cfg0 (adm m hok 0)).N) (hi : (cfg0 (adm m hok 0)).idle 6 ((cfg0 (adm m hok 0)).grid.coords t) = false) (d) :
    (datsV m hok c).left 6 t d = outs m hok c t.val t.isLt := by
  unfold Dat.left
  rw [hi]
  rfl
theorem left6_idle (c : Dev nD) (t : Fin (cfg0 (adm m hok 0)).N) (hi : (cfg0 (adm m hok 0)).idle 6 ((cfg0 (adm m hok 0)).grid.coords t) = true) (d) :
    (datsV m hok c).left 6 t d = (datsV m hok c).before 6 t d := by
  unfold Dat.left
  rw [hi]

/-- What the output window's buffer holds before a block's first point. -/
theorem before6_first (c : Dev nD) (t : Fin (cfg0 (adm m hok 0)).N) (h : t.val % 16 = 0) (d) : (datsV m hok c).before 6 t d = d := by
  refine (datsV m hok c).before_out_reset 6 rfl t ?_ d
  by_cases h0 : t.val = 0
  · exact .inl h0
  · exact .inr ⟨h0, (flush6 m hok _).mpr (by show (t.val - 1) % 16 = 15; omega)⟩

/-- And before a later point. -/
theorem before6_rest (c : Dev nD) : ∀ (n : ℕ) (hn : n + 1 < (cfg0 (adm m hok 0)).N) (h : ¬(n + 1) % 16 = 0) (d), (datsV m hok c).before 6 ⟨n + 1, hn⟩ d
    = outs m hok c n (Nat.lt_of_succ_lt hn) := by
  intro n
  induction n with
  | zero =>
    intro hn h d
    have hn' := Nat.lt_of_succ_lt hn
    have hf : ((cfg0 (adm m hok 0)).win 6).flush ⟨0, hn'⟩ = false := flush6_false m hok _ (by show 0 % 16 ≠ 15; decide)
    refine ((datsV m hok c).before_of_pos 6 ⟨0 + 1, hn⟩ (Nat.succ_ne_zero 0) (((cfg0 (adm m hok 0)).win 6).fetch_out rfl _) d).trans ?_
    refine (if_neg (by rw [Bool.not_eq_true]; exact hf)).trans ?_
    exact left6_live m hok c ⟨0, hn'⟩ (Bool.eq_false_iff.mpr fun hi => ((idle6 m hok ⟨0, hn'⟩).mp hi).2 rfl) d
  | succ n ih =>
    intro hn h d
    have hn' := Nat.lt_of_succ_lt hn
    have hf : ((cfg0 (adm m hok 0)).win 6).flush ⟨n + 1, hn'⟩ = false := flush6_false m hok _ (by show (n + 1) % 16 ≠ 15; omega)
    refine ((datsV m hok c).before_of_pos 6 ⟨n + 1 + 1, hn⟩ (Nat.succ_ne_zero _) (((cfg0 (adm m hok 0)).win 6).fetch_out rfl _) d).trans ?_
    refine (if_neg (by rw [Bool.not_eq_true]; exact hf)).trans ?_
    by_cases hi : (cfg0 (adm m hok 0)).idle 6 ((cfg0 (adm m hok 0)).grid.coords ⟨n + 1, hn'⟩) = true
    · have hu := (idle6 m hok ⟨n + 1, hn'⟩).mp hi
      refine (left6_idle m hok c ⟨n + 1, hn'⟩ hi d).trans ((ih hn' hu.2 d).trans ?_)
      have h1 : ¬(grid0.coords (⟨n + 1, hn'⟩ : Fin grid0.N) 1).val = 0 := by rw [coords_1]; exact hu.2
      exact (stepC_idle _ _ hu.1 h1 _ _ _ _).symm
    · exact left6_live m hok c ⟨n + 1, hn'⟩ (Bool.eq_false_iff.mpr hi) d

theorem outs_eq (c : Dev nD) (t : Fin (cfg0 (adm m hok 0)).N) (d) : stepAt m hok c t ((datsV m hok c).before 6 t d) = outs m hok c t.val t.isLt := by
  obtain ⟨n, hn⟩ := t
  cases n with
  | zero =>
    exact stepC_fresh _ _ ((coords_1 _).trans rfl) _ _ _ _ _
  | succ n =>
    by_cases h : (n + 1) % 16 = 0
    · exact stepC_fresh _ _ ((coords_1 _).trans h) _ _ _ _ _
    · exact congrArg (stepAt m hok c ⟨n + 1, hn⟩) (before6_rest m hok c n hn h d)

end Cert.KernelIdeal.Exp

end
-- ==== Proof.Val.Run.lean ====
/- The launch that follows the output block through the points. -/
module

public import proofs.«01_k».proof.Proof.Val.Outs
public import proofs.«01_k».proof.Proof.Idl.Ok
public import Idealize.ShloMosaic.Lib.Pipeline.Frame
public import Idealize.ShloMosaic.Lib.Pipeline.FrameBody

@[expose] public section

set_option maxRecDepth 16384

noncomputable section

namespace Cert.KernelIdeal.Exp

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hok : ok0 (pfh m))

/-! ## The windows as the points find and leave them -/

theorem own0 (c : Dev nD) (t : Fin (cfg0 (adm m hok 0)).N) (d) :
    owns (c : Thread nD τ) (ms m hok t 0) fullShare ((datsV m hok c).before 0 t d) ⊢ (owns (c : Thread nD τ) (ms m hok t 0) fullShare (blk0 m hok c t) : sProp 𝕄) :=
  BIBase.Entails.of_eq (congrArg (fun X => (owns (c : Thread nD τ) (ms m hok t 0) fullShare X : sProp 𝕄)) (before0 m hok c t d))
theorem own1 (c : Dev nD) (t : Fin (cfg0 (adm m hok 0)).N) (d) :
    owns (c : Thread nD τ) (ms m hok t 1) fullShare ((datsV m hok c).before 1 t d) ⊢ (owns (c : Thread nD τ) (ms m hok t 1) fullShare (blk1 m hok c t) : sProp 𝕄) :=
  BIBase.Entails.of_eq (congrArg (fun X => (owns (c : Thread nD τ) (ms m hok t 1) fullShare X : sProp 𝕄)) (before1 m hok c t d))
theorem own2 (c : Dev nD) (t : Fin (cfg0 (adm m hok 0)).N) (d) :
    owns (c : Thread nD τ) (ms m hok t 2) fullShare ((datsV m hok c).before 2 t d) ⊢ (owns (c : Thread nD τ) (ms m hok t 2) fullShare (blk2 m hok c t) : sProp 𝕄) :=
  BIBase.Entails.of_eq (congrArg (fun X => (owns (c : Thread nD τ) (ms m hok t 2) fullShare X : sProp 𝕄)) (before2 m hok c t d))
theorem own3 (c : Dev nD) (t : Fin (cfg0 (adm m hok 0)).N) (d) :
    owns (c : Thread nD τ) (ms m hok t 3) fullShare ((datsV m hok c).before 3 t d) ⊢ (owns (c : Thread nD τ) (ms m hok t 3) fullShare (blk3 m hok c t) : sProp 𝕄) :=
  BIBase.Entails.of_eq (congrArg (fun X => (owns (c : Thread nD τ) (ms m hok t 3) fullShare X : sProp 𝕄)) (before3 m hok c t d))
theorem own4 (c : Dev nD) (t : Fin (cfg0 (adm m hok 0)).N) (d) :
    owns (c : Thread nD τ) (ms m hok t 4) fullShare ((datsV m hok c).before 4 t d) ⊢ (owns (c : Thread nD τ) (ms m hok t 4) fullShare (blk4 m hok c t) : sProp 𝕄) :=
  BIBase.Entails.of_eq (congrArg (fun X => (owns (c : Thread nD τ) (ms m hok t 4) fullShare X : sProp 𝕄)) (before4 m hok c t d))
theorem own5 (c : Dev nD) (t : Fin (cfg0 (adm m hok 0)).N) (d) :
    owns (c : Thread nD τ) (ms m hok t 5) fullShare ((datsV m hok c).before 5 t d) ⊢ (owns (c : Thread nD τ) (ms m hok t 5) fullShare (blk5 m hok c t) : sProp 𝕄) :=
  BIBase.Entails.of_eq (congrArg (fun X => (owns (c : Thread nD τ) (ms m hok t 5) fullShare X : sProp 𝕄)) (before5 m hok c t d))

/-- The output block after a point, as the pipeline asks for it. -/
theorem leave6 (c : Dev nD) (t : Fin (cfg0 (adm m hok 0)).N) (d : S512x4096.Idx → Elt F .f32) :
    owns (c : Thread nD τ) (ms m hok t 6) fullShare (stepAt m hok c t ((datsV m hok c).before 6 t d)) ⊢ ((datsV m hok c).leavesExact 6 t : sProp 𝕄) := by
  have hA : owns (c : Thread nD τ) (ms m hok t 6) fullShare (stepAt m hok c t ((datsV m hok c).before 6 t d))
      ⊢ (owns (c : Thread nD τ) (ms m hok t 6) fullShare ((datsV m hok c).after 6 t) : sProp 𝕄) :=
    BIBase.Entails.of_eq (congrArg (fun X => (owns (c : Thread nD τ) (ms m hok t 6) fullShare X : sProp 𝕄)) (outs_eq m hok c t d))
  by_cases hi : (cfg0 (adm m hok 0)).idle 6 ((cfg0 (adm m hok 0)).grid.coords t) = true
  · by_cases hf : ((cfg0 (adm m hok 0)).win 6).flush t = true
    · unfold Dat.leavesExact; rw [hi, hf]; exact hA
    · rw [(datsV m hok c).leavesExact_idle 6 t hi (Bool.eq_false_iff.mpr hf)]
      have hu := (idle6 m hok t).mp hi
      have h1 : ¬(grid0.coords (t : Fin grid0.N) 1).val = 0 := by rw [coords_1]; exact hu.2
      have hB : owns (c : Thread nD τ) (ms m hok t 6) fullShare (stepAt m hok c t ((datsV m hok c).before 6 t d))
          ⊢ (owns (c : Thread nD τ) (ms m hok t 6) fullShare ((datsV m hok c).before 6 t d) : sProp 𝕄) :=
        BIBase.Entails.of_eq (congrArg (fun X => (owns (c : Thread nD τ) (ms m hok t 6) fullShare X : sProp 𝕄)) (stepC_idle _ _ hu.1 h1 _ _ _ _))
      iintro H
      iexists d
      iapply hB
      iexact H
  · unfold Dat.leavesExact; rw [Bool.eq_false_iff.mpr hi]; exact hA

theorem invV_castSucc (c : Dev nD) (t : Fin (cfg0 (adm m hok 0)).N) : (datsV m hok c).Φ t.castSucc = inv m c t.val (lt_N m hok t).le :=
  inv_castSucc m hok c t
theorem invV_succ (c : Dev nD) (t : Fin (cfg0 (adm m hok 0)).N) : (datsV m hok c).Φ t.succ = inv m c (t.val + 1) (lt_N m hok t) :=
  inv_succ m hok c t

theorem sound_val (c : Dev nD) (hT : ∀ j, (Th m c j).toNat < 32768) (t : Fin (cfg0 (adm m hok 0)).N) (d : S512x4096.Idx → Elt F .f32) :
    iprop((datsV m hok c).Φ t.castSucc ∗ (datsV m hok c).owesAt () t.castSucc ∗ owns (c : Thread nD τ) (ms m hok t 0) fullShare (blk0 m hok c t) ∗ owns (c : Thread nD τ) (ms m hok t 1) fullShare (blk1 m hok c t) ∗ owns (c : Thread nD τ) (ms m hok t 2) fullShare (blk2 m hok c t) ∗ owns (c : Thread nD τ) (ms m hok t 3) fullShare (blk3 m hok c t) ∗ owns (c : Thread nD τ) (ms m hok t 4) fullShare (blk4 m hok c t) ∗ owns (c : Thread nD τ) (ms m hok t 5) fullShare (blk5 m hok c t) ∗ owns (c : Thread nD τ) (ms m hok t 6) fullShare ((datsV m hok c).before 6 t d))
      ⊢ wp frame (wpE (defs₀ (F := F)) Variants.none c none) Set.univ (bodyAt m hok t)
        fun _ => iprop((datsV m hok c).Φ t.succ ∗ (datsV m hok c).owesAt () t.succ ∗ owns (c : Thread nD τ) (ms m hok t 0) fullShare (blk0 m hok c t) ∗ owns (c : Thread nD τ) (ms m hok t 1) fullShare (blk1 m hok c t) ∗ owns (c : Thread nD τ) (ms m hok t 2) fullShare (blk2 m hok c t) ∗ owns (c : Thread nD τ) (ms m hok t 3) fullShare (blk3 m hok c t) ∗ owns (c : Thread nD τ) (ms m hok t 4) fullShare (blk4 m hok c t) ∗ owns (c : Thread nD τ) (ms m hok t 5) fullShare (blk5 m hok c t) ∗ owns (c : Thread nD τ) (ms m hok t 6) fullShare (stepAt m hok c t ((datsV m hok c).before 6 t d))) := by
  rw [invV_castSucc, invV_succ]
  unfold Dat.owesAt Pipeline.owesWithin
  rw [show (datsV m hok c).owed t.castSucc = 0 from rfl, show (datsV m hok c).owed t.succ = 0 from rfl]
  exact body_val m c (grid0.coords t) (ms m hok t 0) (hstage0_0 (((cfg0 (adm m hok 0)).slots t 0).cast nbuf0_0)) (ms m hok t 1) (hstage0_1 (((cfg0 (adm m hok 0)).slots t 1).cast nbuf0_1)) (ms m hok t 2) (hstage0_2 (((cfg0 (adm m hok 0)).slots t 2).cast nbuf0_2)) (ms m hok t 3) (hstage0_3 (((cfg0 (adm m hok 0)).slots t 3).cast nbuf0_3)) (ms m hok t 4) (hstage0_4 (((cfg0 (adm m hok 0)).slots t 4).cast nbuf0_4)) (ms m hok t 5) (hstage0_5 (((cfg0 (adm m hok 0)).slots t 5).cast nbuf0_5)) (ms m hok t 6) (hstage0_6 (((cfg0 (adm m hok 0)).slots t 6).cast nbuf0_6)) hT t.val (lt_N m hok t) (coords_0 t) (coords_1 t)
    (fun W => (W : Set (SemLoc sig × Unit)) ⊆ (datsV m hok c).bound () t.castSucc) (fun _ _ _ => Or.inl trivial) _ _ _ _ _ _ _

theorem into (c : Dev nD) (t : Fin (cfg0 (adm m hok 0)).N) :
    iprop((datsV m hok c).Φ t.castSucc ∗ (datsV m hok c).owesAt () t.castSucc ∗ (∃ d, owns (c : Thread nD τ) (ms m hok t 0) fullShare ((datsV m hok c).before 0 t d)) ∗ (∃ d, owns (c : Thread nD τ) (ms m hok t 1) fullShare ((datsV m hok c).before 1 t d)) ∗ (∃ d, owns (c : Thread nD τ) (ms m hok t 2) fullShare ((datsV m hok c).before 2 t d)) ∗ (∃ d, owns (c : Thread nD τ) (ms m hok t 3) fullShare ((datsV m hok c).before 3 t d)) ∗ (∃ d, owns (c : Thread nD τ) (ms m hok t 4) fullShare ((datsV m hok c).before 4 t d)) ∗ (∃ d, owns (c : Thread nD τ) (ms m hok t 5) fullShare ((datsV m hok c).before 5 t d)) ∗ (∃ d, owns (c : Thread nD τ) (ms m hok t 6) fullShare ((datsV m hok c).before 6 t d)))
      ⊢ (iprop(∃ d : S512x4096.Idx → Elt F .f32, (datsV m hok c).Φ t.castSucc ∗ (datsV m hok c).owesAt () t.castSucc ∗ owns (c : Thread nD τ) (ms m hok t 0) fullShare (blk0 m hok c t) ∗ owns (c : Thread nD τ) (ms m hok t 1) fullShare (blk1 m hok c t) ∗ owns (c : Thread nD τ) (ms m hok t 2) fullShare (blk2 m hok c t) ∗ owns (c : Thread nD τ) (ms m hok t 3) fullShare (blk3 m hok c t) ∗ owns (c : Thread nD τ) (ms m hok t 4) fullShare (blk4 m hok c t) ∗ owns (c : Thread nD τ) (ms m hok t 5) fullShare (blk5 m hok c t) ∗ owns (c : Thread nD τ) (ms m hok t 6) fullShare ((datsV m hok c).before 6 t d)) : sProp 𝕄) := by
  iintro ⟨HΦ, HO, ⟨%d0, H0⟩, ⟨%d1, H1⟩, ⟨%d2, H2⟩, ⟨%d3, H3⟩, ⟨%d4, H4⟩, ⟨%d5, H5⟩, ⟨%d6, H6⟩⟩
  iexists d6
  isplitl [HΦ]; · iexact HΦ
  isplitl [HO]; · iexact HO
  isplitl [H0]
  · iapply (own0 m hok c t d0); iexact H0
  isplitl [H1]
  · iapply (own1 m hok c t d1); iexact H1
  isplitl [H2]
  · iapply (own2 m hok c t d2); iexact H2
  isplitl [H3]
  · iapply (own3 m hok c t d3); iexact H3
  isplitl [H4]
  · iapply (own4 m hok c t d4); iexact H4
  isplitl [H5]
  · iapply (own5 m hok c t d5); iexact H5
  iexact H6

theorem onto (c : Dev nD) (t : Fin (cfg0 (adm m hok 0)).N) (d : S512x4096.Idx → Elt F .f32) :
    iprop((datsV m hok c).Φ t.succ ∗ (datsV m hok c).owesAt () t.succ ∗ owns (c : Thread nD τ) (ms m hok t 0) fullShare (blk0 m hok c t) ∗ owns (c : Thread nD τ) (ms m hok t 1) fullShare (blk1 m hok c t) ∗ owns (c : Thread nD τ) (ms m hok t 2) fullShare (blk2 m hok c t) ∗ owns (c : Thread nD τ) (ms m hok t 3) fullShare (blk3 m hok c t) ∗ owns (c : Thread nD τ) (ms m hok t 4) fullShare (blk4 m hok c t) ∗ owns (c : Thread nD τ) (ms m hok t 5) fullShare (blk5 m hok c t) ∗ owns (c : Thread nD τ) (ms m hok t 6) fullShare (stepAt m hok c t ((datsV m hok c).before 6 t d)))
      ⊢ (iprop((datsV m hok c).Φ t.succ ∗ (datsV m hok c).owesAt () t.succ ∗ owns (c : Thread nD τ) (ms m hok t 0) fullShare (blk0 m hok c t) ∗ owns (c : Thread nD τ) (ms m hok t 1) fullShare (blk1 m hok c t) ∗ owns (c : Thread nD τ) (ms m hok t 2) fullShare (blk2 m hok c t) ∗ owns (c : Thread nD τ) (ms m hok t 3) fullShare (blk3 m hok c t) ∗ owns (c : Thread nD τ) (ms m hok t 4) fullShare (blk4 m hok c t) ∗ owns (c : Thread nD τ) (ms m hok t 5) fullShare (blk5 m hok c t) ∗ (datsV m hok c).leavesExact 6 t) : sProp 𝕄) := by
  iintro ⟨HΦ, HO, H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iapply (leave6 m hok c t d)
  iexact H6

theorem body_obligationV (c : Dev nD) (hT : ∀ j, (Th m c j).toNat < 32768) :
    BodyObligation (datsV m hok c) (defs₀ (F := F)) Variants.none () Set.univ (fun _ => false) := fun t => by
  rw [bigSep_W0, bigSep_W0, defs₀_row]
  exact (into m hok c t).trans (Laws.exists_elim fun d => (sound_val m hok c hT t d).trans (wp_mono _ _ _ fun _ => onto m hok c t d))

set_option backward.isDefEq.respectTransparency.types false in
theorem run_val (hT : ∀ c j, (Th m c j).toNat < 32768) :
    θ_run defs (onTc (τ := τ) (main (F := F))) (s₀ m ρ)
      (fun r => Pipeline.RDat.FramePostR (Pipeline.pin pcfgs (adm m hok) 0) (fun c => (datsV m hok c).toRForget (fun _ => false)) ∅ (Vh m) r ∧ r.2.sem = fun _ => 0) :=
  Pipeline.RDat.θ_run_frameP_dmaR_shared (Q' := _) pcfgs (adm m hok) 0 launch₀0 osem0 defs₀ Variants.none
    (fun c => (datsV m hok c).toRForget (fun _ => false)) ownSemFacts0 H0 ∅ H0_sub (Finset.empty_subset _) m ρ main
    (hbody := fun c => (body_obligationV m hok c (hT c)).loose.toRForget)
    (hq := fun _ _ _ => rfl) (howed := fun _ _ => rfl) (V := Vh m)
    (hmain := Pipeline.hmainP_prefix pcfgs 0 defs₀ Variants.none m main hostOps0 hostOps0_sub ⟨rfl, rfl, rfl, rfl, rfl, rfl, rfl, rfl⟩ main_chain)
    (hA := fun _ _ => rfl) (hpf := fun c k => by rw [Subsingleton.elim c 0]; rfl)
    (hin := enter m hok) (hout := leave m hok)

end Cert.KernelIdeal.Exp

end
-- ==== Proof.Val.Blocks.lean ====
/- The blocks the windows bring, as entries of the arguments. -/
module

public import proofs.«01_k».proof.Proof.Val.Outs
public import proofs.«01_k».proof.Proof.Idl.Ok
public import Idealize.ShloMosaic.Lib.Pipeline.Value
public import Idealize.ShloMosaic.Lib.StableHlo.Run
public import Idealize.ShloMosaic.Lib.Pointwise.Tactic
public import Idealize.ShloMosaic.Lib.Pointwise.Reshape

@[expose] public section

set_option maxRecDepth 16384

noncomputable section

namespace Cert.KernelIdeal.Exp

open Cert.KernelIdeal Cert.KernelIdeal.Gen
open Idealize.ShloMosaic Idealize.ShloMosaic.TcCoe Idealize.ShloMosaic.Pipeline Idealize.ShloMosaic.StableHlo
open Idealize.SL.Sem

/-! ## The index maps -/

section Maps

variable {F : FTy → Type} [FloatOps F]

theorem at0 (pf : pre0.Contents (Elt F)) (i : grid0.Coords) (h h') :
    pf.at 0 (Rect.unit (s := S288) ![(Scalar.indexCast (BitVec.ofNat 32 (i 0).val)).toNat] S1.size h) h' = (show S288.Idx → BitVec 32 from pf 0) (ValueIdx.ix1 (i 0)) := by
  refine congrArg (show S288.Idx → BitVec 32 from pf 0) (funext fun a => Fin.ext ?_)
  have h0 : (i 0).val < 288 := (i 0).isLt
  match a with
  | ⟨0, _⟩ =>
    show (BitVec.ofNat 32 (i 0).val).toNat + 1 * 0 = (i 0).val
    rw [BitVec.toNat_ofNat]; omega

theorem at1 (pf : pre0.Contents (Elt F)) (h h') :
    pf.at 1 (Rect.unit (s := S1) ![0] S1.size h) h' = (show S1.Idx → BitVec 32 from pf 1) (ValueIdx.ix1 0) := by
  refine congrArg (show S1.Idx → BitVec 32 from pf 1) (funext fun a => Fin.ext ?_)
  match a with
  | ⟨0, _⟩ => rfl

/-- The block along the hidden axis that a used block's point takes. -/
theorem hidden_used (i : grid0.Coords) (w : BitVec 32) (hu : usedB i w) :
    (Scalar.select (Scalar.cmpi .slt (BitVec.ofNat 32 (i 0).val) w) (BitVec.ofNat 32 (i 1).val) 15#32).toNat = (i 1).val := by
  have h1 : (i 1).val < 16 := (i 1).isLt
  rw [show Scalar.cmpi .slt (BitVec.ofNat 32 (i 0).val) w = 1#1 from hu]
  show (BitVec.ofNat 32 (i 1).val).toNat = _
  rw [BitVec.toNat_ofNat]; omega

theorem wordE (pf : pre0.Contents (Elt F)) (i : grid0.Coords) (h h') (b : Fin 288) (hb : i 0 = b) (e : ℕ)
    (he : ((show S288.Idx → BitVec 32 from pf 0) (ValueIdx.ix1 b)).toNat = e) :
    (pf.at 0 (Rect.unit (s := S288) ![(Scalar.indexCast (BitVec.ofNat 32 (i 0).val)).toNat] S1.size h) h' : BitVec 32).toNat * 1 + 0 = e := by
  subst hb
  exact (congrArg (fun w : BitVec 32 => w.toNat * 1 + 0) (at0 pf i h h')).trans ((Nat.mul_one _).trans he)

theorem wordF (pf : pre0.Contents (Elt F)) (i : grid0.Coords) (h h') (hu : usedB i ((show S1.Idx → BitVec 32 from pf 1) (ValueIdx.ix1 0))) (n : ℕ)
    (hn : (i 1).val = n) :
    (Scalar.select (Scalar.cmpi .slt (BitVec.ofNat 32 (i 0).val) (pf.at 1 (Rect.unit (s := S1) ![0] S1.size h) h')) (BitVec.ofNat 32 (i 1).val) 15#32).toNat = n := by
  subst hn
  exact (congrArg (fun w : BitVec 32 => (Scalar.select (Scalar.cmpi .slt (BitVec.ofNat 32 (i 0).val) w) (BitVec.ofNat 32 (i 1).val) 15#32).toNat) (at1 pf h h')).trans
    (hidden_used i _ hu)

theorem wordG (pf : pre0.Contents (Elt F)) (i : grid0.Coords) (h h') (hu : usedB i ((show S1.Idx → BitVec 32 from pf 1) (ValueIdx.ix1 0))) (n : ℕ)
    (hn : (i 1).val = n) :
    (Scalar.addi 16#32 (Scalar.select (Scalar.cmpi .slt (BitVec.ofNat 32 (i 0).val) (pf.at 1 (Rect.unit (s := S1) ![0] S1.size h) h')) (BitVec.ofNat 32 (i 1).val) 15#32)).toNat = 16 + n := by
  subst hn
  have h1 : (i 1).val < 16 := (i 1).isLt
  refine (congrArg (fun w : BitVec 32 => (Scalar.addi 16#32 (Scalar.select (Scalar.cmpi .slt (BitVec.ofNat 32 (i 0).val) w) (BitVec.ofNat 32 (i 1).val) 15#32)).toNat) (at1 pf h h')).trans ?_
  refine (add16 _ ?_).trans (congrArg (fun k => 16 + k) (hidden_used i _ hu))
  exact lt_of_eq_of_lt (hidden_used i _ hu) h1

theorem trF2 (pf : pre0.Contents (Elt F)) (i : grid0.Coords) (hu : usedB i ((show S1.Idx → BitVec 32 from pf 1) (ValueIdx.ix1 0))) (n : ℕ) (hn : (i 1).val = n) :
    cc0_transform_2 Facts₀.k0_off1_inb Facts₀.numel1_S1 Facts₀.inb_S1_S1_0 pf i (2 : Fin 3) = n :=
  wordF pf i Facts₀.inb_S1_S1_0 Facts₀.numel1_S1 hu n hn
theorem trF3 (pf : pre0.Contents (Elt F)) (i : grid0.Coords) (hu : usedB i ((show S1.Idx → BitVec 32 from pf 1) (ValueIdx.ix1 0))) (n : ℕ) (hn : (i 1).val = n) :
    cc0_transform_3 Facts₀.k0_off1_inb Facts₀.numel1_S1 Facts₀.inb_S1_S1_0 pf i (2 : Fin 3) = 16 + n :=
  wordG pf i Facts₀.inb_S1_S1_0 Facts₀.numel1_S1 hu n hn
theorem trF4 (pf : pre0.Contents (Elt F)) (i : grid0.Coords) (hu : usedB i ((show S1.Idx → BitVec 32 from pf 1) (ValueIdx.ix1 0))) (n : ℕ) (hn : (i 1).val = n) :
    cc0_transform_4 Facts₀.k0_off1_inb Facts₀.numel1_S1 Facts₀.inb_S1_S1_0 pf i (2 : Fin 3) = n :=
  wordF pf i Facts₀.inb_S1_S1_0 Facts₀.numel1_S1 hu n hn
theorem trF5 (pf : pre0.Contents (Elt F)) (i : grid0.Coords) (hu : usedB i ((show S1.Idx → BitVec 32 from pf 1) (ValueIdx.ix1 0))) (n : ℕ) (hn : (i 1).val = n) :
    cc0_transform_5 Facts₀.k0_off1_inb Facts₀.numel1_S1 Facts₀.inb_S1_S1_0 pf i (2 : Fin 3) = 16 + n :=
  wordG pf i Facts₀.inb_S1_S1_0 Facts₀.numel1_S1 hu n hn
theorem trF6 (pf : pre0.Contents (Elt F)) (i : grid0.Coords) (hu : usedB i ((show S1.Idx → BitVec 32 from pf 1) (ValueIdx.ix1 0))) (n : ℕ) (hn : (i 1).val = n) :
    cc0_transform_6 Facts₀.k0_off1_inb Facts₀.numel1_S1 Facts₀.inb_S1_S1_0 pf i (1 : Fin 3) = n :=
  wordF pf i Facts₀.inb_S1_S1_0 Facts₀.numel1_S1 hu n hn
theorem trE2 (pf : pre0.Contents (Elt F)) (i : grid0.Coords) (b : Fin 288) (hb : i 0 = b) (e : ℕ) (he : ((show S288.Idx → BitVec 32 from pf 0) (ValueIdx.ix1 b)).toNat = e) :
    cc0_transform_2 Facts₀.k0_off1_inb Facts₀.numel1_S1 Facts₀.inb_S1_S1_0 pf i (0 : Fin 3) = e :=
  (Nat.mul_one _).symm.trans (wordE pf i (Facts₀.k0_off1_inb i) Facts₀.numel1_S1 b hb e he)
theorem trE3 (pf : pre0.Contents (Elt F)) (i : grid0.Coords) (b : Fin 288) (hb : i 0 = b) (e : ℕ) (he : ((show S288.Idx → BitVec 32 from pf 0) (ValueIdx.ix1 b)).toNat = e) :
    cc0_transform_3 Facts₀.k0_off1_inb Facts₀.numel1_S1 Facts₀.inb_S1_S1_0 pf i (0 : Fin 3) = e :=
  (Nat.mul_one _).symm.trans (wordE pf i (Facts₀.k0_off1_inb i) Facts₀.numel1_S1 b hb e he)
theorem trE4 (pf : pre0.Contents (Elt F)) (i : grid0.Coords) (b : Fin 288) (hb : i 0 = b) (e : ℕ) (he : ((show S288.Idx → BitVec 32 from pf 0) (ValueIdx.ix1 b)).toNat = e) :
    cc0_transform_4 Facts₀.k0_off1_inb Facts₀.numel1_S1 Facts₀.inb_S1_S1_0 pf i (0 : Fin 3) = e :=
  (Nat.mul_one _).symm.trans (wordE pf i (Facts₀.k0_off1_inb i) Facts₀.numel1_S1 b hb e he)
theorem trE5 (pf : pre0.Contents (Elt F)) (i : grid0.Coords) (b : Fin 288) (hb : i 0 = b) (e : ℕ) (he : ((show S288.Idx → BitVec 32 from pf 0) (ValueIdx.ix1 b)).toNat = e) :
    cc0_transform_5 Facts₀.k0_off1_inb Facts₀.numel1_S1 Facts₀.inb_S1_S1_0 pf i (0 : Fin 3) = e :=
  (Nat.mul_one _).symm.trans (wordE pf i (Facts₀.k0_off1_inb i) Facts₀.numel1_S1 b hb e he)
theorem trE6 (pf : pre0.Contents (Elt F)) (i : grid0.Coords) (b : Fin 288) (hb : i 0 = b) (e : ℕ) (he : ((show S288.Idx → BitVec 32 from pf 0) (ValueIdx.ix1 b)).toNat = e) :
    cc0_transform_6 Facts₀.k0_off1_inb Facts₀.numel1_S1 Facts₀.inb_S1_S1_0 pf i (0 : Fin 3) = e :=
  (Nat.mul_one _).symm.trans (wordE pf i (Facts₀.k0_off1_inb i) Facts₀.numel1_S1 b hb e he)
theorem trE7 (pf : pre0.Contents (Elt F)) (i : grid0.Coords) (b : Fin 288) (hb : i 0 = b) (e : ℕ) (he : ((show S288.Idx → BitVec 32 from pf 0) (ValueIdx.ix1 b)).toNat = e) :
    cc0_transform_7 Facts₀.k0_off1_inb Facts₀.numel1_S1 pf i (0 : Fin 3) = e :=
  (Nat.mul_one _).symm.trans (wordE pf i (Facts₀.k0_off1_inb i) Facts₀.numel1_S1 b hb e he)
end Maps

variable {F : FTy → Type} [FloatOps F]
variable (m : (ℓ : Loc nD τ sig) → Buf (Elt F) ℓ)
variable (hok : ok0 (pfh m))

/-- The experts of the blocks. -/
abbrev beW : S288.Idx → BitVec 32 := show S288.Idx → BitVec 32 from pfh m 0

theorem index0 (t : Fin (cfg0 (adm m hok 0)).N) : ((cfg0 (adm m hok 0)).win 0).index t = cc0_transform_2 Facts₀.k0_off1_inb Facts₀.numel1_S1 Facts₀.inb_S1_S1_0 (pfh m) (grid0.coords t) := rfl
theorem index1 (t : Fin (cfg0 (adm m hok 0)).N) : ((cfg0 (adm m hok 0)).win 1).index t = cc0_transform_3 Facts₀.k0_off1_inb Facts₀.numel1_S1 Facts₀.inb_S1_S1_0 (pfh m) (grid0.coords t) := rfl
theorem index2 (t : Fin (cfg0 (adm m hok 0)).N) : ((cfg0 (adm m hok 0)).win 2).index t = cc0_transform_4 Facts₀.k0_off1_inb Facts₀.numel1_S1 Facts₀.inb_S1_S1_0 (pfh m) (grid0.coords t) := rfl
theorem index3 (t : Fin (cfg0 (adm m hok 0)).N) : ((cfg0 (adm m hok 0)).win 3).index t = cc0_transform_5 Facts₀.k0_off1_inb Facts₀.numel1_S1 Facts₀.inb_S1_S1_0 (pfh m) (grid0.coords t) := rfl
theorem index4 (t : Fin (cfg0 (adm m hok 0)).N) : ((cfg0 (adm m hok 0)).win 4).index t = cc0_transform_6 Facts₀.k0_off1_inb Facts₀.numel1_S1 Facts₀.inb_S1_S1_0 (pfh m) (grid0.coords t) := rfl
theorem index5 (t : Fin (cfg0 (adm m hok 0)).N) : ((cfg0 (adm m hok 0)).win 5).index t = cc0_transform_7 Facts₀.k0_off1_inb Facts₀.numel1_S1 (pfh m) (grid0.coords t) := rfl

theorem blk0_at (c : Dev nD) (t : Fin (cfg0 (adm m hok 0)).N) (hu : usedB (grid0.coords t) (usedW m)) (e : Fin 32)
    (he : (beW m (ValueIdx.ix1 ⟨t.val / 16, by have := lt_N m hok t; omega⟩)).toNat = e.val) (i : Fin 4096) (k : Fin 256) :
    blk0 m hok c t (ix3 0 i k) = Vh m c main_v2 (ix3 e i ⟨(t.val % 16) * 256 + k.val, by omega⟩) := by
  have ht := lt_N m hok t
  have h0 : (grid0.coords t 0) = (⟨t.val / 16, by omega⟩ : Fin 288) := Fin.ext (coords_0 t)
  have h1 : (grid0.coords t 1).val = t.val % 16 := coords_1 t
  unfold blk0
  refine congrArg (Vh m c main_v2) (funext fun a => Fin.ext ?_)
  refine (Window.rect_emb_val ((cfg0 (adm m hok 0)).win 0) t (ix3 0 i k) a).trans ?_
  refine (congrArg (fun f => f a * ((cfg0 (adm m hok 0)).win 0).size a + ((ix3 0 i k : ((cfg0 (adm m hok 0)).win 0).block.Idx) a).val) (index0 m hok t)).trans ?_
  match a with
  | ⟨0, _⟩ => exact (congrArg (fun n => n * 1 + 0) (trE2 (pfh m) (grid0.coords t) _ h0 e.val he)).trans (Nat.mul_one _)
  | ⟨1, _⟩ => exact ((congrArg (· + i.val) (Nat.zero_mul 4096)).trans (Nat.zero_add i.val) : 0 * 4096 + i.val = i.val)
  | ⟨2, _⟩ => exact congrArg (fun n => n * 256 + k.val) (trF2 (pfh m) (grid0.coords t) hu _ h1)

theorem blk1_at (c : Dev nD) (t : Fin (cfg0 (adm m hok 0)).N) (hu : usedB (grid0.coords t) (usedW m)) (e : Fin 32)
    (he : (beW m (ValueIdx.ix1 ⟨t.val / 16, by have := lt_N m hok t; omega⟩)).toNat = e.val) (i : Fin 4096) (k : Fin 256) :
    blk1 m hok c t (ix3 0 i k) = Vh m c main_v2 (ix3 e i ⟨(16 + t.val % 16) * 256 + k.val, by omega⟩) := by
  have ht := lt_N m hok t
  have h0 : (grid0.coords t 0) = (⟨t.val / 16, by omega⟩ : Fin 288) := Fin.ext (coords_0 t)
  have h1 : (grid0.coords t 1).val = t.val % 16 := coords_1 t
  unfold blk1
  refine congrArg (Vh m c main_v2) (funext fun a => Fin.ext ?_)
  refine (Window.rect_emb_val ((cfg0 (adm m hok 0)).win 1) t (ix3 0 i k) a).trans ?_
  refine (congrArg (fun f => f a * ((cfg0 (adm m hok 0)).win 1).size a + ((ix3 0 i k : ((cfg0 (adm m hok 0)).win 1).block.Idx) a).val) (index1 m hok t)).trans ?_
  match a with
  | ⟨0, _⟩ => exact (congrArg (fun n => n * 1 + 0) (trE3 (pfh m) (grid0.coords t) _ h0 e.val he)).trans (Nat.mul_one _)
  | ⟨1, _⟩ => exact ((congrArg (· + i.val) (Nat.zero_mul 4096)).trans (Nat.zero_add i.val) : 0 * 4096 + i.val = i.val)
  | ⟨2, _⟩ => exact congrArg (fun n => n * 256 + k.val) (trF3 (pfh m) (grid0.coords t) hu _ h1)

theorem blk2_at (c : Dev nD) (t : Fin (cfg0 (adm m hok 0)).N) (hu : usedB (grid0.coords t) (usedW m)) (e : Fin 32)
    (he : (beW m (ValueIdx.ix1 ⟨t.val / 16, by have := lt_N m hok t; omega⟩)).toNat = e.val) (k : Fin 256) :
    blk2 m hok c t (ix3 0 0 k) = Vh m c main_v4 (ix3 e 0 ⟨(t.val % 16) * 256 + k.val, by omega⟩) := by
  have ht := lt_N m hok t
  have h0 : (grid0.coords t 0) = (⟨t.val / 16, by omega⟩ : Fin 288) := Fin.ext (coords_0 t)
  have h1 : (grid0.coords t 1).val = t.val % 16 := coords_1 t
  unfold blk2
  refine congrArg (Vh m c main_v4) (funext fun a => Fin.ext ?_)
  refine (Window.rect_emb_val ((cfg0 (adm m hok 0)).win 2) t (ix3 0 0 k) a).trans ?_
  refine (congrArg (fun f => f a * ((cfg0 (adm m hok 0)).win 2).size a + ((ix3 0 0 k : ((cfg0 (adm m hok 0)).win 2).block.Idx) a).val) (index2 m hok t)).trans ?_
  match a with
  | ⟨0, _⟩ => exact (congrArg (fun n => n * 1 + 0) (trE4 (pfh m) (grid0.coords t) _ h0 e.val he)).trans (Nat.mul_one _)
  | ⟨1, _⟩ => exact ((congrArg (· + (0 : Fin 1).val) (Nat.zero_mul 1)).trans (Nat.zero_add (0 : Fin 1).val) : 0 * 1 + (0 : Fin 1).val = (0 : Fin 1).val)
  | ⟨2, _⟩ => exact congrArg (fun n => n * 256 + k.val) (trF4 (pfh m) (grid0.coords t) hu _ h1)

theorem blk3_at (c : Dev nD) (t : Fin (cfg0 (adm m hok 0)).N) (hu : usedB (grid0.coords t) (usedW m)) (e : Fin 32)
    (he : (beW m (ValueIdx.ix1 ⟨t.val / 16, by have := lt_N m hok t; omega⟩)).toNat = e.val) (k : Fin 256) :
    blk3 m hok c t (ix3 0 0 k) = Vh m c main_v4 (ix3 e 0 ⟨(16 + t.val % 16) * 256 + k.val, by omega⟩) := by
  have ht := lt_N m hok t
  have h0 : (grid0.coords t 0) = (⟨t.val / 16, by omega⟩ : Fin 288) := Fin.ext (coords_0 t)
  have h1 : (grid0.coords t 1).val = t.val % 16 := coords_1 t
  unfold blk3
  refine congrArg (Vh m c main_v4) (funext fun a => Fin.ext ?_)
  refine (Window.rect_emb_val ((cfg0 (adm m hok 0)).win 3) t (ix3 0 0 k) a).trans ?_
  refine (congrArg (fun f => f a * ((cfg0 (adm m hok 0)).win 3).size a + ((ix3 0 0 k : ((cfg0 (adm m hok 0)).win 3).block.Idx) a).val) (index3 m hok t)).trans ?_
  match a with
  | ⟨0, _⟩ => exact (congrArg (fun n => n * 1 + 0) (trE5 (pfh m) (grid0.coords t) _ h0 e.val he)).trans (Nat.mul_one _)
  | ⟨1, _⟩ => exact ((congrArg (· + (0 : Fin 1).val) (Nat.zero_mul 1)).trans (Nat.zero_add (0 : Fin 1).val) : 0 * 1 + (0 : Fin 1).val = (0 : Fin 1).val)
  | ⟨2, _⟩ => exact congrArg (fun n => n * 256 + k.val) (trF5 (pfh m) (grid0.coords t) hu _ h1)

theorem blk4_at (c : Dev nD) (t : Fin (cfg0 (adm m hok 0)).N) (hu : usedB (grid0.coords t) (usedW m)) (e : Fin 32)
    (he : (beW m (ValueIdx.ix1 ⟨t.val / 16, by have := lt_N m hok t; omega⟩)).toNat = e.val) (k : Fin 256) (j : Fin 4096) :
    blk4 m hok c t (ix3 0 k j) = Vh m c main_v5 (ix3 e ⟨(t.val % 16) * 256 + k.val, by omega⟩ j) := by
  have ht := lt_N m hok t
  have h0 : (grid0.coords t 0) = (⟨t.val / 16, by omega⟩ : Fin 288) := Fin.ext (coords_0 t)
  have h1 : (grid0.coords t 1).val = t.val % 16 := coords_1 t
  unfold blk4
  refine congrArg (Vh m c main_v5) (funext fun a => Fin.ext ?_)
  refine (Window.rect_emb_val ((cfg0 (adm m hok 0)).win 4) t (ix3 0 k j) a).trans ?_
  refine (congrArg (fun f => f a * ((cfg0 (adm m hok 0)).win 4).size a + ((ix3 0 k j : ((cfg0 (adm m hok 0)).win 4).block.Idx) a).val) (index4 m hok t)).trans ?_
  match a with
  | ⟨0, _⟩ => exact (congrArg (fun n => n * 1 + 0) (trE6 (pfh m) (grid0.coords t) _ h0 e.val he)).trans (Nat.mul_one _)
  | ⟨1, _⟩ => exact congrArg (fun n => n * 256 + k.val) (trF6 (pfh m) (grid0.coords t) hu _ h1)
  | ⟨2, _⟩ => exact ((congrArg (· + j.val) (Nat.zero_mul 4096)).trans (Nat.zero_add j.val) : 0 * 4096 + j.val = j.val)

theorem blk5_at (c : Dev nD) (t : Fin (cfg0 (adm m hok 0)).N) (hu : usedB (grid0.coords t) (usedW m)) (e : Fin 32)
    (he : (beW m (ValueIdx.ix1 ⟨t.val / 16, by have := lt_N m hok t; omega⟩)).toNat = e.val) (j : Fin 4096) :
    blk5 m hok c t (ix3 0 0 j) = Vh m c main_v7 (ix3 e 0 j) := by
  have ht := lt_N m hok t
  have h0 : (grid0.coords t 0) = (⟨t.val / 16, by omega⟩ : Fin 288) := Fin.ext (coords_0 t)
  have h1 : (grid0.coords t 1).val = t.val % 16 := coords_1 t
  unfold blk5
  refine congrArg (Vh m c main_v7) (funext fun a => Fin.ext ?_)
  refine (Window.rect_emb_val ((cfg0 (adm m hok 0)).win 5) t (ix3 0 0 j) a).trans ?_
  refine (congrArg (fun f => f a * ((cfg0 (adm m hok 0)).win 5).size a + ((ix3 0 0 j : ((cfg0 (adm m hok 0)).win 5).block.Idx) a).val) (index5 m hok t)).trans ?_
  match a with
  | ⟨0, _⟩ => exact (congrArg (fun n => n * 1 + 0) (trE7 (pfh m) (grid0.coords t) _ h0 e.val he)).trans (Nat.mul_one _)
  | ⟨1, _⟩ => exact ((congrArg (· + (0 : Fin 1).val) (Nat.zero_mul 1)).trans (Nat.zero_add (0 : Fin 1).val) : 0 * 1 + (0 : Fin 1).val = (0 : Fin 1).val)
  | ⟨2, _⟩ => exact ((congrArg (· + j.val) (Nat.zero_mul 4096)).trans (Nat.zero_add j.val) : 0 * 4096 + j.val = j.val)

end Cert.KernelIdeal.Exp

end
-- ==== Proof.Val.Arrays.lean ====
/- The arrays the host hands to the kernel, as entries of the arguments. -/
module

public import proofs.«01_k».proof.Proof.Idl.Frame
public import Idealize.ShloMosaic.Lib.Pipeline.Value
public import Idealize.ShloMosaic.Lib.StableHlo.Run
public import Idealize.ShloMosaic.Lib.Pointwise.Tactic
public import Idealize.ShloMosaic.Lib.Pointwise.Reshape

@[expose] public section

set_option maxRecDepth 16384

noncomputable section

namespace Cert.KernelIdeal.Exp

open Cert.KernelIdeal Cert.KernelIdeal.Gen
open Idealize.ShloMosaic Idealize.ShloMosaic.TcCoe Idealize.ShloMosaic.Pipeline Idealize.ShloMosaic.StableHlo
open Idealize.SL.Sem

variable (m : (ℓ : Loc nD τ sig) → Buf (Elt Ideal) ℓ)

section Terms

theorem Vv2 (c : Dev nD) : Vh m c main_v2 = (truncf .bf16 (shapeCast S32x4096x8192 (show FVec Ideal S1x32x4096x8192 .f32 from m ((c : Thread nD τ).loc main_arg4)) Facts₀.shapeCasts_S1x32x4096x8192_S32x4096x8192) Facts₀.bitsLt_bf16_f32 : FVec Ideal S32x4096x8192 .bf16) := by
  unfold Vh
  after_results_simp <;> rfl
theorem Vv4 (c : Dev nD) : Vh m c main_v4 = shapeCast S32x1x8192 (shapeCast S32x8192 (show FVec Ideal S1x32x8192 .f32 from m ((c : Thread nD τ).loc main_arg5)) Facts₀.shapeCasts_S1x32x8192_S32x8192) Facts₀.shapeCasts_S32x8192_S32x1x8192 := by
  unfold Vh
  after_results_simp <;> rfl
theorem Vv5 (c : Dev nD) : Vh m c main_v5 = shapeCast S32x4096x4096 (show FVec Ideal S1x32x4096x4096 .f32 from m ((c : Thread nD τ).loc main_arg6)) Facts₀.shapeCasts_S1x32x4096x4096_S32x4096x4096 := by
  unfold Vh
  after_results_simp <;> rfl
theorem Vv7 (c : Dev nD) : Vh m c main_v7 = shapeCast S32x1x4096 (shapeCast S32x4096 (show FVec Ideal S1x32x4096 .f32 from m ((c : Thread nD τ).loc main_arg7)) Facts₀.shapeCasts_S1x32x4096_S32x4096) Facts₀.shapeCasts_S32x4096_S32x1x4096 := by
  unfold Vh
  after_results_simp <;> rfl
theorem Vv0 (c : Dev nD) : Vh m c main_v0 = shapeCast S288x4x128 (show IVec S147456 32 from m ((c : Thread nD τ).loc main_arg2)) Facts₀.shapeCasts_S147456_S288x4x128 := by
  unfold Vh
  after_results_simp <;> rfl
theorem Va0 (c : Dev nD) : Vh m c main_arg0 = m ((c : Thread nD τ).loc main_arg0) := by
  unfold Vh
  after_results_simp <;> rfl
theorem Va1 (c : Dev nD) : Vh m c main_arg1 = m ((c : Thread nD τ).loc main_arg1) := by
  unfold Vh
  after_results_simp <;> rfl
theorem Va3 (c : Dev nD) : Vh m c main_arg3 = m ((c : Thread nD τ).loc main_arg3) := by
  unfold Vh
  after_results_simp <;> rfl

end Terms

theorem v2_at (c : Dev nD) (wg : FVec Ideal S1x32x4096x8192 .f32) (h : m ((c : Thread nD τ).loc main_arg4) = wg) (e : Fin 32) (i : Fin 4096) (k : Fin 8192) :
    Vh m c main_v2 (ix3 e i k) = wg (ix4 0 e i k) := by
  rw [Vv2, h]
  pointwise
theorem v4_at (c : Dev nD) (bg : FVec Ideal S1x32x8192 .f32) (h : m ((c : Thread nD τ).loc main_arg5) = bg) (e : Fin 32) (k : Fin 8192) :
    Vh m c main_v4 (ix3 e 0 k) = bg (ix3 0 e k) := by
  rw [Vv4, h]
  pointwise
theorem v5_at (c : Dev nD) (wd : FVec Ideal S1x32x4096x4096 .f32) (h : m ((c : Thread nD τ).loc main_arg6) = wd) (e : Fin 32) (i : Fin 4096) (k : Fin 4096) :
    Vh m c main_v5 (ix3 e i k) = wd (ix4 0 e i k) := by
  rw [Vv5, h]
  pointwise
theorem v7_at (c : Dev nD) (bd : FVec Ideal S1x32x4096 .f32) (h : m ((c : Thread nD τ).loc main_arg7) = bd) (e : Fin 32) (k : Fin 4096) :
    Vh m c main_v7 (ix3 e 0 k) = bd (ix3 0 e k) := by
  rw [Vv7, h]
  pointwise
theorem v0_at (c : Dev nD) (sl : IVec S147456 32) (h : m ((c : Thread nD τ).loc main_arg2) = sl) (b : Fin 288) (p : Fin 4) (q : Fin 128) :
    Vh m c main_v0 (ix3 b p q) = sl (ix1 ⟨b.val * 512 + p.val * 128 + q.val, by omega⟩) := by
  rw [Vv0, h]
  pointwise

end Cert.KernelIdeal.Exp

end
-- ==== Proof.Val.Spec.lean ====
/- The experts in plain arithmetic on the extended reals. -/
module

public import Idealize.ShloMosaic.PureOps.Ideal

@[expose] public section

noncomputable section

namespace Cert.Experts

open Idealize.ShloMosaic
open scoped BigOperators

/-- The clipping bound and the slope. -/
abbrev c7 : EReal := Ideal.ofBits .f32 0x40E00000#32
abbrev cm7 : EReal := Ideal.ofBits .f32 0xC0E00000#32
abbrev slope : EReal := Ideal.ofBits .f32 0x3FD9DB23#32

/-- A linear unit before clipping. -/
def lin {n : ℕ} (x : Fin 4096 → EReal) (W : Fin 4096 → Fin n → EReal) (b : Fin n → EReal) (j : Fin n) : EReal := (∑ i, x i * W i j) + b j

/-- The gated unit of its two linear units. -/
def glu (u v : EReal) : EReal := min u c7 * Ideal.logistic (slope * min u c7) * (min c7 (max cm7 v) + 1)

/-- The hidden units of a row. -/
def hid (x : Fin 4096 → EReal) (W : Fin 4096 → Fin 8192 → EReal) (b : Fin 8192 → EReal) (k : Fin 4096) : EReal :=
  glu (lin x W b ⟨k.val, by omega⟩) (lin x W b ⟨4096 + k.val, by omega⟩)

/-- One expert's row. -/
def row (x : Fin 4096 → EReal) (W : Fin 4096 → Fin 8192 → EReal) (b : Fin 8192 → EReal) (D : Fin 4096 → Fin 4096 → EReal) (d : Fin 4096 → EReal) (j : Fin 4096) : EReal :=
  lin (hid x W b) D d j

end Cert.Experts

end
-- ==== Proof.Val.Pays.lean ====
/- The kernel's arithmetic read at an index, over the extended reals. -/
module

public import proofs.«01_k».proof.Proof.Val.Tiles
public import proofs.«01_k».proof.Proof.Val.Spec
public import Idealize.ShloMosaic.Lib.Pointwise.Tactic
public import Idealize.ShloMosaic.Lib.Pointwise.Contract
public import Idealize.ShloMosaic.Lib.Pointwise.Reshape

@[expose] public section

set_option maxRecDepth 16384

noncomputable section

namespace Cert.KernelIdeal.Exp

open Cert.KernelIdeal Cert.KernelIdeal.Gen
open Idealize.ShloMosaic Idealize.ShloMosaic.TcCoe
open Cert.Experts
open scoped BigOperators

theorem pay1_at (v : S512x4096.Idx → EReal) (y : S512x4096.Idx) : k0_pay1 (F := Ideal) v y = v y := by
  unfold k0_pay1
  pointwise

theorem pay4_at (y : S512x4096.Idx) : k0_pay4 (F := Ideal) y = 0 := by
  unfold k0_pay4
  pointwise

theorem pay2_at (act : S512x256.Idx → EReal) (wd : S1x256x512.Idx → EReal) (bd : S1x1x512.Idx → EReal) (r : Fin 512) (q : Fin 512) :
    k0_pay2 (F := Ideal) act wd bd (ix2 r q) = (∑ k : Fin 256, act (ix2 r k) * wd (ix3 0 k q)) + bd (ix3 0 0 q) := by
  unfold k0_pay2
  pointwise

theorem pay3_at (act : S512x256.Idx → EReal) (wd : S1x256x512.Idx → EReal) (o : S512x512.Idx → EReal) (r : Fin 512) (q : Fin 512) :
    k0_pay3 (F := Ideal) (k0_pay25 act wd) o (ix2 r q) = o (ix2 r q) + ∑ k : Fin 256, act (ix2 r k) * wd (ix3 0 k q) := by
  unfold k0_pay3 k0_pay25
  pointwise

theorem pay5_at (x : S512x4096.Idx → EReal) (wg wl : S1x4096x256.Idx → EReal) (bg bl : S1x1x256.Idx → EReal) (r : Fin 512) (k : Fin 256) :
    k0_pay5 (F := Ideal) x wg bg wl bl (ix2 r k) = glu ((∑ i : Fin 4096, x (ix2 r i) * wg (ix3 0 i k)) + bg (ix3 0 0 k)) ((∑ i : Fin 4096, x (ix2 r i) * wl (ix3 0 i k)) + bl (ix3 0 0 k)) := by
  unfold k0_pay5 glu
  pointwise

end Cert.KernelIdeal.Exp

end
-- ==== Proof.Val.Acts.lean ====
/- The activation and the work on the output block, read at an index from the arguments. -/
module

public import proofs.«01_k».proof.Proof.Val.Blocks
public import proofs.«01_k».proof.Proof.Val.Arrays
public import proofs.«01_k».proof.Proof.Val.Pays
public import proofs.«01_k».proof.Proof.Val.Spec
public import Idealize.ShloMosaic.Lib.Pointwise.Tactic
public import Idealize.ShloMosaic.Lib.Pointwise.Sums

@[expose] public section

set_option maxRecDepth 16384

noncomputable section

namespace Cert.Experts

open scoped BigOperators

/-- The part of a hidden sum that one block of 256 hidden units gives. -/
def tile (H D : Fin 4096 → EReal) (n : ℕ) : EReal := if h : n < 16 then ∑ k : Fin 256, H ⟨n * 256 + k.val, by omega⟩ * D ⟨n * 256 + k.val, by omega⟩ else 0

theorem tile_of_lt (H D : Fin 4096 → EReal) (n : ℕ) (h : n < 16) : tile H D n = ∑ k : Fin 256, H ⟨n * 256 + k.val, by omega⟩ * D ⟨n * 256 + k.val, by omega⟩ := dif_pos h

/-- The sixteen blocks give the whole sum. -/
theorem tiles_sum (H D : Fin 4096 → EReal) : ∑ n ∈ Finset.range 16, tile H D n = ∑ i, H i * D i := by
  rw [Finset.sum_range, Idealize.ShloMosaic.Fin.sum_univ_tiles 16 256 (by decide) (fun i => H i * D i)]
  exact Finset.sum_congr rfl fun n _ => tile_of_lt H D n.val n.isLt

end Cert.Experts

namespace Cert.KernelIdeal.Exp

open Cert.KernelIdeal Cert.KernelIdeal.Gen Cert.Experts
open Idealize.ShloMosaic Idealize.ShloMosaic.TcCoe Idealize.ShloMosaic.Pipeline
open scoped BigOperators

theorem firstC_at (act : FVec Ideal S512x256 .bf16) (wd : S1x256x4096.Idx → Elt Ideal .f32) (bd : S1x1x4096.Idx → Elt Ideal .f32) (r : Fin 512) (j : Fin 4096) :
    firstC act wd bd (ix2 r j) = (∑ k : Fin 256, act (ix2 r k) * wd (ix3 0 k j)) + bd (ix3 0 0 j) := by
  have hj := j.isLt
  unfold firstC
  refine (congrArg _ (ValueIdx.eq_ix2 _ |>.trans (ValueIdx.eq_ix2 _).symm)).trans ((pay2_at act _ _ r ⟨j.val % 512, Nat.mod_lt _ (by decide)⟩).trans ?_)
  refine congrArg₂ (· + ·) (Finset.sum_congr rfl fun k _ => congrArg (act (ix2 r k) * ·) ?_) ?_
  · refine congrArg wd (funext fun a => Fin.ext ?_)
    match a with
    | ⟨0, _⟩ => rfl
    | ⟨1, _⟩ => rfl
    | ⟨2, _⟩ => show 512 * (j.val / 512) + j.val % 512 = j.val; omega
  · refine congrArg bd (funext fun a => Fin.ext ?_)
    match a with
    | ⟨0, _⟩ => rfl
    | ⟨1, _⟩ => rfl
    | ⟨2, _⟩ => show 512 * (j.val / 512) + j.val % 512 = j.val; omega

theorem restC_at (act : FVec Ideal S512x256 .bf16) (wd : S1x256x4096.Idx → Elt Ideal .f32) (o : S512x4096.Idx → Elt Ideal .f32) (r : Fin 512) (j : Fin 4096) :
    restC act wd o (ix2 r j) = o (ix2 r j) + ∑ k : Fin 256, act (ix2 r k) * wd (ix3 0 k j) := by
  have hj := j.isLt
  unfold restC
  refine (congrArg _ (ValueIdx.eq_ix2 _ |>.trans (ValueIdx.eq_ix2 _).symm)).trans ((pay3_at act _ _ r ⟨j.val % 512, Nat.mod_lt _ (by decide)⟩).trans ?_)
  refine congrArg₂ (· + ·) ?_ (Finset.sum_congr rfl fun k _ => congrArg (act (ix2 r k) * ·) ?_)
  · refine congrArg o (funext fun a => Fin.ext ?_)
    match a with
    | ⟨0, _⟩ => rfl
    | ⟨1, _⟩ => show 512 * (j.val / 512) + j.val % 512 = j.val; omega
  · refine congrArg wd (funext fun a => Fin.ext ?_)
    match a with
    | ⟨0, _⟩ => rfl
    | ⟨1, _⟩ => rfl
    | ⟨2, _⟩ => show 512 * (j.val / 512) + j.val % 512 = j.val; omega

variable (m : (ℓ : Loc nD τ sig) → Buf (Elt Ideal) ℓ) (hok : ok0 (pfh m)) (c : Dev nD)
variable (be : IVec S288 32) (nb : IVec S1 32) (sl : IVec S147456 32) (h : FVec Ideal S32768x4096 .f32) (wg : FVec Ideal S1x32x4096x8192 .f32) (bg : FVec Ideal S1x32x8192 .f32)
  (wd : FVec Ideal S1x32x4096x4096 .f32) (bd : FVec Ideal S1x32x4096 .f32)

theorem tok_at (e2 : m ((c : Thread nD τ).loc main_arg2) = sl) (b : Fin 288) (r : Fin 512) :
    tokAt (Th m c) b r = sl (ix1 ⟨b.val * 512 + r.val, by omega⟩) := by
  have hr := r.isLt
  unfold tokAt Th
  refine (congrArg (Vh m c main_v0) (funext fun a => ?_)).trans ((v0_at m c sl e2 b ⟨r.val / 128, by omega⟩ ⟨r.val % 128, Nat.mod_lt _ (by decide)⟩).trans ?_)
  · match a with
    | ⟨0, _⟩ => rfl
    | ⟨1, _⟩ => rfl
    | ⟨2, _⟩ => rfl
  · refine congrArg sl (congrArg ix1 (Fin.ext ?_))
    show b.val * 512 + r.val / 128 * 128 + r.val % 128 = b.val * 512 + r.val
    omega

theorem gath_at (e2 : m ((c : Thread nD τ).loc main_arg2) = sl) (e3 : m ((c : Thread nD τ).loc main_arg3) = h) (b : Fin 288) (r : Fin 512) (s : Fin 32768)
    (hs : (sl (ix1 ⟨b.val * 512 + r.val, by omega⟩)).toNat = s.val) (i : Fin 4096) :
    gath (Th m c) (hh m c) b (ix2 r i) = h (ix2 s i) := by
  have ht := tok_at m c sl e2 b r
  have hr : rowAt (Th m c) b r = s := Fin.ext (by
    show min (tokAt (Th m c) b r).toNat 32767 = s.val
    rw [ht, hs]; omega)
  have hh' : hh m c = h := (Va3 m c).trans e3
  unfold gath
  refine (congrFun hh' _).trans (congrArg h (funext fun a => ?_))
  match a with
  | ⟨0, _⟩ => exact hr
  | ⟨1, _⟩ => rfl

theorem act_at (e2 : m ((c : Thread nD τ).loc main_arg2) = sl) (e3 : m ((c : Thread nD τ).loc main_arg3) = h) (e4 : m ((c : Thread nD τ).loc main_arg4) = wg) (e5 : m ((c : Thread nD τ).loc main_arg5) = bg)
    (t : Fin (cfg0 (adm m hok 0)).N) (hu : usedB (grid0.coords t) (usedW m)) (b : Fin 288) (hb : t.val / 16 = b.val) (e : Fin 32)
    (he : (beW m (ValueIdx.ix1 b)).toNat = e.val) (r : Fin 512) (s : Fin 32768)
    (hs : (sl (ix1 ⟨b.val * 512 + r.val, by omega⟩)).toNat = s.val) (k : Fin 256) :
    actAt m hok c t (ix2 r k) = hid (fun i => h (ix2 s i)) (fun i k => wg (ix4 0 e i k)) (fun k => bg (ix3 0 e k)) ⟨(t.val % 16) * 256 + k.val, by omega⟩ := by
  have ht := lt_N m hok t
  obtain rfl : b = ⟨t.val / 16, Nat.div_lt_of_lt_mul (show t.val < 16 * 288 from ht)⟩ := Fin.ext hb.symm
  unfold actAt
  refine (pay5_at _ _ _ _ _ r k).trans ?_
  unfold hid lin
  have hx : ∀ i : Fin 4096, k0_pay1 (gath (Th m c) (hh m c) ⟨t.val / 16, by omega⟩) (ix2 r i) = h (ix2 s i) := fun i =>
    (pay1_at _ _).trans (gath_at m c sl h e2 e3 _ r s hs i)
  refine congrArg₂ glu (congrArg₂ (· + ·) (Finset.sum_congr rfl fun i _ => congrArg₂ (· * ·) (hx i) ?_) ?_)
    (congrArg₂ (· + ·) (Finset.sum_congr rfl fun i _ => congrArg₂ (· * ·) (hx i) ?_) ?_)
  · exact (blk0_at m hok c t hu e he i k).trans (v2_at m c wg e4 e i _)
  · exact (blk2_at m hok c t hu e he k).trans (v4_at m c bg e5 e _)
  · refine (blk1_at m hok c t hu e he i k).trans ((v2_at m c wg e4 e i _).trans (congrArg (fun x => wg (ix4 0 e i x)) (Fin.ext ?_)))
    show (16 + t.val % 16) * 256 + k.val = 4096 + ((t.val % 16) * 256 + k.val)
    omega
  · refine (blk3_at m hok c t hu e he k).trans ((v4_at m c bg e5 e _).trans (congrArg (fun x => bg (ix3 0 e x)) (Fin.ext ?_)))
    show (16 + t.val % 16) * 256 + k.val = 4096 + ((t.val % 16) * 256 + k.val)
    omega

/-- One point's product with the down projection. -/
theorem prod_at (e2 : m ((c : Thread nD τ).loc main_arg2) = sl) (e3 : m ((c : Thread nD τ).loc main_arg3) = h) (e4 : m ((c : Thread nD τ).loc main_arg4) = wg) (e5 : m ((c : Thread nD τ).loc main_arg5) = bg)
    (e6 : m ((c : Thread nD τ).loc main_arg6) = wd)
    (t : Fin (cfg0 (adm m hok 0)).N) (hu : usedB (grid0.coords t) (usedW m)) (b : Fin 288) (hb : t.val / 16 = b.val) (e : Fin 32)
    (he : (beW m (ValueIdx.ix1 b)).toNat = e.val) (r : Fin 512) (s : Fin 32768)
    (hs : (sl (ix1 ⟨b.val * 512 + r.val, by omega⟩)).toNat = s.val) (j : Fin 4096) :
    ∑ k : Fin 256, actAt m hok c t (ix2 r k) * blk4 m hok c t (ix3 0 k j)
      = tile (hid (fun i => h (ix2 s i)) (fun i k => wg (ix4 0 e i k)) (fun k => bg (ix3 0 e k))) (fun k => wd (ix4 0 e k j)) (t.val % 16) := by
  have ht := lt_N m hok t
  rw [tile_of_lt _ _ _ (Nat.mod_lt _ (by decide))]
  refine Finset.sum_congr rfl fun k _ => congrArg₂ (· * ·) (act_at m hok c sl h wg bg e2 e3 e4 e5 t hu b hb e he r s hs k) ?_
  obtain rfl : b = ⟨t.val / 16, Nat.div_lt_of_lt_mul (show t.val < 16 * 288 from ht)⟩ := Fin.ext hb.symm
  exact (blk4_at m hok c t hu e he k j).trans (v5_at m c wd e6 e _ j)

end Cert.KernelIdeal.Exp

end
-- ==== Proof.Val.Final.lean ====
/- What the result array holds at the end. -/
module

public import proofs.«01_k».proof.Proof.Val.Acts

@[expose] public section

set_option maxRecDepth 16384

noncomputable section

namespace Cert.Experts

open Idealize.ShloMosaic
open scoped BigOperators

section Result

variable (be : (⟨1, ![288]⟩ : Shape).Idx → BitVec 32) (nb : (⟨1, ![1]⟩ : Shape).Idx → BitVec 32) (sl : (⟨1, ![147456]⟩ : Shape).Idx → BitVec 32)
  (h : (⟨2, ![32768, 4096]⟩ : Shape).Idx → EReal) (wg : (⟨4, ![1, 32, 4096, 8192]⟩ : Shape).Idx → EReal) (bg : (⟨3, ![1, 32, 8192]⟩ : Shape).Idx → EReal)
  (wd : (⟨4, ![1, 32, 4096, 4096]⟩ : Shape).Idx → EReal) (bd : (⟨3, ![1, 32, 4096]⟩ : Shape).Idx → EReal)

/-- The expert of a block, and the token of a row. -/
def expertOf (b : Fin 288) : Fin 32 := ⟨min (be (ix1 b)).toNat 31, by omega⟩
def tokenOf (R : Fin 147456) : Fin 32768 := ⟨min (sl (ix1 R)).toNat 32767, by omega⟩

theorem expertOf_val (hr : ∀ j, (be j).toNat < 32) (b : Fin 288) : (be (ix1 b)).toNat = (expertOf be b).val := by
  have := hr (ix1 b)
  show _ = min (be (ix1 b)).toNat 31
  omega
theorem tokenOf_val (hr : ∀ j, (sl j).toNat < 32768) (R : Fin 147456) : (sl (ix1 R)).toNat = (tokenOf sl R).val := by
  have := hr (ix1 R)
  show _ = min (sl (ix1 R)).toNat 32767
  omega

/-- One expert's row for one token. -/
def rowOf (e : Fin 32) (s : Fin 32768) (j : Fin 4096) : EReal :=
  row (fun i => h (ix2 s i)) (fun i k => wg (ix4 0 e i k)) (fun k => bg (ix3 0 e k)) (fun k j => wd (ix4 0 e k j)) (fun j => bd (ix3 0 e j)) j

/-- The result at row `R`, column `j`: the row's expert on the row's token where the row's block is used, zero elsewhere. -/
def outAt (R : Fin 147456) (j : Fin 4096) : EReal :=
  Scalar.select (Scalar.cmpi .slt (BitVec.ofNat 32 (R.val / 512)) (nb (ix1 0))) (rowOf h wg bg wd bd (expertOf be ⟨R.val / 512, by omega⟩) (tokenOf sl R) j) 0

theorem outAt_eq (R : Fin 147456) (j : Fin 4096) (b : Fin 288) (hb : R.val / 512 = b.val) :
    outAt be nb sl h wg bg wd bd R j = Scalar.select (Scalar.cmpi .slt (BitVec.ofNat 32 b.val) (nb (ix1 0))) (rowOf h wg bg wd bd (expertOf be b) (tokenOf sl R) j) 0 := by
  obtain ⟨b, hlt⟩ := b
  obtain rfl : R.val / 512 = b := hb
  rfl

end Result

end Cert.Experts

namespace Cert.KernelIdeal.Exp

open Cert.KernelIdeal Cert.KernelIdeal.Gen Cert.Experts
open Idealize.ShloMosaic Idealize.ShloMosaic.TcCoe Idealize.ShloMosaic.Pipeline
open Idealize.ShloMosaic.ValueIdx (eq_zero_of_ne_one select_zero select_one)
open scoped BigOperators

variable (m : (ℓ : Loc nD τ sig) → Buf (Elt Ideal) ℓ) (hok : ok0 (pfh m)) (c : Dev nD)
variable (be : IVec S288 32) (nb : IVec S1 32) (sl : IVec S147456 32) (h : FVec Ideal S32768x4096 .f32) (wg : FVec Ideal S1x32x4096x8192 .f32) (bg : FVec Ideal S1x32x8192 .f32)
  (wd : FVec Ideal S1x32x4096x4096 .f32) (bd : FVec Ideal S1x32x4096 .f32)

/-! ## The output block along a block's points -/

theorem outs_first (n : ℕ) (hn : n < (cfg0 (adm m hok 0)).N) (h0 : n % 16 = 0) : outs m hok c n hn = stepAt m hok c ⟨n, hn⟩ (k0_pay4 (F := Ideal)) := by
  cases n with
  | zero => rfl
  | succ n => exact stepC_fresh _ _ ((coords_1 _).trans h0) _ _ _ _ _

theorem usedB_iff (t : Fin (cfg0 (adm m hok 0)).N) (b : ℕ) (hb : t.val / 16 = b) (w : BitVec 32) :
    usedB (grid0.coords t) w ↔ Scalar.cmpi .slt (BitVec.ofNat 32 b) w = 1#1 := by
  subst hb
  have h := coords_0 (show Fin grid0.N from t)
  exact iff_of_eq (congrArg (fun n => Scalar.cmpi .slt (BitVec.ofNat 32 n) w = 1#1) h)

theorem used_outs (e2 : m ((c : Thread nD τ).loc main_arg2) = sl) (e3 : m ((c : Thread nD τ).loc main_arg3) = h) (e4 : m ((c : Thread nD τ).loc main_arg4) = wg) (e5 : m ((c : Thread nD τ).loc main_arg5) = bg)
    (e6 : m ((c : Thread nD τ).loc main_arg6) = wd) (e7 : m ((c : Thread nD τ).loc main_arg7) = bd)
    (b : Fin 288) (hU : Scalar.cmpi .slt (BitVec.ofNat 32 b.val) (usedW m) = 1#1) (e : Fin 32)
    (he : (beW m (ValueIdx.ix1 b)).toNat = e.val) (r : Fin 512) (s : Fin 32768)
    (hs : (sl (ix1 ⟨b.val * 512 + r.val, by omega⟩)).toNat = s.val) (j : Fin 4096) :
    ∀ (f : ℕ) (hf : f < 16) (hn : 16 * b.val + f < (cfg0 (adm m hok 0)).N), outs m hok c (16 * b.val + f) hn (ix2 r j)
      = (∑ n ∈ Finset.range (f + 1), tile (hid (fun i => h (ix2 s i)) (fun i k => wg (ix4 0 e i k)) (fun k => bg (ix3 0 e k))) (fun k => wd (ix4 0 e k j)) n) + bd (ix3 0 e j) := by
  intro f
  induction f with
  | zero =>
    intro hf hn
    have hm : (16 * b.val + 0) % 16 = 0 := by omega
    have hd : (16 * b.val + 0) / 16 = b.val := by omega
    have hu := (usedB_iff m hok ⟨16 * b.val + 0, hn⟩ b.val hd (usedW m)).mpr hU
    have hbd : blk5 m hok c ⟨16 * b.val + 0, hn⟩ (ix3 0 0 j) = bd (ix3 0 e j) := by
      refine (blk5_at m hok c ⟨16 * b.val + 0, hn⟩ hu e ?_ j).trans (v7_at m c bd e7 e j)
      refine Eq.trans (congrArg (fun x => (beW m (ValueIdx.ix1 x)).toNat) (Fin.ext ?_)) he
      exact hd
    rw [outs_first m hok c _ hn hm]
    unfold stepAt
    rw [stepC_first _ _ hu ((coords_1 _).trans hm), firstC_at]
    rw [prod_at m hok c sl h wg bg wd e2 e3 e4 e5 e6 ⟨16 * b.val + 0, hn⟩ hu b hd e he r s hs j, hbd, Finset.sum_range_one]
    exact congrArg (fun n => tile _ _ n + _) hm
  | succ f ih =>
    intro hf hn
    have hm : (16 * b.val + f + 1) % 16 = f + 1 := by omega
    have hd : (16 * b.val + f + 1) / 16 = b.val := by omega
    have hu := (usedB_iff m hok ⟨16 * b.val + f + 1, hn⟩ b.val hd (usedW m)).mpr hU
    have hi := ih (by omega) (Nat.lt_of_succ_lt hn)
    show stepAt m hok c ⟨16 * b.val + f + 1, hn⟩ (outs m hok c (16 * b.val + f) (Nat.lt_of_succ_lt hn)) (ix2 r j) = _
    unfold stepAt
    rw [stepC_rest _ _ hu (fun h0 => absurd ((coords_1 _).symm.trans h0) (by rw [show (⟨16 * b.val + f + 1, hn⟩ : Fin (cfg0 (adm m hok 0)).N).val = 16 * b.val + f + 1 from rfl, hm]; omega)), restC_at, hi]
    rw [prod_at m hok c sl h wg bg wd e2 e3 e4 e5 e6 ⟨16 * b.val + f + 1, hn⟩ hu b hd e he r s hs j, Finset.sum_range_succ _ (f + 1), add_right_comm]
    exact congrArg (fun n => _ + tile _ _ n + _) hm

theorem used_final (e2 : m ((c : Thread nD τ).loc main_arg2) = sl) (e3 : m ((c : Thread nD τ).loc main_arg3) = h) (e4 : m ((c : Thread nD τ).loc main_arg4) = wg) (e5 : m ((c : Thread nD τ).loc main_arg5) = bg)
    (e6 : m ((c : Thread nD τ).loc main_arg6) = wd) (e7 : m ((c : Thread nD τ).loc main_arg7) = bd)
    (b : Fin 288) (hU : Scalar.cmpi .slt (BitVec.ofNat 32 b.val) (usedW m) = 1#1) (e : Fin 32)
    (he : (beW m (ValueIdx.ix1 b)).toNat = e.val) (r : Fin 512) (s : Fin 32768)
    (hs : (sl (ix1 ⟨b.val * 512 + r.val, by omega⟩)).toNat = s.val) (j : Fin 4096) (hn : 16 * b.val + 15 < (cfg0 (adm m hok 0)).N) :
    outs m hok c (16 * b.val + 15) hn (ix2 r j) = rowOf h wg bg wd bd e s j := by
  rw [used_outs m hok c sl h wg bg wd bd e2 e3 e4 e5 e6 e7 b hU e he r s hs j 15 (by decide) hn, tiles_sum]
  rfl

theorem unused_outs (b : Fin 288) (hU : ¬Scalar.cmpi .slt (BitVec.ofNat 32 b.val) (usedW m) = 1#1) :
    ∀ (f : ℕ) (hf : f < 16) (hn : 16 * b.val + f < (cfg0 (adm m hok 0)).N), outs m hok c (16 * b.val + f) hn = k0_pay4 (F := Ideal) := by
  intro f
  induction f with
  | zero =>
    intro hf hn
    have hm : (16 * b.val + 0) % 16 = 0 := by omega
    have hd : (16 * b.val + 0) / 16 = b.val := by omega
    have hu := mt (usedB_iff m hok ⟨16 * b.val + 0, hn⟩ b.val hd (usedW m)).mp hU
    rw [outs_first m hok c _ hn hm]
    unfold stepAt
    rw [stepC_zero _ _ hu ((coords_1 _).trans hm)]
  | succ f ih =>
    intro hf hn
    have hm : (16 * b.val + f + 1) % 16 = f + 1 := by omega
    have hd : (16 * b.val + f + 1) / 16 = b.val := by omega
    have hu := mt (usedB_iff m hok ⟨16 * b.val + f + 1, hn⟩ b.val hd (usedW m)).mp hU
    have hi := ih (by omega) (Nat.lt_of_succ_lt hn)
    show stepAt m hok c ⟨16 * b.val + f + 1, hn⟩ (outs m hok c (16 * b.val + f) (Nat.lt_of_succ_lt hn)) = _
    unfold stepAt
    rw [stepC_idle _ _ hu (fun h0 => absurd ((coords_1 _).symm.trans h0) (by rw [show (⟨16 * b.val + f + 1, hn⟩ : Fin (cfg0 (adm m hok 0)).N).val = 16 * b.val + f + 1 from rfl, hm]; omega)), hi]

/-! ## The result array -/

theorem index6 (t : Fin (cfg0 (adm m hok 0)).N) : ((cfg0 (adm m hok 0)).win 6).index t = cc0_transform_8 (grid0.coords t) := rfl

/-- Where an entry of a point's output block lies in the result. -/
theorem emb6 (t : Fin (cfg0 (adm m hok 0)).N) (r : Fin 512) (j : Fin 4096) (b : Fin 288) (hb : t.val / 16 = b.val) :
    (((((cfg0 (adm m hok 0)).win 6).blk t).view.emb (ix2 r j) : S147456x4096.Idx)) = ix2 ⟨b.val * 512 + r.val, by omega⟩ j := by
  have hc : (grid0.coords t 0).val = b.val := (coords_0 (show Fin grid0.N from t)).trans hb
  have hb' := b.isLt
  refine funext fun a => Fin.ext ?_
  refine (Window.rect_emb_val ((cfg0 (adm m hok 0)).win 6) t (ix2 r j) a).trans ?_
  refine (congrArg (fun f => f a * ((cfg0 (adm m hok 0)).win 6).size a + ((ix2 r j : ((cfg0 (adm m hok 0)).win 6).block.Idx) a).val) (index6 m hok t)).trans ?_
  have h0 : (BitVec.ofNat 32 (grid0.coords t 0).val).toNat = b.val := by rw [hc, BitVec.toNat_ofNat]; omega
  match a with
  | ⟨0, _⟩ => exact congrArg (fun n => n * 512 + r.val) h0
  | ⟨1, _⟩ => exact ((congrArg (· + j.val) (Nat.zero_mul 4096)).trans (Nat.zero_add j.val) : 0 * 4096 + j.val = j.val)

/-- The result array from the arguments. -/
def outG : S147456x4096.Idx → EReal := fun i => outAt be nb sl h wg bg wd bd (i 0) (i 1)

theorem cover6 (i : S147456x4096.Idx) : ∃ t : Fin (cfg0 (adm m hok 0)).N, ((cfg0 (adm m hok 0)).win 6).flush t = true ∧ i ∈ (((cfg0 (adm m hok 0)).win 6).blk t).view.set := by
  have hi0 : (i 0).val < 147456 := (i 0).isLt
  have hN : (cfg0 (adm m hok 0)).N = 4608 := N_0
  have hlb : (i 0).val / 512 < 288 := by omega
  have ht : 16 * ((i 0).val / 512) + 15 < (cfg0 (adm m hok 0)).N := by rw [hN]; omega
  refine ⟨⟨16 * ((i 0).val / 512) + 15, ht⟩, (flush6 m hok _).mpr (by show (16 * ((i 0).val / 512) + 15) % 16 = 15; omega), ?_⟩
  have he := emb6 m hok ⟨16 * ((i 0).val / 512) + 15, ht⟩ ⟨(i 0).val % 512, Nat.mod_lt _ (by decide)⟩ (i 1)
    ⟨(i 0).val / 512, hlb⟩ (by show (16 * ((i 0).val / 512) + 15) / 16 = (i 0).val / 512; omega)
  have hi : i = (((((cfg0 (adm m hok 0)).win 6).blk ⟨16 * ((i 0).val / 512) + 15, ht⟩).view.emb
      (ix2 (⟨(i 0).val % 512, Nat.mod_lt _ (by decide)⟩ : Fin 512) (i 1 : Fin 4096))) : S147456x4096.Idx) := by
    refine Eq.trans (funext fun a => Fin.ext ?_) he.symm
    match a with
    | ⟨0, _⟩ => show (i 0).val = (i 0).val / 512 * 512 + (i 0).val % 512; omega
    | ⟨1, _⟩ => rfl
  exact Eq.mpr (congrArg (fun x : S147456x4096.Idx => x ∈ (((cfg0 (adm m hok 0)).win 6).blk ⟨16 * ((i 0).val / 512) + 15, ht⟩).view.set) hi)
    (View.emb_mem_set _ _)

theorem final6 (hc : c = 0) (e0 : m ((c : Thread nD τ).loc main_arg0) = be) (e1 : m ((c : Thread nD τ).loc main_arg1) = nb)
    (e2 : m ((c : Thread nD τ).loc main_arg2) = sl) (e3 : m ((c : Thread nD τ).loc main_arg3) = h) (e4 : m ((c : Thread nD τ).loc main_arg4) = wg) (e5 : m ((c : Thread nD τ).loc main_arg5) = bg)
    (e6 : m ((c : Thread nD τ).loc main_arg6) = wd) (e7 : m ((c : Thread nD τ).loc main_arg7) = bd)
    (hbe : ∀ j, (be j).toNat < 32) (hsl : ∀ j, (sl j).toNat < 32768) :
    (datsV m hok c).arrAt 6 (cfg0 (adm m hok 0)).N = outG be nb sl h wg bg wd bd := by
  subst hc
  have ebe : beW m = be := (Va0 m 0).trans e0
  have enb : usedW m = nb (ix1 0) := (congrFun ((Va1 m 0).trans e1) _).trans (congrArg nb (funext fun a => by
    match a with
    | ⟨0, _⟩ => rfl))
  have hN : (cfg0 (adm m hok 0)).N = 4608 := N_0
  refine (datsV m hok 0).arrAt_eq_of_cover 6 _ (fun t ht => ?_) (fun i => ?_)
  · have h15 : t.val % 16 = 15 := (flush6 m hok t).mp ht
    have hlt : t.val < 4608 := lt_N m hok t
    obtain ⟨t, hn⟩ := t
    obtain ⟨b, rfl⟩ : ∃ b : Fin 288, t = 16 * b.val + 15 := by
      have h1 : t % 16 = 15 := h15
      have h2 : t < 4608 := hlt
      exact ⟨⟨t / 16, by omega⟩, by show t = 16 * (t / 16) + 15; omega⟩
    have key : ∀ (r : Fin 512) (j : Fin 4096), outs m hok 0 (16 * b.val + 15) hn (ix2 r j)
        = outG be nb sl h wg bg wd bd (((((cfg0 (adm m hok 0)).win 6).blk ⟨16 * b.val + 15, hn⟩).view.emb (ix2 r j) : S147456x4096.Idx)) := fun r j => by
      refine Eq.trans ?_ (congrArg (outG be nb sl h wg bg wd bd) (emb6 m hok ⟨16 * b.val + 15, hn⟩ r j b (by show (16 * b.val + 15) / 16 = b.val; omega)).symm)
      refine Eq.trans ?_ (outAt_eq be nb sl h wg bg wd bd ⟨b.val * 512 + r.val, by omega⟩ j b (by show (b.val * 512 + r.val) / 512 = b.val; omega)).symm
      rw [← enb]
      by_cases hU : Scalar.cmpi .slt (BitVec.ofNat 32 b.val) (usedW m) = 1#1
      · rw [hU, select_one]
        exact used_final m hok 0 sl h wg bg wd bd e2 e3 e4 e5 e6 e7 b hU (expertOf be b)
          ((congrArg (fun f : S288.Idx → BitVec 32 => (f (ValueIdx.ix1 b)).toNat) ebe).trans ((congrArg (fun y => (be y).toNat) (funext fun a => by
            match a with
            | ⟨0, _⟩ => rfl)).trans (expertOf_val be hbe b))) r (tokenOf sl _) (tokenOf_val sl hsl _) j hn
      · rw [eq_zero_of_ne_one hU, select_zero, unused_outs m hok 0 b hU 15 (by decide) hn, pay4_at]
    have hall : ∀ y : S512x4096.Idx, outs m hok 0 (16 * b.val + 15) hn y
        = outG be nb sl h wg bg wd bd (((((cfg0 (adm m hok 0)).win 6).blk ⟨16 * b.val + 15, hn⟩).view.emb y : S147456x4096.Idx)) := fun y => by
      have hy : y = ix2 (y 0) (y 1) := funext fun a => by
        match a with
        | ⟨0, _⟩ => rfl
        | ⟨1, _⟩ => rfl
      rw [hy]
      exact key _ _
    exact funext hall
  · exact cover6 m hok i

end Cert.KernelIdeal.Exp

end
-- ==== Proof.Val.Result.lean ====
/- The run of the kernel with its result named. -/
module

public import proofs.«01_k».proof.Proof.Val.Run
public import proofs.«01_k».proof.Proof.Val.Final
public import proofs.«01_k».proof.Proof.Idl.Quiet
public import Idealize.ShloMosaic.Lib.Pipeline.Cells

@[expose] public section

set_option maxRecDepth 16384

noncomputable section

namespace Cert.KernelIdeal.Exp

open Cert.KernelIdeal Cert.KernelIdeal.Gen Cert.Experts
open Idealize.ShloMosaic Idealize.ShloMosaic.TcCoe Idealize.ShloMosaic.Pipeline
open Idealize.SL.Sem

variable (m : (ℓ : Loc nD τ sig) → Buf (Elt Ideal) ℓ) (ρ : Dev nD → PrngReg) [Cert.Pre_in_range.Facts]

/-- The result from the argument arrays in memory. -/
def result (c : Dev nD) : S147456x4096.Idx → EReal :=
  outG (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem run_result (h : Ranged m) :
    θ_run (defs (F := Ideal)) (onTc (τ := τ) (main (F := Ideal))) ⟨m, fun _ => 0, ρ⟩ (fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) := by
  refine (θ_run _ _ _).mono (fun r hr c => ?_) (run_val m ρ h.ok h.rows)
  have hin := (in_range_iff _ _ _ _ _ _ _ _ (h c))
  refine ⟨?_, ?_, ?_, ?_, ?_, ?_, ?_, ?_, ?_⟩
  · refine (((datsV m h.ok c).toRForget_arrAt_iff (w := 6) rfl _ _).mp ((hr.1 c).1 6)).trans ?_
    exact final6 m h.ok c _ _ _ _ _ _ _ _ (Subsingleton.elim c 0) rfl rfl rfl rfl rfl rfl rfl rfl hin.1 hin.2
  · exact ((hr.1 c).2 main_arg0 (show main_arg0 ∈ Pipeline.restRefs sig spec0 \ ∅ by decide)).trans (Vh_arg0 m c)
  · exact ((hr.1 c).2 main_arg1 (show main_arg1 ∈ Pipeline.restRefs sig spec0 \ ∅ by decide)).trans (Vh_arg1 m c)
  · exact ((hr.1 c).2 main_arg2 (show main_arg2 ∈ Pipeline.restRefs sig spec0 \ ∅ by decide)).trans (Vh_arg2 m c)
  · exact ((hr.1 c).2 main_arg3 (show main_arg3 ∈ Pipeline.restRefs sig spec0 \ ∅ by decide)).trans (Vh_arg3 m c)
  · exact ((hr.1 c).2 main_arg4 (show main_arg4 ∈ Pipeline.restRefs sig spec0 \ ∅ by decide)).trans (Vh_arg4 m c)
  · exact ((hr.1 c).2 main_arg5 (show main_arg5 ∈ Pipeline.restRefs sig spec0 \ ∅ by decide)).trans (Vh_arg5 m c)
  · exact ((hr.1 c).2 main_arg6 (show main_arg6 ∈ Pipeline.restRefs sig spec0 \ ∅ by decide)).trans (Vh_arg6 m c)
  · exact ((hr.1 c).2 main_arg7 (show main_arg7 ∈ Pipeline.restRefs sig spec0 \ ∅ by decide)).trans (Vh_arg7 m c)

end Cert.KernelIdeal.Exp

end
-- ==== Proof.Val.Gathers.lean ====
/- A gather of whole members along the leading axis, read at an index. -/
module

public import Idealize.ShloMosaic.Lib.Pointwise.Index
public import Idealize.ShloMosaic.Lib.Routing.Ops
public import Idealize.ShloMosaic.Lib.WordCmp

@[expose] public section

noncomputable section

namespace Cert.Experts

open Idealize.ShloMosaic

theorem toInt_small (w : BitVec 32) (h : w.toNat < 2147483648) : w.toInt = w.toNat := by
  rw [BitVec.toInt_eq_toNat_cond, if_pos (by omega)]

theorem not_neg (w : BitVec 32) (h : w.toNat < 2147483648) : ¬IntOp.cmpi CmpIPredicate.slt w 0#32 = 1#1 := by
  have := toInt_small w h
  unfold IntOp.cmpi
  rw [show w.slt 0#32 = false by rw [BitVec.slt]; simp [this]]
  exact show ¬BitVec.ofBool false = 1#1 by decide

theorem one_ne : (1 : Fin 3) ≠ 0 := by decide
theorem two_ne : (2 : Fin 3) ≠ 0 := by decide
theorem not_head {k : Fin 3} (hk : k ≠ 0) : k ∉ ([0] : List (Fin 3)) := fun h => hk (List.mem_singleton.mp h)

/-- Members that are matrices. -/
def members (N B C K : ℕ) (wf : GatherDims.WF ⟨3, ![N, C, K]⟩ ⟨2, ![B, 1]⟩ ⟨3, ![B, C, K]⟩ [1, 2] [0] [] [0] [] 1 ![1, C, K]) :
    GatherDims ⟨3, ![N, C, K]⟩ ⟨2, ![B, 1]⟩ ⟨3, ![B, C, K]⟩ where
  offsetDims := [1, 2]
  collapsedSliceDims := [0]
  operandBatchingDims := []
  startIndicesBatchingDims := []
  startIndexMap := [0]
  indexVectorDim := 1
  sliceSizes := ![1, C, K]
  wf := wf

theorem members_at {α : Type} {N B C K : ℕ} (wf) (x : (⟨3, ![N, C, K]⟩ : Shape).Idx → α) (idx : IVec ⟨2, ![B, 1]⟩ 32) (b : Fin B) (i : Fin C) (j : Fin K)
    (e : Fin N) (he : (idx (ix2 b 0)).toNat = e.val) (hN : N ≤ 2147483648) :
    Host.gather (members N B C K wf) x idx (ix3 b i j) = x (ix3 e i j) := by
  unfold Host.gather
  refine congrArg x (funext fun a => Fin.ext ?_)
  match a with
  | ⟨0, _⟩ =>
    show (members N B C K wf).start (ix3 b i j) idx 0 + (members N B C K wf).batchCoord (ix3 b i j) 0 + (members N B C K wf).offCoord (ix3 b i j) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (members N B C K wf).startIndexMap from List.mem_singleton.mpr rfl)]
    have hsi : (members N B C K wf).siIdx (ix3 b i j) ⟨List.idxOf (0 : Fin 3) (members N B C K wf).startIndexMap,
        List.idxOf_lt_length_iff.2 (List.mem_singleton.mpr rfl)⟩ = ix2 b 0 := by
      funext q; refine Fin.ext ?_
      match q with
      | ⟨0, _⟩ => rfl
      | ⟨1, _⟩ => rfl
    rw [hsi]
    have hl := e.isLt
    have := toInt_small (idx (ix2 b 0)) (by omega)
    show min (idx (ix2 b 0)).toInt.toNat (N - 1) = e.val
    omega
  | ⟨1, _⟩ =>
    show (members N B C K wf).start (ix3 b i j) idx 1 + (members N B C K wf).batchCoord (ix3 b i j) 1 + (members N B C K wf).offCoord (ix3 b i j) 1 = i.val
    rw [GatherDims.batchCoord_eq_zero _ _ _ List.not_mem_nil]
    unfold GatherDims.start GatherDims.offCoord
    rw [dif_neg (show (1 : Fin 3) ∉ (members N B C K wf).startIndexMap from not_head one_ne),
      dif_pos (show (1 : Fin 3) ∈ (members N B C K wf).sKept from (GatherDims.mem_sKept _ _).mpr ⟨not_head one_ne, List.not_mem_nil⟩)]
    show 0 + 0 + _ = _
    rw [Nat.zero_add]
    rfl
  | ⟨2, _⟩ =>
    show (members N B C K wf).start (ix3 b i j) idx 2 + (members N B C K wf).batchCoord (ix3 b i j) 2 + (members N B C K wf).offCoord (ix3 b i j) 2 = j.val
    rw [GatherDims.batchCoord_eq_zero _ _ _ List.not_mem_nil]
    unfold GatherDims.start GatherDims.offCoord
    rw [dif_neg (show (2 : Fin 3) ∉ (members N B C K wf).startIndexMap from not_head two_ne),
      dif_pos (show (2 : Fin 3) ∈ (members N B C K wf).sKept from (GatherDims.mem_sKept _ _).mpr ⟨not_head two_ne, List.not_mem_nil⟩)]
    show 0 + 0 + _ = _
    rw [Nat.zero_add]
    rfl

end Cert.Experts

end
-- ==== Proof.Val.Ref.lean ====
/- The reference read at an index, over the extended reals. -/
module

public import proofs.«01_k».proof.Proof.Gen.ReferenceIdeal.Run
public import proofs.«01_k».proof.Proof.Val.Spec
public import proofs.«01_k».proof.Proof.Val.Gathers
public import Idealize.ShloMosaic.Lib.ValueIdxCore
public import Idealize.ShloMosaic.Lib.Pointwise.Tactic
public import Idealize.ShloMosaic.Lib.Pointwise.Contract
public import Idealize.ShloMosaic.Lib.Pointwise.Reshape

@[expose] public section

set_option maxRecDepth 16384

noncomputable section

namespace Cert.ReferenceIdeal.Exp

open Cert.ReferenceIdeal Cert.ReferenceIdeal.Gen Cert.ReferenceIdeal.Value
open Idealize.ShloMosaic Idealize.ShloMosaic.TcCoe Idealize.SL.Sem
open Cert.Experts
open Idealize.ShloMosaic.ValueIdx (eq_zero_of_ne_one select_zero select_one)
open scoped BigOperators

/-! ## The reference in stages -/

/-- The linear units of every block. -/
def zed (X : FVec Ideal S147456x4096 .f32) (W : FVec Ideal S288x4096x8192 .f32) (B : FVec Ideal S288x8192 .f32) : FVec Ideal S288x512x8192 .f32 :=
  addf (Host.dotGeneral dot_S288x512x4096_S288x4096x8192_S288x512x8192_2_1_1_2_0_0 none (shapeCast _ X shapeCasts_S147456x4096_S288x512x4096) W) (broadcastInDim S288x512x8192 ![0, 1, 2] bcast_S288x1x8192_S288x512x8192_0_1_2 (broadcastInDim S288x1x8192 ![0, 2] bcast_S288x8192_S288x1x8192_0_2 B))

/-- The gated units. -/
def gated (z : FVec Ideal S288x512x8192 .f32) : FVec Ideal S288x512x4096 .f32 :=
  mulf (mulf (minimumf (extractStridedSlice S288x512x4096 ![0, 0, 0] z slices_S288x512x8192_S288x512x4096_0_0_0) (broadcastInDim S288x512x4096 ![] bcast_S_S288x512x4096 (constant S_ .f32 0x40E00000#32))) (Host.divf (broadcastInDim S288x512x4096 ![] bcast_S_S288x512x4096 (constant S_ .f32 0x3F800000#32)) (addf (broadcastInDim S288x512x4096 ![] bcast_S_S288x512x4096 (constant S_ .f32 0x3F800000#32)) (Host.exp (Host.negf (mulf (broadcastInDim S288x512x4096 ![] bcast_S_S288x512x4096 (constant S_ .f32 0x3FD9DB23#32)) (minimumf (extractStridedSlice S288x512x4096 ![0, 0, 0] z slices_S288x512x8192_S288x512x4096_0_0_0) (broadcastInDim S288x512x4096 ![] bcast_S_S288x512x4096 (constant S_ .f32 0x40E00000#32))))))))) (addf (minimumf (broadcastInDim S288x512x4096 ![] bcast_S_S288x512x4096 (id (constant S_ .f32 0x40E00000#32))) (maximumf (broadcastInDim S288x512x4096 ![] bcast_S_S288x512x4096 (id (constant S_ .f32 0xC0E00000#32))) (extractStridedSlice S288x512x4096 ![0, 0, 4096] z slices_S288x512x8192_S288x512x4096_0_0_4096))) (broadcastInDim S288x512x4096 ![] bcast_S_S288x512x4096 (constant S_ .f32 0x3F800000#32)))

/-- The result of every block. -/
def fin (u : IVec S1 32) (h : FVec Ideal S288x512x4096 .f32) (D : FVec Ideal S288x4096x4096 .f32) (d : FVec Ideal S288x4096 .f32) : FVec Ideal S147456x4096 .f32 :=
  shapeCast _ (select (broadcastInDim S288x512x4096 ![0, 1, 2] bcast_S288x1x1_S288x512x4096_0_1_2 (broadcastInDim S288x1x1 ![0] bcast_S288_S288x1x1_0 (cmpi .slt (iotaInDim S288 32 0) (broadcastInDim S288 ![0] bcast_S1_S288_0 u)))) (addf (Host.dotGeneral dot_S288x512x4096_S288x4096x4096_S288x512x4096_2_1_1_2_0_0 none h D) (broadcastInDim S288x512x4096 ![0, 1, 2] bcast_S288x1x4096_S288x512x4096_0_1_2 (broadcastInDim S288x1x4096 ![0, 2] bcast_S288x4096_S288x1x4096_0_2 d))) (broadcastInDim S288x512x4096 ![] bcast_S_S288x512x4096 (id (constant S_ .f32 0x00000000#32)))) shapeCasts_S288x512x4096_S147456x4096

/-- A row of indices, a negative one counted from the end. -/
def wrap288 (a : IVec S288 32) : IVec S288x1 32 :=
  broadcastInDim S288x1 ![0] bcast_S288_S288x1_0 (select (cmpi .slt a (broadcastInDim S288 ![] bcast_S_S288 (constantI S_ 32 0#32))) (addi a (broadcastInDim S288 ![] bcast_S_S288 (constantI S_ 32 32#32))) a)
def wrapRows (a : IVec S147456 32) : IVec S147456x1 32 :=
  broadcastInDim S147456x1 ![0] bcast_S147456_S147456x1_0 (select (cmpi .slt a (broadcastInDim S147456 ![] bcast_S_S147456 (constantI S_ 32 0#32))) (addi a (broadcastInDim S147456 ![] bcast_S_S147456 (constantI S_ 32 32768#32))) a)

theorem res_eq (m : (ℓ : Loc nD τ sig) → Buf (Elt Ideal) ℓ) (c : Dev nD) : res_main_v70 m c
    = fin (m ((c.tc : Thread nD τ).loc main_arg1))
      (gated (zed (Host.gather gather_S32768x4096_S147456x1_S147456x4096_1_0_n_n_0_1_14096 (m ((c.tc : Thread nD τ).loc main_arg3)) (wrapRows (m ((c.tc : Thread nD τ).loc main_arg2))))
        (Host.gather gather_S32x4096x8192_S288x1_S288x4096x8192_12_0_n_n_0_1_140968192 (shapeCast S32x4096x8192 (m ((c.tc : Thread nD τ).loc main_arg4)) shapeCasts_S1x32x4096x8192_S32x4096x8192) (wrap288 (m ((c.tc : Thread nD τ).loc main_arg0))))
        (Host.gather gather_S32x8192_S288x1_S288x8192_1_0_n_n_0_1_18192 (shapeCast S32x8192 (m ((c.tc : Thread nD τ).loc main_arg5)) shapeCasts_S1x32x8192_S32x8192) (wrap288 (m ((c.tc : Thread nD τ).loc main_arg0))))))
      (Host.gather gather_S32x4096x4096_S288x1_S288x4096x4096_12_0_n_n_0_1_140964096 (shapeCast S32x4096x4096 (m ((c.tc : Thread nD τ).loc main_arg6)) shapeCasts_S1x32x4096x4096_S32x4096x4096) (wrap288 (m ((c.tc : Thread nD τ).loc main_arg0))))
      (Host.gather gather_S32x4096_S288x1_S288x4096_1_0_n_n_0_1_14096 (shapeCast S32x4096 (m ((c.tc : Thread nD τ).loc main_arg7)) shapeCasts_S1x32x4096_S32x4096) (wrap288 (m ((c.tc : Thread nD τ).loc main_arg0)))) := by
  unfold res_main_v70 fin gated zed wrap288 wrapRows
  rfl

/-! ## Each stage at an index -/

theorem zed_at (X : FVec Ideal S147456x4096 .f32) (W : FVec Ideal S288x4096x8192 .f32) (B : FVec Ideal S288x8192 .f32) (b : Fin 288) (r : Fin 512) (j : Fin 8192) :
    zed X W B (ix3 b r j) = (∑ i : Fin 4096, X (ix2 ⟨b.val * 512 + r.val, by omega⟩ i) * W (ix3 b i j)) + B (ix2 b j) := by
  unfold zed
  pointwise

theorem gated_at (z : FVec Ideal S288x512x8192 .f32) (b : Fin 288) (r : Fin 512) (k : Fin 4096) :
    gated z (ix3 b r k) = glu (z (ix3 b r ⟨k.val, by omega⟩)) (z (ix3 b r ⟨4096 + k.val, by omega⟩)) := by
  unfold gated glu
  unfold Ideal.logistic
  pointwise
  rfl

theorem fin_at (u : IVec S1 32) (h : FVec Ideal S288x512x4096 .f32) (D : FVec Ideal S288x4096x4096 .f32) (d : FVec Ideal S288x4096 .f32) (R : Fin 147456) (j : Fin 4096) :
    fin u h D d (ix2 R j) = Scalar.select (Scalar.cmpi .slt (BitVec.ofNat 32 (R.val / 512)) (u (ix1 0)))
      ((∑ k : Fin 4096, h (ix3 ⟨R.val / 512, by omega⟩ ⟨R.val % 512, by omega⟩ k) * D (ix3 ⟨R.val / 512, by omega⟩ k j)) + d (ix2 ⟨R.val / 512, by omega⟩ j)) 0 := by
  unfold fin
  pointwise
  exact congrArg (Scalar.select _ _) Ideal.ofBits_zero_f32

theorem wrap288_at (a : IVec S288 32) (b : Fin 288) (h : (a (ix1 b)).toNat < 32) : wrap288 a (ix2 b 0) = a (ix1 b) := by
  unfold wrap288
  pointwise
  rw [eq_zero_of_ne_one (not_neg _ (by omega)), select_zero]
theorem wrapRows_at (a : IVec S147456 32) (b : Fin 147456) (h : (a (ix1 b)).toNat < 32768) : wrapRows a (ix2 b 0) = a (ix1 b) := by
  unfold wrapRows
  pointwise
  rw [eq_zero_of_ne_one (not_neg _ (by omega)), select_zero]

/-! ## The whole reference at an index -/

theorem res_at (m : (ℓ : Loc nD τ sig) → Buf (Elt Ideal) ℓ) (c : Dev nD)
    (be : IVec S288 32) (nb : IVec S1 32) (sl : IVec S147456 32) (h : FVec Ideal S32768x4096 .f32) (wg : FVec Ideal S1x32x4096x8192 .f32) (bg : FVec Ideal S1x32x8192 .f32)
    (wd : FVec Ideal S1x32x4096x4096 .f32) (bd : FVec Ideal S1x32x4096 .f32)
    (e0 : m ((c.tc : Thread nD τ).loc main_arg0) = be) (e1 : m ((c.tc : Thread nD τ).loc main_arg1) = nb) (e2 : m ((c.tc : Thread nD τ).loc main_arg2) = sl)
    (e3 : m ((c.tc : Thread nD τ).loc main_arg3) = h) (e4 : m ((c.tc : Thread nD τ).loc main_arg4) = wg) (e5 : m ((c.tc : Thread nD τ).loc main_arg5) = bg)
    (e6 : m ((c.tc : Thread nD τ).loc main_arg6) = wd) (e7 : m ((c.tc : Thread nD τ).loc main_arg7) = bd)
    (R : Fin 147456) (j : Fin 4096) (e : Fin 32) (he : (be (ix1 ⟨R.val / 512, by omega⟩)).toNat = e.val) (s : Fin 32768) (hs : (sl (ix1 R)).toNat = s.val) :
    res_main_v70 m c (ix2 R j) = Scalar.select (Scalar.cmpi .slt (BitVec.ofNat 32 (R.val / 512)) (nb (ix1 0)))
      (row (fun i => h (ix2 s i)) (fun i k => wg (ix4 0 e i k)) (fun k => bg (ix3 0 e k)) (fun k j => wd (ix4 0 e k j)) (fun j => bd (ix3 0 e j)) j) 0 := by
  have hb := wrap288_at be ⟨R.val / 512, by omega⟩ (by omega)
  have hr := wrapRows_at sl R (by omega)
  have he' : (wrap288 be (ix2 ⟨R.val / 512, by omega⟩ 0)).toNat = e.val := by rw [hb]; exact he
  have hs' : (wrapRows sl (ix2 R 0)).toNat = s.val := by rw [hr]; exact hs
  have g1 : ∀ i : Fin 4096, Host.gather gather_S32768x4096_S147456x1_S147456x4096_1_0_n_n_0_1_14096 h (wrapRows sl) (ix2 R i) = h (ix2 s i) := fun i =>
    Routing.gather_row _ rfl rfl rfl rfl rfl h (wrapRows sl) R i s (BitVec.eq_of_toNat_eq (by rw [BitVec.toNat_ofNat]; exact hs'.trans (by omega))) (by decide)
  have g2 : ∀ (i : Fin 4096) (k : Fin 8192), Host.gather gather_S32x4096x8192_S288x1_S288x4096x8192_12_0_n_n_0_1_140968192 (shapeCast S32x4096x8192 wg shapeCasts_S1x32x4096x8192_S32x4096x8192) (wrap288 be) (ix3 ⟨R.val / 512, by omega⟩ i k) = wg (ix4 0 e i k) := fun i k => by
    refine (members_at _ _ (wrap288 be) _ i k e he' (by decide)).trans ?_
    pointwise
  have g3 : ∀ (k : Fin 8192), Host.gather gather_S32x8192_S288x1_S288x8192_1_0_n_n_0_1_18192 (shapeCast S32x8192 bg shapeCasts_S1x32x8192_S32x8192) (wrap288 be) (ix2 ⟨R.val / 512, by omega⟩ k) = bg (ix3 0 e k) := fun k => by
    refine (Routing.gather_row _ rfl rfl rfl rfl rfl _ (wrap288 be) ⟨R.val / 512, by omega⟩ k e (BitVec.eq_of_toNat_eq (by rw [BitVec.toNat_ofNat]; exact he'.trans (by omega))) (by decide)).trans ?_
    pointwise
  have g4 : ∀ (i : Fin 4096) (k : Fin 4096), Host.gather gather_S32x4096x4096_S288x1_S288x4096x4096_12_0_n_n_0_1_140964096 (shapeCast S32x4096x4096 wd shapeCasts_S1x32x4096x4096_S32x4096x4096) (wrap288 be) (ix3 ⟨R.val / 512, by omega⟩ i k) = wd (ix4 0 e i k) := fun i k => by
    refine (members_at _ _ (wrap288 be) _ i k e he' (by decide)).trans ?_
    pointwise
  have g5 : ∀ (k : Fin 4096), Host.gather gather_S32x4096_S288x1_S288x4096_1_0_n_n_0_1_14096 (shapeCast S32x4096 bd shapeCasts_S1x32x4096_S32x4096) (wrap288 be) (ix2 ⟨R.val / 512, by omega⟩ k) = bd (ix3 0 e k) := fun k => by
    refine (Routing.gather_row _ rfl rfl rfl rfl rfl _ (wrap288 be) ⟨R.val / 512, by omega⟩ k e (BitVec.eq_of_toNat_eq (by rw [BitVec.toNat_ofNat]; exact he'.trans (by omega))) (by decide)).trans ?_
    pointwise
  have hR : (⟨R.val / 512 * 512 + R.val % 512, by omega⟩ : Fin 147456) = R := Fin.ext (by show R.val / 512 * 512 + R.val % 512 = R.val; omega)
  rw [res_eq, e0, e1, e2, e3, e4, e5, e6, e7, fin_at]
  unfold row lin hid lin
  refine congrArg₂ (Scalar.select _) ?_ rfl
  rw [g5]
  refine congrArg₂ (· + ·) (Finset.sum_congr rfl fun k _ => ?_) rfl
  rw [g4, gated_at, zed_at, zed_at, g3, g3]
  refine congrArg₂ (· * ·) (congrArg₂ glu ?_ ?_) rfl
  · refine congrArg₂ (· + ·) (Finset.sum_congr rfl fun i _ => ?_) rfl
    rw [g2, hR, g1]
  · refine congrArg₂ (· + ·) (Finset.sum_congr rfl fun i _ => ?_) rfl
    rw [g2, hR, g1]

end Cert.ReferenceIdeal.Exp

end
-- ==== Proof.Mm.Spec.lean ====
/- What the products compute, over the extended reals, and the facts about tiles that every one of them uses. -/
module

public import Idealize.ShloMosaic.Lib.Pointwise.Tactic
public import Idealize.ShloMosaic.Lib.Pointwise.Sums

@[expose] public section

noncomputable section

namespace Cert.Mm

open Idealize.ShloMosaic
open scoped BigOperators

/-- The arrays of two axes. -/
abbrev Mat (M N : ℕ) : Type := (⟨2, ![M, N]⟩ : Shape).Idx → EReal

/-- The product of two arrays. -/
def dot {M K N : ℕ} (x : Mat M K) (w : Mat K N) : Mat M N := fun i => ∑ k : Fin K, x (ix2 (n0 := M) (n1 := K) (i 0) k) * w (ix2 (n0 := K) (n1 := N) k (i 1))

/-- The one layer that weights with a leading axis of size one hold. -/
def layer {K N : ℕ} (w : (⟨3, ![1, K, N]⟩ : Shape).Idx → EReal) : Mat K N := fun i => w (ix3 (n0 := 1) (n1 := K) (n2 := N) 0 (i 0) (i 1))

/-- A product scaled by the logistic function of a gate. -/
def gated {M K N : ℕ} (y : Mat M K) (w : Mat K N) (g : Mat M N) : Mat M N := fun i => Ideal.logistic (g i) * dot y w i

/-- Such a product added to what there was. -/
def gatedAdd {M K N : ℕ} (y : Mat M K) (w : Mat K N) (p g : Mat M N) : Mat M N := fun i => p i + gated y w g i

/-- An array scaled by the logistic function of its own product plus a bias. -/
def selfGated {M N : ℕ} (y : Mat M N) (w : Mat N N) (b : Mat 1 N) : Mat M N :=
  fun i => y i * Ideal.logistic (dot y w i + b (ix2 (n0 := 1) (n1 := N) 0 (i 1)))

/-- A product over 4096 is the sum of the products over its two halves, whatever blocks hold the halves. -/
theorem dot_halves {M N : ℕ} (x : Mat M 4096) (w : Mat 4096 N) (i : (⟨2, ![M, N]⟩ : Shape).Idx) (x0 x1 : Mat 1024 2048) (w0 w1 : Mat 2048 1024) (r q : Fin 1024)
    (hx0 : ∀ k : Fin 2048, x0 (ix2 r k) = x (ix2 (n0 := M) (i 0) ⟨0 * 2048 + k.val, by omega⟩))
    (hw0 : ∀ k : Fin 2048, w0 (ix2 k q) = w (ix2 (n1 := N) ⟨0 * 2048 + k.val, by omega⟩ (i 1)))
    (hx1 : ∀ k : Fin 2048, x1 (ix2 r k) = x (ix2 (n0 := M) (i 0) ⟨1 * 2048 + k.val, by omega⟩))
    (hw1 : ∀ k : Fin 2048, w1 (ix2 k q) = w (ix2 (n1 := N) ⟨1 * 2048 + k.val, by omega⟩ (i 1))) :
    ∑ k : Fin 2048, x0 (ix2 r k) * w0 (ix2 k q) + ∑ k : Fin 2048, x1 (ix2 r k) * w1 (ix2 k q) = dot x w i := by
  unfold dot
  rw [Idealize.ShloMosaic.Fin.sum_univ_tiles 2 2048 (by decide) (fun k : Fin 4096 => _), Fin.sum_univ_two]
  simp only [hx0, hw0, hx1, hw1]
  rfl

/-- Two arrays that agree at every row and column are the same. -/
theorem ext2 {M N : ℕ} (f g : Mat M N) (h : ∀ (r : Fin M) (q : Fin N), f (ix2 r q) = g (ix2 r q)) : f = g :=
  funext fun i => by rw [eq_ix2 i]; exact h _ _

/-- Two arrays that agree on every tile of 1024 by 1024 are the same. -/
theorem ext_tiles {N J : ℕ} (hN : N = J * 1024) (f g : Mat 32768 N)
    (h : ∀ (a : Fin 32) (b : Fin J) (r q : Fin 1024), f (ix2 ⟨a.val * 1024 + r.val, by omega⟩ ⟨b.val * 1024 + q.val, by omega⟩) =
      g (ix2 ⟨a.val * 1024 + r.val, by omega⟩ ⟨b.val * 1024 + q.val, by omega⟩)) : f = g := by
  funext i
  have h0 : (i 0).val < 32768 := (i 0).isLt
  have h1 : (i 1).val < N := (i 1).isLt
  have hi : i = ix2 (n0 := 32768) (n1 := N) ⟨(i 0).val / 1024 * 1024 + (i 0).val % 1024, by omega⟩ ⟨(i 1).val / 1024 * 1024 + (i 1).val % 1024, by omega⟩ := by
    funext d
    match d with
    | ⟨0, _⟩ => exact Fin.ext (Nat.div_add_mod' _ _).symm
    | ⟨1, _⟩ => exact Fin.ext (Nat.div_add_mod' _ _).symm
  rw [hi]
  exact h ⟨(i 0).val / 1024, by omega⟩ ⟨(i 1).val / 1024, by omega⟩ ⟨(i 0).val % 1024, Nat.mod_lt _ (by decide)⟩ ⟨(i 1).val % 1024, Nat.mod_lt _ (by decide)⟩

end Cert.Mm

end
-- ==== Proof.Mm.Gates.lean ====
/- The product of the gates and of the mixer's output, tile by tile: what the run leaves in the result array. -/
module

public import proofs.«01_k».proof.Proof.Mm.Spec
public import proofs.«01_k».proof.Proof.Gen.Kernel2Ideal.Value
public import Idealize.ShloMosaic.Lib.Pipeline.Value
public import Idealize.ShloMosaic.Lib.StableHlo.Run
public import Idealize.ShloMosaic.Lib.Pointwise.Tactic
public import Idealize.ShloMosaic.Lib.Pointwise.Contract
public import Idealize.ShloMosaic.Lib.Pointwise.Reshape
public import Idealize.ShloMosaic.Lib.Pointwise.Sums

@[expose] public section

set_option maxRecDepth 16384

noncomputable section

namespace Cert.Kernel2Ideal.Mm

open Cert.Kernel2Ideal Cert.Kernel2Ideal.Gen Cert.Kernel2Ideal.Value
open Idealize.ShloMosaic Idealize.ShloMosaic.TcCoe Idealize.SL.Sem
open scoped BigOperators

/-! ## What the body leaves at the two points of a tile -/

section Body

variable {F : FTy → Type} [FloatOps F]

theorem hz : (![0, 0] : Fin 2 → Nat) = fun _ => 0 := funext fun a => by fin_cases a <;> rfl

/-- The first point of a tile leaves the product of the first halves in the scratch. -/
theorem scratch_first (c : Dev nD) (i : grid0.Coords) (a4 : Memref sig .tc .vmem S1024x2048 .bf16) (h4 : a4.IsWhole) (a5 : Memref sig .tc .vmem S2048x1024 .bf16) (h5 : a5.IsWhole)
    (a6 : Memref sig .tc .vmem S1024x1024 .f32) (h6 : a6.IsWhole) (a7 : Memref sig .tc .vmem S1024x1024 .f32) (h7 : a7.IsWhole) (hc0 : cond0_0 i) (hc1 : ¬cond0_1 i) (hc2 : ¬cond0_2 i)
    (x : Vec F S1024x2048 .bf16) (w : Vec F S2048x1024 .bf16) :
    sout0_A_0 c i a4 h4 a5 h5 a6 h6 a7 h7 hc0 hc1 hc2 x w = k0_pay2 x w := by
  unfold sout0_A_0
  rw [View.read_writes_eq_canon _ _ _ (scover0_A_0 c i a4 h4 a5 h5 a6 h6 a7 h7 hc0 hc1 hc2 x w)]
  unfold kernelRun0_A
  dsimp only
  rw [View.canon_unit_zero hz]
  simp only [View.readAt_eq_ld, h4.read_unread, h5.read_unread, View.ld_unit_zero (S := S1024x2048) hz, View.ld_unit_zero (S := S2048x1024) hz]

/-- The second point adds the product of the second halves to what the scratch holds, and stores the sum. -/
theorem out_second (c : Dev nD) (i : grid0.Coords) (a4 : Memref sig .tc .vmem S1024x2048 .bf16) (h4 : a4.IsWhole) (a5 : Memref sig .tc .vmem S2048x1024 .bf16) (h5 : a5.IsWhole)
    (a6 : Memref sig .tc .vmem S1024x1024 .f32) (h6 : a6.IsWhole) (a7 : Memref sig .tc .vmem S1024x1024 .f32) (h7 : a7.IsWhole) (hc0 : ¬cond0_0 i) (hc1 : ¬cond0_1 i) (hc2 : cond0_2 i)
    (x : Vec F S1024x2048 .bf16) (w : Vec F S2048x1024 .bf16) (s : Vec F S1024x1024 .f32) :
    out0_B_2 c i a4 h4 a5 h5 a6 h6 a7 h7 hc0 hc1 hc2 x w s = k0_pay4 x w s := by
  unfold out0_B_2
  rw [View.read_writes_eq_canon _ _ _ (cover0_B_2 c i a4 h4 a5 h5 a6 h6 a7 h7 hc0 hc1 hc2 x w s)]
  unfold kernelRun0_B
  dsimp only
  rw [View.canon_unit_zero hz]
  simp only [View.readAt_eq_ld, h4.read_unread, h5.read_unread, h7.read_unread, View.ld_unit_zero (S := S1024x2048) hz, View.ld_unit_zero (S := S2048x1024) hz, View.ld_unit_zero (S := S1024x1024) hz]

variable (m : (ℓ : Loc nD τ sig) → Buf (Elt F) ℓ)

/-- After the second point of a tile the output's block is the sum of the two products. -/
theorem outs_second (c : Dev nD) (n : ℕ) (h : n + 1 < cfg0.N) (he : n % 2 = 0) :
    (outsAt0 m c (n + 1) h).1 = k0_pay4 (iblk m c 0 ⟨n + 1, h⟩) (iblk m c 1 ⟨n + 1, h⟩)
      (k0_pay2 (iblk m c 0 ⟨n, Nat.lt_of_succ_lt h⟩) (iblk m c 1 ⟨n, Nat.lt_of_succ_lt h⟩)) := by
  have eB := outsAt0_B m c ⟨n + 1, h⟩ (by dsimp only; omega) (by dsimp only; omega)
  have eA := outsAt0_A m c ⟨n, Nat.lt_of_succ_lt h⟩ he (by dsimp only; omega)
  rw [out_second] at eB
  rw [scratch_first] at eA
  exact (congrArg Prod.fst eB).trans (congrArg (k0_pay4 _ _) (congrArg Prod.snd eA))

/-! ## The blocks the windows bring -/

theorem idx0 : ∀ t : Fin cfg0.N, win0_0.index t (0 : Fin 2) = t.val / 8 ∧ win0_0.index t (1 : Fin 2) = t.val % 2 :=
  (by decide +kernel : ∀ t : Fin grid0.N, _)
theorem idx1 : ∀ t : Fin cfg0.N, win0_1.index t (0 : Fin 2) = t.val % 2 ∧ win0_1.index t (1 : Fin 2) = t.val / 2 % 4 :=
  (by decide +kernel : ∀ t : Fin grid0.N, _)

theorem lt256 (t : Fin cfg0.N) : t.val < 256 := lt_of_lt_of_eq t.isLt N_0

/-- The weights, in the narrow format, as the region meets them. -/
theorem V_main_v0 (c : Dev nD) : V m c main_v0 = truncf .bf16 (m ((c : Thread nD τ).loc main_arg1)) bitsLt_bf16_f32 := by
  unfold V
  after_results

theorem blockX (c : Dev nD) (t : Fin cfg0.N) (r : Fin 1024) (k : Fin 2048) :
    (iblk m c 0 t : Vec F S1024x2048 .bf16) (ix2 r k) = (m ((c : Thread nD τ).loc main_arg0) : Vec F S32768x4096 .bf16)
      (ix2 ⟨t.val / 8 * 1024 + r.val, by have := lt256 t; omega⟩ ⟨t.val % 2 * 2048 + k.val, by omega⟩) := by
  have hi := idx0 t
  rw [← V_main_arg0 m c]
  unfold iblk
  rw [View.read_apply]
  refine congrArg (V m c main_arg0) (funext fun a => Fin.ext ?_)
  match a with
  | ⟨0, _⟩ => show win0_0.index t 0 * 1024 + 1 * r.val = _; rw [hi.1, Nat.one_mul]; rfl
  | ⟨1, _⟩ => show win0_0.index t 1 * 2048 + 1 * k.val = _; rw [hi.2, Nat.one_mul]; rfl

theorem blockW (c : Dev nD) (t : Fin cfg0.N) (k : Fin 2048) (q : Fin 1024) :
    (iblk m c 1 t : Vec F S2048x1024 .bf16) (ix2 k q) = (truncf .bf16 (m ((c : Thread nD τ).loc main_arg1)) bitsLt_bf16_f32 : Vec F S4096x4096 .bf16)
      (ix2 ⟨t.val % 2 * 2048 + k.val, by omega⟩ ⟨t.val / 2 % 4 * 1024 + q.val, by omega⟩) := by
  have hi := idx1 t
  rw [← V_main_v0 m c]
  unfold iblk
  rw [View.read_apply]
  refine congrArg (V m c main_v0) (funext fun a => Fin.ext ?_)
  match a with
  | ⟨0, _⟩ => show win0_1.index t 0 * 2048 + 1 * k.val = _; rw [hi.1, Nat.one_mul]; rfl
  | ⟨1, _⟩ => show win0_1.index t 1 * 1024 + 1 * q.val = _; rw [hi.2, Nat.one_mul]; rfl

end Body

/-! ## The arithmetic at an index, over the extended reals -/

theorem pay2_at (x : S1024x2048.Idx → EReal) (w : S2048x1024.Idx → EReal) (r q : Fin 1024) :
    k0_pay2 (F := Ideal) x w (ix2 r q) = ∑ k : Fin 2048, x (ix2 r k) * w (ix2 k q) := by
  unfold k0_pay2 k0_pay1
  pointwise

theorem pay4_at (x : S1024x2048.Idx → EReal) (w : S2048x1024.Idx → EReal) (s : S1024x1024.Idx → EReal) (r q : Fin 1024) :
    k0_pay4 (F := Ideal) x w s (ix2 r q) = s (ix2 r q) + ∑ k : Fin 2048, x (ix2 r k) * w (ix2 k q) := by
  unfold k0_pay4 k0_pay1
  pointwise

variable (m : (ℓ : Loc nD τ sig) → Buf (Elt Ideal) ℓ)

/-- What the run leaves in the result array is the product, a sum over the two halves. -/
theorem result_eq (c : Dev nD) : G2 m c = Cert.Mm.dot (m ((c : Thread nD τ).loc main_arg0)) (m ((c : Thread nD τ).loc main_arg1)) := by
  funext i
  have h0 : (i 0).val < 32768 := (i 0).isLt
  have h1 : (i 1).val < 4096 := (i 1).isLt
  have hp : pt2Of i < cfg0.N := lt_of_lt_of_eq (show 2 * (4 * ((i 0).val / 1024 - 0) + 1 * ((i 1).val / 1024 - 0)) + 1 < 256 by omega) N_0.symm
  unfold G2
  rw [dif_pos hp, ← outsAt0_sweep m c (pt2Of i) hp, outs_second m c (2 * run2Of i) hp (by omega)]
  have hl : loc2Of i = ix2 ⟨(i 0).val % 1024, by omega⟩ ⟨(i 1).val % 1024, by omega⟩ := funext fun a => by
    match a with
    | ⟨0, _⟩ => rfl
    | ⟨1, _⟩ => rfl
  rw [hl, pay4_at, pay2_at]
  have hr : run2Of i = 4 * ((i 0).val / 1024) + (i 1).val / 1024 := by
    show 4 * ((i 0).val / 1024 - 0) + 1 * ((i 1).val / 1024 - 0) = _
    omega
  refine Cert.Mm.dot_halves (m ((c : Thread nD τ).loc main_arg0)) (m ((c : Thread nD τ).loc main_arg1)) i _ _ _ _ _ _ (fun k => ?_) (fun k => ?_) (fun k => ?_) (fun k => ?_)
  · exact (blockX m c ⟨2 * run2Of i, _⟩ _ k).trans (congrArg _ (congrArg₂ ix2
      (Fin.ext (show 2 * run2Of i / 8 * 1024 + (i 0).val % 1024 = (i 0).val by omega)) (Fin.ext (show 2 * run2Of i % 2 * 2048 + k.val = 0 * 2048 + k.val by omega))))
  · exact (blockW m c ⟨2 * run2Of i, _⟩ k _).trans (congrArg (m ((c : Thread nD τ).loc main_arg1) : S4096x4096.Idx → EReal) (congrArg₂ ix2
      (Fin.ext (show 2 * run2Of i % 2 * 2048 + k.val = 0 * 2048 + k.val by omega)) (Fin.ext (show 2 * run2Of i / 2 % 4 * 1024 + (i 1).val % 1024 = (i 1).val by omega))))
  · exact (blockX m c ⟨2 * run2Of i + 1, _⟩ _ k).trans (congrArg _ (congrArg₂ ix2
      (Fin.ext (show (2 * run2Of i + 1) / 8 * 1024 + (i 0).val % 1024 = (i 0).val by omega)) (Fin.ext (show (2 * run2Of i + 1) % 2 * 2048 + k.val = 1 * 2048 + k.val by omega))))
  · exact (blockW m c ⟨2 * run2Of i + 1, _⟩ k _).trans (congrArg (m ((c : Thread nD τ).loc main_arg1) : S4096x4096.Idx → EReal) (congrArg₂ ix2
      (Fin.ext (show (2 * run2Of i + 1) % 2 * 2048 + k.val = 1 * 2048 + k.val by omega)) (Fin.ext (show (2 * run2Of i + 1) / 2 % 4 * 1024 + (i 1).val % 1024 = (i 1).val by omega))))

end Cert.Kernel2Ideal.Mm

end
-- ==== Proof.Mm.Hyena.lean ====
/- The product of the convolutions' input, tile by tile: what the run leaves in the result array. -/
module

public import proofs.«01_k».proof.Proof.Mm.Spec
public import proofs.«01_k».proof.Proof.Gen.Kernel3Ideal.Value
public import Idealize.ShloMosaic.Lib.Pipeline.Value
public import Idealize.ShloMosaic.Lib.StableHlo.Run
public import Idealize.ShloMosaic.Lib.Pointwise.Tactic
public import Idealize.ShloMosaic.Lib.Pointwise.Contract
public import Idealize.ShloMosaic.Lib.Pointwise.Reshape
public import Idealize.ShloMosaic.Lib.Pointwise.Sums

@[expose] public section

set_option maxRecDepth 16384

noncomputable section

namespace Cert.Kernel3Ideal.Mm

open Cert.Kernel3Ideal Cert.Kernel3Ideal.Gen Cert.Kernel3Ideal.Value
open Idealize.ShloMosaic Idealize.ShloMosaic.TcCoe Idealize.SL.Sem
open scoped BigOperators

/-! ## What the body leaves at the two points of a tile -/

section Body

variable {F : FTy → Type} [FloatOps F]

theorem hz : (![0, 0] : Fin 2 → Nat) = fun _ => 0 := funext fun a => by fin_cases a <;> rfl

/-- The first point of a tile leaves the product of the first halves in the scratch. -/
theorem scratch_first (c : Dev nD) (i : grid0.Coords) (a4 : Memref sig .tc .vmem S1024x2048 .bf16) (h4 : a4.IsWhole) (a5 : Memref sig .tc .vmem S2048x1024 .bf16) (h5 : a5.IsWhole)
    (a6 : Memref sig .tc .vmem S1024x1024 .f32) (h6 : a6.IsWhole) (a7 : Memref sig .tc .vmem S1024x1024 .f32) (h7 : a7.IsWhole) (hc0 : cond0_0 i) (hc1 : ¬cond0_1 i) (hc2 : ¬cond0_2 i)
    (x : Vec F S1024x2048 .bf16) (w : Vec F S2048x1024 .bf16) :
    sout0_A_0 c i a4 h4 a5 h5 a6 h6 a7 h7 hc0 hc1 hc2 x w = k0_pay2 x w := by
  unfold sout0_A_0
  rw [View.read_writes_eq_canon _ _ _ (scover0_A_0 c i a4 h4 a5 h5 a6 h6 a7 h7 hc0 hc1 hc2 x w)]
  unfold kernelRun0_A
  dsimp only
  rw [View.canon_unit_zero hz]
  simp only [View.readAt_eq_ld, h4.read_unread, h5.read_unread, View.ld_unit_zero (S := S1024x2048) hz, View.ld_unit_zero (S := S2048x1024) hz]

/-- The second point adds the product of the second halves to what the scratch holds, and stores the sum. -/
theorem out_second (c : Dev nD) (i : grid0.Coords) (a4 : Memref sig .tc .vmem S1024x2048 .bf16) (h4 : a4.IsWhole) (a5 : Memref sig .tc .vmem S2048x1024 .bf16) (h5 : a5.IsWhole)
    (a6 : Memref sig .tc .vmem S1024x1024 .f32) (h6 : a6.IsWhole) (a7 : Memref sig .tc .vmem S1024x1024 .f32) (h7 : a7.IsWhole) (hc0 : ¬cond0_0 i) (hc1 : ¬cond0_1 i) (hc2 : cond0_2 i)
    (x : Vec F S1024x2048 .bf16) (w : Vec F S2048x1024 .bf16) (s : Vec F S1024x1024 .f32) :
    out0_B_2 c i a4 h4 a5 h5 a6 h6 a7 h7 hc0 hc1 hc2 x w s = k0_pay4 x w s := by
  unfold out0_B_2
  rw [View.read_writes_eq_canon _ _ _ (cover0_B_2 c i a4 h4 a5 h5 a6 h6 a7 h7 hc0 hc1 hc2 x w s)]
  unfold kernelRun0_B
  dsimp only
  rw [View.canon_unit_zero hz]
  simp only [View.readAt_eq_ld, h4.read_unread, h5.read_unread, h7.read_unread, View.ld_unit_zero (S := S1024x2048) hz, View.ld_unit_zero (S := S2048x1024) hz, View.ld_unit_zero (S := S1024x1024) hz]

variable (m : (ℓ : Loc nD τ sig) → Buf (Elt F) ℓ)

/-- After the second point of a tile the output's block is the sum of the two products. -/
theorem outs_second (c : Dev nD) (n : ℕ) (h : n + 1 < cfg0.N) (he : n % 2 = 0) :
    (outsAt0 m c (n + 1) h).1 = k0_pay4 (iblk m c 0 ⟨n + 1, h⟩) (iblk m c 1 ⟨n + 1, h⟩)
      (k0_pay2 (iblk m c 0 ⟨n, Nat.lt_of_succ_lt h⟩) (iblk m c 1 ⟨n, Nat.lt_of_succ_lt h⟩)) := by
  have eB := outsAt0_B m c ⟨n + 1, h⟩ (by dsimp only; omega) (by dsimp only; omega)
  have eA := outsAt0_A m c ⟨n, Nat.lt_of_succ_lt h⟩ he (by dsimp only; omega)
  rw [out_second] at eB
  rw [scratch_first] at eA
  exact (congrArg Prod.fst eB).trans (congrArg (k0_pay4 _ _) (congrArg Prod.snd eA))

/-! ## The blocks the windows bring -/

theorem idx0 : ∀ t : Fin cfg0.N, win0_0.index t (0 : Fin 2) = t.val / 12 ∧ win0_0.index t (1 : Fin 2) = t.val % 2 :=
  (by decide +kernel : ∀ t : Fin grid0.N, _)
theorem idx1 : ∀ t : Fin cfg0.N, win0_1.index t (0 : Fin 2) = t.val % 2 ∧ win0_1.index t (1 : Fin 2) = t.val / 2 % 6 :=
  (by decide +kernel : ∀ t : Fin grid0.N, _)

theorem lt_count (t : Fin cfg0.N) : t.val < 384 := lt_of_lt_of_eq t.isLt N_0

/-- The weights, in the narrow format, as the region meets them. -/
theorem V_main_v0 (c : Dev nD) : V m c main_v0 = truncf .bf16 (m ((c : Thread nD τ).loc main_arg1)) bitsLt_bf16_f32 := by
  unfold V
  after_results

theorem blockX (c : Dev nD) (t : Fin cfg0.N) (r : Fin 1024) (k : Fin 2048) :
    (iblk m c 0 t : Vec F S1024x2048 .bf16) (ix2 r k) = (m ((c : Thread nD τ).loc main_arg0) : Vec F S32768x4096 .bf16)
      (ix2 ⟨t.val / 12 * 1024 + r.val, by have := lt_count t; omega⟩ ⟨t.val % 2 * 2048 + k.val, by omega⟩) := by
  have hi := idx0 t
  rw [← V_main_arg0 m c]
  unfold iblk
  rw [View.read_apply]
  refine congrArg (V m c main_arg0) (funext fun a => Fin.ext ?_)
  match a with
  | ⟨0, _⟩ => show win0_0.index t 0 * 1024 + 1 * r.val = _; rw [hi.1, Nat.one_mul]; rfl
  | ⟨1, _⟩ => show win0_0.index t 1 * 2048 + 1 * k.val = _; rw [hi.2, Nat.one_mul]; rfl

theorem blockW (c : Dev nD) (t : Fin cfg0.N) (k : Fin 2048) (q : Fin 1024) :
    (iblk m c 1 t : Vec F S2048x1024 .bf16) (ix2 k q) = (truncf .bf16 (m ((c : Thread nD τ).loc main_arg1)) bitsLt_bf16_f32 : Vec F S4096x6144 .bf16)
      (ix2 ⟨t.val % 2 * 2048 + k.val, by omega⟩ ⟨t.val / 2 % 6 * 1024 + q.val, by omega⟩) := by
  have hi := idx1 t
  rw [← V_main_v0 m c]
  unfold iblk
  rw [View.read_apply]
  refine congrArg (V m c main_v0) (funext fun a => Fin.ext ?_)
  match a with
  | ⟨0, _⟩ => show win0_1.index t 0 * 2048 + 1 * k.val = _; rw [hi.1, Nat.one_mul]; rfl
  | ⟨1, _⟩ => show win0_1.index t 1 * 1024 + 1 * q.val = _; rw [hi.2, Nat.one_mul]; rfl

end Body

/-! ## The arithmetic at an index, over the extended reals -/

theorem pay2_at (x : S1024x2048.Idx → EReal) (w : S2048x1024.Idx → EReal) (r q : Fin 1024) :
    k0_pay2 (F := Ideal) x w (ix2 r q) = ∑ k : Fin 2048, x (ix2 r k) * w (ix2 k q) := by
  unfold k0_pay2 k0_pay1
  pointwise

theorem pay4_at (x : S1024x2048.Idx → EReal) (w : S2048x1024.Idx → EReal) (s : S1024x1024.Idx → EReal) (r q : Fin 1024) :
    k0_pay4 (F := Ideal) x w s (ix2 r q) = s (ix2 r q) + ∑ k : Fin 2048, x (ix2 r k) * w (ix2 k q) := by
  unfold k0_pay4 k0_pay1
  pointwise

variable (m : (ℓ : Loc nD τ sig) → Buf (Elt Ideal) ℓ)

/-- What the run leaves in the result array is the product, a sum over the two halves. -/
theorem result_eq (c : Dev nD) : G2 m c = Cert.Mm.dot (m ((c : Thread nD τ).loc main_arg0)) (m ((c : Thread nD τ).loc main_arg1)) := by
  funext i
  have h0 : (i 0).val < 32768 := (i 0).isLt
  have h1 : (i 1).val < 6144 := (i 1).isLt
  have hp : pt2Of i < cfg0.N := lt_of_lt_of_eq (show 2 * (6 * ((i 0).val / 1024 - 0) + 1 * ((i 1).val / 1024 - 0)) + 1 < 384 by omega) N_0.symm
  unfold G2
  rw [dif_pos hp, ← outsAt0_sweep m c (pt2Of i) hp, outs_second m c (2 * run2Of i) hp (by omega)]
  have hl : loc2Of i = ix2 ⟨(i 0).val % 1024, by omega⟩ ⟨(i 1).val % 1024, by omega⟩ := funext fun a => by
    match a with
    | ⟨0, _⟩ => rfl
    | ⟨1, _⟩ => rfl
  rw [hl, pay4_at, pay2_at]
  have hr : run2Of i = 6 * ((i 0).val / 1024) + (i 1).val / 1024 := by
    show 6 * ((i 0).val / 1024 - 0) + 1 * ((i 1).val / 1024 - 0) = _
    omega
  refine Cert.Mm.dot_halves (m ((c : Thread nD τ).loc main_arg0)) (m ((c : Thread nD τ).loc main_arg1)) i _ _ _ _ _ _ (fun k => ?_) (fun k => ?_) (fun k => ?_) (fun k => ?_)
  · exact (blockX m c ⟨2 * run2Of i, _⟩ _ k).trans (congrArg _ (congrArg₂ ix2
      (Fin.ext (show 2 * run2Of i / 12 * 1024 + (i 0).val % 1024 = (i 0).val by omega)) (Fin.ext (show 2 * run2Of i % 2 * 2048 + k.val = 0 * 2048 + k.val by omega))))
  · exact (blockW m c ⟨2 * run2Of i, _⟩ k _).trans (congrArg (m ((c : Thread nD τ).loc main_arg1) : S4096x6144.Idx → EReal) (congrArg₂ ix2
      (Fin.ext (show 2 * run2Of i % 2 * 2048 + k.val = 0 * 2048 + k.val by omega)) (Fin.ext (show 2 * run2Of i / 2 % 6 * 1024 + (i 1).val % 1024 = (i 1).val by omega))))
  · exact (blockX m c ⟨2 * run2Of i + 1, _⟩ _ k).trans (congrArg _ (congrArg₂ ix2
      (Fin.ext (show (2 * run2Of i + 1) / 12 * 1024 + (i 0).val % 1024 = (i 0).val by omega)) (Fin.ext (show (2 * run2Of i + 1) % 2 * 2048 + k.val = 1 * 2048 + k.val by omega))))
  · exact (blockW m c ⟨2 * run2Of i + 1, _⟩ k _).trans (congrArg (m ((c : Thread nD τ).loc main_arg1) : S4096x6144.Idx → EReal) (congrArg₂ ix2
      (Fin.ext (show (2 * run2Of i + 1) % 2 * 2048 + k.val = 1 * 2048 + k.val by omega)) (Fin.ext (show (2 * run2Of i + 1) / 2 % 6 * 1024 + (i 1).val % 1024 = (i 1).val by omega))))

end Cert.Kernel3Ideal.Mm

end
-- ==== Proof.Mm.Merge.lean ====
/- The merging product of the second branch: what the run leaves in the result array, and what the reference computes. -/
module

public import proofs.«01_k».proof.Proof.Mm.Spec
public import proofs.«01_k».proof.Proof.Gen.Kernel4Ideal.Value
public import Idealize.ShloMosaic.Lib.Pipeline.Value
public import Idealize.ShloMosaic.Lib.StableHlo.Run
public import Idealize.ShloMosaic.Lib.Pointwise.Tactic
public import Idealize.ShloMosaic.Lib.Pointwise.Contract
public import Idealize.ShloMosaic.Lib.Pointwise.Reshape

@[expose] public section

set_option maxRecDepth 16384

noncomputable section

namespace Cert.Kernel4Ideal.Mm

open Cert.Kernel4Ideal Cert.Kernel4Ideal.Gen Cert.Kernel4Ideal.Value
open Idealize.ShloMosaic Idealize.ShloMosaic.TcCoe Idealize.SL.Sem
open scoped BigOperators

/-! ## The points of the grid, and the blocks the windows bring -/

section Blocks

variable {F : FTy → Type} [FloatOps F]

theorem hz : (![0, 0] : Fin 2 → Nat) = fun _ => 0 := funext fun a => by fin_cases a <;> rfl

/-- The point that computes the tile at row `a` and column `b`. -/
abbrev point (a : Fin 32) (b : Fin 4) : Fin grid0.N := ⟨4 * a.val + b.val, lt_of_lt_of_eq (by omega) N_0.symm⟩

theorem flush4 : ∀ t : Fin cfg0.N, (cfg0.win 4).flush t = true := (by decide +kernel : ∀ t : Fin grid0.N, win0_4.flush t = true)
theorem idx0 : ∀ (a : Fin 32) (b : Fin 4), win0_0.index (point a b) = ![a.val, 0] := by decide +kernel
theorem idx1 : ∀ (a : Fin 32) (b : Fin 4), win0_1.index (point a b) = ![0, b.val] := by decide +kernel
theorem idx2 : ∀ (a : Fin 32) (b : Fin 4), win0_2.index (point a b) = ![a.val, b.val] := by decide +kernel
theorem idx3 : ∀ (a : Fin 32) (b : Fin 4), win0_3.index (point a b) = ![a.val, b.val] := by decide +kernel
theorem idx4 : ∀ (a : Fin 32) (b : Fin 4), win0_4.index (point a b) = ![a.val, b.val] := by decide +kernel

variable (m : (ℓ : Loc nD τ sig) → Buf (Elt F) ℓ)

/-- The weights' layer, in the narrow format, as the region meets it. -/
theorem V_main_v1 (c : Dev nD) : V m c main_v1 = truncf .bf16 (shapeCast S2048x4096 (m ((c : Thread nD τ).loc main_arg1) : Vec F S1x2048x4096 .f32) shapeCasts_S1x2048x4096_S2048x4096) bitsLt_bf16_f32 := by
  unfold V
  after_results
  rfl

theorem blockY (c : Dev nD) (a : Fin 32) (b : Fin 4) (r : Fin 1024) (k : Fin 2048) :
    (iblk m c 0 (point a b) : Vec F S1024x2048 .bf16) (ix2 r k) = (m ((c : Thread nD τ).loc main_arg0) : Vec F S32768x2048 .bf16) (ix2 ⟨a.val * 1024 + r.val, by omega⟩ k) := by
  rw [← V_main_arg0 m c]
  unfold iblk
  rw [View.read_apply]
  refine congrArg (V m c main_arg0) (funext fun d => Fin.ext ?_)
  match d with
  | ⟨0, _⟩ => show win0_0.index (point a b) 0 * 1024 + 1 * r.val = a.val * 1024 + r.val; rw [idx0, Nat.one_mul]; rfl
  | ⟨1, _⟩ => show win0_0.index (point a b) 1 * 2048 + 1 * k.val = k.val; rw [idx0, Nat.one_mul]; exact Nat.zero_add _

theorem blockW (c : Dev nD) (a : Fin 32) (b : Fin 4) (k : Fin 2048) (q : Fin 1024) :
    (iblk m c 1 (point a b) : Vec F S2048x1024 .bf16) (ix2 k q) =
      (truncf .bf16 (shapeCast S2048x4096 (m ((c : Thread nD τ).loc main_arg1) : Vec F S1x2048x4096 .f32) shapeCasts_S1x2048x4096_S2048x4096) bitsLt_bf16_f32 : Vec F S2048x4096 .bf16) (ix2 k ⟨b.val * 1024 + q.val, by omega⟩) := by
  rw [← V_main_v1 m c]
  unfold iblk
  rw [View.read_apply]
  refine congrArg (V m c main_v1) (funext fun d => Fin.ext ?_)
  match d with
  | ⟨0, _⟩ => show win0_1.index (point a b) 0 * 2048 + 1 * k.val = k.val; rw [idx1, Nat.one_mul]; exact Nat.zero_add _
  | ⟨1, _⟩ => show win0_1.index (point a b) 1 * 1024 + 1 * q.val = b.val * 1024 + q.val; rw [idx1, Nat.one_mul]; rfl

theorem blockP (c : Dev nD) (a : Fin 32) (b : Fin 4) (r q : Fin 1024) :
    (iblk m c 2 (point a b) : Vec F S1024x1024 .f32) (ix2 r q) = (m ((c : Thread nD τ).loc main_arg2) : Vec F S32768x4096 .f32) (ix2 ⟨a.val * 1024 + r.val, by omega⟩ ⟨b.val * 1024 + q.val, by omega⟩) := by
  rw [← V_main_arg2 m c]
  unfold iblk
  rw [View.read_apply]
  refine congrArg (V m c main_arg2) (funext fun d => Fin.ext ?_)
  match d with
  | ⟨0, _⟩ => show win0_2.index (point a b) 0 * 1024 + 1 * r.val = a.val * 1024 + r.val; rw [idx2, Nat.one_mul]; rfl
  | ⟨1, _⟩ => show win0_2.index (point a b) 1 * 1024 + 1 * q.val = b.val * 1024 + q.val; rw [idx2, Nat.one_mul]; rfl

theorem blockG (c : Dev nD) (a : Fin 32) (b : Fin 4) (r q : Fin 1024) :
    (iblk m c 3 (point a b) : Vec F S1024x1024 .f32) (ix2 r q) = (m ((c : Thread nD τ).loc main_arg3) : Vec F S32768x4096 .f32) (ix2 ⟨a.val * 1024 + r.val, by omega⟩ ⟨b.val * 1024 + q.val, by omega⟩) := by
  rw [← V_main_arg3 m c]
  unfold iblk
  rw [View.read_apply]
  refine congrArg (V m c main_arg3) (funext fun d => Fin.ext ?_)
  match d with
  | ⟨0, _⟩ => show win0_3.index (point a b) 0 * 1024 + 1 * r.val = a.val * 1024 + r.val; rw [idx3, Nat.one_mul]; rfl
  | ⟨1, _⟩ => show win0_3.index (point a b) 1 * 1024 + 1 * q.val = b.val * 1024 + q.val; rw [idx3, Nat.one_mul]; rfl

/-- What a point leaves in the output's block: the body's value of the blocks it was brought. -/
theorem out_eq (x : Vec F S1024x2048 .bf16) (w : Vec F S2048x1024 .bf16) (p g : Vec F S1024x1024 .f32) : out0_4 x w p g = k0_pay1 x w p g := by
  unfold out0_4
  rw [View.canon_unit_zero hz, View.ld_unit_zero (S := S1024x2048) hz, View.ld_unit_zero (S := S2048x1024) hz, View.ld_unit_zero (S := S1024x1024) hz, View.ld_unit_zero (S := S1024x1024) hz]

/-- The result array after the run, tile by tile. -/
theorem tile_at (c : Dev nD) (a : Fin 32) (b : Fin 4) (r q : Fin 1024) :
    ((dats m 0 c).arrAt 4 cfg0.N : Vec F S32768x4096 .bf16) (ix2 ⟨a.val * 1024 + r.val, by omega⟩ ⟨b.val * 1024 + q.val, by omega⟩) =
      k0_pay1 (iblk m c 0 (point a b)) (iblk m c 1 (point a b)) (iblk m c 2 (point a b)) (iblk m c 3 (point a b)) (ix2 r q) := by
  have h := congrFun (blocks4 m c (point a b) (flush4 _)) (ix2 r q)
  rw [flushed4, out_eq, View.read_apply] at h
  refine Eq.trans (congrArg ((dats m 0 c).arrAt 4 cfg0.N) (funext fun d => Fin.ext ?_)) (h.trans (congrArg (k0_pay1 _ _ _ _) (funext fun d => Fin.ext ?_)))
  · match d with
    | ⟨0, _⟩ => show a.val * 1024 + r.val = win0_4.index (point a b) 0 * 1024 + 1 * r.val; rw [idx4, Nat.one_mul]; rfl
    | ⟨1, _⟩ => show b.val * 1024 + q.val = win0_4.index (point a b) 1 * 1024 + 1 * q.val; rw [idx4, Nat.one_mul]; rfl
  · match d with
    | ⟨0, _⟩ => rfl
    | ⟨1, _⟩ => rfl

end Blocks

/-! ## The arithmetic at an index, over the extended reals -/

theorem pay_at (x : S1024x2048.Idx → EReal) (w : S2048x1024.Idx → EReal) (p g : S1024x1024.Idx → EReal) (r q : Fin 1024) :
    k0_pay1 (F := Ideal) x w p g (ix2 r q) = p (ix2 r q) + Ideal.logistic (g (ix2 r q)) * ∑ k : Fin 2048, x (ix2 r k) * w (ix2 k q) := by
  unfold k0_pay1
  pointwise

theorem layer_at (w : S1x2048x4096.Idx → EReal) (k : Fin 2048) (q : Fin 4096) :
    truncf (F := Ideal) .bf16 (shapeCast S2048x4096 (w : Vec Ideal S1x2048x4096 .f32) shapeCasts_S1x2048x4096_S2048x4096) bitsLt_bf16_f32 (ix2 k q) = Cert.Mm.layer w (ix2 k q) := by
  unfold Cert.Mm.layer
  pointwise

variable (m : (ℓ : Loc nD τ sig) → Buf (Elt Ideal) ℓ)

/-- What the run leaves in the result array. -/
theorem result_eq (c : Dev nD) : ((dats m 0 c).arrAt 4 cfg0.N : S32768x4096.Idx → EReal) =
    Cert.Mm.gatedAdd (m ((c : Thread nD τ).loc main_arg0)) (Cert.Mm.layer (m ((c : Thread nD τ).loc main_arg1))) (m ((c : Thread nD τ).loc main_arg2)) (m ((c : Thread nD τ).loc main_arg3)) :=
  Cert.Mm.ext_tiles (J := 4) rfl _ _ fun a b r q => by
    rw [tile_at, pay_at, blockP, blockG]
    simp only [blockY, blockW, layer_at]
    rfl

end Cert.Kernel4Ideal.Mm

end
-- ==== Proof.Mm.Branch.lean ====
/- The gated product of the first branch: what the run leaves in the result array, and what the reference computes. -/
module

public import proofs.«01_k».proof.Proof.Mm.Spec
public import proofs.«01_k».proof.Proof.Gen.Kernel5Ideal.Value
public import Idealize.ShloMosaic.Lib.Pipeline.Value
public import Idealize.ShloMosaic.Lib.StableHlo.Run
public import Idealize.ShloMosaic.Lib.Pointwise.Tactic
public import Idealize.ShloMosaic.Lib.Pointwise.Contract
public import Idealize.ShloMosaic.Lib.Pointwise.Reshape

@[expose] public section

set_option maxRecDepth 16384

noncomputable section

namespace Cert.Kernel5Ideal.Mm

open Cert.Kernel5Ideal Cert.Kernel5Ideal.Gen Cert.Kernel5Ideal.Value
open Idealize.ShloMosaic Idealize.ShloMosaic.TcCoe Idealize.SL.Sem
open scoped BigOperators

/-! ## The points of the grid, and the blocks the windows bring -/

section Blocks

variable {F : FTy → Type} [FloatOps F]

theorem hz : (![0, 0] : Fin 2 → Nat) = fun _ => 0 := funext fun a => by fin_cases a <;> rfl

/-- The point that computes the tile at row `a` and column `b`. -/
abbrev point (a : Fin 32) (b : Fin 4) : Fin grid0.N := ⟨4 * a.val + b.val, lt_of_lt_of_eq (by omega) N_0.symm⟩

theorem flush3 : ∀ t : Fin cfg0.N, (cfg0.win 3).flush t = true := (by decide +kernel : ∀ t : Fin grid0.N, win0_3.flush t = true)
theorem idx0 : ∀ (a : Fin 32) (b : Fin 4), win0_0.index (point a b) = ![a.val, 0] := by decide +kernel
theorem idx1 : ∀ (a : Fin 32) (b : Fin 4), win0_1.index (point a b) = ![0, b.val] := by decide +kernel
theorem idx2 : ∀ (a : Fin 32) (b : Fin 4), win0_2.index (point a b) = ![a.val, b.val] := by decide +kernel
theorem idx3 : ∀ (a : Fin 32) (b : Fin 4), win0_3.index (point a b) = ![a.val, b.val] := by decide +kernel

variable (m : (ℓ : Loc nD τ sig) → Buf (Elt F) ℓ)

/-- The weights' layer, in the narrow format, as the region meets it. -/
theorem V_main_v1 (c : Dev nD) : V m c main_v1 = truncf .bf16 (shapeCast S2048x4096 (m ((c : Thread nD τ).loc main_arg1) : Vec F S1x2048x4096 .f32) shapeCasts_S1x2048x4096_S2048x4096) bitsLt_bf16_f32 := by
  unfold V
  after_results
  rfl

theorem blockY (c : Dev nD) (a : Fin 32) (b : Fin 4) (r : Fin 1024) (k : Fin 2048) :
    (iblk m c 0 (point a b) : Vec F S1024x2048 .bf16) (ix2 r k) = (m ((c : Thread nD τ).loc main_arg0) : Vec F S32768x2048 .bf16) (ix2 ⟨a.val * 1024 + r.val, by omega⟩ k) := by
  rw [← V_main_arg0 m c]
  unfold iblk
  rw [View.read_apply]
  refine congrArg (V m c main_arg0) (funext fun d => Fin.ext ?_)
  match d with
  | ⟨0, _⟩ => show win0_0.index (point a b) 0 * 1024 + 1 * r.val = a.val * 1024 + r.val; rw [idx0, Nat.one_mul]; rfl
  | ⟨1, _⟩ => show win0_0.index (point a b) 1 * 2048 + 1 * k.val = k.val; rw [idx0, Nat.one_mul]; exact Nat.zero_add _

theorem blockW (c : Dev nD) (a : Fin 32) (b : Fin 4) (k : Fin 2048) (q : Fin 1024) :
    (iblk m c 1 (point a b) : Vec F S2048x1024 .bf16) (ix2 k q) =
      (truncf .bf16 (shapeCast S2048x4096 (m ((c : Thread nD τ).loc main_arg1) : Vec F S1x2048x4096 .f32) shapeCasts_S1x2048x4096_S2048x4096) bitsLt_bf16_f32 : Vec F S2048x4096 .bf16) (ix2 k ⟨b.val * 1024 + q.val, by omega⟩) := by
  rw [← V_main_v1 m c]
  unfold iblk
  rw [View.read_apply]
  refine congrArg (V m c main_v1) (funext fun d => Fin.ext ?_)
  match d with
  | ⟨0, _⟩ => show win0_1.index (point a b) 0 * 2048 + 1 * k.val = k.val; rw [idx1, Nat.one_mul]; exact Nat.zero_add _
  | ⟨1, _⟩ => show win0_1.index (point a b) 1 * 1024 + 1 * q.val = b.val * 1024 + q.val; rw [idx1, Nat.one_mul]; rfl

theorem blockG (c : Dev nD) (a : Fin 32) (b : Fin 4) (r q : Fin 1024) :
    (iblk m c 2 (point a b) : Vec F S1024x1024 .f32) (ix2 r q) = (m ((c : Thread nD τ).loc main_arg2) : Vec F S32768x4096 .f32) (ix2 ⟨a.val * 1024 + r.val, by omega⟩ ⟨b.val * 1024 + q.val, by omega⟩) := by
  rw [← V_main_arg2 m c]
  unfold iblk
  rw [View.read_apply]
  refine congrArg (V m c main_arg2) (funext fun d => Fin.ext ?_)
  match d with
  | ⟨0, _⟩ => show win0_2.index (point a b) 0 * 1024 + 1 * r.val = a.val * 1024 + r.val; rw [idx2, Nat.one_mul]; rfl
  | ⟨1, _⟩ => show win0_2.index (point a b) 1 * 1024 + 1 * q.val = b.val * 1024 + q.val; rw [idx2, Nat.one_mul]; rfl

/-- What a point leaves in the output's block: the body's value of the blocks it was brought. -/
theorem out_eq (x : Vec F S1024x2048 .bf16) (w : Vec F S2048x1024 .bf16) (g : Vec F S1024x1024 .f32) : out0_3 x w g = k0_pay1 x w g := by
  unfold out0_3
  rw [View.canon_unit_zero hz, View.ld_unit_zero (S := S1024x2048) hz, View.ld_unit_zero (S := S2048x1024) hz, View.ld_unit_zero (S := S1024x1024) hz]

/-- The result array after the run, tile by tile. -/
theorem tile_at (c : Dev nD) (a : Fin 32) (b : Fin 4) (r q : Fin 1024) :
    ((dats m 0 c).arrAt 3 cfg0.N : Vec F S32768x4096 .f32) (ix2 ⟨a.val * 1024 + r.val, by omega⟩ ⟨b.val * 1024 + q.val, by omega⟩) =
      k0_pay1 (iblk m c 0 (point a b)) (iblk m c 1 (point a b)) (iblk m c 2 (point a b)) (ix2 r q) := by
  have h := congrFun (blocks3 m c (point a b) (flush3 _)) (ix2 r q)
  rw [flushed3, out_eq, View.read_apply] at h
  refine Eq.trans (congrArg ((dats m 0 c).arrAt 3 cfg0.N) (funext fun d => Fin.ext ?_)) (h.trans (congrArg (k0_pay1 _ _ _) (funext fun d => Fin.ext ?_)))
  · match d with
    | ⟨0, _⟩ => show a.val * 1024 + r.val = win0_3.index (point a b) 0 * 1024 + 1 * r.val; rw [idx3, Nat.one_mul]; rfl
    | ⟨1, _⟩ => show b.val * 1024 + q.val = win0_3.index (point a b) 1 * 1024 + 1 * q.val; rw [idx3, Nat.one_mul]; rfl
  · match d with
    | ⟨0, _⟩ => rfl
    | ⟨1, _⟩ => rfl

end Blocks

/-! ## The arithmetic at an index, over the extended reals -/

theorem pay_at (x : S1024x2048.Idx → EReal) (w : S2048x1024.Idx → EReal) (g : S1024x1024.Idx → EReal) (r q : Fin 1024) :
    k0_pay1 (F := Ideal) x w g (ix2 r q) = Ideal.logistic (g (ix2 r q)) * ∑ k : Fin 2048, x (ix2 r k) * w (ix2 k q) := by
  unfold k0_pay1
  pointwise

theorem layer_at (w : S1x2048x4096.Idx → EReal) (k : Fin 2048) (q : Fin 4096) :
    truncf (F := Ideal) .bf16 (shapeCast S2048x4096 (w : Vec Ideal S1x2048x4096 .f32) shapeCasts_S1x2048x4096_S2048x4096) bitsLt_bf16_f32 (ix2 k q) = Cert.Mm.layer w (ix2 k q) := by
  unfold Cert.Mm.layer
  pointwise

variable (m : (ℓ : Loc nD τ sig) → Buf (Elt Ideal) ℓ)

/-- What the run leaves in the result array. -/
theorem result_eq (c : Dev nD) : ((dats m 0 c).arrAt 3 cfg0.N : S32768x4096.Idx → EReal) =
    Cert.Mm.gated (m ((c : Thread nD τ).loc main_arg0)) (Cert.Mm.layer (m ((c : Thread nD τ).loc main_arg1))) (m ((c : Thread nD τ).loc main_arg2)) :=
  Cert.Mm.ext_tiles (J := 4) rfl _ _ fun a b r q => by
    rw [tile_at, pay_at, blockG]
    simp only [blockY, blockW, layer_at]
    rfl

end Cert.Kernel5Ideal.Mm

end
-- ==== Proof.Mm.State.lean ====
/- The product of the state's input, rounded, tile by tile: what the run leaves in the result array. -/
module

public import proofs.«01_k».proof.Proof.Mm.Spec
public import proofs.«01_k».proof.Proof.Gen.Kernel6Ideal.Value
public import Idealize.ShloMosaic.Lib.Pipeline.Value
public import Idealize.ShloMosaic.Lib.StableHlo.Run
public import Idealize.ShloMosaic.Lib.Pointwise.Tactic
public import Idealize.ShloMosaic.Lib.Pointwise.Contract
public import Idealize.ShloMosaic.Lib.Pointwise.Reshape
public import Idealize.ShloMosaic.Lib.Pointwise.Sums

@[expose] public section

set_option maxRecDepth 16384

noncomputable section

namespace Cert.Kernel6Ideal.Mm

open Cert.Kernel6Ideal Cert.Kernel6Ideal.Gen Cert.Kernel6Ideal.Value
open Idealize.ShloMosaic Idealize.ShloMosaic.TcCoe Idealize.SL.Sem
open scoped BigOperators

/-! ## What the body leaves at the two points of a tile -/

section Body

variable {F : FTy → Type} [FloatOps F]

theorem hz : (![0, 0] : Fin 2 → Nat) = fun _ => 0 := funext fun a => by fin_cases a <;> rfl

/-- The first point of a tile leaves the product of the first halves in the scratch. -/
theorem scratch_first (c : Dev nD) (i : grid0.Coords) (a4 : Memref sig .tc .vmem S1024x2048 .bf16) (h4 : a4.IsWhole) (a5 : Memref sig .tc .vmem S2048x1024 .bf16) (h5 : a5.IsWhole)
    (a6 : Memref sig .tc .vmem S1024x1024 .bf16) (h6 : a6.IsWhole) (a7 : Memref sig .tc .vmem S1024x1024 .f32) (h7 : a7.IsWhole) (hc0 : cond0_0 i) (hc1 : ¬cond0_1 i) (hc2 : ¬cond0_2 i)
    (x : Vec F S1024x2048 .bf16) (w : Vec F S2048x1024 .bf16) :
    sout0_A_0 c i a4 h4 a5 h5 a6 h6 a7 h7 hc0 hc1 hc2 x w = k0_pay2 x w := by
  unfold sout0_A_0
  rw [View.read_writes_eq_canon _ _ _ (scover0_A_0 c i a4 h4 a5 h5 a6 h6 a7 h7 hc0 hc1 hc2 x w)]
  unfold kernelRun0_A
  dsimp only
  rw [View.canon_unit_zero hz]
  simp only [View.readAt_eq_ld, h4.read_unread, h5.read_unread, View.ld_unit_zero (S := S1024x2048) hz, View.ld_unit_zero (S := S2048x1024) hz]

/-- The second point adds the product of the second halves to what the scratch holds, and stores the sum. -/
theorem out_second (c : Dev nD) (i : grid0.Coords) (a4 : Memref sig .tc .vmem S1024x2048 .bf16) (h4 : a4.IsWhole) (a5 : Memref sig .tc .vmem S2048x1024 .bf16) (h5 : a5.IsWhole)
    (a6 : Memref sig .tc .vmem S1024x1024 .bf16) (h6 : a6.IsWhole) (a7 : Memref sig .tc .vmem S1024x1024 .f32) (h7 : a7.IsWhole) (hc0 : ¬cond0_0 i) (hc1 : ¬cond0_1 i) (hc2 : cond0_2 i)
    (x : Vec F S1024x2048 .bf16) (w : Vec F S2048x1024 .bf16) (s : Vec F S1024x1024 .f32) :
    out0_B_2 c i a4 h4 a5 h5 a6 h6 a7 h7 hc0 hc1 hc2 x w s = k0_pay4 x w s := by
  unfold out0_B_2
  rw [View.read_writes_eq_canon _ _ _ (cover0_B_2 c i a4 h4 a5 h5 a6 h6 a7 h7 hc0 hc1 hc2 x w s)]
  unfold kernelRun0_B
  dsimp only
  rw [View.canon_unit_zero hz]
  simp only [View.readAt_eq_ld, h4.read_unread, h5.read_unread, h7.read_unread, View.ld_unit_zero (S := S1024x2048) hz, View.ld_unit_zero (S := S2048x1024) hz, View.ld_unit_zero (S := S1024x1024) hz]

variable (m : (ℓ : Loc nD τ sig) → Buf (Elt F) ℓ)

/-- After the second point of a tile the output's block is the sum of the two products. -/
theorem outs_second (c : Dev nD) (n : ℕ) (h : n + 1 < cfg0.N) (he : n % 2 = 0) :
    (outsAt0 m c (n + 1) h).1 = k0_pay4 (iblk m c 0 ⟨n + 1, h⟩) (iblk m c 1 ⟨n + 1, h⟩)
      (k0_pay2 (iblk m c 0 ⟨n, Nat.lt_of_succ_lt h⟩) (iblk m c 1 ⟨n, Nat.lt_of_succ_lt h⟩)) := by
  have eB := outsAt0_B m c ⟨n + 1, h⟩ (by dsimp only; omega) (by dsimp only; omega)
  have eA := outsAt0_A m c ⟨n, Nat.lt_of_succ_lt h⟩ he (by dsimp only; omega)
  rw [out_second] at eB
  rw [scratch_first] at eA
  exact (congrArg Prod.fst eB).trans (congrArg (k0_pay4 _ _) (congrArg Prod.snd eA))

/-! ## The blocks the windows bring -/

theorem idx0 : ∀ t : Fin cfg0.N, win0_0.index t (0 : Fin 2) = t.val / 4 ∧ win0_0.index t (1 : Fin 2) = t.val % 2 :=
  (by decide +kernel : ∀ t : Fin grid0.N, _)
theorem idx1 : ∀ t : Fin cfg0.N, win0_1.index t (0 : Fin 2) = t.val % 2 ∧ win0_1.index t (1 : Fin 2) = t.val / 2 % 2 :=
  (by decide +kernel : ∀ t : Fin grid0.N, _)

theorem lt_count (t : Fin cfg0.N) : t.val < 128 := lt_of_lt_of_eq t.isLt N_0

/-- The weights, in the narrow format, as the region meets them. -/
theorem V_main_v0 (c : Dev nD) : V m c main_v0 = truncf .bf16 (m ((c : Thread nD τ).loc main_arg1)) bitsLt_bf16_f32 := by
  unfold V
  after_results

theorem blockX (c : Dev nD) (t : Fin cfg0.N) (r : Fin 1024) (k : Fin 2048) :
    (iblk m c 0 t : Vec F S1024x2048 .bf16) (ix2 r k) = (m ((c : Thread nD τ).loc main_arg0) : Vec F S32768x4096 .bf16)
      (ix2 ⟨t.val / 4 * 1024 + r.val, by have := lt_count t; omega⟩ ⟨t.val % 2 * 2048 + k.val, by omega⟩) := by
  have hi := idx0 t
  rw [← V_main_arg0 m c]
  unfold iblk
  rw [View.read_apply]
  refine congrArg (V m c main_arg0) (funext fun a => Fin.ext ?_)
  match a with
  | ⟨0, _⟩ => show win0_0.index t 0 * 1024 + 1 * r.val = _; rw [hi.1, Nat.one_mul]; rfl
  | ⟨1, _⟩ => show win0_0.index t 1 * 2048 + 1 * k.val = _; rw [hi.2, Nat.one_mul]; rfl

theorem blockW (c : Dev nD) (t : Fin cfg0.N) (k : Fin 2048) (q : Fin 1024) :
    (iblk m c 1 t : Vec F S2048x1024 .bf16) (ix2 k q) = (truncf .bf16 (m ((c : Thread nD τ).loc main_arg1)) bitsLt_bf16_f32 : Vec F S4096x2048 .bf16)
      (ix2 ⟨t.val % 2 * 2048 + k.val, by omega⟩ ⟨t.val / 2 % 2 * 1024 + q.val, by omega⟩) := by
  have hi := idx1 t
  rw [← V_main_v0 m c]
  unfold iblk
  rw [View.read_apply]
  refine congrArg (V m c main_v0) (funext fun a => Fin.ext ?_)
  match a with
  | ⟨0, _⟩ => show win0_1.index t 0 * 2048 + 1 * k.val = _; rw [hi.1, Nat.one_mul]; rfl
  | ⟨1, _⟩ => show win0_1.index t 1 * 1024 + 1 * q.val = _; rw [hi.2, Nat.one_mul]; rfl

end Body

/-! ## The arithmetic at an index, over the extended reals -/

theorem pay2_at (x : S1024x2048.Idx → EReal) (w : S2048x1024.Idx → EReal) (r q : Fin 1024) :
    k0_pay2 (F := Ideal) x w (ix2 r q) = ∑ k : Fin 2048, x (ix2 r k) * w (ix2 k q) := by
  unfold k0_pay2 k0_pay1
  pointwise

theorem pay4_at (x : S1024x2048.Idx → EReal) (w : S2048x1024.Idx → EReal) (s : S1024x1024.Idx → EReal) (r q : Fin 1024) :
    k0_pay4 (F := Ideal) x w s (ix2 r q) = s (ix2 r q) + ∑ k : Fin 2048, x (ix2 r k) * w (ix2 k q) := by
  unfold k0_pay4 k0_pay1
  pointwise

variable (m : (ℓ : Loc nD τ sig) → Buf (Elt Ideal) ℓ)

/-- What the run leaves in the result array is the product, a sum over the two halves. -/
theorem result_eq (c : Dev nD) : G2 m c = Cert.Mm.dot (m ((c : Thread nD τ).loc main_arg0)) (m ((c : Thread nD τ).loc main_arg1)) := by
  funext i
  have h0 : (i 0).val < 32768 := (i 0).isLt
  have h1 : (i 1).val < 2048 := (i 1).isLt
  have hp : pt2Of i < cfg0.N := lt_of_lt_of_eq (show 2 * (2 * ((i 0).val / 1024 - 0) + 1 * ((i 1).val / 1024 - 0)) + 1 < 128 by omega) N_0.symm
  unfold G2
  rw [dif_pos hp, ← outsAt0_sweep m c (pt2Of i) hp, outs_second m c (2 * run2Of i) hp (by omega)]
  have hl : loc2Of i = ix2 ⟨(i 0).val % 1024, by omega⟩ ⟨(i 1).val % 1024, by omega⟩ := funext fun a => by
    match a with
    | ⟨0, _⟩ => rfl
    | ⟨1, _⟩ => rfl
  rw [hl, pay4_at, pay2_at]
  have hr : run2Of i = 2 * ((i 0).val / 1024) + (i 1).val / 1024 := by
    show 2 * ((i 0).val / 1024 - 0) + 1 * ((i 1).val / 1024 - 0) = _
    omega
  refine Cert.Mm.dot_halves (m ((c : Thread nD τ).loc main_arg0)) (m ((c : Thread nD τ).loc main_arg1)) i _ _ _ _ _ _ (fun k => ?_) (fun k => ?_) (fun k => ?_) (fun k => ?_)
  · exact (blockX m c ⟨2 * run2Of i, _⟩ _ k).trans (congrArg _ (congrArg₂ ix2
      (Fin.ext (show 2 * run2Of i / 4 * 1024 + (i 0).val % 1024 = (i 0).val by omega)) (Fin.ext (show 2 * run2Of i % 2 * 2048 + k.val = 0 * 2048 + k.val by omega))))
  · exact (blockW m c ⟨2 * run2Of i, _⟩ k _).trans (congrArg (m ((c : Thread nD τ).loc main_arg1) : S4096x2048.Idx → EReal) (congrArg₂ ix2
      (Fin.ext (show 2 * run2Of i % 2 * 2048 + k.val = 0 * 2048 + k.val by omega)) (Fin.ext (show 2 * run2Of i / 2 % 2 * 1024 + (i 1).val % 1024 = (i 1).val by omega))))
  · exact (blockX m c ⟨2 * run2Of i + 1, _⟩ _ k).trans (congrArg _ (congrArg₂ ix2
      (Fin.ext (show (2 * run2Of i + 1) / 4 * 1024 + (i 0).val % 1024 = (i 0).val by omega)) (Fin.ext (show (2 * run2Of i + 1) % 2 * 2048 + k.val = 1 * 2048 + k.val by omega))))
  · exact (blockW m c ⟨2 * run2Of i + 1, _⟩ k _).trans (congrArg (m ((c : Thread nD τ).loc main_arg1) : S4096x2048.Idx → EReal) (congrArg₂ ix2
      (Fin.ext (show (2 * run2Of i + 1) % 2 * 2048 + k.val = 1 * 2048 + k.val by omega)) (Fin.ext (show (2 * run2Of i + 1) / 2 % 2 * 1024 + (i 1).val % 1024 = (i 1).val by omega))))

end Cert.Kernel6Ideal.Mm

end
-- ==== Proof.Mm.Glu.lean ====
/- The self-gated product: what the run leaves in the result array, and what the reference computes. -/
module

public import proofs.«01_k».proof.Proof.Mm.Spec
public import proofs.«01_k».proof.Proof.Gen.Kernel7Ideal.Value
public import Idealize.ShloMosaic.Lib.Pipeline.Value
public import Idealize.ShloMosaic.Lib.StableHlo.Run
public import Idealize.ShloMosaic.Lib.Pointwise.Tactic
public import Idealize.ShloMosaic.Lib.Pointwise.Contract
public import Idealize.ShloMosaic.Lib.Pointwise.Reshape

@[expose] public section

set_option maxRecDepth 16384

noncomputable section

namespace Cert.Kernel7Ideal.Mm

open Cert.Kernel7Ideal Cert.Kernel7Ideal.Gen Cert.Kernel7Ideal.Value
open Idealize.ShloMosaic Idealize.ShloMosaic.TcCoe Idealize.SL.Sem
open scoped BigOperators

/-! ## The points of the grid, and the blocks the windows bring -/

section Blocks

variable {F : FTy → Type} [FloatOps F]

theorem hz : (![0, 0] : Fin 2 → Nat) = fun _ => 0 := funext fun a => by fin_cases a <;> rfl

/-- The point that computes the tile at row `a` and column `b`. -/
abbrev point (a : Fin 32) (b : Fin 2) : Fin grid0.N := ⟨2 * a.val + b.val, lt_of_lt_of_eq (by omega) N_0.symm⟩

theorem flush4 : ∀ t : Fin cfg0.N, (cfg0.win 4).flush t = true := (by decide +kernel : ∀ t : Fin grid0.N, win0_4.flush t = true)
theorem idx0 : ∀ (a : Fin 32) (b : Fin 2), win0_0.index (point a b) = ![a.val, 0] := by decide +kernel
theorem idx1 : ∀ (a : Fin 32) (b : Fin 2), win0_1.index (point a b) = ![0, b.val] := by decide +kernel
theorem idx2 : ∀ (a : Fin 32) (b : Fin 2), win0_2.index (point a b) = ![a.val, b.val] := by decide +kernel
theorem idx3 : ∀ (a : Fin 32) (b : Fin 2), win0_3.index (point a b) = ![0, b.val] := by decide +kernel
theorem idx4 : ∀ (a : Fin 32) (b : Fin 2), win0_4.index (point a b) = ![a.val, b.val] := by decide +kernel

variable (m : (ℓ : Loc nD τ sig) → Buf (Elt F) ℓ)

/-- The weights' layer, in the narrow format, as the region meets it. -/
theorem V_main_v1 (c : Dev nD) : V m c main_v1 = truncf .bf16 (shapeCast S2048x2048 (m ((c : Thread nD τ).loc main_arg1) : Vec F S1x2048x2048 .f32) shapeCasts_S1x2048x2048_S2048x2048) bitsLt_bf16_f32 := by
  unfold V
  after_results
  rfl

/-- The bias as the region meets it: flattened and given its axis back. -/
theorem V_main_v3 (c : Dev nD) : V m c main_v3 = shapeCast S1x2048 (shapeCast S2048 (m ((c : Thread nD τ).loc main_arg2) : Vec F S1x2048 .f32) shapeCasts_S1x2048_S2048) shapeCasts_S2048_S1x2048 := by
  unfold V
  after_results
  rfl

theorem blockY (c : Dev nD) (a : Fin 32) (b : Fin 2) (r : Fin 1024) (k : Fin 2048) :
    (iblk m c 0 (point a b) : Vec F S1024x2048 .bf16) (ix2 r k) = (m ((c : Thread nD τ).loc main_arg0) : Vec F S32768x2048 .bf16) (ix2 ⟨a.val * 1024 + r.val, by omega⟩ k) := by
  rw [← V_main_arg0 m c]
  unfold iblk
  rw [View.read_apply]
  refine congrArg (V m c main_arg0) (funext fun d => Fin.ext ?_)
  match d with
  | ⟨0, _⟩ => show win0_0.index (point a b) 0 * 1024 + 1 * r.val = a.val * 1024 + r.val; rw [idx0, Nat.one_mul]; rfl
  | ⟨1, _⟩ => show win0_0.index (point a b) 1 * 2048 + 1 * k.val = k.val; rw [idx0, Nat.one_mul]; exact Nat.zero_add _

theorem blockW (c : Dev nD) (a : Fin 32) (b : Fin 2) (k : Fin 2048) (q : Fin 1024) :
    (iblk m c 1 (point a b) : Vec F S2048x1024 .bf16) (ix2 k q) =
      (truncf .bf16 (shapeCast S2048x2048 (m ((c : Thread nD τ).loc main_arg1) : Vec F S1x2048x2048 .f32) shapeCasts_S1x2048x2048_S2048x2048) bitsLt_bf16_f32 : Vec F S2048x2048 .bf16) (ix2 k ⟨b.val * 1024 + q.val, by omega⟩) := by
  rw [← V_main_v1 m c]
  unfold iblk
  rw [View.read_apply]
  refine congrArg (V m c main_v1) (funext fun d => Fin.ext ?_)
  match d with
  | ⟨0, _⟩ => show win0_1.index (point a b) 0 * 2048 + 1 * k.val = k.val; rw [idx1, Nat.one_mul]; exact Nat.zero_add _
  | ⟨1, _⟩ => show win0_1.index (point a b) 1 * 1024 + 1 * q.val = b.val * 1024 + q.val; rw [idx1, Nat.one_mul]; rfl

/-- The third window brings the same array again, at the tile's own columns. -/
theorem blockT (c : Dev nD) (a : Fin 32) (b : Fin 2) (r q : Fin 1024) :
    (iblk m c 2 (point a b) : Vec F S1024x1024 .bf16) (ix2 r q) = (m ((c : Thread nD τ).loc main_arg0) : Vec F S32768x2048 .bf16) (ix2 ⟨a.val * 1024 + r.val, by omega⟩ ⟨b.val * 1024 + q.val, by omega⟩) := by
  rw [← V_main_arg0 m c]
  unfold iblk
  rw [View.read_apply]
  refine congrArg (V m c main_arg0) (funext fun d => Fin.ext ?_)
  match d with
  | ⟨0, _⟩ => show win0_2.index (point a b) 0 * 1024 + 1 * r.val = a.val * 1024 + r.val; rw [idx2, Nat.one_mul]; rfl
  | ⟨1, _⟩ => show win0_2.index (point a b) 1 * 1024 + 1 * q.val = b.val * 1024 + q.val; rw [idx2, Nat.one_mul]; rfl

theorem blockB (c : Dev nD) (a : Fin 32) (b : Fin 2) (q : Fin 1024) :
    (iblk m c 3 (point a b) : Vec F S1x1024 .f32) (ix2 0 q) =
      (shapeCast S1x2048 (shapeCast S2048 (m ((c : Thread nD τ).loc main_arg2) : Vec F S1x2048 .f32) shapeCasts_S1x2048_S2048) shapeCasts_S2048_S1x2048 : Vec F S1x2048 .f32) (ix2 0 ⟨b.val * 1024 + q.val, by omega⟩) := by
  rw [← V_main_v3 m c]
  unfold iblk
  rw [View.read_apply]
  refine congrArg (V m c main_v3) (funext fun d => Fin.ext ?_)
  match d with
  | ⟨0, _⟩ => show win0_3.index (point a b) 0 * 1 + 1 * 0 = 0; rw [idx3]; rfl
  | ⟨1, _⟩ => show win0_3.index (point a b) 1 * 1024 + 1 * q.val = b.val * 1024 + q.val; rw [idx3, Nat.one_mul]; rfl

/-- What a point leaves in the output's block: the body's value of the blocks it was brought. -/
theorem out_eq (x : Vec F S1024x2048 .bf16) (w : Vec F S2048x1024 .bf16) (p : Vec F S1024x1024 .bf16) (g : Vec F S1x1024 .f32) : out0_4 x w p g = k0_pay1 x w p g := by
  unfold out0_4
  rw [View.canon_unit_zero hz, View.ld_unit_zero (S := S1024x2048) hz, View.ld_unit_zero (S := S2048x1024) hz, View.ld_unit_zero (S := S1024x1024) hz, View.ld_unit_zero (S := S1x1024) hz]

/-- The result array after the run, tile by tile. -/
theorem tile_at (c : Dev nD) (a : Fin 32) (b : Fin 2) (r q : Fin 1024) :
    ((dats m 0 c).arrAt 4 cfg0.N : Vec F S32768x2048 .bf16) (ix2 ⟨a.val * 1024 + r.val, by omega⟩ ⟨b.val * 1024 + q.val, by omega⟩) =
      k0_pay1 (iblk m c 0 (point a b)) (iblk m c 1 (point a b)) (iblk m c 2 (point a b)) (iblk m c 3 (point a b)) (ix2 r q) := by
  have h := congrFun (blocks4 m c (point a b) (flush4 _)) (ix2 r q)
  rw [flushed4, out_eq, View.read_apply] at h
  refine Eq.trans (congrArg ((dats m 0 c).arrAt 4 cfg0.N) (funext fun d => Fin.ext ?_)) (h.trans (congrArg (k0_pay1 _ _ _ _) (funext fun d => Fin.ext ?_)))
  · match d with
    | ⟨0, _⟩ => show a.val * 1024 + r.val = win0_4.index (point a b) 0 * 1024 + 1 * r.val; rw [idx4, Nat.one_mul]; rfl
    | ⟨1, _⟩ => show b.val * 1024 + q.val = win0_4.index (point a b) 1 * 1024 + 1 * q.val; rw [idx4, Nat.one_mul]; rfl
  · match d with
    | ⟨0, _⟩ => rfl
    | ⟨1, _⟩ => rfl

end Blocks

/-! ## The arithmetic at an index, over the extended reals -/

theorem pay_at (x : S1024x2048.Idx → EReal) (w : S2048x1024.Idx → EReal) (p : S1024x1024.Idx → EReal) (g : S1x1024.Idx → EReal) (r q : Fin 1024) :
    k0_pay1 (F := Ideal) x w p g (ix2 r q) = p (ix2 r q) * Ideal.logistic (∑ k : Fin 2048, x (ix2 r k) * w (ix2 k q) + g (ix2 0 q)) := by
  unfold k0_pay1
  pointwise

/-- Flattening the bias and giving it its axis back leaves it as it was. -/
theorem bias_at (b : S1x2048.Idx → EReal) (q : Fin 2048) :
    shapeCast S1x2048 (shapeCast S2048 (b : Vec Ideal S1x2048 .f32) shapeCasts_S1x2048_S2048) shapeCasts_S2048_S1x2048 (ix2 0 q) = b (ix2 0 q) := by
  pointwise

theorem layer_at (w : S1x2048x2048.Idx → EReal) (k : Fin 2048) (q : Fin 2048) :
    truncf (F := Ideal) .bf16 (shapeCast S2048x2048 (w : Vec Ideal S1x2048x2048 .f32) shapeCasts_S1x2048x2048_S2048x2048) bitsLt_bf16_f32 (ix2 k q) = Cert.Mm.layer w (ix2 k q) := by
  unfold Cert.Mm.layer
  pointwise

variable (m : (ℓ : Loc nD τ sig) → Buf (Elt Ideal) ℓ)

/-- What the run leaves in the result array. -/
theorem result_eq (c : Dev nD) : ((dats m 0 c).arrAt 4 cfg0.N : S32768x2048.Idx → EReal) =
    Cert.Mm.selfGated (m ((c : Thread nD τ).loc main_arg0)) (Cert.Mm.layer (m ((c : Thread nD τ).loc main_arg1))) (m ((c : Thread nD τ).loc main_arg2)) :=
  Cert.Mm.ext_tiles (J := 2) rfl _ _ fun a b r q => by
    rw [tile_at, pay_at, blockT, blockB, bias_at]
    simp only [blockY, blockW, layer_at]
    rfl

end Cert.Kernel7Ideal.Mm

end
-- ==== Proof.Mm.Ref.lean ====
/- What the references of the products compute, over the extended reals. -/
module

public import proofs.«01_k».proof.Proof.Mm.Spec
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import Idealize.ShloMosaic.Lib.Pointwise.Tactic
public import Idealize.ShloMosaic.Lib.Pointwise.Contract
public import Idealize.ShloMosaic.Lib.Pointwise.Reshape

@[expose] public section

set_option maxRecDepth 16384

noncomputable section

open Idealize.ShloMosaic Idealize.ShloMosaic.TcCoe Idealize.SL.Sem
open scoped BigOperators

namespace Cert.Reference2Ideal.Mm

open Cert.Reference2Ideal Cert.Reference2Ideal.Gen

/-- The gates' product. -/
theorem result_eq (x : FVec Ideal S32768x4096 .bf16) (w : FVec Ideal S4096x4096 .f32) :
    Host.dotGeneral dot_S32768x4096_S4096x4096_S32768x4096_1_0_0_1_n_n none (extf (F := Ideal) .f32 x bitsLt_bf16_f32) w = Cert.Mm.dot x w :=
  Cert.Mm.ext2 _ _ fun r q => by
    unfold Cert.Mm.dot
    pointwise

end Cert.Reference2Ideal.Mm

namespace Cert.Reference3Ideal.Mm

open Cert.Reference3Ideal Cert.Reference3Ideal.Gen

/-- The product that feeds the convolutions. -/
theorem result_eq (x : FVec Ideal S32768x4096 .bf16) (w : FVec Ideal S4096x6144 .f32) :
    Host.dotGeneral dot_S32768x4096_S4096x6144_S32768x6144_1_0_0_1_n_n none (extf (F := Ideal) .f32 x bitsLt_bf16_f32) w = Cert.Mm.dot x w :=
  Cert.Mm.ext2 _ _ fun r q => by
    unfold Cert.Mm.dot
    pointwise

end Cert.Reference3Ideal.Mm

namespace Cert.Reference6Ideal.Mm

open Cert.Reference6Ideal Cert.Reference6Ideal.Gen

/-- The product that feeds the state; rounding is nothing over the extended reals. -/
theorem result_eq (x : FVec Ideal S32768x4096 .bf16) (w : FVec Ideal S4096x2048 .f32) :
    truncf .bf16 (Host.dotGeneral dot_S32768x4096_S4096x2048_S32768x2048_1_0_0_1_n_n none (extf (F := Ideal) .f32 x bitsLt_bf16_f32) w) bitsLt_bf16_f32 = Cert.Mm.dot x w :=
  Cert.Mm.ext2 _ _ fun r q => by
    unfold Cert.Mm.dot
    pointwise

end Cert.Reference6Ideal.Mm

namespace Cert.Reference5Ideal.Mm

open Cert.Reference5Ideal Cert.Reference5Ideal.Gen

/-- The first branch: the gated product. -/
theorem result_eq (y : FVec Ideal S32768x2048 .bf16) (w : FVec Ideal S1x2048x4096 .f32) (g : FVec Ideal S32768x4096 .f32) :
    mulf (Host.divf (broadcastInDim S32768x4096 ![] bcast_S_S32768x4096 (constant (F := Ideal) S_ .f32 0x3F800000#32))
      (addf (broadcastInDim S32768x4096 ![] bcast_S_S32768x4096 (constant S_ .f32 0x3F800000#32)) (Host.exp (Host.negf g))))
      (Host.dotGeneral dot_S32768x2048_S2048x4096_S32768x4096_1_0_0_1_n_n none (extf (F := Ideal) .f32 y bitsLt_bf16_f32) (shapeCast S2048x4096 w shapeCasts_S1x2048x4096_S2048x4096))
    = Cert.Mm.gated y (Cert.Mm.layer w) g :=
  Cert.Mm.ext2 _ _ fun r q => by
    unfold Cert.Mm.gated Cert.Mm.dot Cert.Mm.layer Ideal.logistic
    pointwise

end Cert.Reference5Ideal.Mm

namespace Cert.Reference4Ideal.Mm

open Cert.Reference4Ideal Cert.Reference4Ideal.Gen

/-- The second branch: the gated product added to what there was. -/
theorem result_eq (y : FVec Ideal S32768x2048 .bf16) (w : FVec Ideal S1x2048x4096 .f32) (p g : FVec Ideal S32768x4096 .f32) :
    truncf .bf16 (addf p (mulf (Host.divf (broadcastInDim S32768x4096 ![] bcast_S_S32768x4096 (constant (F := Ideal) S_ .f32 0x3F800000#32))
      (addf (broadcastInDim S32768x4096 ![] bcast_S_S32768x4096 (constant S_ .f32 0x3F800000#32)) (Host.exp (Host.negf g))))
      (Host.dotGeneral dot_S32768x2048_S2048x4096_S32768x4096_1_0_0_1_n_n none (extf (F := Ideal) .f32 y bitsLt_bf16_f32) (shapeCast S2048x4096 w shapeCasts_S1x2048x4096_S2048x4096)))) bitsLt_bf16_f32
    = Cert.Mm.gatedAdd y (Cert.Mm.layer w) p g :=
  funext fun i => congrArg (p i + ·) (congrFun (Cert.Reference5Ideal.Mm.result_eq y w g) i)

end Cert.Reference4Ideal.Mm

namespace Cert.Reference7Ideal.Mm

open Cert.Reference7Ideal Cert.Reference7Ideal.Gen

/-- The self-gated product. -/
theorem result_eq (y : FVec Ideal S32768x2048 .bf16) (w : FVec Ideal S1x2048x2048 .f32) (b : FVec Ideal S1x2048 .f32) :
    truncf .bf16 (mulf (extf (F := Ideal) .f32 y bitsLt_bf16_f32) (Host.divf (broadcastInDim S32768x2048 ![] bcast_S_S32768x2048 (constant (F := Ideal) S_ .f32 0x3F800000#32))
      (addf (broadcastInDim S32768x2048 ![] bcast_S_S32768x2048 (constant S_ .f32 0x3F800000#32)) (Host.exp (Host.negf (addf
        (Host.dotGeneral dot_S32768x2048_S2048x2048_S32768x2048_1_0_0_1_n_n none (extf .f32 y bitsLt_bf16_f32) (shapeCast S2048x2048 w shapeCasts_S1x2048x2048_S2048x2048))
        (broadcastInDim S32768x2048 ![0, 1] bcast_S1x2048_S32768x2048_0_1 (broadcastInDim S1x2048 ![1] bcast_S2048_S1x2048_1 (shapeCast S2048 b shapeCasts_S1x2048_S2048))))))))) bitsLt_bf16_f32
    = Cert.Mm.selfGated y (Cert.Mm.layer w) b :=
  Cert.Mm.ext2 _ _ fun r q => by
    unfold Cert.Mm.selfGated Cert.Mm.dot Cert.Mm.layer Ideal.logistic
    pointwise

end Cert.Reference7Ideal.Mm

end
-- ==== Proof.Mm.Claims.lean ====
/- The claims about the further products: every run ends quietly, and the results are the references'. -/
module

public import proofs.«01_k».proof.Defs
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Mm.Gates
public import proofs.«01_k».proof.Proof.Mm.Hyena
public import proofs.«01_k».proof.Proof.Mm.Merge
public import proofs.«01_k».proof.Proof.Mm.Branch
public import proofs.«01_k».proof.Proof.Mm.State
public import proofs.«01_k».proof.Proof.Mm.Glu
public import proofs.«01_k».proof.Proof.Mm.Ref

@[expose] public section

noncomputable section

namespace Cert.Proof

open Idealize.ShloMosaic Idealize.ShloMosaic.TcCoe Idealize.SL.Sem

/-! ## Every run ends quietly

The references are host programs of straight-line operations that declare no semaphore. -/

theorem kernel2 : Cert.quiescent_Kernel2 := fun m g _ => Cert.Kernel2.Gen.frame m g
theorem kernel2Ideal : Cert.quiescent_Kernel2Ideal := fun m g _ => Cert.Kernel2Ideal.Gen.frame m g
theorem reference2Ideal : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

theorem kernel3 : Cert.quiescent_Kernel3 := fun m g _ => Cert.Kernel3.Gen.frame m g
theorem kernel3Ideal : Cert.quiescent_Kernel3Ideal := fun m g _ => Cert.Kernel3Ideal.Gen.frame m g
theorem reference3Ideal : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

theorem kernel4 : Cert.quiescent_Kernel4 := fun m g _ => Cert.Kernel4.Gen.frame m g
theorem kernel4Ideal : Cert.quiescent_Kernel4Ideal := fun m g _ => Cert.Kernel4Ideal.Gen.frame m g
theorem reference4Ideal : Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Value.run (F := Ideal) m g)

theorem kernel5 : Cert.quiescent_Kernel5 := fun m g _ => Cert.Kernel5.Gen.frame m g
theorem kernel5Ideal : Cert.quiescent_Kernel5Ideal := fun m g _ => Cert.Kernel5Ideal.Gen.frame m g
theorem reference5Ideal : Cert.quiescent_Reference5Ideal := fun m g _ =>
  (θ_run Cert.Reference5Ideal.defs _ _).mono (fun r h => ⟨fun c => (h c).2, Idealize.ShloMosaic.sem_eq_zero_of_no_sems (by decide) r.2⟩)
    (Cert.Reference5Ideal.Value.run (F := Ideal) m g)

theorem kernel6 : Cert.quiescent_Kernel6 := fun m g _ => Cert.Kernel6.Gen.frame m g
theorem kernel6Ideal : Cert.quiescent_Kernel6Ideal := fun m g _ => Cert.Kernel6Ideal.Gen.frame m g
theorem reference6Ideal : Cert.quiescent_Reference6Ideal := fun m g _ =>
  (θ_run Cert.Reference6Ideal.defs _ _).mono (fun r h => ⟨fun c => (h c).2, Idealize.ShloMosaic.sem_eq_zero_of_no_sems (by decide) r.2⟩)
    (Cert.Reference6Ideal.Value.run (F := Ideal) m g)

theorem kernel7 : Cert.quiescent_Kernel7 := fun m g _ => Cert.Kernel7.Gen.frame m g
theorem kernel7Ideal : Cert.quiescent_Kernel7Ideal := fun m g _ => Cert.Kernel7Ideal.Gen.frame m g
theorem reference7Ideal : Cert.quiescent_Reference7Ideal := fun m g _ =>
  (θ_run Cert.Reference7Ideal.defs _ _).mono (fun r h => ⟨fun c => (h c).2, Idealize.ShloMosaic.sem_eq_zero_of_no_sems (by decide) r.2⟩)
    (Cert.Reference7Ideal.Value.run (F := Ideal) m g)

/-! ## The results are the references' -/

theorem values2 : Cert.algebraic_Kernel2Ideal_Reference2Ideal := fun m ρ m' ρ' hp hag =>
  ⟨fun c => Cert.Mm.dot (m ((c : Thread Cert.Kernel2Ideal.nD Cert.Kernel2Ideal.τ).loc Cert.Kernel2Ideal.main_arg0)) (m ((c : Thread Cert.Kernel2Ideal.nD Cert.Kernel2Ideal.τ).loc Cert.Kernel2Ideal.main_arg1)),
    (θ_run Cert.Kernel2Ideal.defs _ _).mono (fun _ h c => ⟨(h c).1.trans (Cert.Kernel2Ideal.Mm.result_eq m c), (h c).2⟩) (Cert.Kernel2Ideal.Value.run (F := Ideal) m ρ),
    (θ_run Cert.Reference2Ideal.defs _ _).mono (fun _ h c => by
      obtain ⟨e0, e1⟩ := hag c
      refine ⟨(h c).1.trans ?_, (h c).2⟩
      rw [e0, e1]
      exact Cert.Reference2Ideal.Mm.result_eq _ _)
    (Cert.Reference2Ideal.Value.run (F := Ideal) m' ρ')⟩

theorem values3 : Cert.algebraic_Kernel3Ideal_Reference3Ideal := fun m ρ m' ρ' hp hag =>
  ⟨fun c => Cert.Mm.dot (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)),
    (θ_run Cert.Kernel3Ideal.defs _ _).mono (fun _ h c => ⟨(h c).1.trans (Cert.Kernel3Ideal.Mm.result_eq m c), (h c).2⟩) (Cert.Kernel3Ideal.Value.run (F := Ideal) m ρ),
    (θ_run Cert.Reference3Ideal.defs _ _).mono (fun _ h c => by
      obtain ⟨e0, e1⟩ := hag c
      refine ⟨(h c).1.trans ?_, (h c).2⟩
      rw [e0, e1]
      exact Cert.Reference3Ideal.Mm.result_eq _ _)
    (Cert.Reference3Ideal.Value.run (F := Ideal) m' ρ')⟩

theorem values4 : Cert.algebraic_Kernel4Ideal_Reference4Ideal := fun m ρ m' ρ' hp hag =>
  ⟨fun c => Cert.Mm.gatedAdd (m ((c : Thread Cert.Kernel4Ideal.nD Cert.Kernel4Ideal.τ).loc Cert.Kernel4Ideal.main_arg0)) (Cert.Mm.layer (m ((c : Thread Cert.Kernel4Ideal.nD Cert.Kernel4Ideal.τ).loc Cert.Kernel4Ideal.main_arg1))) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)),
    (θ_run Cert.Kernel4Ideal.defs _ _).mono (fun _ h c => ⟨(h c).1.trans (Cert.Kernel4Ideal.Mm.result_eq m c), (h c).2⟩) (Cert.Kernel4Ideal.Value.run_blocks (F := Ideal) m ρ),
    (θ_run Cert.Reference4Ideal.defs _ _).mono (fun _ h c => by
      obtain ⟨e0, e1, e2, e3⟩ := hag c
      refine ⟨(h c).1.trans ?_, (h c).2⟩
      rw [e0, e1, e2, e3]
      exact Cert.Reference4Ideal.Mm.result_eq _ _ _ _)
    (Cert.Reference4Ideal.Value.run (F := Ideal) m' ρ')⟩

theorem values5 : Cert.algebraic_Kernel5Ideal_Reference5Ideal := fun m ρ m' ρ' hp hag =>
  ⟨fun c => Cert.Mm.gated (m ((c : Thread Cert.Kernel5Ideal.nD Cert.Kernel5Ideal.τ).loc Cert.Kernel5Ideal.main_arg0)) (Cert.Mm.layer (m ((c : Thread Cert.Kernel5Ideal.nD Cert.Kernel5Ideal.τ).loc Cert.Kernel5Ideal.main_arg1))) (m ((c : Thread Cert.Kernel5Ideal.nD Cert.Kernel5Ideal.τ).loc Cert.Kernel5Ideal.main_arg2)),
    (θ_run Cert.Kernel5Ideal.defs _ _).mono (fun _ h c => ⟨(h c).1.trans (Cert.Kernel5Ideal.Mm.result_eq m c), (h c).2⟩) (Cert.Kernel5Ideal.Value.run_blocks (F := Ideal) m ρ),
    (θ_run Cert.Reference5Ideal.defs _ _).mono (fun _ h c => by
      obtain ⟨e0, e1, e2⟩ := hag c
      refine ⟨(h c).1.trans ?_, (h c).2⟩
      rw [e0, e1, e2]
      exact Cert.Reference5Ideal.Mm.result_eq _ _ _)
    (Cert.Reference5Ideal.Value.run (F := Ideal) m' ρ')⟩

theorem values6 : Cert.algebraic_Kernel6Ideal_Reference6Ideal := fun m ρ m' ρ' hp hag =>
  ⟨fun c => Cert.Mm.dot (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)),
    (θ_run Cert.Kernel6Ideal.defs _ _).mono (fun _ h c => ⟨(h c).1.trans (Cert.Kernel6Ideal.Mm.result_eq m c), (h c).2⟩) (Cert.Kernel6Ideal.Value.run (F := Ideal) m ρ),
    (θ_run Cert.Reference6Ideal.defs _ _).mono (fun _ h c => by
      obtain ⟨e0, e1⟩ := hag c
      refine ⟨(h c).1.trans ?_, (h c).2⟩
      rw [e0, e1]
      exact Cert.Reference6Ideal.Mm.result_eq _ _)
    (Cert.Reference6Ideal.Value.run (F := Ideal) m' ρ')⟩

theorem values7 : Cert.algebraic_Kernel7Ideal_Reference7Ideal := fun m ρ m' ρ' hp hag =>
  ⟨fun c => Cert.Mm.selfGated (m ((c : Thread Cert.Kernel7Ideal.nD Cert.Kernel7Ideal.τ).loc Cert.Kernel7Ideal.main_arg0)) (Cert.Mm.layer (m ((c : Thread Cert.Kernel7Ideal.nD Cert.Kernel7Ideal.τ).loc Cert.Kernel7Ideal.main_arg1))) (m ((c : Thread Cert.Kernel7Ideal.nD Cert.Kernel7Ideal.τ).loc Cert.Kernel7Ideal.main_arg2)),
    (θ_run Cert.Kernel7Ideal.defs _ _).mono (fun _ h c => ⟨(h c).1.trans (Cert.Kernel7Ideal.Mm.result_eq m c), (h c).2⟩) (Cert.Kernel7Ideal.Value.run_blocks (F := Ideal) m ρ),
    (θ_run Cert.Reference7Ideal.defs _ _).mono (fun _ h c => by
      obtain ⟨e0, e1, e2⟩ := hag c
      refine ⟨(h c).1.trans ?_, (h c).2⟩
      rw [e0, e1, e2]
      exact Cert.Reference7Ideal.Mm.result_eq _ _ _)
    (Cert.Reference7Ideal.Value.run (F := Ideal) m' ρ')⟩

end Cert.Proof

end
-- ==== Proof.Ln.Spec.lean ====
/- What a normalization of rows computes, over the extended reals. -/
module

public import proofs.«01_k».proof.Proof.Mm.Spec

@[expose] public section

noncomputable section

namespace Cert.Ln

open Idealize.ShloMosaic
open Cert.Mm (Mat)
open scoped BigOperators

/-- The mean of a row of 4096. -/
def mean (x : Fin 4096 → EReal) : EReal := Ideal.div (∑ k, x k) (Ideal.ofBits .f32 0x45800000#32)

/-- A row less its mean. -/
def centred (x : Fin 4096 → EReal) (q : Fin 4096) : EReal := x q - mean x

/-- A row less its mean, over the root of its variance and a small constant. -/
def unitRow (x : Fin 4096 → EReal) (q : Fin 4096) : EReal :=
  centred x q * Ideal.rsqrt (mean (fun k => centred x k * centred x k) + Ideal.ofBits .f32 0x3727C5AC#32)

/-- The rows of an array normalized, scaled column by column and shifted column by column. -/
def norm {M : ℕ} (x : Mat M 4096) (g b : Fin 4096 → EReal) : Mat M 4096 :=
  fun i => unitRow (fun k => x (ix2 (n0 := M) (i 0) k)) (i 1) * g (i 1) + b (i 1)

/-- An array scaled by the fourth root of two, plus another. -/
def residual {M N : ℕ} (h y : Mat M N) : Mat M N := fun i => Ideal.ofBits .f32 0x3F9837F0#32 * h i + y i

/-- The index of the row `r` of the block `a` of 256 rows. -/
abbrev row (a : Fin 128) (r : Fin 256) : Fin 32768 := ⟨a.val * 256 + r.val, by omega⟩

/-- Two arrays that agree on every block of 256 rows are the same. -/
theorem ext_rows (f g : Mat 32768 4096) (h : ∀ (a : Fin 128) (r : Fin 256) (q : Fin 4096), f (ix2 (row a r) q) = g (ix2 (row a r) q)) : f = g :=
  Cert.Mm.ext2 _ _ fun r q => by
    have e : r = row ⟨r.val / 256, by omega⟩ ⟨r.val % 256, Nat.mod_lt _ (by decide)⟩ := Fin.ext (Nat.div_add_mod' _ _).symm
    rw [e]
    exact h _ _ _

end Cert.Ln

end
-- ==== Proof.Ln.First.lean ====
/- The normalization of the first layer's rows: what the run leaves in the two result arrays. -/
module

public import proofs.«01_k».proof.Proof.Ln.Spec
public import proofs.«01_k».proof.Proof.Gen.Kernel8Ideal.Value
public import Idealize.ShloMosaic.Lib.Pipeline.Value
public import Idealize.ShloMosaic.Lib.StableHlo.Run
public import Idealize.ShloMosaic.Lib.Pointwise.Tactic
public import Idealize.ShloMosaic.Lib.Pointwise.Reduce
public import Idealize.ShloMosaic.Lib.Pointwise.Reshape

@[expose] public section

set_option maxRecDepth 16384

noncomputable section

namespace Cert.Kernel8Ideal.Ln

open Cert.Kernel8Ideal Cert.Kernel8Ideal.Gen Cert.Kernel8Ideal.Value
open Idealize.ShloMosaic Idealize.ShloMosaic.TcCoe Idealize.SL.Sem
open Cert.Ln (row)
open scoped BigOperators

/-! ## The points of the grid, and the blocks the windows bring -/

theorem hz : (![0, 0] : Fin 2 → Nat) = fun _ => 0 := funext fun a => by fin_cases a <;> rfl

/-- The point that normalizes the block `a` of 256 rows. -/
abbrev point (a : Fin 128) : Fin grid0.N := ⟨a.val, lt_of_lt_of_eq a.isLt N_0.symm⟩

variable (m : (ℓ : Loc nD τ sig) → Buf (Elt Ideal) ℓ)

theorem flush3 : ∀ t : Fin cfg0.N, (cfg0.win 3).flush t = true := (by decide +kernel : ∀ t : Fin grid0.N, win0_3.flush t = true)
theorem flush4 : ∀ t : Fin cfg0.N, (cfg0.win 4).flush t = true := (by decide +kernel : ∀ t : Fin grid0.N, win0_4.flush t = true)
theorem idx0 : ∀ a : Fin 128, win0_0.index (point a) = ![a.val, 0] := by decide +kernel
theorem idx1 : ∀ a : Fin 128, win0_1.index (point a) = ![0, 0] := by decide +kernel
theorem idx2 : ∀ a : Fin 128, win0_2.index (point a) = ![0, 0] := by decide +kernel
theorem idx3 : ∀ a : Fin 128, win0_3.index (point a) = ![a.val, 0] := by decide +kernel
theorem idx4 : ∀ a : Fin 128, win0_4.index (point a) = ![a.val, 0] := by decide +kernel

/-- The factors as the region meets them. -/
theorem V_main_v0 (c : Dev nD) : V m c main_v0 = shapeCast S1x4096 (m ((c : Thread nD τ).loc main_arg1) : Vec Ideal S4096 .f32) shapeCasts_S4096_S1x4096 := by
  unfold V
  after_results
  rfl

/-- The shifts as the region meets them. -/
theorem V_main_v1 (c : Dev nD) : V m c main_v1 = shapeCast S1x4096 (m ((c : Thread nD τ).loc main_arg2) : Vec Ideal S4096 .f32) shapeCasts_S4096_S1x4096 := by
  unfold V
  after_results
  rfl

theorem blockX (c : Dev nD) (a : Fin 128) (r : Fin 256) (q : Fin 4096) :
    (iblk m c 0 (point a) : Vec Ideal S256x4096 .f32) (ix2 r q) = (m ((c : Thread nD τ).loc main_arg0) : Vec Ideal S32768x4096 .f32) (ix2 (row a r) q) := by
  rw [← V_main_arg0 m c]
  unfold iblk
  rw [View.read_apply]
  refine congrArg (V m c main_arg0) (funext fun d => Fin.ext ?_)
  match d with
  | ⟨0, _⟩ => show win0_0.index (point a) 0 * 256 + 1 * r.val = a.val * 256 + r.val; rw [idx0, Nat.one_mul]; rfl
  | ⟨1, _⟩ => show win0_0.index (point a) 1 * 4096 + 1 * q.val = q.val; rw [idx0, Nat.one_mul]; exact Nat.zero_add _

theorem blockG (c : Dev nD) (a : Fin 128) (q : Fin 4096) :
    (iblk m c 1 (point a) : Vec Ideal S1x4096 .f32) (ix2 0 q) = (V m c main_v0 : Vec Ideal S1x4096 .f32) (ix2 0 q) := by
  unfold iblk
  rw [View.read_apply]
  refine congrArg (V m c main_v0) (funext fun d => Fin.ext ?_)
  match d with
  | ⟨0, _⟩ => show win0_1.index (point a) 0 * 1 + 1 * 0 = 0; rw [idx1]; rfl
  | ⟨1, _⟩ => show win0_1.index (point a) 1 * 4096 + 1 * q.val = q.val; rw [idx1, Nat.one_mul]; exact Nat.zero_add _

theorem blockB (c : Dev nD) (a : Fin 128) (q : Fin 4096) :
    (iblk m c 2 (point a) : Vec Ideal S1x4096 .f32) (ix2 0 q) = (V m c main_v1 : Vec Ideal S1x4096 .f32) (ix2 0 q) := by
  unfold iblk
  rw [View.read_apply]
  refine congrArg (V m c main_v1) (funext fun d => Fin.ext ?_)
  match d with
  | ⟨0, _⟩ => show win0_2.index (point a) 0 * 1 + 1 * 0 = 0; rw [idx2]; rfl
  | ⟨1, _⟩ => show win0_2.index (point a) 1 * 4096 + 1 * q.val = q.val; rw [idx2, Nat.one_mul]; exact Nat.zero_add _

/-- What a point leaves in the block of the normalized rows: the body's value of the blocks it was brought. -/
theorem out3_eq (x : Vec Ideal S256x4096 .f32) (g b : Vec Ideal S1x4096 .f32) : out0_3 x g b = k0_pay1 x g b := by
  unfold out0_3
  rw [View.canon_unit_zero hz, View.ld_unit_zero (S := S256x4096) hz, View.ld_unit_zero (S := S1x4096) hz, View.ld_unit_zero (S := S1x4096) hz]

/-- The array of the normalized rows after the run, block by block. -/
theorem rows3_at (c : Dev nD) (a : Fin 128) (r : Fin 256) (q : Fin 4096) :
    ((dats m 0 c).arrAt 3 cfg0.N : Vec Ideal S32768x4096 .f32) (ix2 (row a r) q) = k0_pay1 (iblk m c 0 (point a)) (iblk m c 1 (point a)) (iblk m c 2 (point a)) (ix2 r q) := by
  have h := congrFun (blocks3 m c (point a) (flush3 _)) (ix2 r q)
  rw [flushed3, out3_eq, View.read_apply] at h
  refine Eq.trans (congrArg ((dats m 0 c).arrAt 3 cfg0.N) (funext fun d => Fin.ext ?_)) (h.trans (congrArg (k0_pay1 _ _ _) (funext fun d => Fin.ext ?_)))
  · match d with
    | ⟨0, _⟩ => show a.val * 256 + r.val = win0_3.index (point a) 0 * 256 + 1 * r.val; rw [idx3, Nat.one_mul]; rfl
    | ⟨1, _⟩ => show q.val = win0_3.index (point a) 1 * 4096 + 1 * q.val; rw [idx3, Nat.one_mul]; exact (Nat.zero_add _).symm
  · match d with
    | ⟨0, _⟩ => rfl
    | ⟨1, _⟩ => rfl

/-- What a point leaves in the block of their copies in the narrow format: the body's value of the blocks it was brought. -/
theorem out4_eq (x : Vec Ideal S256x4096 .f32) (g b : Vec Ideal S1x4096 .f32) : out0_4 x g b = k0_pay2 x g b := by
  unfold out0_4
  rw [View.canon_unit_zero hz, View.ld_unit_zero (S := S256x4096) hz, View.ld_unit_zero (S := S1x4096) hz, View.ld_unit_zero (S := S1x4096) hz]

/-- The array of their copies in the narrow format after the run, block by block. -/
theorem rows4_at (c : Dev nD) (a : Fin 128) (r : Fin 256) (q : Fin 4096) :
    ((dats m 0 c).arrAt 4 cfg0.N : Vec Ideal S32768x4096 .bf16) (ix2 (row a r) q) = k0_pay2 (iblk m c 0 (point a)) (iblk m c 1 (point a)) (iblk m c 2 (point a)) (ix2 r q) := by
  have h := congrFun (blocks4 m c (point a) (flush4 _)) (ix2 r q)
  rw [flushed4, out4_eq, View.read_apply] at h
  refine Eq.trans (congrArg ((dats m 0 c).arrAt 4 cfg0.N) (funext fun d => Fin.ext ?_)) (h.trans (congrArg (k0_pay2 _ _ _) (funext fun d => Fin.ext ?_)))
  · match d with
    | ⟨0, _⟩ => show a.val * 256 + r.val = win0_4.index (point a) 0 * 256 + 1 * r.val; rw [idx4, Nat.one_mul]; rfl
    | ⟨1, _⟩ => show q.val = win0_4.index (point a) 1 * 4096 + 1 * q.val; rw [idx4, Nat.one_mul]; exact (Nat.zero_add _).symm
  · match d with
    | ⟨0, _⟩ => rfl
    | ⟨1, _⟩ => rfl

/-! ## The arithmetic at an index -/

theorem pay_at (x : S256x4096.Idx → EReal) (g b : S1x4096.Idx → EReal) (r : Fin 256) (q : Fin 4096) :
    k0_pay1 (F := Ideal) x g b (ix2 r q) = Cert.Ln.unitRow (fun k => x (ix2 r k)) q * g (ix2 0 q) + b (ix2 0 q) := by
  unfold k0_pay1 Cert.Ln.unitRow Cert.Ln.centred Cert.Ln.mean
  pointwise

theorem row_at (g : S4096.Idx → EReal) (q : Fin 4096) : shapeCast S1x4096 (g : Vec Ideal S4096 .f32) shapeCasts_S4096_S1x4096 (ix2 0 q) = g (ix1 q) := by
  pointwise

/-- What the results hold. -/
abbrev result (c : Dev nD) : Cert.Mm.Mat 32768 4096 :=
  Cert.Ln.norm (m ((c : Thread nD τ).loc main_arg0)) (fun q => (m ((c : Thread nD τ).loc main_arg1) : S4096.Idx → EReal) (ix1 q)) (fun q => (m ((c : Thread nD τ).loc main_arg2) : S4096.Idx → EReal) (ix1 q))

theorem block_at (c : Dev nD) (a : Fin 128) (r : Fin 256) (q : Fin 4096) :
    k0_pay1 (F := Ideal) (iblk m c 0 (point a)) (iblk m c 1 (point a)) (iblk m c 2 (point a)) (ix2 r q) = result m c (ix2 (row a r) q) := by
  rw [pay_at, blockG, blockB, V_main_v0, V_main_v1, row_at, row_at]
  simp only [blockX]
  rfl

theorem result3_eq (c : Dev nD) : ((dats m 0 c).arrAt 3 cfg0.N : S32768x4096.Idx → EReal) = result m c :=
  Cert.Ln.ext_rows _ _ fun a r q => (rows3_at m c a r q).trans (block_at m c a r q)

/-- Rounding is nothing over the extended reals. -/
theorem result4_eq (c : Dev nD) : ((dats m 0 c).arrAt 4 cfg0.N : S32768x4096.Idx → EReal) = result m c :=
  Cert.Ln.ext_rows _ _ fun a r q => (rows4_at m c a r q).trans (block_at m c a r q)

end Cert.Kernel8Ideal.Ln

end
-- ==== Proof.Ln.Second.lean ====
/- The normalization of the rows after the mixing: what the run leaves in the two result arrays. -/
module

public import proofs.«01_k».proof.Proof.Ln.Spec
public import proofs.«01_k».proof.Proof.Ln.First
public import proofs.«01_k».proof.Proof.Gen.Kernel9Ideal.Value
public import Idealize.ShloMosaic.Lib.Pipeline.Value
public import Idealize.ShloMosaic.Lib.StableHlo.Run
public import Idealize.ShloMosaic.Lib.Pointwise.Tactic
public import Idealize.ShloMosaic.Lib.Pointwise.Reduce
public import Idealize.ShloMosaic.Lib.Pointwise.Reshape

@[expose] public section

set_option maxRecDepth 16384

noncomputable section

namespace Cert.Kernel9Ideal.Ln

open Cert.Kernel9Ideal Cert.Kernel9Ideal.Gen Cert.Kernel9Ideal.Value
open Idealize.ShloMosaic Idealize.ShloMosaic.TcCoe Idealize.SL.Sem
open Cert.Ln (row)
open scoped BigOperators

/-! ## The points of the grid, and the blocks the windows bring -/

theorem hz : (![0, 0] : Fin 2 → Nat) = fun _ => 0 := funext fun a => by fin_cases a <;> rfl

/-- The point that normalizes the block `a` of 256 rows. -/
abbrev point (a : Fin 128) : Fin grid0.N := ⟨a.val, lt_of_lt_of_eq a.isLt N_0.symm⟩

variable (m : (ℓ : Loc nD τ sig) → Buf (Elt Ideal) ℓ)

theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)
theorem idx0 : ∀ a : Fin 128, win0_0.index (point a) = ![a.val, 0] := by decide +kernel
theorem idx1 : ∀ a : Fin 128, win0_1.index (point a) = ![a.val, 0] := by decide +kernel
theorem idx2 : ∀ a : Fin 128, win0_2.index (point a) = ![0, 0] := by decide +kernel
theorem idx3 : ∀ a : Fin 128, win0_3.index (point a) = ![0, 0] := by decide +kernel
theorem idx4 : ∀ a : Fin 128, win0_4.index (point a) = ![a.val, 0] := by decide +kernel
theorem idx5 : ∀ a : Fin 128, win0_5.index (point a) = ![a.val, 0] := by decide +kernel

/-- The factors as the region meets them. -/
theorem V_main_v2 (c : Dev nD) : V m c main_v2 = shapeCast S1x4096 (shapeCast S4096 (m ((c : Thread nD τ).loc main_arg2) : Vec Ideal S1x4096 .f32) shapeCasts_S1x4096_S4096) shapeCasts_S4096_S1x4096 := by
  unfold V
  after_results
  rfl

/-- The shifts as the region meets them. -/
theorem V_main_v3 (c : Dev nD) : V m c main_v3 = shapeCast S1x4096 (shapeCast S4096 (m ((c : Thread nD τ).loc main_arg3) : Vec Ideal S1x4096 .f32) shapeCasts_S1x4096_S4096) shapeCasts_S4096_S1x4096 := by
  unfold V
  after_results
  rfl

theorem blockX (c : Dev nD) (a : Fin 128) (r : Fin 256) (q : Fin 4096) :
    (iblk m c 0 (point a) : Vec Ideal S256x4096 .f32) (ix2 r q) = (m ((c : Thread nD τ).loc main_arg0) : Vec Ideal S32768x4096 .f32) (ix2 (row a r) q) := by
  rw [← V_main_arg0 m c]
  unfold iblk
  rw [View.read_apply]
  refine congrArg (V m c main_arg0) (funext fun d => Fin.ext ?_)
  match d with
  | ⟨0, _⟩ => show win0_0.index (point a) 0 * 256 + 1 * r.val = a.val * 256 + r.val; rw [idx0, Nat.one_mul]; rfl
  | ⟨1, _⟩ => show win0_0.index (point a) 1 * 4096 + 1 * q.val = q.val; rw [idx0, Nat.one_mul]; exact Nat.zero_add _

theorem blockH (c : Dev nD) (a : Fin 128) (r : Fin 256) (q : Fin 4096) :
    (iblk m c 1 (point a) : Vec Ideal S256x4096 .f32) (ix2 r q) = (m ((c : Thread nD τ).loc main_arg1) : Vec Ideal S32768x4096 .f32) (ix2 (row a r) q) := by
  rw [← V_main_arg1 m c]
  unfold iblk
  rw [View.read_apply]
  refine congrArg (V m c main_arg1) (funext fun d => Fin.ext ?_)
  match d with
  | ⟨0, _⟩ => show win0_1.index (point a) 0 * 256 + 1 * r.val = a.val * 256 + r.val; rw [idx1, Nat.one_mul]; rfl
  | ⟨1, _⟩ => show win0_1.index (point a) 1 * 4096 + 1 * q.val = q.val; rw [idx1, Nat.one_mul]; exact Nat.zero_add _

theorem blockG (c : Dev nD) (a : Fin 128) (q : Fin 4096) :
    (iblk m c 2 (point a) : Vec Ideal S1x4096 .f32) (ix2 0 q) = (V m c main_v2 : Vec Ideal S1x4096 .f32) (ix2 0 q) := by
  unfold iblk
  rw [View.read_apply]
  refine congrArg (V m c main_v2) (funext fun d => Fin.ext ?_)
  match d with
  | ⟨0, _⟩ => show win0_2.index (point a) 0 * 1 + 1 * 0 = 0; rw [idx2]; rfl
  | ⟨1, _⟩ => show win0_2.index (point a) 1 * 4096 + 1 * q.val = q.val; rw [idx2, Nat.one_mul]; exact Nat.zero_add _

theorem blockB (c : Dev nD) (a : Fin 128) (q : Fin 4096) :
    (iblk m c 3 (point a) : Vec Ideal S1x4096 .f32) (ix2 0 q) = (V m c main_v3 : Vec Ideal S1x4096 .f32) (ix2 0 q) := by
  unfold iblk
  rw [View.read_apply]
  refine congrArg (V m c main_v3) (funext fun d => Fin.ext ?_)
  match d with
  | ⟨0, _⟩ => show win0_3.index (point a) 0 * 1 + 1 * 0 = 0; rw [idx3]; rfl
  | ⟨1, _⟩ => show win0_3.index (point a) 1 * 4096 + 1 * q.val = q.val; rw [idx3, Nat.one_mul]; exact Nat.zero_add _

/-- What a point leaves in the block of the normalized rows: the body's value of the blocks it was brought. -/
theorem out4_eq (x h : Vec Ideal S256x4096 .f32) (g b : Vec Ideal S1x4096 .f32) : out0_4 x h g b = k0_pay1 h x g b := by
  unfold out0_4
  rw [View.canon_unit_zero hz, View.ld_unit_zero (S := S256x4096) hz, View.ld_unit_zero (S := S256x4096) hz, View.ld_unit_zero (S := S1x4096) hz, View.ld_unit_zero (S := S1x4096) hz]

/-- The array of the normalized rows after the run, block by block. -/
theorem rows4_at (c : Dev nD) (a : Fin 128) (r : Fin 256) (q : Fin 4096) :
    ((dats m 0 c).arrAt 4 cfg0.N : Vec Ideal S32768x4096 .f32) (ix2 (row a r) q) = k0_pay1 (iblk m c 1 (point a)) (iblk m c 0 (point a)) (iblk m c 2 (point a)) (iblk m c 3 (point a)) (ix2 r q) := by
  have h := congrFun (blocks4 m c (point a) (flush4 _)) (ix2 r q)
  rw [flushed4, out4_eq, View.read_apply] at h
  refine Eq.trans (congrArg ((dats m 0 c).arrAt 4 cfg0.N) (funext fun d => Fin.ext ?_)) (h.trans (congrArg (k0_pay1 _ _ _ _) (funext fun d => Fin.ext ?_)))
  · match d with
    | ⟨0, _⟩ => show a.val * 256 + r.val = win0_4.index (point a) 0 * 256 + 1 * r.val; rw [idx4, Nat.one_mul]; rfl
    | ⟨1, _⟩ => show q.val = win0_4.index (point a) 1 * 4096 + 1 * q.val; rw [idx4, Nat.one_mul]; exact (Nat.zero_add _).symm
  · match d with
    | ⟨0, _⟩ => rfl
    | ⟨1, _⟩ => rfl

/-- What a point leaves in the block of their copies in the narrow format: the body's value of the blocks it was brought. -/
theorem out5_eq (x h : Vec Ideal S256x4096 .f32) (g b : Vec Ideal S1x4096 .f32) : out0_5 x h g b = k0_pay2 h x g b := by
  unfold out0_5
  rw [View.canon_unit_zero hz, View.ld_unit_zero (S := S256x4096) hz, View.ld_unit_zero (S := S256x4096) hz, View.ld_unit_zero (S := S1x4096) hz, View.ld_unit_zero (S := S1x4096) hz]

/-- The array of their copies in the narrow format after the run, block by block. -/
theorem rows5_at (c : Dev nD) (a : Fin 128) (r : Fin 256) (q : Fin 4096) :
    ((dats m 0 c).arrAt 5 cfg0.N : Vec Ideal S32768x4096 .bf16) (ix2 (row a r) q) = k0_pay2 (iblk m c 1 (point a)) (iblk m c 0 (point a)) (iblk m c 2 (point a)) (iblk m c 3 (point a)) (ix2 r q) := by
  have h := congrFun (blocks5 m c (point a) (flush5 _)) (ix2 r q)
  rw [flushed5, out5_eq, View.read_apply] at h
  refine Eq.trans (congrArg ((dats m 0 c).arrAt 5 cfg0.N) (funext fun d => Fin.ext ?_)) (h.trans (congrArg (k0_pay2 _ _ _ _) (funext fun d => Fin.ext ?_)))
  · match d with
    | ⟨0, _⟩ => show a.val * 256 + r.val = win0_5.index (point a) 0 * 256 + 1 * r.val; rw [idx5, Nat.one_mul]; rfl
    | ⟨1, _⟩ => show q.val = win0_5.index (point a) 1 * 4096 + 1 * q.val; rw [idx5, Nat.one_mul]; exact (Nat.zero_add _).symm
  · match d with
    | ⟨0, _⟩ => rfl
    | ⟨1, _⟩ => rfl

/-! ## The arithmetic at an index -/

theorem pay_at (x h : S256x4096.Idx → EReal) (g b : S1x4096.Idx → EReal) (r : Fin 256) (q : Fin 4096) :
    k0_pay1 (F := Ideal) h x g b (ix2 r q) = Cert.Ln.unitRow (fun k => Ideal.ofBits .f32 0x3F9837F0#32 * h (ix2 r k) + x (ix2 r k)) q * g (ix2 0 q) + b (ix2 0 q) :=
  Cert.Kernel8Ideal.Ln.pay_at (fun i => Ideal.ofBits .f32 0x3F9837F0#32 * h i + x i) g b r q

theorem row_at (g : S1x4096.Idx → EReal) (q : Fin 4096) :
    shapeCast S1x4096 (shapeCast S4096 (g : Vec Ideal S1x4096 .f32) shapeCasts_S1x4096_S4096) shapeCasts_S4096_S1x4096 (ix2 0 q) = g (ix2 0 q) := by
  pointwise

/-- What the results hold. -/
abbrev result (c : Dev nD) : Cert.Mm.Mat 32768 4096 :=
  Cert.Ln.norm (Cert.Ln.residual (m ((c : Thread nD τ).loc main_arg1)) (m ((c : Thread nD τ).loc main_arg0)))
    (fun q => (m ((c : Thread nD τ).loc main_arg2) : S1x4096.Idx → EReal) (ix2 0 q)) (fun q => (m ((c : Thread nD τ).loc main_arg3) : S1x4096.Idx → EReal) (ix2 0 q))

theorem block_at (c : Dev nD) (a : Fin 128) (r : Fin 256) (q : Fin 4096) :
    k0_pay1 (F := Ideal) (iblk m c 1 (point a)) (iblk m c 0 (point a)) (iblk m c 2 (point a)) (iblk m c 3 (point a)) (ix2 r q) = result m c (ix2 (row a r) q) := by
  rw [pay_at, blockG, blockB, V_main_v2, V_main_v3, row_at, row_at]
  simp only [blockX, blockH]
  rfl

theorem result4_eq (c : Dev nD) : ((dats m 0 c).arrAt 4 cfg0.N : S32768x4096.Idx → EReal) = result m c :=
  Cert.Ln.ext_rows _ _ fun a r q => (rows4_at m c a r q).trans (block_at m c a r q)

/-- Rounding is nothing over the extended reals. -/
theorem result5_eq (c : Dev nD) : ((dats m 0 c).arrAt 5 cfg0.N : S32768x4096.Idx → EReal) = result m c :=
  Cert.Ln.ext_rows _ _ fun a r q => (rows5_at m c a r q).trans (block_at m c a r q)

end Cert.Kernel9Ideal.Ln

end
-- ==== Proof.Ln.Ref.lean ====
/- What the references of the normalizations compute, over the extended reals. -/
module

public import proofs.«01_k».proof.Proof.Ln.Spec
public import proofs.«01_k».proof.Proof.Gen.Reference8Ideal.Run
public import proofs.«01_k».proof.Proof.Gen.Reference9Ideal.Run
public import Idealize.ShloMosaic.Lib.Pointwise.Tactic
public import Idealize.ShloMosaic.Lib.Pointwise.Reduce
public import Idealize.ShloMosaic.Lib.Pointwise.Reshape

@[expose] public section

set_option maxRecDepth 16384

noncomputable section

open Idealize.ShloMosaic Idealize.ShloMosaic.TcCoe Idealize.SL.Sem
open scoped BigOperators

namespace Cert.Reference8Ideal.Ln

open Cert.Reference8Ideal Cert.Reference8Ideal.Gen

/-- The means of the rows of an array, as a column. -/
def meanCol (x : FVec Ideal S32768x4096 .f32) : FVec Ideal S32768x1 .f32 :=
  Host.divf (broadcastInDim S32768x1 ![0] bcast_S32768_S32768x1_0 (Host.reduceAdd x (constant S_ .f32 0x00000000#32) reducesTo_S32768x4096_S32768_d1 h_S_)) (broadcastInDim S32768x1 ![] bcast_S_S32768x1 (constant S_ .f32 0x45800000#32))

/-- The rows of an array less their means. -/
def centredRows (x : FVec Ideal S32768x4096 .f32) : FVec Ideal S32768x4096 .f32 :=
  subf x (broadcastInDim S32768x4096 ![0, 1] bcast_S32768x1_S32768x4096_0_1 (meanCol x))

theorem meanCol_at (x : FVec Ideal S32768x4096 .f32) (r : Fin 32768) (z : Fin 1) : meanCol x (ix2 r z) = Cert.Ln.mean fun k => x (ix2 r k) := by
  unfold Cert.Ln.mean meanCol
  pointwise

theorem centredRows_at (x : FVec Ideal S32768x4096 .f32) (r : Fin 32768) (q : Fin 4096) : centredRows x (ix2 r q) = Cert.Ln.centred (fun k => x (ix2 r k)) q := by
  unfold Cert.Ln.centred centredRows
  rw [← meanCol_at x r 0]
  generalize meanCol x = y
  pointwise

/-- The normalization of the rows: the columns' factors and shifts are given as rows of size one. -/
def normRows (x : FVec Ideal S32768x4096 .f32) (g b : FVec Ideal S1x4096 .f32) : FVec Ideal S32768x4096 .f32 :=
  addf (mulf (mulf (centredRows x) (broadcastInDim S32768x4096 ![0, 1] bcast_S32768x1_S32768x4096_0_1
      (Host.rsqrt (addf (meanCol (mulf (centredRows x) (centredRows x))) (broadcastInDim S32768x1 ![] bcast_S_S32768x1 (constant S_ .f32 0x3727C5AC#32))))))
      (broadcastInDim S32768x4096 ![0, 1] bcast_S1x4096_S32768x4096_0_1 g)) (broadcastInDim S32768x4096 ![0, 1] bcast_S1x4096_S32768x4096_0_1 b)

/-- What the normalization computes. -/
theorem normRows_eq (x : FVec Ideal S32768x4096 .f32) (g b : FVec Ideal S1x4096 .f32) :
    normRows x g b =
    Cert.Ln.norm x (fun q => g (ix2 0 q)) (fun q => b (ix2 0 q)) :=
  Cert.Mm.ext2 _ _ fun r q => by
    have hm := meanCol_at (mulf (centredRows x) (centredRows x)) r 0
    have hc := centredRows_at x r
    have hv : (fun k => mulf (centredRows x) (centredRows x) (ix2 r k)) = fun k => Cert.Ln.centred (fun k => x (ix2 r k)) k * Cert.Ln.centred (fun k => x (ix2 r k)) k :=
      funext fun k => congrArg₂ (· * ·) (hc k) (hc k)
    rw [hv] at hm
    unfold normRows Cert.Ln.norm Cert.Ln.unitRow
    show _ = Cert.Ln.centred (fun k => x (ix2 r k)) q * Ideal.rsqrt (Cert.Ln.mean (fun k => Cert.Ln.centred (fun k => x (ix2 r k)) k * Cert.Ln.centred (fun k => x (ix2 r k)) k) + Ideal.ofBits .f32 0x3727C5AC#32) * g (ix2 0 q) + b (ix2 0 q)
    rw [← hm, ← hc q]
    generalize meanCol (mulf (centredRows x) (centredRows x)) = y
    generalize centredRows x = z
    pointwise

/-- A vector as the one row of an array. -/
theorem row_at (g : FVec Ideal S4096 .f32) (q : Fin 4096) : (broadcastInDim S1x4096 ![1] bcast_S4096_S1x4096_1 g : FVec Ideal S1x4096 .f32) (ix2 0 q) = g (ix1 q) := by
  pointwise

theorem result_eq (x : FVec Ideal S32768x4096 .f32) (g b : FVec Ideal S4096 .f32) :
    normRows x (broadcastInDim S1x4096 ![1] bcast_S4096_S1x4096_1 g) (broadcastInDim S1x4096 ![1] bcast_S4096_S1x4096_1 b) = Cert.Ln.norm x (fun q => g (ix1 q)) (fun q => b (ix1 q)) :=
  (normRows_eq _ _ _).trans (congrArg₂ (Cert.Ln.norm x) (funext fun q => row_at g q) (funext fun q => row_at b q))

end Cert.Reference8Ideal.Ln

namespace Cert.Reference9Ideal.Ln

open Cert.Reference9Ideal Cert.Reference9Ideal.Gen

/-- The array that is normalized. -/
theorem sum_eq (h y : FVec Ideal S32768x4096 .f32) :
    addf (mulf (broadcastInDim S32768x4096 ![] bcast_S_S32768x4096 (constant S_ .f32 0x3F9837F0#32)) h) y = Cert.Ln.residual h y :=
  Cert.Mm.ext2 _ _ fun r q => by
    unfold Cert.Ln.residual
    pointwise

/-- The one layer of the factors, as the one row of an array. -/
theorem row_at (g : FVec Ideal S1x4096 .f32) (q : Fin 4096) :
    (broadcastInDim S1x4096 ![1] bcast_S4096_S1x4096_1 (shapeCast S4096 g shapeCasts_S1x4096_S4096) : FVec Ideal S1x4096 .f32) (ix2 0 q) = g (ix2 0 q) := by
  pointwise

theorem result_eq (y h : FVec Ideal S32768x4096 .f32) (g b : FVec Ideal S1x4096 .f32) :
    Cert.Reference8Ideal.Ln.normRows (addf (mulf (broadcastInDim S32768x4096 ![] bcast_S_S32768x4096 (constant S_ .f32 0x3F9837F0#32)) h) y)
      (broadcastInDim S1x4096 ![1] bcast_S4096_S1x4096_1 (shapeCast S4096 g shapeCasts_S1x4096_S4096))
      (broadcastInDim S1x4096 ![1] bcast_S4096_S1x4096_1 (shapeCast S4096 b shapeCasts_S1x4096_S4096)) =
    Cert.Ln.norm (Cert.Ln.residual h y) (fun q => g (ix2 0 q)) (fun q => b (ix2 0 q)) := by
  rw [sum_eq]
  exact (Cert.Reference8Ideal.Ln.normRows_eq _ _ _).trans (congrArg₂ (Cert.Ln.norm _) (funext fun q => row_at g q) (funext fun q => row_at b q))

end Cert.Reference9Ideal.Ln

end
-- ==== Proof.Ln.Claims.lean ====
/- The claims about the normalizations: every run ends quietly, and the results are the references'. -/
module

public import proofs.«01_k».proof.Defs
public import proofs.«01_k».proof.Proof.Gen.Kernel8.Frame
public import proofs.«01_k».proof.Proof.Gen.Kernel9.Frame
public import proofs.«01_k».proof.Proof.Ln.First
public import proofs.«01_k».proof.Proof.Ln.Second
public import proofs.«01_k».proof.Proof.Ln.Ref

@[expose] public section

noncomputable section

namespace Cert.Proof

open Idealize.ShloMosaic Idealize.ShloMosaic.TcCoe Idealize.SL.Sem

/-! ## Every run ends quietly -/

theorem kernel8 : Cert.quiescent_Kernel8 := fun m g _ => Cert.Kernel8.Gen.frame m g
theorem kernel8Ideal : Cert.quiescent_Kernel8Ideal := fun m g _ => Cert.Kernel8Ideal.Gen.frame m g
theorem reference8Ideal : Cert.quiescent_Reference8Ideal := fun m g _ =>
  (θ_run Cert.Reference8Ideal.defs _ _).mono (fun r h => ⟨fun c => (h c).2.2, Idealize.ShloMosaic.sem_eq_zero_of_no_sems (by decide) r.2⟩)
    (Cert.Reference8Ideal.Value.run (F := Ideal) m g)

theorem kernel9 : Cert.quiescent_Kernel9 := fun m g _ => Cert.Kernel9.Gen.frame m g
theorem kernel9Ideal : Cert.quiescent_Kernel9Ideal := fun m g _ => Cert.Kernel9Ideal.Gen.frame m g
theorem reference9Ideal : Cert.quiescent_Reference9Ideal := fun m g _ =>
  (θ_run Cert.Reference9Ideal.defs _ _).mono (fun r h => ⟨fun c => (h c).2.2, Idealize.ShloMosaic.sem_eq_zero_of_no_sems (by decide) r.2⟩)
    (Cert.Reference9Ideal.Value.run (F := Ideal) m g)

/-! ## The results -/

theorem values8 : Cert.algebraic_Kernel8Ideal_Reference8Ideal := fun m ρ m' ρ' hp hag =>
  ⟨fun c => Cert.Kernel8Ideal.Ln.result m c, fun c => Cert.Kernel8Ideal.Ln.result m c,
    (θ_run Cert.Kernel8Ideal.defs _ _).mono (fun _ h c => ⟨(h c).1.trans (Cert.Kernel8Ideal.Ln.result3_eq m c), (h c).2.1.trans (Cert.Kernel8Ideal.Ln.result4_eq m c), (h c).2.2⟩)
      (Cert.Kernel8Ideal.Value.run_blocks (F := Ideal) m ρ),
    (θ_run Cert.Reference8Ideal.defs _ _).mono (fun _ h c => by
      obtain ⟨e0, e1, e2⟩ := hag c
      refine ⟨(h c).1.trans ?_, (h c).2.1.trans ?_, (h c).2.2⟩
      all_goals
        rw [e0, e1, e2]
        exact Cert.Reference8Ideal.Ln.result_eq _ _ _)
    (Cert.Reference8Ideal.Value.run (F := Ideal) m' ρ')⟩

theorem values9 : Cert.algebraic_Kernel9Ideal_Reference9Ideal := fun m ρ m' ρ' hp hag =>
  ⟨fun c => Cert.Kernel9Ideal.Ln.result m c, fun c => Cert.Kernel9Ideal.Ln.result m c,
    (θ_run Cert.Kernel9Ideal.defs _ _).mono (fun _ h c => ⟨(h c).1.trans (Cert.Kernel9Ideal.Ln.result4_eq m c), (h c).2.1.trans (Cert.Kernel9Ideal.Ln.result5_eq m c), (h c).2.2⟩)
      (Cert.Kernel9Ideal.Value.run_blocks (F := Ideal) m ρ),
    (θ_run Cert.Reference9Ideal.defs _ _).mono (fun _ h c => by
      obtain ⟨e0, e1, e2, e3⟩ := hag c
      refine ⟨(h c).1.trans ?_, (h c).2.1.trans ?_, (h c).2.2⟩
      all_goals
        rw [e0, e1, e2, e3]
        exact Cert.Reference9Ideal.Ln.result_eq _ _ _ _)
    (Cert.Reference9Ideal.Value.run (F := Ideal) m' ρ')⟩

end Cert.Proof

end
-- ==== Proof.Cmb.Rows.lean ====
/- The combine's gather: which elements of the slot buffer and of the experts' rows a single row transfer moves,
   what each transfer delivers, and how one half of the buffers comes apart into the 512 rows and back together. -/
module

public import proofs.«01_k».proof.Proof.Gen.Kernel10Ideal.Loops
public import proofs.«01_k».proof.Proof.Gen.Kernel10Ideal.Launch
public import Idealize.ShloMosaic.Lib.Batch
public import Idealize.ShloMosaic.Lib.Ring
public import Idealize.ShloMosaic.Lib.WordCmp
public import Idealize.ShloMosaic.Lib.ValueIdxCore
public import Idealize.ShloMosaic.Lib.ValueLayout
public import Idealize.ShloMosaic.Lib.Pipeline.Frame

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resources: the pipeline's beside the transfer counters. -/
local notation "𝕄" => MT nD τ sig Unit (Elt F) ℕ (Pipeline.UD sig nD τ) ℕ

/-- The row numbers, the experts' rows, the two slots, the sums and the fetched row numbers, as memrefs. -/
abbrev mT : Memref sig .tc .hbm S256x4x128 .i32 := Memref.whole main_v0
abbrev mO : Memref sig .tc .hbm S147456x4096 .f32 := Memref.whole main_arg1
abbrev mX : Memref sig .tc .vmem S2x4x128x4096 .f32 := Memref.whole cc0_scratch0
abbrev mP : Memref sig .tc .vmem S128x4096 .f32 := Memref.whole cc0_scratch1
abbrev mI : Memref sig .tc .smem S2x4x128 .i32 := Memref.whole cc0_scratch2

/-- The number of row `n` of tile `b`: the numbers lie 128 to a line. -/
def tokAt (T : S256x4x128.Idx → BitVec 32) (b : Fin 256) (n : Fin 512) : BitVec 32 :=
  T (ix3 b ⟨n.val / 128, by have := n.isLt; omega⟩ ⟨n.val % 128, Nat.mod_lt _ (by decide)⟩)

/-- The same number as a row of the experts' rows (the last row for a number past the end). -/
def rowAt (T : S256x4x128.Idx → BitVec 32) (b : Fin 256) (n : Fin 512) : Fin 147456 :=
  ⟨min (tokAt T b n).toNat 147455, by omega⟩

theorem rowAt_val (T : S256x4x128.Idx → BitVec 32) (hT : ∀ j, (T j).toNat < 147456) (b : Fin 256) (n : Fin 512) :
    (rowAt T b n).val = (tokAt T b n).toNat := by
  have := hT (ix3 b ⟨n.val / 128, by have := n.isLt; omega⟩ ⟨n.val % 128, Nat.mod_lt _ (by decide)⟩)
  show min (tokAt T b n).toNat 147455 = (tokAt T b n).toNat
  unfold tokAt; omega

/-- The transfer that fills a row of a slot: four for each token. -/
def numOf (i : S2x4x128x4096.Idx) : Fin 512 :=
  ⟨4 * (i 2).val + (i 1).val, by have h1 : (i 1).val < 4 := (i 1).isLt; have h2 : (i 2).val < 128 := (i 2).isLt; omega⟩

/-- What a slot holds when tile `b` has been gathered. -/
def gath (T : S256x4x128.Idx → BitVec 32) (h : S147456x4096.Idx → Elt F .f32) (b : Fin 256) : S2x4x128x4096.Idx → Elt F .f32 :=
  fun i => h (ix2 (rowAt T b (numOf i)) (i 3))

/-- The slot of tile `b`, row `n` of that slot, and row `k` of the experts' rows. -/
def slotX (b : ℕ) : Finset S2x4x128x4096.Idx := Finset.univ.filter fun i => (i 0).val = b % 2
def rowX (b : ℕ) (n : Fin 512) : Finset S2x4x128x4096.Idx := Finset.univ.filter fun i => (i 0).val = b % 2 ∧ numOf i = n
def rowO (k : Fin 147456) : Finset S147456x4096.Idx := Finset.univ.filter fun i => (i 0).val = k.val

theorem mem_slotX (b : ℕ) (i : S2x4x128x4096.Idx) : i ∈ slotX b ↔ (i 0).val = b % 2 := by
  unfold slotX; rw [Finset.mem_filter]; exact ⟨fun h => h.2, fun h => ⟨Finset.mem_univ _, h⟩⟩
theorem mem_rowX (b : ℕ) (n : Fin 512) (i : S2x4x128x4096.Idx) : i ∈ rowX b n ↔ (i 0).val = b % 2 ∧ numOf i = n := by
  unfold rowX; rw [Finset.mem_filter]; exact ⟨fun h => h.2, fun h => ⟨Finset.mem_univ _, h⟩⟩
theorem mem_rowO (n : Fin 147456) (i : S147456x4096.Idx) : i ∈ rowO n ↔ (i 0).val = n.val := by
  unfold rowO; rw [Finset.mem_filter]; exact ⟨fun h => h.2, fun h => ⟨Finset.mem_univ _, h⟩⟩

theorem rowX_disjoint (p : ℕ) : ∀ b b' : Fin 512, b ≠ b' → Disjoint (rowX p b) (rowX p b') := fun b b' hne => by
  rw [Finset.disjoint_left]; intro y hy hy'; rw [mem_rowX] at hy hy'; exact hne (hy.2.symm.trans hy'.2)
theorem rowX_cover (p : ℕ) : Finset.univ.biUnion (rowX p) = slotX p := by
  ext y; simp only [Finset.mem_biUnion, Finset.mem_univ, true_and, mem_rowX, mem_slotX]
  exact ⟨fun ⟨_, h, _⟩ => h, fun h => ⟨numOf y, h, rfl⟩⟩

theorem slotX_disjoint : Disjoint (slotX 0) (slotX 1) := by
  rw [Finset.disjoint_left]; intro y hy hy'; rw [mem_slotX] at hy hy'; omega
theorem slotX_compl : Finset.univ \ slotX 0 = slotX 1 := by
  ext y; rw [Finset.mem_sdiff, mem_slotX, mem_slotX]
  have : (y 0).val < 2 := (y 0).isLt
  constructor
  · rintro ⟨-, h⟩; omega
  · intro h; exact ⟨Finset.mem_univ _, by omega⟩

/-- The share of the experts' rows the transfers into a slot read under. -/
def shr (b : ℕ) : PosShare TreeShare := if b % 2 = 0 then fullShare.left else fullShare.right

variable (c : Dev nD)

/-- A row of the slot in hand beside a read share of one of the experts' rows. -/
abbrev pairAt (T : S256x4x128.Idx → BitVec 32) (h : S147456x4096.Idx → Elt F .f32) (b : Fin 256) (g : S2x4x128x4096.Idx → Elt F .f32) (n : Fin 512) : sProp 𝕄 :=
  iprop((mX.view.loc (c : Thread nD τ) ↦[rowX b.val n]{fullShare} g)
    ∗ (mO.view.loc (c : Thread nD τ) ↦[rowO (rowAt T b n)]{Transfers.shareTok (shr b.val) 512 n} h))

/-- The rest of that read share: every other row. -/
abbrev restAt (T : S256x4x128.Idx → BitVec 32) (h : S147456x4096.Idx → Elt F .f32) (b : Fin 256) (n : Fin 512) : sProp 𝕄 :=
  mO.view.loc (c : Thread nD τ) ↦[Finset.univ \ rowO (rowAt T b n)]{Transfers.shareTok (shr b.val) 512 n} h

/-- The read shares' remainders, all of them. -/
def restAll (T : S256x4x128.Idx → BitVec 32) (h : S147456x4096.Idx → Elt F .f32) (b : Fin 256) : sProp 𝕄 :=
  iprop((bigSep Finset.univ (restAt c T h b)) ∗ (mO.view.loc (c : Thread nD τ) ↦{Transfers.shareDrop (shr b.val) 512} h))

/-- What transfer `n` of tile `b` hands back: the slot's row at the gathered value and the read share. -/
abbrev delivAt (T : S256x4x128.Idx → BitVec 32) (h : S147456x4096.Idx → Elt F .f32) (b : Fin 256) : Fin 512 → sProp 𝕄 :=
  pairAt c T h b (gath T h b)

instance delivAt_storable (T : S256x4x128.Idx → BitVec 32) (h : S147456x4096.Idx → Elt F .f32) (b : Fin 256) (n : Fin 512) :
    BI.Storable (upEmb : UEmb _ 𝕄) (delivAt c T h b n) := by
  unfold delivAt pairAt; infer_instance

/-- The experts' rows under the 512 read shares: each one's row apart from its other rows. -/
theorem toks_rows (T : S256x4x128.Idx → BitVec 32) (h : S147456x4096.Idx → Elt F .f32) (b : Fin 256) :
    (bigSep Finset.univ (fun n : Fin 512 => mO.view.loc (c : Thread nD τ) ↦[Finset.univ]{Transfers.shareTok (shr b.val) 512 n} h) : sProp 𝕄)
      = iprop(bigSep Finset.univ (fun n : Fin 512 => mO.view.loc (c : Thread nD τ) ↦[rowO (rowAt T b n)]{Transfers.shareTok (shr b.val) 512 n} h)
          ∗ bigSep Finset.univ (restAt c T h b)) := by
  refine Eq.trans ?_ (BI.bigSep_sep _ _ _)
  refine congrArg (bigSep Finset.univ) (funext fun n => ?_)
  have he := pointsTo_split_subset (Ix := Unit) (Name := ℕ) (U := Pipeline.UD sig nD τ) (Lvl := ℕ) (ℓ := mO.view.loc (c : Thread nD τ)) (q := Transfers.shareTok (shr b.val) 512 n) (f := h)
    (Finset.subset_univ (rowO (rowAt T b n)))
  exact BI.equiv_iff.mp ⟨he.1, he.2⟩

/-- One slot in hand with its share of the experts' rows is the 512 pairs and the remainders, and back. -/
theorem rows_eq (T : S256x4x128.Idx → BitVec 32) (h : S147456x4096.Idx → Elt F .f32) (b : Fin 256) (g : S2x4x128x4096.Idx → Elt F .f32) :
    bigSep Finset.univ (pairAt c T h b g)
      = (iprop((mX.view.loc (c : Thread nD τ) ↦[slotX b.val]{fullShare} g)
        ∗ bigSep Finset.univ (fun n : Fin 512 => mO.view.loc (c : Thread nD τ) ↦[rowO (rowAt T b n)]{Transfers.shareTok (shr b.val) 512 n} h)) : sProp 𝕄) := by
  have hP : bigSep Finset.univ (pairAt c T h b g)
      = (iprop(bigSep Finset.univ (fun n : Fin 512 => mX.view.loc (c : Thread nD τ) ↦[rowX b.val n]{fullShare} g)
        ∗ bigSep Finset.univ (fun n : Fin 512 => mO.view.loc (c : Thread nD τ) ↦[rowO (rowAt T b n)]{Transfers.shareTok (shr b.val) 512 n} h)) : sProp 𝕄) :=
    BI.bigSep_sep _ _ _
  have hB := Ring.pointsTo_sub_blocks (Ix := Unit) (Name := ℕ) (U := Pipeline.UD sig nD τ) (Lvl := ℕ) (ℓ := mX.view.loc (c : Thread nD τ)) (q := fullShare) (rowX b.val) (rowX_disjoint b.val) (slotX b.val) (rowX_cover b.val) g
  rw [hP, hB]

theorem split_rows (T : S256x4x128.Idx → BitVec 32) (h : S147456x4096.Idx → Elt F .f32) (b : Fin 256) (g : S2x4x128x4096.Idx → Elt F .f32) :
    iprop((mX.view.loc (c : Thread nD τ) ↦[slotX b.val]{fullShare} g) ∗ (mO.view.loc (c : Thread nD τ) ↦{shr b.val} h))
      ⊢ (iprop(bigSep Finset.univ (pairAt c T h b g) ∗ restAll c T h b) : sProp 𝕄) := by
  unfold restAll
  rw [rows_eq]
  iintro ⟨HX, HH⟩
  ihave HH' := (Transfers.pointsTo_toks_split (ℓ := mO.view.loc (c : Thread nD τ)) (S := Finset.univ) (f := h) (shr b.val) 512) $$ HH
  icases HH' with ⟨HD, HT⟩
  ihave HT' := (Entails.of_eq (toks_rows c T h b)) $$ HT
  icases HT' with ⟨HA, HB⟩
  isplitl [HX HA]
  · isplitl [HX] <;> iassumption
  · isplitl [HB] <;> iassumption

theorem join_rows (T : S256x4x128.Idx → BitVec 32) (h : S147456x4096.Idx → Elt F .f32) (b : Fin 256) (g : S2x4x128x4096.Idx → Elt F .f32) :
    (iprop(bigSep Finset.univ (pairAt c T h b g) ∗ restAll c T h b) : sProp 𝕄)
      ⊢ iprop((mX.view.loc (c : Thread nD τ) ↦[slotX b.val]{fullShare} g) ∗ (mO.view.loc (c : Thread nD τ) ↦{shr b.val} h)) := by
  unfold restAll
  rw [rows_eq]
  iintro ⟨⟨HX, HA⟩, HB, HD⟩
  isplitl [HX]; · iassumption
  iapply (Transfers.pointsTo_toks_join (ℓ := mO.view.loc (c : Thread nD τ)) (S := Finset.univ) (f := h) (shr b.val) 512)
  isplitl [HD]; · iassumption
  iapply (Entails.of_eq (toks_rows c T h b).symm)
  isplitl [HA] <;> iassumption

end Cert.Kernel10Ideal.Cmb

end
-- ==== Proof.Cmb.Issue.lean ====
/- One row transfer of the combine's gather: the elements its two ends name, the value that lands, and its issue as one
   of a batch of 512. -/
module

public import proofs.«01_k».proof.Proof.Cmb.Rows

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The number of transfer `k` of token `t`. -/
def nOf (t : Fin 128) (k : Fin 4) : Fin 512 := ⟨4 * t.val + k.val, by omega⟩

/-- A one-row slice of the slot buffer is that row; -/
theorem sliceX_set (off : Fin 4 → ℕ) (hin) (hs) (b : ℕ) (t : Fin 128) (k : Fin 4) (h0 : off = ![b % 2, k.val, t.val, 0]) :
    ((mX.slice (Rect.unit (s := S2x4x128x4096) off S1x1x1x4096.size hin) hs).squeeze S1x4096 squeezes_S1x1x1x4096_S1x4096).view.set = rowX b (nOf t k) := by
  subst h0
  refine (View.set_reshape _ _).trans ((View.set_slice_whole _ _).trans ?_)
  ext y
  rw [Rect.mem_set_unit, mem_rowX]
  have h1 : (y 1).val < 4 := (y 1).isLt
  have h2 : (y 2).val < 128 := (y 2).isLt
  have h3 : (y 3).val < 4096 := (y 3).isLt
  constructor
  · intro H
    have a0 : b % 2 ≤ (y 0).val ∧ (y 0).val < b % 2 + 1 := H 0
    have a1 : k.val ≤ (y 1).val ∧ (y 1).val < k.val + 1 := H 1
    have a2 : t.val ≤ (y 2).val ∧ (y 2).val < t.val + 1 := H 2
    refine ⟨by omega, Fin.ext ?_⟩
    show 4 * (y 2).val + (y 1).val = 4 * t.val + k.val; omega
  · rintro ⟨e0, e⟩
    have e' : 4 * (y 2).val + (y 1).val = 4 * t.val + k.val := congrArg Fin.val e
    intro a; fin_cases a
    · show b % 2 ≤ (y 0).val ∧ (y 0).val < b % 2 + 1; omega
    · show k.val ≤ (y 1).val ∧ (y 1).val < k.val + 1; omega
    · show t.val ≤ (y 2).val ∧ (y 2).val < t.val + 1; omega
    · show 0 ≤ (y 3).val ∧ (y 3).val < 0 + 4096; omega

/-- a one-row slice of the experts' rows likewise. -/
theorem sliceO_set (off : Fin 2 → ℕ) (hin) (hs) (n : Fin 147456) (h0 : off = ![n.val, 0]) :
    (mO.slice (Rect.unit (s := S147456x4096) off S1x4096.size hin) hs).view.set = rowO n := by
  subst h0
  refine (View.set_slice_whole _ _).trans ?_
  ext y
  rw [Rect.mem_set_unit, mem_rowO]
  have h1 : (y 1).val < 4096 := (y 1).isLt
  constructor
  · intro H; have a0 : n.val ≤ (y 0).val ∧ (y 0).val < n.val + 1 := H 0; omega
  · intro H a; fin_cases a
    · show n.val ≤ (y 0).val ∧ (y 0).val < n.val + 1; omega
    · show 0 ≤ (y 1).val ∧ (y 1).val < 0 + 4096; omega

/-- What lands in a slot's row when row `r` of the experts' rows is sent there. -/
theorem landed (offX : Fin 4 → ℕ) (offO : Fin 2 → ℕ) (hinX) (hsX) (hinO) (hsO) (b : ℕ) (t : Fin 128) (k : Fin 4) (r : Fin 147456)
    (hX : offX = ![b % 2, k.val, t.val, 0]) (hO : offO = ![r.val, 0])
    (g : S2x4x128x4096.Idx → Elt F .f32) (h : S147456x4096.Idx → Elt F .f32) (i : S2x4x128x4096.Idx) (hi : i ∈ rowX b (nOf t k)) :
    ((mX.slice (Rect.unit (s := S2x4x128x4096) offX S1x1x1x4096.size hinX) hsX).squeeze S1x4096 squeezes_S1x1x1x4096_S1x4096).view.write (Elt F) g
        ((mO.slice (Rect.unit (s := S147456x4096) offO S1x4096.size hinO) hsO).view.read (Elt F) h) Finset.univ i
      = h (ix2 r (i 3)) := by
  rw [← sliceX_set offX hinX hsX b t k hX] at hi
  obtain ⟨x, -, rfl⟩ := Finset.mem_map.mp hi
  subst hX hO
  rw [View.write_emb_of_mem _ _ (Finset.mem_univ _), View.read_apply]
  obtain ⟨p, q, rfl⟩ : ∃ p q, x = ix2 p q := ⟨x 0, x 1, eq_ix2 x⟩
  show h _ = h (ix2 r ((mX.slice (Rect.unit (s := S2x4x128x4096) ![b % 2, k.val, t.val, 0] S1x1x1x4096.size hinX) hsX).view.emb (Shape.reshapeEquiv squeezes_S1x1x1x4096_S1x4096.numel_eq (ix2 p q)) 3))
  rw [reshapeEquiv_ix2_11ab]
  congr 1
  have hp : p.val < 1 := p.isLt
  funext a
  fin_cases a
  · refine Fin.ext ?_
    show r.val + 1 * p.val = r.val; omega
  · refine Fin.ext ?_
    show 0 + 1 * q.val = 0 + 1 * q.val; rfl

variable (c : Dev nD)

/-- The semaphore of a slot: the first of the pair for the even tiles, the second for the odd. -/
def semR (b : ℕ) : DmaSem sig := cc0_scratch4.ix (ix1 (⟨b % 2, Nat.mod_lt _ (by decide)⟩ : Fin 2))

theorem semR_of (off : Fin 1 → ℕ) (hin) (b : ℕ) (h0 : off = ![b % 2]) :
    ((cc0_scratch4.slice (Rect.unit (s := S2) off S1.size hin)).squeeze S_ squeezes_S1_S_).sem = semR b := by
  subst h0
  unfold semR
  refine congrArg cc0_scratch4.ix (funext fun a => Fin.ext ?_)
  fin_cases a
  have hx (x : S1.Idx) : (x 0).val = 0 := by have : (x 0).val < 1 := (x 0).isLt; omega
  refine Eq.trans ?_ (Nat.add_zero (b % 2))
  exact congrArg (fun z => b % 2 + 1 * z) (hx _)

theorem inb_row0 : ∀ a, (![0, 0, 0, 0] : Fin 4 → ℕ) a + S1x1x1x4096.size a ≤ S2x4x128x4096.size a := by decide

/-- The units one row transfer puts on its semaphore. -/
def rowUnits : ℕ := ((mX.slice (Rect.unit (s := S2x4x128x4096) ![0, 0, 0, 0] S1x1x1x4096.size inb_row0) (fun _ => rfl)).squeeze S1x4096 squeezes_S1x1x1x4096_S1x4096).view.dmaCredit

theorem rowUnits_pos : 0 < rowUnits := View.dmaCredit_pos _ (by decide)

/-- The transfers of tile `b`, `j` issued and `u` units consumed: on the slot's semaphore. -/
abbrev flight (T : S256x4x128.Idx → BitVec 32) (h : S147456x4096.Idx → Elt F .f32) (b : Fin 256) (j u : ℕ) : sProp 𝕄 :=
  Transfers.Batch (countersEmb (U := Pipeline.UD sig nD τ)) (c : Thread nD τ) (.dma (semR b.val)) () rowUnits (delivAt c T h b) j u

/-- ONE TRANSFER issued: number `4 t + k` of the batch, from the row its number names. -/
theorem issue_row (T : S256x4x128.Idx → BitVec 32) (h : S147456x4096.Idx → Elt F .f32) (b : Fin 256) (g : S2x4x128x4096.Idx → Elt F .f32)
    (t : Fin 128) (k' : Fin 4) (j : ℕ) (hj : j = (nOf t k').val) (offX : Fin 4 → ℕ) (offO : Fin 2 → ℕ) (sm : DmaSem sig) (hinX) (hsX) (hinO) (hsO)
    (hX : offX = ![b.val % 2, k'.val, t.val, 0]) (hO : offO = ![(rowAt T b (nOf t k')).val, 0]) (hsm : sm = semR b.val)
    (w1) (w2) (w3) {α : Type} {k : PUnit → Prog (TpuEff nD τ sig (Elt F) Λ₀ .tc) α} {Q : α → sProp 𝕄} :
    iprop(pairAt c T h b g (nOf t k') ∗ flight c T h b j 0)
      ⊢ iprop((flight c T h b (j + 1) 0 -∗ wp frame (wpE (defs₀ (F := F)) Variants.none (c : Thread nD τ) none) Set.univ (k ⟨⟩) Q)
        -∗ wp frame (wpE defs₀ Variants.none (c : Thread nD τ) none) Set.univ
            (.op (.enqueueDma (mO.slice (Rect.unit (s := S147456x4096) offO S1x4096.size hinO) hsO)
              (.here ((mX.slice (Rect.unit (s := S2x4x128x4096) offX S1x1x1x4096.size hinX) hsX).squeeze S1x4096 squeezes_S1x1x1x4096_S1x4096)) (.dma sm) w1 w2 w3) k) Q) := by
  subst hsm hj
  have hsX' := sliceX_set offX hinX hsX b.val t k' hX
  have hsO' := sliceO_set offO hinO hsO (rowAt T b (nOf t k')) hO
  have hR := Transfers.wp_dmaBatch (Ix := Unit) (Name := ℕ) (U := Pipeline.UD sig nD τ) (Lvl := ℕ) (defs := defs₀ (F := F)) (Q := Q) (k := k)
    (countersEmb (U := Pipeline.UD sig nD τ)) Variants.none (c : Thread nD τ) none
    (src := mO.slice (Rect.unit (s := S147456x4096) offO S1x4096.size hinO) hsO) (via := ReadAs.same)
    (dst := (mX.slice (Rect.unit (s := S2x4x128x4096) offX S1x1x1x4096.size hinX) hsX).squeeze S1x4096 squeezes_S1x1x1x4096_S1x4096) (hsrc := w1) (hdst := w2) (hsem := w3)
    (q := Transfers.shareTok (shr b.val) 512 (nOf t k')) (fs := h) (Sd := rowX b.val (nOf t k')) (fd := g) (D := delivAt c T h b) (j := (nOf t k').val) (u := 0)
    () rowUnits rfl (hsX' ▸ Finset.Subset.refl _) (nOf t k').isLt (Nat.zero_le _) (by
      rw [hsO']
      refine sep_mono_left (Entails.of_eq (pointsTo_congr fun i hi => ?_))
      have hi0 : numOf i = nOf t k' := ((mem_rowX b.val _ i).mp hi).2
      refine (landed offX offO hinX hsX hinO hsO b.val t k' (rowAt T b (nOf t k')) hX hO g h i hi).trans ?_
      exact congrArg (fun z => h (ix2 (rowAt T b z) (i 3))) hi0.symm)
  rw [hsO'] at hR
  iintro ⟨⟨HX, HO⟩, HB⟩ Hk
  iapply hR $$ [HX HO HB]
  · isplitl [HO]; · iassumption
    isplitl [HX] <;> iassumption
  iexact Hk

end Cert.Kernel10Ideal.Cmb

end
-- ==== Proof.Cmb.Trips.lean ====
/- The combine's loops, trip by trip: the two issue loops read four row numbers a trip and start the four rows' transfers;
   the drain loop waits for four rows a trip. -/
module

public import proofs.«01_k».proof.Proof.Cmb.Issue

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem trips1 : k0_t1_loop.trips = 128 := by decide +kernel
theorem trips2 : k0_t2_loop.trips = 128 := by decide +kernel
theorem trips3 : k0_t3_loop.trips = 128 := by decide +kernel

/-- A returned value bound. -/
theorem ret_bind' {E : Type → Type} {α β : Type} (a : α) (k : α → Prog E β) : (Prog.ret a).bind k = k a := rfl

/-! ## The offsets in closed form -/

theorem off16_eq : ∀ i : grid0.Coords, k0_off16 i = ![((i 0).val + 1) % 2] := by decide +kernel
theorem off31_eq : ∀ i : grid0.Coords, k0_off31 i = ![(i 0).val % 2] := by decide +kernel

theorem off1_eq : ∀ k : Fin k0_t1_loop.trips, k0_off1 k = ![0, (4 * k.val + 0) / 128, (4 * k.val + 0) % 128] := by decide +kernel
theorem off4_eq : ∀ k : Fin k0_t1_loop.trips, k0_off4 k = ![0, (4 * k.val + 1) / 128, (4 * k.val + 1) % 128] := by decide +kernel
theorem off7_eq : ∀ k : Fin k0_t1_loop.trips, k0_off7 k = ![0, (4 * k.val + 2) / 128, (4 * k.val + 2) % 128] := by decide +kernel
theorem off10_eq : ∀ k : Fin k0_t1_loop.trips, k0_off10 k = ![0, (4 * k.val + 3) / 128, (4 * k.val + 3) % 128] := by decide +kernel
theorem off2_eq : ∀ k : Fin k0_t1_loop.trips, k0_off2 k = ![0, 0, k.val, 0] := by decide +kernel
theorem off5_eq : ∀ k : Fin k0_t1_loop.trips, k0_off5 k = ![0, 1, k.val, 0] := by decide +kernel
theorem off8_eq : ∀ k : Fin k0_t1_loop.trips, k0_off8 k = ![0, 2, k.val, 0] := by decide +kernel
theorem off11_eq : ∀ k : Fin k0_t1_loop.trips, k0_off11 k = ![0, 3, k.val, 0] := by decide +kernel

/-- The first grid point: the offsets along the trip do not depend on the point. -/
def i0 : grid0.Coords := fun a => ⟨0, by revert a; decide +kernel⟩

theorem off15_at : ∀ k : Fin k0_t2_loop.trips, k0_off15 i0 k = ![1, (4 * k.val + 0) / 128, (4 * k.val + 0) % 128] := by decide +kernel
theorem off19_at : ∀ k : Fin k0_t2_loop.trips, k0_off19 i0 k = ![1, (4 * k.val + 1) / 128, (4 * k.val + 1) % 128] := by decide +kernel
theorem off23_at : ∀ k : Fin k0_t2_loop.trips, k0_off23 i0 k = ![1, (4 * k.val + 2) / 128, (4 * k.val + 2) % 128] := by decide +kernel
theorem off27_at : ∀ k : Fin k0_t2_loop.trips, k0_off27 i0 k = ![1, (4 * k.val + 3) / 128, (4 * k.val + 3) % 128] := by decide +kernel
theorem off17_at : ∀ k : Fin k0_t2_loop.trips, k0_off17 i0 k = ![1, 0, k.val, 0] := by decide +kernel
theorem off21_at : ∀ k : Fin k0_t2_loop.trips, k0_off21 i0 k = ![1, 1, k.val, 0] := by decide +kernel
theorem off25_at : ∀ k : Fin k0_t2_loop.trips, k0_off25 i0 k = ![1, 2, k.val, 0] := by decide +kernel
theorem off29_at : ∀ k : Fin k0_t2_loop.trips, k0_off29 i0 k = ![1, 3, k.val, 0] := by decide +kernel

/-- An offset of the next tile's fetch: the slot, and the rest as at the first point. -/
theorem off15_of (i : grid0.Coords) (k : Fin k0_t2_loop.trips) : k0_off15 i k = ![k0_off16 i 0, k0_off15 i0 k 1, k0_off15 i0 k 2] := rfl
theorem off19_of (i : grid0.Coords) (k : Fin k0_t2_loop.trips) : k0_off19 i k = ![k0_off16 i 0, k0_off19 i0 k 1, k0_off19 i0 k 2] := rfl
theorem off23_of (i : grid0.Coords) (k : Fin k0_t2_loop.trips) : k0_off23 i k = ![k0_off16 i 0, k0_off23 i0 k 1, k0_off23 i0 k 2] := rfl
theorem off27_of (i : grid0.Coords) (k : Fin k0_t2_loop.trips) : k0_off27 i k = ![k0_off16 i 0, k0_off27 i0 k 1, k0_off27 i0 k 2] := rfl
theorem off17_of (i : grid0.Coords) (k : Fin k0_t2_loop.trips) : k0_off17 i k = ![k0_off16 i 0, k0_off17 i0 k 1, k0_off17 i0 k 2, k0_off17 i0 k 3] := rfl
theorem off21_of (i : grid0.Coords) (k : Fin k0_t2_loop.trips) : k0_off21 i k = ![k0_off16 i 0, k0_off21 i0 k 1, k0_off21 i0 k 2, k0_off21 i0 k 3] := rfl
theorem off25_of (i : grid0.Coords) (k : Fin k0_t2_loop.trips) : k0_off25 i k = ![k0_off16 i 0, k0_off25 i0 k 1, k0_off25 i0 k 2, k0_off25 i0 k 3] := rfl
theorem off29_of (i : grid0.Coords) (k : Fin k0_t2_loop.trips) : k0_off29 i k = ![k0_off16 i 0, k0_off29 i0 k 1, k0_off29 i0 k 2, k0_off29 i0 k 3] := rfl

theorem vec3_of {o z : Fin 3 → ℕ} {n a x y w : ℕ} (ho : o = ![n, z 1, z 2]) (hn : n = a) (hz : z = ![w, x, y]) : o = ![a, x, y] := by
  subst ho hn hz; rfl
theorem vec4_of {o z : Fin 4 → ℕ} {n a x y u w : ℕ} (ho : o = ![n, z 1, z 2, z 3]) (hn : n = a) (hz : z = ![w, x, y, u]) : o = ![a, x, y, u] := by
  subst ho hn hz; rfl

/-- The next tile's slot, as every offset of its fetch names it. -/
theorem nxt0 (i : grid0.Coords) : k0_off16 i 0 = ((i 0).val + 1) % 2 := congrFun (off16_eq i) 0

theorem chk_of {v : BitVec 32} (hv : v.toNat < 147456) : ∀ a, (![v.toNat, 0] : Fin 2 → ℕ) a + S1x4096.size a ≤ S147456x4096.size a := by
  intro a; fin_cases a
  · show v.toNat + 1 ≤ 147456; omega
  · show 0 + 4096 ≤ 4096; omega
theorem chk1_of (i : grid0.Coords) {v : BitVec 32} (hv : v.toNat < 147456) : k0_chk1 i v := fun _ => chk_of hv
theorem chk2_of (i : grid0.Coords) {v : BitVec 32} (hv : v.toNat < 147456) : k0_chk2 i v := fun _ => chk_of hv
theorem chk3_of (i : grid0.Coords) {v : BitVec 32} (hv : v.toNat < 147456) : k0_chk3 i v := fun _ => chk_of hv
theorem chk4_of (i : grid0.Coords) {v : BitVec 32} (hv : v.toNat < 147456) : k0_chk4 i v := fun _ => chk_of hv
theorem chk5_of (i : grid0.Coords) {v : BitVec 32} (hv : v.toNat < 147456) : k0_chk5 i v := fun _ => chk_of hv
theorem chk6_of (i : grid0.Coords) {v : BitVec 32} (hv : v.toNat < 147456) : k0_chk6 i v := fun _ => chk_of hv
theorem chk7_of (i : grid0.Coords) {v : BitVec 32} (hv : v.toNat < 147456) : k0_chk7 i v := fun _ => chk_of hv
theorem chk8_of (i : grid0.Coords) {v : BitVec 32} (hv : v.toNat < 147456) : k0_chk8 i v := fun _ => chk_of hv

variable (c : Dev nD)
  (i : grid0.Coords) (arg3 : Memref sig .tc .vmem S128x128 .f32) (harg3 : arg3.IsWhole) (arg4 : Memref sig .tc .vmem S128x4096 .f32) (harg4 : arg4.IsWhole)
  (arg5 : Memref sig .tc .vmem S1x4096 .f32) (harg5 : arg5.IsWhole) (arg6 : Memref sig .tc .vmem S1x4096 .f32) (harg6 : arg6.IsWhole)
  (arg7 : Memref sig .tc .vmem S128x4096 .f32) (harg7 : arg7.IsWhole)
  (T : S256x4x128.Idx → BitVec 32) (hT : ∀ j, (T j).toNat < 147456) (h : S147456x4096.Idx → Elt F .f32) (b : Fin 256) (g : S2x4x128x4096.Idx → Elt F .f32)
  (f : S2x4x128.Idx → BitVec 32)

/-- The number buffer holds tile `b`'s row numbers in `b`'s slot. -/
def holds : Prop := ∀ p q, f (ix3 (⟨b.val % 2, Nat.mod_lt _ (by decide)⟩ : Fin 2) p q) = T (ix3 b p q)

/-- A row number, as the loops read it. -/
theorem word_at (hf : holds T b f) (n : Fin 512) (off : Fin 3 → ℕ) (hin) (h0 : off = ![b.val % 2, n.val / 128, n.val % 128]) :
    f ((Rect.unit (s := S2x4x128) off S1x1x1.size hin).point numel1_S1x1x1) = tokAt T b n := by
  subst h0
  refine Eq.trans (congrArg f (funext fun a => Fin.ext ?_)) (hf ⟨n.val / 128, by have := n.isLt; omega⟩ ⟨n.val % 128, Nat.mod_lt _ (by decide)⟩)
  have hx (x : S1x1x1.Idx) (a : Fin 3) : (x a).val = 0 := by
    fin_cases a
    · have : (x 0).val < 1 := (x 0).isLt; show (x 0).val = 0; omega
    · have : (x 1).val < 1 := (x 1).isLt; show (x 1).val = 0; omega
    · have : (x 2).val < 1 := (x 2).isLt; show (x 2).val = 0; omega
  fin_cases a
  · exact congrArg (fun z => b.val % 2 + 1 * z) (hx _ 0)
  · exact congrArg (fun z => n.val / 128 + 1 * z) (hx _ 1)
  · exact congrArg (fun z => n.val % 128 + 1 * z) (hx _ 2)

include hT in
/-- The number read is below the bound, and names the row. -/
theorem word_lt (hf : holds T b f) (n : Fin 512) (off : Fin 3 → ℕ) (hin) (h0 : off = ![b.val % 2, n.val / 128, n.val % 128]) :
    (f ((Rect.unit (s := S2x4x128) off S1x1x1.size hin).point numel1_S1x1x1)).toNat < 147456 := by
  rw [word_at T b f hf n off hin h0]; exact hT _
include hT in
theorem word_row (hf : holds T b f) (n : Fin 512) (off : Fin 3 → ℕ) (hin) (h0 : off = ![b.val % 2, n.val / 128, n.val % 128]) :
    (![(f ((Rect.unit (s := S2x4x128) off S1x1x1.size hin).point numel1_S1x1x1)).toNat, 0] : Fin 2 → ℕ) = ![(rowAt T b n).val, 0] := by
  rw [word_at T b f hf n off hin h0, rowAt_val T hT]

/-- Before trip `k` of an issue loop over tile `b`: `4 k` transfers issued, the rows from there on still in hand. -/
def issueInv (k : ℕ) (_ : Unit) : sProp 𝕄 :=
  iprop((mI.view.loc (c : Thread nD τ) ↦{fullShare} f) ∗ flight c T h b (4 * k) 0
    ∗ bigSep (Ring.rangeSet 512 (4 * k) 512) (pairAt c T h b g))

/-- The four rows of a trip apart from those after. -/
theorem four_rows (k : ℕ) (hk : k < 128) :
    (bigSep (Ring.rangeSet 512 (4 * k) 512) (pairAt c T h b g) : sProp 𝕄)
      = iprop(pairAt c T h b g (nOf ⟨k, hk⟩ 0) ∗ pairAt c T h b g (nOf ⟨k, hk⟩ 1) ∗ pairAt c T h b g (nOf ⟨k, hk⟩ 2) ∗ pairAt c T h b g (nOf ⟨k, hk⟩ 3)
        ∗ bigSep (Ring.rangeSet 512 (4 * (k + 1)) 512) (pairAt c T h b g)) := by
  rw [Ring.bigSep_rangeSet_head (Φ := pairAt c T h b g) (show 4 * k < 512 by omega) (by omega),
    Ring.bigSep_rangeSet_head (Φ := pairAt c T h b g) (show 4 * k + 1 < 512 by omega) (by omega),
    Ring.bigSep_rangeSet_head (Φ := pairAt c T h b g) (show 4 * k + 1 + 1 < 512 by omega) (by omega),
    Ring.bigSep_rangeSet_head (Φ := pairAt c T h b g) (show 4 * k + 1 + 1 + 1 < 512 by omega) (by omega)]
  rfl

/-- One trip of the first tile's loop. -/
theorem trip1 (hT : ∀ j, (T j).toNat < 147456) (hf : holds T 0 f) (k0_h1 : k0_cond1 i = 1#1) (k : Fin k0_t1_loop.trips) (acc : Unit) :
    issueInv c T h 0 g f k.val acc ⊢ wp frame (wpE (defs₀ (F := F)) Variants.none (c : Thread nD τ) none) Set.univ
      (k0_t1_body (F := F) i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 k0_h1 k acc) (issueInv c T h 0 g f (k.val + 1)) := by
  have hk : k.val < 128 := lt_of_lt_of_eq k.isLt trips1
  have e1 := off1_eq k
  have e4 := off4_eq k
  have e7 := off7_eq k
  have e10 := off10_eq k
  unfold issueInv
  rw [four_rows c T h 0 g k.val hk]
  iintro ⟨HI, HB, HP0, HP1, HP2, HP3, HPs⟩
  unfold k0_t1_body
  sl_exec (disch := first | exact chk1_of i (word_lt T hT 0 f hf (nOf ⟨k.val, hk⟩ 0) _ _ e1))
  iapply (issue_row c T h 0 g ⟨k.val, hk⟩ 0 (4 * k.val) rfl (k0_off2 k) _ _ _ _ _ _ (off2_eq k) (by exact word_row T hT 0 f hf (nOf ⟨k.val, hk⟩ 0) _ _ e1) (by exact semR_of _ _ 0 rfl) _ _ _) $$ [HP0 HB]
  · isplitl [HP0] <;> iassumption
  iintro HB
  sl_exec (disch := first | exact chk2_of i (word_lt T hT 0 f hf (nOf ⟨k.val, hk⟩ 1) _ _ e4))
  iapply (issue_row c T h 0 g ⟨k.val, hk⟩ 1 (4 * k.val + 1) rfl (k0_off5 k) _ _ _ _ _ _ (off5_eq k) (by exact word_row T hT 0 f hf (nOf ⟨k.val, hk⟩ 1) _ _ e4) (by exact semR_of _ _ 0 rfl) _ _ _) $$ [HP1 HB]
  · isplitl [HP1] <;> iassumption
  iintro HB
  sl_exec (disch := first | exact chk3_of i (word_lt T hT 0 f hf (nOf ⟨k.val, hk⟩ 2) _ _ e7))
  iapply (issue_row c T h 0 g ⟨k.val, hk⟩ 2 (4 * k.val + 1 + 1) rfl (k0_off8 k) _ _ _ _ _ _ (off8_eq k) (by exact word_row T hT 0 f hf (nOf ⟨k.val, hk⟩ 2) _ _ e7) (by exact semR_of _ _ 0 rfl) _ _ _) $$ [HP2 HB]
  · isplitl [HP2] <;> iassumption
  iintro HB
  sl_exec (disch := first | exact chk4_of i (word_lt T hT 0 f hf (nOf ⟨k.val, hk⟩ 3) _ _ e10))
  iapply (issue_row c T h 0 g ⟨k.val, hk⟩ 3 (4 * k.val + 1 + 1 + 1) rfl (k0_off11 k) _ _ _ _ _ _ (off11_eq k) (by exact word_row T hT 0 f hf (nOf ⟨k.val, hk⟩ 3) _ _ e10) (by exact semR_of _ _ 0 rfl) _ _ _) $$ [HP3 HB]
  · isplitl [HP3] <;> iassumption
  iintro HB
  sl_exec
  sl_step
  rw [show 4 * (k.val + 1) = 4 * k.val + 1 + 1 + 1 + 1 from rfl]
  isplitl [HI]; · iassumption
  isplitl [HB] <;> iassumption

/-- One trip of the next tile's loop. -/
theorem trip2 (hT : ∀ j, (T j).toNat < 147456) (hf : holds T b f) (hb : b.val = (i 0).val + 1) (k0_h2 : k0_cond2 i = 1#1) (w : BitVec 32) (k : Fin k0_t2_loop.trips) (acc : Unit) :
    issueInv c T h b g f k.val acc ⊢ wp frame (wpE (defs₀ (F := F)) Variants.none (c : Thread nD τ) none) Set.univ
      (k0_t2_body (F := F) i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 k0_h2 w k acc) (issueInv c T h b g f (k.val + 1)) := by
  have hk : k.val < 128 := lt_of_lt_of_eq k.isLt trips2
  have hn : k0_off16 i 0 = b.val % 2 := by rw [nxt0, hb]
  have hs : k0_off16 i = ![b.val % 2] := by rw [off16_eq, hb]
  have e15 : k0_off15 i k = ![b.val % 2, (4 * k.val + 0) / 128, (4 * k.val + 0) % 128] := vec3_of (off15_of i k) hn (off15_at k)
  have e19 : k0_off19 i k = ![b.val % 2, (4 * k.val + 1) / 128, (4 * k.val + 1) % 128] := vec3_of (off19_of i k) hn (off19_at k)
  have e23 : k0_off23 i k = ![b.val % 2, (4 * k.val + 2) / 128, (4 * k.val + 2) % 128] := vec3_of (off23_of i k) hn (off23_at k)
  have e27 : k0_off27 i k = ![b.val % 2, (4 * k.val + 3) / 128, (4 * k.val + 3) % 128] := vec3_of (off27_of i k) hn (off27_at k)
  unfold issueInv
  rw [four_rows c T h b g k.val hk]
  iintro ⟨HI, HB, HP0, HP1, HP2, HP3, HPs⟩
  unfold k0_t2_body
  sl_exec (disch := first | exact chk5_of i (word_lt T hT b f hf (nOf ⟨k.val, hk⟩ 0) _ _ e15))
  iapply (issue_row c T h b g ⟨k.val, hk⟩ 0 (4 * k.val) rfl (k0_off17 i k) _ _ _ _ _ _ (vec4_of (off17_of i k) hn (off17_at k)) (by exact word_row T hT b f hf (nOf ⟨k.val, hk⟩ 0) _ _ e15) (by exact semR_of _ _ b.val hs) _ _ _) $$ [HP0 HB]
  · isplitl [HP0] <;> iassumption
  iintro HB
  sl_exec (disch := first | exact chk6_of i (word_lt T hT b f hf (nOf ⟨k.val, hk⟩ 1) _ _ e19))
  iapply (issue_row c T h b g ⟨k.val, hk⟩ 1 (4 * k.val + 1) rfl (k0_off21 i k) _ _ _ _ _ _ (vec4_of (off21_of i k) hn (off21_at k)) (by exact word_row T hT b f hf (nOf ⟨k.val, hk⟩ 1) _ _ e19) (by exact semR_of _ _ b.val hs) _ _ _) $$ [HP1 HB]
  · isplitl [HP1] <;> iassumption
  iintro HB
  sl_exec (disch := first | exact chk7_of i (word_lt T hT b f hf (nOf ⟨k.val, hk⟩ 2) _ _ e23))
  iapply (issue_row c T h b g ⟨k.val, hk⟩ 2 (4 * k.val + 1 + 1) rfl (k0_off25 i k) _ _ _ _ _ _ (vec4_of (off25_of i k) hn (off25_at k)) (by exact word_row T hT b f hf (nOf ⟨k.val, hk⟩ 2) _ _ e23) (by exact semR_of _ _ b.val hs) _ _ _) $$ [HP2 HB]
  · isplitl [HP2] <;> iassumption
  iintro HB
  sl_exec (disch := first | exact chk8_of i (word_lt T hT b f hf (nOf ⟨k.val, hk⟩ 3) _ _ e27))
  iapply (issue_row c T h b g ⟨k.val, hk⟩ 3 (4 * k.val + 1 + 1 + 1) rfl (k0_off29 i k) _ _ _ _ _ _ (vec4_of (off29_of i k) hn (off29_at k)) (by exact word_row T hT b f hf (nOf ⟨k.val, hk⟩ 3) _ _ e27) (by exact semR_of _ _ b.val hs) _ _ _) $$ [HP3 HB]
  · isplitl [HP3] <;> iassumption
  iintro HB
  sl_exec
  sl_step
  rw [show 4 * (k.val + 1) = 4 * k.val + 1 + 1 + 1 + 1 from rfl]
  isplitl [HI]; · iassumption
  isplitl [HB] <;> iassumption

/-- `m` rows' units consumed; after the last one the semaphore is back at zero and every row and read share has been handed
    back. -/
def drained (m : ℕ) : sProp 𝕄 :=
  if m < 512 then flight c T h b 512 (m * rowUnits)
  else iprop(bigSep Finset.univ (delivAt c T h b) ∗ semVal ((c : Thread nD τ), SemLoc.dma (semR b.val)) 0)

/-- One row's units waited for. -/
theorem wait_row (m : ℕ) (hm : m < 512) (sm : DmaSem sig) (hsm : sm = semR b.val) (offX : Fin 4 → ℕ) (hinX) (hsX) (src : Memref sig .tc .hbm S1x4096 .f32) (w1) (w2)
    {α : Type} {k : PUnit → Prog (TpuEff nD τ sig (Elt F) Λ₀ .tc) α} {Q : α → sProp 𝕄} :
    iprop(drained c T h b m ∗ ∃ W, owes (c : Thread nD τ) 0 W)
      ⊢ iprop(((drained c T h b (m + 1) ∗ ∃ W, owes (c : Thread nD τ) 0 W) -∗ wp frame (wpE (defs₀ (F := F)) Variants.none (c : Thread nD τ) none) Set.univ (k ⟨⟩) Q)
        -∗ wp frame (wpE defs₀ Variants.none (c : Thread nD τ) none) Set.univ
            (.op (.waitDma2 sm src ((mX.slice (Rect.unit (s := S2x4x128x4096) offX S1x1x1x4096.size hinX) hsX).squeeze S1x4096 squeezes_S1x1x1x4096_S1x4096) w1 w2) k) Q) := by
  subst hsm
  unfold drained
  simp only [if_pos hm]
  rcases Nat.lt_or_ge (m + 1) 512 with h1 | h1
  · simp only [if_pos h1]
    iintro ⟨HB, ⟨%W, HO⟩⟩ Hk
    iapply (Transfers.wp_waitBatch (Ix := Unit) (Name := ℕ) (U := Pipeline.UD sig nD τ) (Lvl := ℕ) (defs := defs₀ (F := F))
      (countersEmb (U := Pipeline.UD sig nD τ)) Variants.none (c : Thread nD τ) none (D := delivAt c T h b) (u := m * rowUnits) (W := W)
      (srcw := src) (dstw := (mX.slice (Rect.unit (s := S2x4x128x4096) offX S1x1x1x4096.size hinX) hsX).squeeze S1x4096 squeezes_S1x1x1x4096_S1x4096)
      (hsrc := w1) (hdst := w2)
      () (N := rowUnits) rfl (by
        have := Nat.mul_lt_mul_of_pos_right h1 rowUnits_pos
        rw [Nat.succ_mul, Nat.mul_comm 512] at this; exact this)) $$ [HB HO]
    · isplitl [HB] <;> iassumption
    iintro ⟨HB, HO⟩
    iapply Hk
    rw [Nat.succ_mul]
    isplitl [HB]; · iassumption
    iexists _; iassumption
  · simp only [if_neg (Nat.not_lt.mpr h1)]
    iintro ⟨HB, ⟨%W, HO⟩⟩ Hk
    iapply (Transfers.wp_waitBatchLast (Ix := Unit) (Name := ℕ) (U := Pipeline.UD sig nD τ) (Lvl := ℕ) (defs := defs₀ (F := F))
      (countersEmb (U := Pipeline.UD sig nD τ)) Variants.none (c : Thread nD τ) none (D := delivAt c T h b) (u := m * rowUnits) (W := W)
      (srcw := src) (dstw := (mX.slice (Rect.unit (s := S2x4x128x4096) offX S1x1x1x4096.size hinX) hsX).squeeze S1x4096 squeezes_S1x1x1x4096_S1x4096)
      (hsrc := w1) (hdst := w2)
      () (N := rowUnits) rfl rowUnits_pos (by
        rw [← Nat.succ_mul, Nat.mul_comm rowUnits, show m.succ = 512 by omega])) $$ [HB HO]
    · isplitl [HB] <;> iassumption
    iintro ⟨HD, HS, HO⟩
    iapply Hk
    isplitl [HD HS]
    · isplitl [HD] <;> iassumption
    iexists _; iassumption

/-- Before trip `k` of the drain loop: four rows a trip. -/
def drainInv (k : ℕ) (_ : Unit) : sProp 𝕄 :=
  iprop(drained c T h b (4 * k) ∗ ∃ W, owes (c : Thread nD τ) 0 W)

/-- One trip of the drain loop. -/
theorem trip3 (hb : b.val = (i 0).val) (k : Fin k0_t3_loop.trips) (acc : Unit) :
    drainInv c T h b k.val acc ⊢ wp frame (wpE (defs₀ (F := F)) Variants.none (c : Thread nD τ) none) Set.univ
      (k0_t3_body (F := F) i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 k acc) (drainInv c T h b (k.val + 1)) := by
  have hk : k.val < 128 := lt_of_lt_of_eq k.isLt trips3
  have hs : k0_off31 i = ![b.val % 2] := by rw [off31_eq, hb]
  unfold drainInv
  iintro ⟨HB, HO⟩
  unfold k0_t3_body
  iapply (wait_row c T h b (4 * k.val) (by omega) _ (by exact semR_of _ (k0_off31_inb i) b.val hs) (k0_off32 i k) (k0_off32_inb i k) (fun _ => rfl) _ _ _) $$ [HB HO]
  · isplitl [HB] <;> iassumption
  iintro ⟨HB, HO⟩
  simp only [ret_bind']
  iapply (wait_row c T h b (4 * k.val + 1) (by omega) _ (by exact semR_of _ (k0_off31_inb i) b.val hs) (k0_off33 i k) (k0_off33_inb i k) (fun _ => rfl) _ _ _) $$ [HB HO]
  · isplitl [HB] <;> iassumption
  iintro ⟨HB, HO⟩
  simp only [ret_bind']
  iapply (wait_row c T h b (4 * k.val + 2) (by omega) _ (by exact semR_of _ (k0_off31_inb i) b.val hs) (k0_off34 i k) (k0_off34_inb i k) (fun _ => rfl) _ _ _) $$ [HB HO]
  · isplitl [HB] <;> iassumption
  iintro ⟨HB, HO⟩
  simp only [ret_bind']
  iapply (wait_row c T h b (4 * k.val + 3) (by omega) _ (by exact semR_of _ (k0_off31_inb i) b.val hs) (k0_off35 i k) (k0_off35_inb i k) (fun _ => rfl) _ _ _) $$ [HB HO]
  · isplitl [HB] <;> iassumption
  iintro ⟨HB, HO⟩
  simp only [ret_bind']
  sl_step
  rw [show 4 * (k.val + 1) = 4 * k.val + 3 + 1 from rfl]
  isplitl [HB] <;> iassumption

end Cert.Kernel10Ideal.Cmb

end
-- ==== Proof.Cmb.Phases.lean ====
/- The body's phases: the first tile's transfers started; the next tile's transfers started; the tile's transfers waited for; the
   work on the rows. The body is these in turn. -/
module

public import proofs.«01_k».proof.Proof.Cmb.Trips

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (i : grid0.Coords) (arg3 : Memref sig .tc .vmem S128x128 .f32) (harg3 : arg3.IsWhole)
  (arg4 : Memref sig .tc .vmem S128x4096 .f32) (harg4 : arg4.IsWhole) (arg5 : Memref sig .tc .vmem S1x4096 .f32) (harg5 : arg5.IsWhole)
  (arg6 : Memref sig .tc .vmem S1x4096 .f32) (harg6 : arg6.IsWhole) (arg7 : Memref sig .tc .vmem S128x4096 .f32) (harg7 : arg7.IsWhole)

/-- The slot of the tile at hand, as the body computes it. -/
def par : BitVec 32 :=
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  v9

/-- At the very first point: the first tile's slots fetched and its 512 transfers started. -/
def fetchP : Prog (TpuEff nD τ sig (Elt F) Λ₀ .tc) PUnit := do
  if k0_h1 : k0_cond1 i = 1#1 then do
    let v289 : Memref sig .tc .smem S1x4x128 .i32 := mI.slice (Rect.unit (s := S2x4x128) ![0, 0, 0] S1x4x128.size inb_S2x4x128_S1x4x128_0_0_0) (fun _ => rfl)
    let v290 : Memref sig .tc .smem S4x128 .i32 := v289.squeeze S4x128 squeezes_S1x4x128_S4x128
    let v291 : Memref sig .tc .hbm S1x4x128 .i32 := mT.slice (Rect.unit (s := S256x4x128) ![0, 0, 0] S1x4x128.size inb_S256x4x128_S1x4x128_0_0_0) (fun _ => rfl)
    let v292 : Memref sig .tc .hbm S4x128 .i32 := v291.squeeze S4x128 squeezes_S1x4x128_S4x128
    Prog.lift (.enqueueDma v292 (.here v290) (.dma cc0_scratch3.sem) ((View.wordExact_bits rfl).reshape _ _) ((View.wordExact_bits rfl).reshape _ _) ⟨Or.inl rfl, trivial⟩)
    let v293 : Memref sig .tc .smem S1x4x128 .i32 := mI.slice (Rect.unit (s := S2x4x128) ![0, 0, 0] S1x4x128.size inb_S2x4x128_S1x4x128_0_0_0) (fun _ => rfl)
    let v294 : Memref sig .tc .smem S4x128 .i32 := v293.squeeze S4x128 squeezes_S1x4x128_S4x128
    let v295 : Memref sig .tc .hbm S1x4x128 .i32 := mT.slice (Rect.unit (s := S256x4x128) ![0, 0, 0] S1x4x128.size inb_S256x4x128_S1x4x128_0_0_0) (fun _ => rfl)
    let v296 : Memref sig .tc .hbm S4x128 .i32 := v295.squeeze S4x128 squeezes_S1x4x128_S4x128
    Prog.lift (.waitDma2 cc0_scratch3.sem v296 v294 ((View.wordExact_bits rfl).reshape _ _) ((View.wordExact_bits rfl).reshape _ _))
    Scf.Loop.for k0_t1_loop (k0_t1_ok i k0_h1) ⟨⟩ (k0_t1_body i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 k0_h1)
    pure ⟨⟩
  else do
    pure ⟨⟩
  pure ⟨⟩

/-- The next tile's slots fetched and its 512 transfers started, if there is a next tile. -/
def nextP : Prog (TpuEff nD τ sig (Elt F) Λ₀ .tc) PUnit := do
  if k0_h2 : k0_cond2 i = 1#1 then do
    let v290 : BitVec 32 := Scalar.subi 1#32 (par i)
    let v291 : Memref sig .tc .smem S1x4x128 .i32 := mI.slice (Rect.unit (s := S2x4x128) (k0_off13 i) S1x4x128.size (k0_off13_inb i k0_h2)) (fun _ => rfl)
    let v292 : Memref sig .tc .smem S4x128 .i32 := v291.squeeze S4x128 squeezes_S1x4x128_S4x128
    let v293 : Memref sig .tc .hbm S1x4x128 .i32 := mT.slice (Rect.unit (s := S256x4x128) (k0_off14 i) S1x4x128.size (k0_off14_inb i k0_h2)) (fun _ => rfl)
    let v294 : Memref sig .tc .hbm S4x128 .i32 := v293.squeeze S4x128 squeezes_S1x4x128_S4x128
    Prog.lift (.enqueueDma v294 (.here v292) (.dma cc0_scratch3.sem) ((View.wordExact_bits rfl).reshape _ _) ((View.wordExact_bits rfl).reshape _ _) ⟨Or.inl rfl, trivial⟩)
    let v295 : Memref sig .tc .smem S1x4x128 .i32 := mI.slice (Rect.unit (s := S2x4x128) (k0_off13 i) S1x4x128.size (k0_off13_inb i k0_h2)) (fun _ => rfl)
    let v296 : Memref sig .tc .smem S4x128 .i32 := v295.squeeze S4x128 squeezes_S1x4x128_S4x128
    let v297 : Memref sig .tc .hbm S1x4x128 .i32 := mT.slice (Rect.unit (s := S256x4x128) (k0_off14 i) S1x4x128.size (k0_off14_inb i k0_h2)) (fun _ => rfl)
    let v298 : Memref sig .tc .hbm S4x128 .i32 := v297.squeeze S4x128 squeezes_S1x4x128_S4x128
    Prog.lift (.waitDma2 cc0_scratch3.sem v298 v296 ((View.wordExact_bits rfl).reshape _ _) ((View.wordExact_bits rfl).reshape _ _))
    Scf.Loop.for k0_t2_loop (k0_t2_ok i k0_h2) ⟨⟩ (k0_t2_body i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 k0_h2 v290)
    pure ⟨⟩
  else do
    pure ⟨⟩
  pure ⟨⟩

/-- The tile's 512 transfers waited for. -/
def drainP : Prog (TpuEff nD τ sig (Elt F) Λ₀ .tc) PUnit := do
  Scf.Loop.for k0_t3_loop k0_t3_ok ⟨⟩ (k0_t3_body i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4)
  pure ⟨⟩

/-- The first loads of the work. -/
def work0 : Prog (TpuEff nD τ sig (Elt F) Λ₀ .tc) (Σ' (v9 : BitVec 32) (v19 : FVec F S128x1 .f32) (v20 : FVec F S128x1 .f32) (v21 : FVec F S128x1 .f32) (v22 : FVec F S128x1 .f32) (v27 : FVec F S128x512 .f32), FVec F S128x512 .f32) := do
  let v18 : Vec F S128x128 .f32 ← Prog.lift (.load arg3 (Rect.unit (s := S128x128) ![0, 0] S128x128.size inb_S128x128_S128x128_0_0).toLoadRect (View.loadsAt_vmem h_S128x128))
  let v24 : Vec F S1x1x128x512 .f32 ← Prog.lift (.load mX (Rect.unit (s := S2x4x128x4096) (k0_off36 i) S1x1x128x512.size (k0_off36_inb i)).toLoadRect (View.loadsAt_vmem h_S1x1x128x512))
  let v29 : Vec F S1x1x128x512 .f32 ← Prog.lift (.load mX (Rect.unit (s := S2x4x128x4096) (k0_off37 i) S1x1x128x512.size (k0_off37_inb i)).toLoadRect (View.loadsAt_vmem h_S1x1x128x512))
  pure ⟨par i, k0_pay3 v18, k0_pay4 v18, k0_pay5 v18, k0_pay6 v18, k0_pay7 v18 v24, k0_pay8 v18 v29⟩

/-- The work on the rows: the four rows of every token weighted and added to the hidden row, tile by tile of 512 columns, and the
    sums normalized. -/
def workP : Prog (TpuEff nD τ sig (Elt F) Λ₀ .tc) PUnit := do
  let ⟨v9, v19, v20, v21, v22, v27, v32⟩ : Σ' (v9 : BitVec 32) (v19 : FVec F S128x1 .f32) (v20 : FVec F S128x1 .f32) (v21 : FVec F S128x1 .f32) (v22 : FVec F S128x1 .f32) (v27 : FVec F S128x512 .f32), FVec F S128x512 .f32 ← work0 i arg3
  let v69 : FVec F S128x512 .f32 ← k0_part9 i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 v9 v19 v20 v21 v22 v27 v32
  let ⟨v105, v106, v107⟩ : Σ' (v105 : FVec F S128x512 .f32) (v106 : Vec F S128x512 .f32), FVec F S128x512 .f32 ← k0_part10 i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 v9 v19 v20 v21 v22 v69
  k0_part11 i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 v9 v19 v20 v21 v22 v105 v106 v107
  let ⟨v177, v182⟩ : Σ' (v177 : FVec F S128x512 .f32), FVec F S128x512 .f32 ← k0_part12 i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 v9 v19 v20 v21 v22
  let v219 : FVec F S128x512 .f32 ← k0_part13 i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 v9 v19 v20 v21 v22 v177 v182
  let ⟨v255, v256, v257⟩ : Σ' (v255 : FVec F S128x512 .f32) (v256 : Vec F S128x512 .f32), FVec F S128x512 .f32 ← k0_part14 i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4 v9 v19 v20 v21 v22 v219
  let v260 : Vec F S128x512 .f32 ← Prog.lift (.load mP (Rect.unit (s := S128x4096) ![0, 3584] S128x512.size inb_S128x4096_S128x512_0_3584).toLoadRect (View.loadsAt_vmem h_S128x512))
  Prog.lift (.store mP (Rect.unit (s := S128x4096) ![0, 3584] S128x512.size inb_S128x4096_S128x512_0_3584) (k0_pay1 v255 v256 v257) Finset.univ (View.stores_vmem_bits_univ h_S128x512 rfl) (.inl rfl))
  let v263 : Vec F S128x4096 .f32 ← Prog.lift (.load mP (Rect.unit (s := S128x4096) ![0, 0] S128x4096.size inb_S128x4096_S128x4096_0_0).toLoadRect (View.loadsAt_vmem h_S128x4096))
  let v264 : Vec F S1x4096 .f32 ← Prog.lift (.load arg5 (Rect.unit (s := S1x4096) ![0, 0] S1x4096.size inb_S1x4096_S1x4096_0_0).toLoadRect (View.loadsAt_vmem h_S1x4096))
  let v266 : Vec F S1x4096 .f32 ← Prog.lift (.load arg6 (Rect.unit (s := S1x4096) ![0, 0] S1x4096.size inb_S1x4096_S1x4096_0_0).toLoadRect (View.loadsAt_vmem h_S1x4096))
  let v288 : Vec F S128x4096 .f32 ← Prog.lift (.load arg7 (Rect.unit (s := S128x4096) ![0, 0] S128x4096.size inb_S128x4096_S128x4096_0_0).toLoadRect (View.loadsAt_vmem h_S128x4096))
  Prog.lift (.store arg7 (Rect.unit (s := S128x4096) ![0, 0] S128x4096.size inb_S128x4096_S128x4096_0_0) (k0_pay2 v263 v264 v266) Finset.univ (View.stores_vmem_bits_univ h_S128x4096 rfl) (.inl rfl))
  pure ⟨⟩

set_option maxRecDepth 65536 in
/-- The body is its phases. -/
theorem body_eq : cc0_moe_combine_ln (F := F) i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4
    = (do let _ ← fetchP i arg3 harg3 arg4 harg4 arg5 harg5 arg6 harg6 arg7 harg7
          let _ ← nextP i arg3 harg3 arg4 harg4 arg5 harg5 arg6 harg6 arg7 harg7
          let _ ← drainP i arg3 harg3 arg4 harg4 arg5 harg5 arg6 harg6 arg7 harg7
          workP i arg3 harg3 arg4 harg4 arg5 harg5 arg6 harg6 arg7 harg7) := by
  rw [cc0_moe_combine_ln_eq_skeleton]
  unfold cc0_moe_combine_ln_skel fetchP nextP drainP workP work0
  rw [k0_part8_eq_skeleton]
  unfold k0_part8_skel
  by_cases k0_h1 : k0_cond1 i = 1#1 <;> by_cases k0_h2 : k0_cond2 i = 1#1 <;>
    simp only [k0_h1, k0_h2, dif_pos, dif_neg, not_false_eq_true, bind_assoc, pure_bind] <;> rfl

end Cert.Kernel10Ideal.Cmb

end
-- ==== Proof.Cmb.Gather.lean ====
/- The gather's phases: what each takes and leaves. A slot is quiet, or a tile's 512 transfers into it are under way, or it holds a
   tile's rows. -/
module

public import proofs.«01_k».proof.Proof.Cmb.Phases
public import Idealize.ShloMosaic.Lib.ValueLayout
public import Idealize.ShloMosaic.Lib.VecWindow

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem cond1_iff : ∀ i : grid0.Coords, k0_cond1 i = 1#1 ↔ (i 0).val = 0 := by decide +kernel
theorem cond2_iff : ∀ i : grid0.Coords, k0_cond2 i = 1#1 ↔ (i 0).val + 1 < 256 := by decide +kernel
theorem off13_eq : ∀ i : grid0.Coords, k0_off13 i = ![((i 0).val + 1) % 2, 0, 0] := by decide +kernel
theorem off14_eq : ∀ i : grid0.Coords, k0_off14 i = ![(i 0).val + 1, 0, 0] := by decide +kernel

variable (c : Dev nD) (i : grid0.Coords) (arg3 : Memref sig .tc .vmem S128x128 .f32) (harg3 : arg3.IsWhole)
  (arg4 : Memref sig .tc .vmem S128x4096 .f32) (harg4 : arg4.IsWhole) (arg5 : Memref sig .tc .vmem S1x4096 .f32) (harg5 : arg5.IsWhole)
  (arg6 : Memref sig .tc .vmem S1x4096 .f32) (harg6 : arg6.IsWhole) (arg7 : Memref sig .tc .vmem S128x4096 .f32) (harg7 : arg7.IsWhole)
  (T : S256x4x128.Idx → BitVec 32) (hT : ∀ j, (T j).toNat < 147456) (h : S147456x4096.Idx → Elt F .f32)

/-- A slot at rest: its half of the buffer at anything, its read share of the experts' rows, its semaphore at zero. -/
def half (p : ℕ) : sProp 𝕄 :=
  iprop((∃ g, mX.view.loc (c : Thread nD τ) ↦[slotX p]{fullShare} g) ∗ (mO.view.loc (c : Thread nD τ) ↦{shr p} h)
    ∗ semVal ((c : Thread nD τ), SemLoc.dma (semR p)) 0)

theorem half_add (p : ℕ) : half c h (p + 2) = half c h p := by
  unfold half slotX shr semR
  simp only [Nat.add_mod_right]

/-- Tile `b`'s transfers under way. -/
def flying (b : Fin 256) : sProp 𝕄 := iprop(flight c T h b 512 0 ∗ restAll c T h b)

/-- Tile `b`'s rows in its slot. -/
def taken (b : Fin 256) : sProp 𝕄 :=
  iprop((mX.view.loc (c : Thread nD τ) ↦[slotX b.val]{fullShare} gath T h b) ∗ (mO.view.loc (c : Thread nD τ) ↦{shr b.val} h)
    ∗ semVal ((c : Thread nD τ), SemLoc.dma (semR b.val)) 0)

/-- The numbers of a tile, sent to its slot of the number buffer. -/
theorem nums_arrive (b : Fin 256) (f : S2x4x128.Idx → BitVec 32) (offI : Fin 3 → ℕ) (hinI) (hsI) (hqI) (offT : Fin 3 → ℕ) (hinT) (hsT) (hqT)
    (hI : offI = ![b.val % 2, 0, 0]) (hT0 : offT = ![b.val, 0, 0]) :
    holds T b (View.write (Elt F) ((mI.slice (Rect.unit (s := S2x4x128) offI S1x4x128.size hinI) hsI).squeeze S4x128 hqI).view f
      (((mT.slice (Rect.unit (s := S256x4x128) offT S1x4x128.size hinT) hsT).squeeze S4x128 hqT).view.read (Elt F) T) Finset.univ) := by
  subst hI hT0
  intro p q
  have hd : ((mI.slice (Rect.unit (s := S2x4x128) ![b.val % 2, 0, 0] S1x4x128.size hinI) hsI).squeeze S4x128 hqI).view.emb (ix2 p q)
      = ix3 (⟨b.val % 2, Nat.mod_lt _ (by decide)⟩ : Fin 2) p q := by
    show (mI.slice (Rect.unit (s := S2x4x128) ![b.val % 2, 0, 0] S1x4x128.size hinI) hsI).view.emb (Shape.reshapeEquiv hqI.numel_eq (ix2 p q)) = _
    rw [reshapeEquiv_ix2_1ab]
    funext a
    fin_cases a <;> refine Fin.ext ?_
    · show b.val % 2 + 1 * 0 = b.val % 2; omega
    · show 0 + 1 * p.val = p.val; omega
    · show 0 + 1 * q.val = q.val; omega
  rw [← hd, View.write_emb_of_mem _ _ (Finset.mem_univ _)]
  show T ((mT.slice (Rect.unit (s := S256x4x128) ![b.val, 0, 0] S1x4x128.size hinT) hsT).view.emb (Shape.reshapeEquiv hqT.numel_eq (ix2 p q))) = T (ix3 b p q)
  rw [reshapeEquiv_ix2_1ab]
  congr 1
  funext a
  fin_cases a <;> refine Fin.ext ?_
  · show b.val + 1 * 0 = b.val; omega
  · show 0 + 1 * p.val = p.val; omega
  · show 0 + 1 * q.val = q.val; omega

include hT in
/-- The first tile's transfers started. -/
theorem fetch_run (h1 : k0_cond1 i = 1#1) (Q : PUnit → sProp 𝕄) :
    iprop((mT.view.loc (c : Thread nD τ) ↦{fullShare} T) ∗ semVal ((c : Thread nD τ), SemLoc.dma cc0_scratch3.sem) 0 ∗ (∃ W, owes (c : Thread nD τ) 0 W)
      ∗ (∃ f, mI.view.loc (c : Thread nD τ) ↦{fullShare} f) ∗ half c h 0
      ∗ (((mT.view.loc (c : Thread nD τ) ↦{fullShare} T) ∗ semVal ((c : Thread nD τ), SemLoc.dma cc0_scratch3.sem) 0 ∗ (∃ W, owes (c : Thread nD τ) 0 W)
        ∗ (∃ f, mI.view.loc (c : Thread nD τ) ↦{fullShare} f) ∗ flying c T h 0) -∗ Q ⟨⟩))
      ⊢ wp frame (wpE (defs₀ (F := F)) Variants.none (c : Thread nD τ) none) Set.univ (fetchP i arg3 harg3 arg4 harg4 arg5 harg5 arg6 harg6 arg7 harg7) Q := by
  unfold half flying
  iintro ⟨HT, HS3, ⟨%W, HO⟩, ⟨%f, HI⟩, ⟨⟨%g, HX⟩, HH, HS⟩, Hk⟩
  unfold fetchP
  sl_exec (disch := first | sl_exact h1)
  have hi := nums_arrive (F := F) T 0 f ![0, 0, 0] inb_S2x4x128_S1x4x128_0_0_0 (fun _ => rfl) squeezes_S1x4x128_S4x128 ![0, 0, 0] inb_S256x4x128_S1x4x128_0_0_0 (fun _ => rfl) squeezes_S1x4x128_S4x128 rfl rfl
  ihave HP := (split_rows c T h 0 g) $$ [HX HH]
  · isplitl [HX]; · iexact HX
    iexact HH
  icases HP with ⟨HP, HR⟩
  imod (Transfers.batch_alloc' (Ix := Unit) (Name := ℕ) (U := Pipeline.UD sig nD τ) (Lvl := ℕ) (countersEmb (U := Pipeline.UD sig nD τ))
    (c : Thread nD τ) () rowUnits (delivAt c T h 0) (sm := .dma (semR 0)) (E := Set.univ)) $$ HS with HB
  sl_for (issueInv c T h 0 g _) $$ [HI HB HP]
  · intro k acc; exact trip1 c i arg3 harg3 arg4 harg4 arg5 harg5 arg6 harg6 arg7 harg7 T h g _ hT hi h1 k acc
  · unfold issueInv
    rw [Ring.rangeSet_univ]
    isplitl [HI]; · iexact HI
    isplitl [HB]; · iexact HB
    iassumption
  iintro %acc HInv
  unfold issueInv
  rw [show Scf.trips k0_t1_loop.lb k0_t1_loop.ub k0_t1_loop.st = 128 from trips1]
  icases HInv with ⟨HI, HB, -⟩
  sl_step
  iapply Hk
  isplitl [HT]; · iassumption
  isplitl [HS3]; · iexact HS3
  isplitl [HO]; · iexists _; iassumption
  isplitl [HI]; · iexists _; iassumption
  isplitl [HB] <;> iassumption

include hT in
/-- The next tile's transfers started. -/
theorem next_run (b : Fin 256) (hb : b.val = (i 0).val + 1) (h2 : k0_cond2 i = 1#1) (Q : PUnit → sProp 𝕄) :
    iprop((mT.view.loc (c : Thread nD τ) ↦{fullShare} T) ∗ semVal ((c : Thread nD τ), SemLoc.dma cc0_scratch3.sem) 0 ∗ (∃ W, owes (c : Thread nD τ) 0 W)
      ∗ (∃ f, mI.view.loc (c : Thread nD τ) ↦{fullShare} f) ∗ half c h b.val
      ∗ (((mT.view.loc (c : Thread nD τ) ↦{fullShare} T) ∗ semVal ((c : Thread nD τ), SemLoc.dma cc0_scratch3.sem) 0 ∗ (∃ W, owes (c : Thread nD τ) 0 W)
        ∗ (∃ f, mI.view.loc (c : Thread nD τ) ↦{fullShare} f) ∗ flying c T h b) -∗ Q ⟨⟩))
      ⊢ wp frame (wpE (defs₀ (F := F)) Variants.none (c : Thread nD τ) none) Set.univ (nextP i arg3 harg3 arg4 harg4 arg5 harg5 arg6 harg6 arg7 harg7) Q := by
  unfold half flying
  iintro ⟨HT, HS3, ⟨%W, HO⟩, ⟨%f, HI⟩, ⟨⟨%g, HX⟩, HH, HS⟩, Hk⟩
  unfold nextP
  sl_exec (disch := first | sl_exact h2)
  have hi := nums_arrive (F := F) T b f (k0_off13 i) (k0_off13_inb i h2) (fun _ => rfl) squeezes_S1x4x128_S4x128 (k0_off14 i) (k0_off14_inb i h2) (fun _ => rfl) squeezes_S1x4x128_S4x128
    (by rw [off13_eq, hb]) (by rw [off14_eq, hb])
  ihave HP := (split_rows c T h b g) $$ [HX HH]
  · isplitl [HX]; · iexact HX
    iexact HH
  icases HP with ⟨HP, HR⟩
  imod (Transfers.batch_alloc' (Ix := Unit) (Name := ℕ) (U := Pipeline.UD sig nD τ) (Lvl := ℕ) (countersEmb (U := Pipeline.UD sig nD τ))
    (c : Thread nD τ) () rowUnits (delivAt c T h b) (sm := .dma (semR b.val)) (E := Set.univ)) $$ HS with HB
  sl_for (issueInv c T h b g _) $$ [HI HB HP]
  · intro k acc; exact trip2 c i arg3 harg3 arg4 harg4 arg5 harg5 arg6 harg6 arg7 harg7 T h b g _ hT hi hb h2 _ k acc
  · unfold issueInv
    rw [Ring.rangeSet_univ]
    isplitl [HI]; · iexact HI
    isplitl [HB]; · iexact HB
    iassumption
  iintro %acc HInv
  unfold issueInv
  rw [show Scf.trips k0_t2_loop.lb k0_t2_loop.ub k0_t2_loop.st = 128 from trips2]
  icases HInv with ⟨HI, HB, -⟩
  sl_step
  iapply Hk
  isplitl [HT]; · iassumption
  isplitl [HS3]; · iexact HS3
  isplitl [HO]; · iexists _; iassumption
  isplitl [HI]; · iexists _; iassumption
  isplitl [HB] <;> iassumption

/-- The tile's transfers waited for: its rows are in its slot. -/
theorem drain_run (b : Fin 256) (hb : b.val = (i 0).val) (Q : PUnit → sProp 𝕄) :
    iprop((∃ W, owes (c : Thread nD τ) 0 W) ∗ flying c T h b ∗ (((∃ W, owes (c : Thread nD τ) 0 W) ∗ taken c T h b) -∗ Q ⟨⟩))
      ⊢ wp frame (wpE (defs₀ (F := F)) Variants.none (c : Thread nD τ) none) Set.univ (drainP i arg3 harg3 arg4 harg4 arg5 harg5 arg6 harg6 arg7 harg7) Q := by
  unfold flying taken
  iintro ⟨HO, ⟨HB, HR⟩, Hk⟩
  unfold drainP
  sl_for (drainInv c T h b) $$ [HB HO]
  · intro k acc; exact trip3 c i arg3 harg3 arg4 harg4 arg5 harg5 arg6 harg6 arg7 harg7 T h b hb k acc
  · unfold drainInv drained
    rw [if_pos (by decide), Nat.mul_zero, Nat.zero_mul]
    isplitl [HB]; · iassumption
    iassumption
  iintro %acc HInv
  unfold drainInv drained
  rw [show Scf.trips k0_t3_loop.lb k0_t3_loop.ub k0_t3_loop.st = 128 from trips3, if_neg (by decide)]
  icases HInv with ⟨⟨HD, HS⟩, HO⟩
  ihave HX' := (join_rows c T h b (gath T h b)) $$ [HD HR]
  · isplitl [HD] <;> iassumption
  icases HX' with ⟨HX, HH⟩
  sl_step
  iapply Hk
  isplitl [HO]; · iassumption
  isplitl [HX]; · iassumption
  isplitl [HH] <;> iassumption

omit hT in
theorem fetch_skip (h1 : ¬k0_cond1 i = 1#1) (Q : PUnit → sProp 𝕄) : Q ⟨⟩ ⊢ wp frame (wpE (defs₀ (F := F)) Variants.none (c : Thread nD τ) none) Set.univ (fetchP i arg3 harg3 arg4 harg4 arg5 harg5 arg6 harg6 arg7 harg7) Q := by
  unfold fetchP
  rw [dif_neg h1]
  iintro H
  sl_step
  iexact H

omit hT in
theorem next_skip (h2 : ¬k0_cond2 i = 1#1) (Q : PUnit → sProp 𝕄) : Q ⟨⟩ ⊢ wp frame (wpE (defs₀ (F := F)) Variants.none (c : Thread nD τ) none) Set.univ (nextP i arg3 harg3 arg4 harg4 arg5 harg5 arg6 harg6 arg7 harg7) Q := by
  unfold nextP
  rw [dif_neg h2]
  iintro H
  sl_step
  iexact H

end Cert.Kernel10Ideal.Cmb

end
-- ==== Proof.Cmb.Offs.lean ====
/- The loads' offsets in closed form: the point's slot, the row's number among the token's four, the tile's first column. -/
module

public import proofs.«01_k».proof.Proof.Cmb.Trips

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem off36_eq : ∀ i : grid0.Coords, k0_off36 i = ![(i 0).val % 2, 0, 0, 0] := by decide +kernel
theorem off37_eq : ∀ i : grid0.Coords, k0_off37 i = ![(i 0).val % 2, 1, 0, 0] := by decide +kernel
theorem off38_eq : ∀ i : grid0.Coords, k0_off38 i = ![(i 0).val % 2, 2, 0, 0] := by decide +kernel
theorem off39_eq : ∀ i : grid0.Coords, k0_off39 i = ![(i 0).val % 2, 3, 0, 0] := by decide +kernel
theorem off40_eq : ∀ i : grid0.Coords, k0_off40 i = ![(i 0).val % 2, 0, 0, 512] := by decide +kernel
theorem off41_eq : ∀ i : grid0.Coords, k0_off41 i = ![(i 0).val % 2, 1, 0, 512] := by decide +kernel
theorem off42_eq : ∀ i : grid0.Coords, k0_off42 i = ![(i 0).val % 2, 2, 0, 512] := by decide +kernel
theorem off43_eq : ∀ i : grid0.Coords, k0_off43 i = ![(i 0).val % 2, 3, 0, 512] := by decide +kernel
theorem off44_eq : ∀ i : grid0.Coords, k0_off44 i = ![(i 0).val % 2, 0, 0, 1024] := by decide +kernel
theorem off45_eq : ∀ i : grid0.Coords, k0_off45 i = ![(i 0).val % 2, 1, 0, 1024] := by decide +kernel
theorem off46_eq : ∀ i : grid0.Coords, k0_off46 i = ![(i 0).val % 2, 2, 0, 1024] := by decide +kernel
theorem off47_eq : ∀ i : grid0.Coords, k0_off47 i = ![(i 0).val % 2, 3, 0, 1024] := by decide +kernel
theorem off48_eq : ∀ i : grid0.Coords, k0_off48 i = ![(i 0).val % 2, 0, 0, 1536] := by decide +kernel
theorem off49_eq : ∀ i : grid0.Coords, k0_off49 i = ![(i 0).val % 2, 1, 0, 1536] := by decide +kernel
theorem off50_eq : ∀ i : grid0.Coords, k0_off50 i = ![(i 0).val % 2, 2, 0, 1536] := by decide +kernel
theorem off51_eq : ∀ i : grid0.Coords, k0_off51 i = ![(i 0).val % 2, 3, 0, 1536] := by decide +kernel
theorem off52_eq : ∀ i : grid0.Coords, k0_off52 i = ![(i 0).val % 2, 0, 0, 2048] := by decide +kernel
theorem off53_eq : ∀ i : grid0.Coords, k0_off53 i = ![(i 0).val % 2, 1, 0, 2048] := by decide +kernel
theorem off54_eq : ∀ i : grid0.Coords, k0_off54 i = ![(i 0).val % 2, 2, 0, 2048] := by decide +kernel
theorem off55_eq : ∀ i : grid0.Coords, k0_off55 i = ![(i 0).val % 2, 3, 0, 2048] := by decide +kernel
theorem off56_eq : ∀ i : grid0.Coords, k0_off56 i = ![(i 0).val % 2, 0, 0, 2560] := by decide +kernel
theorem off57_eq : ∀ i : grid0.Coords, k0_off57 i = ![(i 0).val % 2, 1, 0, 2560] := by decide +kernel
theorem off58_eq : ∀ i : grid0.Coords, k0_off58 i = ![(i 0).val % 2, 2, 0, 2560] := by decide +kernel
theorem off59_eq : ∀ i : grid0.Coords, k0_off59 i = ![(i 0).val % 2, 3, 0, 2560] := by decide +kernel
theorem off60_eq : ∀ i : grid0.Coords, k0_off60 i = ![(i 0).val % 2, 0, 0, 3072] := by decide +kernel
theorem off61_eq : ∀ i : grid0.Coords, k0_off61 i = ![(i 0).val % 2, 1, 0, 3072] := by decide +kernel
theorem off62_eq : ∀ i : grid0.Coords, k0_off62 i = ![(i 0).val % 2, 2, 0, 3072] := by decide +kernel
theorem off63_eq : ∀ i : grid0.Coords, k0_off63 i = ![(i 0).val % 2, 3, 0, 3072] := by decide +kernel
theorem off64_eq : ∀ i : grid0.Coords, k0_off64 i = ![(i 0).val % 2, 0, 0, 3584] := by decide +kernel
theorem off65_eq : ∀ i : grid0.Coords, k0_off65 i = ![(i 0).val % 2, 1, 0, 3584] := by decide +kernel
theorem off66_eq : ∀ i : grid0.Coords, k0_off66 i = ![(i 0).val % 2, 2, 0, 3584] := by decide +kernel
theorem off67_eq : ∀ i : grid0.Coords, k0_off67 i = ![(i 0).val % 2, 3, 0, 3584] := by decide +kernel

end Cert.Kernel10Ideal.Cmb

end
-- ==== Proof.Cmb.Tiles.lean ====
/- Tiles of 512 columns, and what the work's eight stores leave in the row buffer. -/
module

public import proofs.«01_k».proof.Proof.Cmb.Offs
public import Idealize.ShloMosaic.Lib.WritesUnit

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The columns from `o` of a block of rows. -/
def tileO {α : Type} (d : S128x4096.Idx → α) (o : ℕ) (ho : o + 512 ≤ 4096) : S128x512.Idx → α :=
  fun x => d (ix2 (x 0) ⟨o + (x 1).val, by have : (x 1).val < 512 := (x 1).isLt; omega⟩)
/-- The columns from `o` of the tokens' row `q` in slot `s`. -/
def tileX {α : Type} (g : S2x4x128x4096.Idx → α) (s : Fin 2) (q : Fin 4) (o : ℕ) (ho : o + 512 ≤ 4096) : S1x1x128x512.Idx → α :=
  fun x => g (ix4 s q (x 2) ⟨o + (x 3).val, by have : (x 3).val < 512 := (x 3).isLt; omega⟩)

theorem ld_tileO {sp : Space} (M : Memref sig .tc sp S128x4096 .f32) (f : M.view.ty.Contents (Elt F)) (o : ℕ) (ho : o + 512 ≤ 4096) (h) :
    View.readAt (Elt F) M.view (Rect.unit (s := S128x4096) ![0, o] S128x512.size h).toLoadRect f = tileO (M.view.read (Elt F) f) o ho := by
  funext x
  refine congrArg (M.view.read (Elt F) f) (funext fun a => Fin.ext ?_)
  match a with
  | ⟨0, _⟩ => exact (Nat.zero_add _).trans (Nat.one_mul _)
  | ⟨1, _⟩ => exact congrArg (o + ·) (Nat.one_mul _)

/-- A load of a whole buffer. -/
theorem ld_whole {sp : Space} {s : Shape} {e : EltTy} (M : Memref sig .tc sp s e) (f : M.view.ty.Contents (Elt F)) (off : Fin s.rank → ℕ) (h0 : ∀ a, off a = 0) (h) :
    View.readAt (Elt F) M.view (Rect.unit (s := s) off s.size h).toLoadRect f = M.view.read (Elt F) f := by
  funext x
  refine congrArg (M.view.read (Elt F) f) (funext fun a => Fin.ext ?_)
  show off a + 1 * (x a).val = (x a).val
  rw [h0, Nat.one_mul, Nat.zero_add]

theorem ld_tileX (g : S2x4x128x4096.Idx → Elt F .f32) (s : Fin 2) (q : Fin 4) (o : ℕ) (ho : o + 512 ≤ 4096) (off : Fin 4 → ℕ) (h) (h0 : off = ![s.val, q.val, 0, o]) :
    View.readAt (Elt F) mX.view (Rect.unit (s := S2x4x128x4096) off S1x1x128x512.size h).toLoadRect g = tileX g s q o ho := by
  subst h0
  funext x
  have x0 : (x 0).val = 0 := by have : (x 0).val < 1 := (x 0).isLt; omega
  have x1 : (x 1).val = 0 := by have : (x 1).val < 1 := (x 1).isLt; omega
  refine congrArg g (funext fun a => Fin.ext ?_)
  match a with
  | ⟨0, _⟩ => exact (congrArg (fun z => s.val + 1 * z) x0).trans (Nat.add_zero _)
  | ⟨1, _⟩ => exact (congrArg (fun z => q.val + 1 * z) x1).trans (Nat.add_zero _)
  | ⟨2, _⟩ => exact (Nat.zero_add _).trans (Nat.one_mul _)
  | ⟨3, _⟩ => exact congrArg (o + ·) (Nat.one_mul _)

/-- A slot as a part of the buffer. -/
abbrev slotM (s : Fin 2) := mX.slice (Rect.unit (s := S2x4x128x4096) ![s.val, 0, 0, 0] ![1, 4, 128, 4096] (by revert s; decide)) (fun _ => rfl)

theorem slotM_set (b : ℕ) (s : Fin 2) (hs : b % 2 = s.val) : slotX b = (slotM s).view.set := by
  ext y
  rw [mem_slotX]
  constructor
  · intro h
    have h1 : (y 1).val < 4 := (y 1).isLt
    have h2 : (y 2).val < 128 := (y 2).isLt
    have h3 : (y 3).val < 4096 := (y 3).isLt
    refine Finset.mem_map.mpr ⟨(ix4 (0 : Fin 1) (y 1) (y 2) (y 3) : (⟨4, ![1, 4, 128, 4096]⟩ : Shape).Idx), Finset.mem_univ _, funext fun a => Fin.ext ?_⟩
    match a with
    | ⟨0, _⟩ => exact (h.trans hs).symm
    | ⟨1, _⟩ => exact (Nat.zero_add _).trans (Nat.one_mul _)
    | ⟨2, _⟩ => exact (Nat.zero_add _).trans (Nat.one_mul _)
    | ⟨3, _⟩ => exact (Nat.zero_add _).trans (Nat.one_mul _)
  · intro h
    obtain ⟨x, -, rfl⟩ := Finset.mem_map.mp h
    have x0 : (x 0).val = 0 := by have : (x 0).val < 1 := (x 0).isLt; omega
    exact ((congrArg (fun z => s.val + 1 * z) x0).trans (Nat.add_zero _)).trans hs.symm

/-- A load of a tile of a slot reads within the slot. -/
theorem within_slot (b : ℕ) (off : Fin 4 → ℕ) (h) (h0 : off 0 = b % 2) :
    (mX.access (Rect.unit (s := S2x4x128x4096) off S1x1x128x512.size h)).set ⊆ slotX b := by
  intro y hy
  obtain ⟨x, -, rfl⟩ := Finset.mem_map.mp hy
  rw [mem_slotX]
  have x0 : (x 0).val = 0 := by have : (x 0).val < 1 := (x 0).isLt; omega
  exact ((congrArg (fun z => off 0 + 1 * z) x0).trans (Nat.add_zero _)).trans h0

/-- Stores of the eight tiles of `G` leave `G`. -/
theorem tiles8 {sp : Space} (M : Memref sig .tc sp S128x4096 .f32) (f : M.view.ty.Contents (Elt F)) (G : S128x4096.Idx → Elt F .f32)
    (i0 i1 i2 i3 i4 i5 i6 i7) (w0 w1 w2 w3 w4 w5 w6 w7 : S128x512.Idx → Elt F .f32)
    (h0 : w0 = tileO G 0 (by decide)) (h1 : w1 = tileO G 512 (by decide)) (h2 : w2 = tileO G 1024 (by decide)) (h3 : w3 = tileO G 1536 (by decide))
    (h4 : w4 = tileO G 2048 (by decide)) (h5 : w5 = tileO G 2560 (by decide)) (h6 : w6 = tileO G 3072 (by decide)) (h7 : w7 = tileO G 3584 (by decide)) :
    M.view.read (Elt F) (M.view.writes (Elt F) f [⟨Rect.unit ![0, 3584] S128x512.size i7, w7⟩, ⟨Rect.unit ![0, 3072] S128x512.size i6, w6⟩,
      ⟨Rect.unit ![0, 2560] S128x512.size i5, w5⟩, ⟨Rect.unit ![0, 2048] S128x512.size i4, w4⟩, ⟨Rect.unit ![0, 1536] S128x512.size i3, w3⟩,
      ⟨Rect.unit ![0, 1024] S128x512.size i2, w2⟩, ⟨Rect.unit ![0, 512] S128x512.size i1, w1⟩, ⟨Rect.unit ![0, 0] S128x512.size i0, w0⟩]) = G := by
  subst h0 h1 h2 h3 h4 h5 h6 h7
  funext y
  have hy : (y 1).val < 4096 := (y 1).isLt
  have key : ∀ (o : ℕ) (ho : o + 512 ≤ 4096) (h : o ≤ (y 1).val ∧ (y 1).val < o + 512),
      tileO G o ho (ix2 (y 0) ⟨(y 1).val - o, by omega⟩) = G y := fun o ho h => congrArg G (funext fun a => Fin.ext (by
    match a with
    | ⟨0, _⟩ => rfl
    | ⟨1, _⟩ => show o + ((y 1).val - o) = (y 1).val; omega))
  have pos : ∀ (o : ℕ) (h : o ≤ (y 1).val ∧ (y 1).val < o + 512) (a : Fin 2),
      (y a).val = (![0, o] : Fin 2 → ℕ) a + ((ix2 (y 0) ⟨(y 1).val - o, by omega⟩ : S128x512.Idx) a).val := fun o h a => by
    match a with
    | ⟨0, _⟩ => exact (Nat.zero_add _).symm
    | ⟨1, _⟩ => show (y 1).val = o + ((y 1).val - o); omega
  by_cases c7 : 3584 ≤ (y 1).val
  · rw [View.read_writes_cons_unit_of_mem M.view f i7 _ _ y _ rfl (pos 3584 ⟨c7, by omega⟩)]; exact key _ _ ⟨c7, by omega⟩
  rw [View.read_writes_cons_unit_of_not_mem M.view f i7 _ _ y rfl 1 (Or.inl (show (y 1).val < 3584 by omega))]
  by_cases c6 : 3072 ≤ (y 1).val
  · rw [View.read_writes_cons_unit_of_mem M.view f i6 _ _ y _ rfl (pos 3072 ⟨c6, by omega⟩)]; exact key _ _ ⟨c6, by omega⟩
  rw [View.read_writes_cons_unit_of_not_mem M.view f i6 _ _ y rfl 1 (Or.inl (show (y 1).val < 3072 by omega))]
  by_cases c5 : 2560 ≤ (y 1).val
  · rw [View.read_writes_cons_unit_of_mem M.view f i5 _ _ y _ rfl (pos 2560 ⟨c5, by omega⟩)]; exact key _ _ ⟨c5, by omega⟩
  rw [View.read_writes_cons_unit_of_not_mem M.view f i5 _ _ y rfl 1 (Or.inl (show (y 1).val < 2560 by omega))]
  by_cases c4 : 2048 ≤ (y 1).val
  · rw [View.read_writes_cons_unit_of_mem M.view f i4 _ _ y _ rfl (pos 2048 ⟨c4, by omega⟩)]; exact key _ _ ⟨c4, by omega⟩
  rw [View.read_writes_cons_unit_of_not_mem M.view f i4 _ _ y rfl 1 (Or.inl (show (y 1).val < 2048 by omega))]
  by_cases c3 : 1536 ≤ (y 1).val
  · rw [View.read_writes_cons_unit_of_mem M.view f i3 _ _ y _ rfl (pos 1536 ⟨c3, by omega⟩)]; exact key _ _ ⟨c3, by omega⟩
  rw [View.read_writes_cons_unit_of_not_mem M.view f i3 _ _ y rfl 1 (Or.inl (show (y 1).val < 1536 by omega))]
  by_cases c2 : 1024 ≤ (y 1).val
  · rw [View.read_writes_cons_unit_of_mem M.view f i2 _ _ y _ rfl (pos 1024 ⟨c2, by omega⟩)]; exact key _ _ ⟨c2, by omega⟩
  rw [View.read_writes_cons_unit_of_not_mem M.view f i2 _ _ y rfl 1 (Or.inl (show (y 1).val < 1024 by omega))]
  by_cases c1 : 512 ≤ (y 1).val
  · rw [View.read_writes_cons_unit_of_mem M.view f i1 _ _ y _ rfl (pos 512 ⟨c1, by omega⟩)]; exact key _ _ ⟨c1, by omega⟩
  rw [View.read_writes_cons_unit_of_not_mem M.view f i1 _ _ y rfl 1 (Or.inl (show (y 1).val < 512 by omega))]
  rw [View.read_writes_cons_unit_of_mem M.view f i0 _ _ y _ rfl (pos 0 ⟨Nat.zero_le _, by omega⟩)]; exact key _ _ ⟨Nat.zero_le _, by omega⟩

/-- A load of the scratch tile after the eight stores. -/
theorem cov_tiles (L) (G : S128x4096.Idx → Elt F .f32) (inb)
    (i0 i1 i2 i3 i4 i5 i6 i7) (w0 w1 w2 w3 w4 w5 w6 w7 : S128x512.Idx → Elt F .f32)
    (hL : L = [⟨Rect.unit ![0, 3584] S128x512.size i7, w7⟩, ⟨Rect.unit ![0, 3072] S128x512.size i6, w6⟩,
      ⟨Rect.unit ![0, 2560] S128x512.size i5, w5⟩, ⟨Rect.unit ![0, 2048] S128x512.size i4, w4⟩, ⟨Rect.unit ![0, 1536] S128x512.size i3, w3⟩,
      ⟨Rect.unit ![0, 1024] S128x512.size i2, w2⟩, ⟨Rect.unit ![0, 512] S128x512.size i1, w1⟩, ⟨Rect.unit ![0, 0] S128x512.size i0, w0⟩])
    (h0 : w0 = tileO G 0 (by decide)) (h1 : w1 = tileO G 512 (by decide)) (h2 : w2 = tileO G 1024 (by decide)) (h3 : w3 = tileO G 1536 (by decide))
    (h4 : w4 = tileO G 2048 (by decide)) (h5 : w5 = tileO G 2560 (by decide)) (h6 : w6 = tileO G 3072 (by decide)) (h7 : w7 = tileO G 3584 (by decide)) :
    mP.view.readCov L (Rect.unit (s := S128x4096) ![0, 0] S128x4096.size inb).toLoadRect = G := by
  subst hL
  exact (ld_whole (F := F) mP _ (![0, 0] : Fin 2 → ℕ) (by decide) inb).trans
    (tiles8 mP _ G _ _ _ _ _ _ _ _ _ _ _ _ _ _ _ _ h0 h1 h2 h3 h4 h5 h6 h7)

/-! ## What the work leaves -/

/-- The weighted rows and the hidden row added, column by column through the tiles. -/
def combC (d3 : S128x128.Idx → Elt F .f32) (g : S2x4x128x4096.Idx → Elt F .f32) (s : Fin 2) (d4 : S128x4096.Idx → Elt F .f32) : S128x4096.Idx → Elt F .f32 := fun y =>
  have ho : 512 * ((y 1).val / 512) + 512 ≤ 4096 := by have : (y 1).val < 4096 := (y 1).isLt; omega
  k0_pay15 (k0_pay3 d3) (k0_pay4 d3) (k0_pay5 d3) (k0_pay6 d3) (tileX g s 0 _ ho) (tileX g s 1 _ ho) (tileX g s 2 _ ho) (tileX g s 3 _ ho) (tileO d4 _ ho)
    (ix2 (y 0) ⟨(y 1).val % 512, Nat.mod_lt _ (by decide)⟩)

theorem tileO_combC (d3 : S128x128.Idx → Elt F .f32) (g : S2x4x128x4096.Idx → Elt F .f32) (s : Fin 2) (d4 : S128x4096.Idx → Elt F .f32) (k : ℕ) (hk : 512 * k + 512 ≤ 4096) :
    tileO (combC d3 g s d4) (512 * k) hk
      = k0_pay15 (k0_pay3 d3) (k0_pay4 d3) (k0_pay5 d3) (k0_pay6 d3) (tileX g s 0 _ hk) (tileX g s 1 _ hk) (tileX g s 2 _ hk) (tileX g s 3 _ hk) (tileO d4 _ hk) := by
  funext x
  have hx : (x 1).val < 512 := (x 1).isLt
  have key : ∀ (o' : ℕ) (ho : o' + 512 ≤ 4096) (q : Fin 512), o' = 512 * k → q = x 1 →
      k0_pay15 (k0_pay3 d3) (k0_pay4 d3) (k0_pay5 d3) (k0_pay6 d3) (tileX g s 0 o' ho) (tileX g s 1 o' ho) (tileX g s 2 o' ho) (tileX g s 3 o' ho) (tileO d4 o' ho) (ix2 (x 0) q)
        = k0_pay15 (k0_pay3 d3) (k0_pay4 d3) (k0_pay5 d3) (k0_pay6 d3) (tileX g s 0 _ hk) (tileX g s 1 _ hk) (tileX g s 2 _ hk) (tileX g s 3 _ hk) (tileO d4 _ hk) x := by
    rintro _ _ _ rfl rfl
    exact congrArg (k0_pay15 (k0_pay3 d3) (k0_pay4 d3) (k0_pay5 d3) (k0_pay6 d3) (tileX g s 0 _ hk) (tileX g s 1 _ hk) (tileX g s 2 _ hk) (tileX g s 3 _ hk) (tileO d4 _ hk)) (eq_ix2 x).symm
  exact key _ _ _ (show 512 * ((512 * k + (x 1).val) / 512) = 512 * k by omega)
    (Fin.ext (show (512 * k + (x 1).val) % 512 = (x 1).val by omega))

/-- One tile as the work computes it, from its loads. -/
theorem comb_tile (arg3 : Memref sig .tc .vmem S128x128 .f32) (f3 : arg3.view.ty.Contents (Elt F)) (arg4 : Memref sig .tc .vmem S128x4096 .f32) (f4 : arg4.view.ty.Contents (Elt F))
    (g : S2x4x128x4096.Idx → Elt F .f32) (s : Fin 2) (k : ℕ) (hk : 512 * k + 512 ≤ 4096) (h3) (h4) (o0 o1 o2 o3 : Fin 4 → ℕ) (i0) (i1) (i2) (i3)
    (e0 : o0 = ![s.val, 0, 0, 512 * k]) (e1 : o1 = ![s.val, 1, 0, 512 * k]) (e2 : o2 = ![s.val, 2, 0, 512 * k]) (e3 : o3 = ![s.val, 3, 0, 512 * k]) :
    k0_pay15 (k0_pay3 (View.readAt (Elt F) arg3.view (Rect.unit (s := S128x128) ![0, 0] S128x128.size h3).toLoadRect f3))
        (k0_pay4 (View.readAt (Elt F) arg3.view (Rect.unit (s := S128x128) ![0, 0] S128x128.size h3).toLoadRect f3))
        (k0_pay5 (View.readAt (Elt F) arg3.view (Rect.unit (s := S128x128) ![0, 0] S128x128.size h3).toLoadRect f3))
        (k0_pay6 (View.readAt (Elt F) arg3.view (Rect.unit (s := S128x128) ![0, 0] S128x128.size h3).toLoadRect f3))
        (View.readAt (Elt F) mX.view (Rect.unit (s := S2x4x128x4096) o0 S1x1x128x512.size i0).toLoadRect g)
        (View.readAt (Elt F) mX.view (Rect.unit (s := S2x4x128x4096) o1 S1x1x128x512.size i1).toLoadRect g)
        (View.readAt (Elt F) mX.view (Rect.unit (s := S2x4x128x4096) o2 S1x1x128x512.size i2).toLoadRect g)
        (View.readAt (Elt F) mX.view (Rect.unit (s := S2x4x128x4096) o3 S1x1x128x512.size i3).toLoadRect g)
        (View.readAt (Elt F) arg4.view (Rect.unit (s := S128x4096) ![0, 512 * k] S128x512.size h4).toLoadRect f4)
      = tileO (combC (arg3.view.read (Elt F) f3) g s (arg4.view.read (Elt F) f4)) (512 * k) hk := by
  rw [ld_whole arg3 f3 _ (by decide), ld_tileX g s 0 _ hk o0 i0 e0, ld_tileX g s 1 _ hk o1 i1 e1, ld_tileX g s 2 _ hk o2 i2 e2, ld_tileX g s 3 _ hk o3 i3 e3,
    ld_tileO arg4 f4 _ hk, tileO_combC]

end Cert.Kernel10Ideal.Cmb

end
-- ==== Proof.Cmb.Work.lean ====
/- The work at a point with its values: what it leaves in the output block. -/
module

public import proofs.«01_k».proof.Proof.Cmb.Phases
public import proofs.«01_k».proof.Proof.Cmb.Tiles
public import Idealize.ShloMosaic.Lib.VecWindow

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg3 : Memref sig .tc .vmem S128x128 .f32) (harg3 : arg3.IsWhole)
  (arg4 : Memref sig .tc .vmem S128x4096 .f32) (harg4 : arg4.IsWhole) (arg5 : Memref sig .tc .vmem S1x4096 .f32) (harg5 : arg5.IsWhole)
  (arg6 : Memref sig .tc .vmem S1x4096 .f32) (harg6 : arg6.IsWhole) (arg7 : Memref sig .tc .vmem S128x4096 .f32) (harg7 : arg7.IsWhole)

set_option maxHeartbeats 2000000 in
/-- The work on the rows of a slot. -/
theorem work_slot (s : Fin 2) (hs : (i 0).val % 2 = s.val) (g : S2x4x128x4096.Idx → Elt F .f32) (d3 : S128x128.Idx → Elt F .f32) (d4 : S128x4096.Idx → Elt F .f32) (d5 d6 : S1x4096.Idx → Elt F .f32)
    (d7 : S128x4096.Idx → Elt F .f32) (Q : PUnit → sProp 𝕄) :
    iprop(owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ ((slotM s).view.loc (c : Thread nD τ) ↦[(slotM s).view.set]{fullShare} g) ∗ (∃ p, mP.view.loc (c : Thread nD τ) ↦{fullShare} p)
      ∗ ((owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare (k0_pay2 (combC d3 g s d4) d5 d6) ∗ ((slotM s).view.loc (c : Thread nD τ) ↦[(slotM s).view.set]{fullShare} g) ∗ (∃ p, mP.view.loc (c : Thread nD τ) ↦{fullShare} p)) -∗ Q ⟨⟩))
      ⊢ wp frame (wpE (defs₀ (F := F)) Variants.none (c : Thread nD τ) none) Set.univ (workP i arg3 harg3 arg4 harg4 arg5 harg5 arg6 harg6 arg7 harg7) Q := by
  unfold owns
  iintro ⟨⟨%f3, %e3, H3⟩, ⟨%f4, %e4, H4⟩, ⟨%f5, %e5, H5⟩, ⟨%f6, %e6, H6⟩, ⟨%f7, %e7, H7⟩, HX, ⟨%p, HP⟩, Hk⟩
  have hw : ∀ (off : Fin 4 → ℕ) (h), off 0 = s.val → (mX.access (Rect.unit (s := S2x4x128x4096) off S1x1x128x512.size h)).set ⊆ (slotM s).view.set := fun off h h0 => by
    rw [← slotM_set s.val s (Nat.mod_eq_of_lt s.isLt)]; exact within_slot s.val off h (h0.trans (Nat.mod_eq_of_lt s.isLt).symm)
  have s36 : (mX.access (Rect.unit (s := S2x4x128x4096) (k0_off36 i) S1x1x128x512.size (k0_off36_inb i))).set ⊆ (slotM s).view.set := hw _ _ (by rw [off36_eq]; exact hs)
  have s37 : (mX.access (Rect.unit (s := S2x4x128x4096) (k0_off37 i) S1x1x128x512.size (k0_off37_inb i))).set ⊆ (slotM s).view.set := hw _ _ (by rw [off37_eq]; exact hs)
  have s38 : (mX.access (Rect.unit (s := S2x4x128x4096) (k0_off38 i) S1x1x128x512.size (k0_off38_inb i))).set ⊆ (slotM s).view.set := hw _ _ (by rw [off38_eq]; exact hs)
  have s39 : (mX.access (Rect.unit (s := S2x4x128x4096) (k0_off39 i) S1x1x128x512.size (k0_off39_inb i))).set ⊆ (slotM s).view.set := hw _ _ (by rw [off39_eq]; exact hs)
  have s40 : (mX.access (Rect.unit (s := S2x4x128x4096) (k0_off40 i) S1x1x128x512.size (k0_off40_inb i))).set ⊆ (slotM s).view.set := hw _ _ (by rw [off40_eq]; exact hs)
  have s41 : (mX.access (Rect.unit (s := S2x4x128x4096) (k0_off41 i) S1x1x128x512.size (k0_off41_inb i))).set ⊆ (slotM s).view.set := hw _ _ (by rw [off41_eq]; exact hs)
  have s42 : (mX.access (Rect.unit (s := S2x4x128x4096) (k0_off42 i) S1x1x128x512.size (k0_off42_inb i))).set ⊆ (slotM s).view.set := hw _ _ (by rw [off42_eq]; exact hs)
  have s43 : (mX.access (Rect.unit (s := S2x4x128x4096) (k0_off43 i) S1x1x128x512.size (k0_off43_inb i))).set ⊆ (slotM s).view.set := hw _ _ (by rw [off43_eq]; exact hs)
  have s44 : (mX.access (Rect.unit (s := S2x4x128x4096) (k0_off44 i) S1x1x128x512.size (k0_off44_inb i))).set ⊆ (slotM s).view.set := hw _ _ (by rw [off44_eq]; exact hs)
  have s45 : (mX.access (Rect.unit (s := S2x4x128x4096) (k0_off45 i) S1x1x128x512.size (k0_off45_inb i))).set ⊆ (slotM s).view.set := hw _ _ (by rw [off45_eq]; exact hs)
  have s46 : (mX.access (Rect.unit (s := S2x4x128x4096) (k0_off46 i) S1x1x128x512.size (k0_off46_inb i))).set ⊆ (slotM s).view.set := hw _ _ (by rw [off46_eq]; exact hs)
  have s47 : (mX.access (Rect.unit (s := S2x4x128x4096) (k0_off47 i) S1x1x128x512.size (k0_off47_inb i))).set ⊆ (slotM s).view.set := hw _ _ (by rw [off47_eq]; exact hs)
  have s48 : (mX.access (Rect.unit (s := S2x4x128x4096) (k0_off48 i) S1x1x128x512.size (k0_off48_inb i))).set ⊆ (slotM s).view.set := hw _ _ (by rw [off48_eq]; exact hs)
  have s49 : (mX.access (Rect.unit (s := S2x4x128x4096) (k0_off49 i) S1x1x128x512.size (k0_off49_inb i))).set ⊆ (slotM s).view.set := hw _ _ (by rw [off49_eq]; exact hs)
  have s50 : (mX.access (Rect.unit (s := S2x4x128x4096) (k0_off50 i) S1x1x128x512.size (k0_off50_inb i))).set ⊆ (slotM s).view.set := hw _ _ (by rw [off50_eq]; exact hs)
  have s51 : (mX.access (Rect.unit (s := S2x4x128x4096) (k0_off51 i) S1x1x128x512.size (k0_off51_inb i))).set ⊆ (slotM s).view.set := hw _ _ (by rw [off51_eq]; exact hs)
  have s52 : (mX.access (Rect.unit (s := S2x4x128x4096) (k0_off52 i) S1x1x128x512.size (k0_off52_inb i))).set ⊆ (slotM s).view.set := hw _ _ (by rw [off52_eq]; exact hs)
  have s53 : (mX.access (Rect.unit (s := S2x4x128x4096) (k0_off53 i) S1x1x128x512.size (k0_off53_inb i))).set ⊆ (slotM s).view.set := hw _ _ (by rw [off53_eq]; exact hs)
  have s54 : (mX.access (Rect.unit (s := S2x4x128x4096) (k0_off54 i) S1x1x128x512.size (k0_off54_inb i))).set ⊆ (slotM s).view.set := hw _ _ (by rw [off54_eq]; exact hs)
  have s55 : (mX.access (Rect.unit (s := S2x4x128x4096) (k0_off55 i) S1x1x128x512.size (k0_off55_inb i))).set ⊆ (slotM s).view.set := hw _ _ (by rw [off55_eq]; exact hs)
  have s56 : (mX.access (Rect.unit (s := S2x4x128x4096) (k0_off56 i) S1x1x128x512.size (k0_off56_inb i))).set ⊆ (slotM s).view.set := hw _ _ (by rw [off56_eq]; exact hs)
  have s57 : (mX.access (Rect.unit (s := S2x4x128x4096) (k0_off57 i) S1x1x128x512.size (k0_off57_inb i))).set ⊆ (slotM s).view.set := hw _ _ (by rw [off57_eq]; exact hs)
  have s58 : (mX.access (Rect.unit (s := S2x4x128x4096) (k0_off58 i) S1x1x128x512.size (k0_off58_inb i))).set ⊆ (slotM s).view.set := hw _ _ (by rw [off58_eq]; exact hs)
  have s59 : (mX.access (Rect.unit (s := S2x4x128x4096) (k0_off59 i) S1x1x128x512.size (k0_off59_inb i))).set ⊆ (slotM s).view.set := hw _ _ (by rw [off59_eq]; exact hs)
  have s60 : (mX.access (Rect.unit (s := S2x4x128x4096) (k0_off60 i) S1x1x128x512.size (k0_off60_inb i))).set ⊆ (slotM s).view.set := hw _ _ (by rw [off60_eq]; exact hs)
  have s61 : (mX.access (Rect.unit (s := S2x4x128x4096) (k0_off61 i) S1x1x128x512.size (k0_off61_inb i))).set ⊆ (slotM s).view.set := hw _ _ (by rw [off61_eq]; exact hs)
  have s62 : (mX.access (Rect.unit (s := S2x4x128x4096) (k0_off62 i) S1x1x128x512.size (k0_off62_inb i))).set ⊆ (slotM s).view.set := hw _ _ (by rw [off62_eq]; exact hs)
  have s63 : (mX.access (Rect.unit (s := S2x4x128x4096) (k0_off63 i) S1x1x128x512.size (k0_off63_inb i))).set ⊆ (slotM s).view.set := hw _ _ (by rw [off63_eq]; exact hs)
  have s64 : (mX.access (Rect.unit (s := S2x4x128x4096) (k0_off64 i) S1x1x128x512.size (k0_off64_inb i))).set ⊆ (slotM s).view.set := hw _ _ (by rw [off64_eq]; exact hs)
  have s65 : (mX.access (Rect.unit (s := S2x4x128x4096) (k0_off65 i) S1x1x128x512.size (k0_off65_inb i))).set ⊆ (slotM s).view.set := hw _ _ (by rw [off65_eq]; exact hs)
  have s66 : (mX.access (Rect.unit (s := S2x4x128x4096) (k0_off66 i) S1x1x128x512.size (k0_off66_inb i))).set ⊆ (slotM s).view.set := hw _ _ (by rw [off66_eq]; exact hs)
  have s67 : (mX.access (Rect.unit (s := S2x4x128x4096) (k0_off67 i) S1x1x128x512.size (k0_off67_inb i))).set ⊆ (slotM s).view.set := hw _ _ (by rw [off67_eq]; exact hs)
  unfold workP work0
  rw [k0_part9_eq_skeleton, k0_part10_eq_skeleton, k0_part11_eq_skeleton, k0_part12_eq_skeleton, k0_part13_eq_skeleton, k0_part14_eq_skeleton]
  unfold k0_part9_skel k0_part10_skel k0_part11_skel k0_part12_skel k0_part13_skel k0_part14_skel
  sl_exec
  sl_step
  iapply Hk
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists _; isplitr; swap; · iexact H7
    ipureintro
    subst e3 e4 e5 e6 e7
    refine Eq.trans (View.read_writes_full (Val := Elt F) arg7.view f7 (off := ![0, 0]) _ _ []) ?_
    rw [← ld_whole arg5 f5 (![0, 0] : Fin 2 → ℕ) (by decide) inb_S1x4096_S1x4096_0_0, ← ld_whole arg6 f6 (![0, 0] : Fin 2 → ℕ) (by decide) inb_S1x4096_S1x4096_0_0]
    refine congrArg (fun z => k0_pay2 z _ _) ?_
    refine cov_tiles _ _ _ _ _ _ _ _ _ _ _ _ _ _ _ _ _ _ _ rfl ?_ ?_ ?_ ?_ ?_ ?_ ?_ ?_
    · exact comb_tile arg3 f3 arg4 f4 g s 0 (by decide) _ _ _ _ _ _ _ _ _ _ (by rw [off36_eq, hs]) (by rw [off37_eq, hs]) (by rw [off38_eq, hs]) (by rw [off39_eq, hs])
    · exact comb_tile arg3 f3 arg4 f4 g s 1 (by decide) _ _ _ _ _ _ _ _ _ _ (by rw [off40_eq, hs]) (by rw [off41_eq, hs]) (by rw [off42_eq, hs]) (by rw [off43_eq, hs])
    · exact comb_tile arg3 f3 arg4 f4 g s 2 (by decide) _ _ _ _ _ _ _ _ _ _ (by rw [off44_eq, hs]) (by rw [off45_eq, hs]) (by rw [off46_eq, hs]) (by rw [off47_eq, hs])
    · exact comb_tile arg3 f3 arg4 f4 g s 3 (by decide) _ _ _ _ _ _ _ _ _ _ (by rw [off48_eq, hs]) (by rw [off49_eq, hs]) (by rw [off50_eq, hs]) (by rw [off51_eq, hs])
    · exact comb_tile arg3 f3 arg4 f4 g s 4 (by decide) _ _ _ _ _ _ _ _ _ _ (by rw [off52_eq, hs]) (by rw [off53_eq, hs]) (by rw [off54_eq, hs]) (by rw [off55_eq, hs])
    · exact comb_tile arg3 f3 arg4 f4 g s 5 (by decide) _ _ _ _ _ _ _ _ _ _ (by rw [off56_eq, hs]) (by rw [off57_eq, hs]) (by rw [off58_eq, hs]) (by rw [off59_eq, hs])
    · exact comb_tile arg3 f3 arg4 f4 g s 6 (by decide) _ _ _ _ _ _ _ _ _ _ (by rw [off60_eq, hs]) (by rw [off61_eq, hs]) (by rw [off62_eq, hs]) (by rw [off63_eq, hs])
    · exact comb_tile arg3 f3 arg4 f4 g s 7 (by decide) _ _ _ _ _ _ _ _ _ _ (by rw [off64_eq, hs]) (by rw [off65_eq, hs]) (by rw [off66_eq, hs]) (by rw [off67_eq, hs])
  isplitl [HX]; · iexact HX
  iexists _; iexact HP

omit [FloatOps F] in
theorem slot_held (b : ℕ) (s : Fin 2) (hs : b % 2 = s.val) (g : S2x4x128x4096.Idx → Elt F .f32) :
    (mX.view.loc (c : Thread nD τ) ↦[slotX b]{fullShare} g : sProp 𝕄) = ((slotM s).view.loc (c : Thread nD τ) ↦[(slotM s).view.set]{fullShare} g : sProp 𝕄) :=
  congrArg (fun S => (mX.view.loc (c : Thread nD τ) ↦[S]{fullShare} g : sProp 𝕄)) (slotM_set b s hs)

/-- The same with the slot of tile `b`. -/
theorem work_val (b : ℕ) (hb : b = (i 0).val) (g : S2x4x128x4096.Idx → Elt F .f32) (d3 : S128x128.Idx → Elt F .f32) (d4 : S128x4096.Idx → Elt F .f32) (d5 d6 : S1x4096.Idx → Elt F .f32)
    (d7 : S128x4096.Idx → Elt F .f32) (Q : PUnit → sProp 𝕄) :
    iprop(owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ (mX.view.loc (c : Thread nD τ) ↦[slotX b]{fullShare} g) ∗ (∃ p, mP.view.loc (c : Thread nD τ) ↦{fullShare} p)
      ∗ ((owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare (k0_pay2 (combC d3 g ⟨b % 2, Nat.mod_lt _ (by decide)⟩ d4) d5 d6) ∗ (mX.view.loc (c : Thread nD τ) ↦[slotX b]{fullShare} g) ∗ (∃ p, mP.view.loc (c : Thread nD τ) ↦{fullShare} p)) -∗ Q ⟨⟩))
      ⊢ wp frame (wpE (defs₀ (F := F)) Variants.none (c : Thread nD τ) none) Set.univ (workP i arg3 harg3 arg4 harg4 arg5 harg5 arg6 harg6 arg7 harg7) Q := by
  iintro ⟨H3, H4, H5, H6, H7, HX, HP, Hk⟩
  iapply (work_slot c i arg3 harg3 arg4 harg4 arg5 harg5 arg6 harg6 arg7 harg7 ⟨b % 2, Nat.mod_lt _ (by decide)⟩ (by rw [hb]) g d3 d4 d5 d6 d7 Q)
  isplitl [H3]; · iexact H3
  isplitl [H4]; · iexact H4
  isplitl [H5]; · iexact H5
  isplitl [H6]; · iexact H6
  isplitl [H7]; · iexact H7
  isplitl [HX]
  · iapply (Entails.of_eq (slot_held c b ⟨b % 2, Nat.mod_lt _ (by decide)⟩ rfl g)); iexact HX
  isplitl [HP]; · iexact HP
  iintro ⟨H3, H4, H5, H6, H7, HX, HP⟩
  iapply Hk
  isplitl [H3]; · iexact H3
  isplitl [H4]; · iexact H4
  isplitl [H5]; · iexact H5
  isplitl [H6]; · iexact H6
  isplitl [H7]; · iexact H7
  isplitl [HX]
  · iapply (Entails.of_eq (slot_held c b ⟨b % 2, Nat.mod_lt _ (by decide)⟩ rfl g).symm); iexact HX
  iexact HP

end Cert.Kernel10Ideal.Cmb

end
-- ==== Proof.Cmb.Point.lean ====
/- One grid point from what stands before it to what stands after it. -/
module

public import proofs.«01_k».proof.Proof.Cmb.Gather
public import proofs.«01_k».proof.Proof.Cmb.Work

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords) (arg3 : Memref sig .tc .vmem S128x128 .f32) (harg3 : arg3.IsWhole)
  (arg4 : Memref sig .tc .vmem S128x4096 .f32) (harg4 : arg4.IsWhole) (arg5 : Memref sig .tc .vmem S1x4096 .f32) (harg5 : arg5.IsWhole)
  (arg6 : Memref sig .tc .vmem S1x4096 .f32) (harg6 : arg6.IsWhole) (arg7 : Memref sig .tc .vmem S128x4096 .f32) (harg7 : arg7.IsWhole)
  (T : S256x4x128.Idx → BitVec 32) (hT : ∀ j, (T j).toNat < 147456) (h : S147456x4096.Idx → Elt F .f32)

/-- The slot of tile `n` before point `n`: its transfers are under way, except before the first point and after the last. -/
def stage (n : ℕ) : sProp 𝕄 := if hn : n < 256 then (if n = 0 then half c h n else flying c T h ⟨n, hn⟩) else half c h n

theorem stage_zero : stage c T h 0 = half c h 0 := by unfold stage; rw [dif_pos (by decide), if_pos rfl]
theorem stage_mid (n : ℕ) (hn : n < 256) (h0 : n ≠ 0) : stage c T h n = flying c T h ⟨n, hn⟩ := by unfold stage; rw [dif_pos hn, if_neg h0]
theorem stage_end (n : ℕ) (hn : ¬n < 256) : stage c T h n = half c h n := by unfold stage; rw [dif_neg hn]

include hT in
theorem fetch_any (n : ℕ) (hn : n < 256) (e0 : (i 0).val = n) (Q : PUnit → sProp 𝕄) :
    iprop((mT.view.loc (c : Thread nD τ) ↦{fullShare} T) ∗ semVal ((c : Thread nD τ), SemLoc.dma cc0_scratch3.sem) 0 ∗ (∃ W, owes (c : Thread nD τ) 0 W) ∗ (∃ f, mI.view.loc (c : Thread nD τ) ↦{fullShare} f) ∗ stage c T h n
      ∗ (((mT.view.loc (c : Thread nD τ) ↦{fullShare} T) ∗ semVal ((c : Thread nD τ), SemLoc.dma cc0_scratch3.sem) 0 ∗ (∃ W, owes (c : Thread nD τ) 0 W) ∗ (∃ f, mI.view.loc (c : Thread nD τ) ↦{fullShare} f) ∗ flying c T h ⟨n, hn⟩) -∗ Q ⟨⟩))
      ⊢ wp frame (wpE (defs₀ (F := F)) Variants.none (c : Thread nD τ) none) Set.univ (fetchP i arg3 harg3 arg4 harg4 arg5 harg5 arg6 harg6 arg7 harg7) Q := by
  by_cases h0 : n = 0
  · subst h0
    rw [stage_zero]
    exact fetch_run c i arg3 harg3 arg4 harg4 arg5 harg5 arg6 harg6 arg7 harg7 T hT h ((cond1_iff i).mpr e0) Q
  · rw [stage_mid c T h n hn h0]
    iintro ⟨HT, HS, HO, HI, HF, Hk⟩
    iapply (fetch_skip c i arg3 harg3 arg4 harg4 arg5 harg5 arg6 harg6 arg7 harg7 (fun hc => h0 (e0.symm.trans ((cond1_iff i).mp hc))) Q)
    iapply Hk
    isplitl [HT]; · iexact HT
    isplitl [HS]; · iexact HS
    isplitl [HO]; · iexact HO
    isplitl [HI]; · iexact HI
    iexact HF

include hT in
theorem next_any (n : ℕ) (hn : n < 256) (e0 : (i 0).val = n) (Q : PUnit → sProp 𝕄) :
    iprop((mT.view.loc (c : Thread nD τ) ↦{fullShare} T) ∗ semVal ((c : Thread nD τ), SemLoc.dma cc0_scratch3.sem) 0 ∗ (∃ W, owes (c : Thread nD τ) 0 W) ∗ (∃ f, mI.view.loc (c : Thread nD τ) ↦{fullShare} f) ∗ half c h (n + 1)
      ∗ (((mT.view.loc (c : Thread nD τ) ↦{fullShare} T) ∗ semVal ((c : Thread nD τ), SemLoc.dma cc0_scratch3.sem) 0 ∗ (∃ W, owes (c : Thread nD τ) 0 W) ∗ (∃ f, mI.view.loc (c : Thread nD τ) ↦{fullShare} f) ∗ stage c T h (n + 1)) -∗ Q ⟨⟩))
      ⊢ wp frame (wpE (defs₀ (F := F)) Variants.none (c : Thread nD τ) none) Set.univ (nextP i arg3 harg3 arg4 harg4 arg5 harg5 arg6 harg6 arg7 harg7) Q := by
  by_cases h1 : n + 1 < 256
  · rw [stage_mid c T h (n + 1) h1 (Nat.succ_ne_zero n)]
    exact next_run c i arg3 harg3 arg4 harg4 arg5 harg5 arg6 harg6 arg7 harg7 T hT h ⟨n + 1, h1⟩ (congrArg (· + 1) e0.symm) ((cond2_iff i).mpr (by rw [e0]; exact h1)) Q
  · rw [stage_end c T h (n + 1) h1]
    iintro ⟨HT, HS, HO, HI, HF, Hk⟩
    iapply (next_skip c i arg3 harg3 arg4 harg4 arg5 harg5 arg6 harg6 arg7 harg7 (fun hc => h1 (by rw [← e0]; exact (cond2_iff i).mp hc)) Q)
    iapply Hk
    isplitl [HT]; · iexact HT
    isplitl [HS]; · iexact HS
    isplitl [HO]; · iexact HO
    isplitl [HI]; · iexact HI
    iexact HF

include hT in
theorem point_run (n : ℕ) (hn : n < 256) (e0 : (i 0).val = n) (d3 : S128x128.Idx → Elt F .f32) (d4 : S128x4096.Idx → Elt F .f32) (d5 d6 : S1x4096.Idx → Elt F .f32)
    (d7 : S128x4096.Idx → Elt F .f32) (Q : PUnit → sProp 𝕄) :
    iprop((mT.view.loc (c : Thread nD τ) ↦{fullShare} T) ∗ semVal ((c : Thread nD τ), SemLoc.dma cc0_scratch3.sem) 0 ∗ (∃ W, owes (c : Thread nD τ) 0 W) ∗ (∃ f, mI.view.loc (c : Thread nD τ) ↦{fullShare} f) ∗ (∃ p, mP.view.loc (c : Thread nD τ) ↦{fullShare} p) ∗ stage c T h n ∗ half c h (n + 1) ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
      ∗ (((mT.view.loc (c : Thread nD τ) ↦{fullShare} T) ∗ semVal ((c : Thread nD τ), SemLoc.dma cc0_scratch3.sem) 0 ∗ (∃ W, owes (c : Thread nD τ) 0 W) ∗ (∃ f, mI.view.loc (c : Thread nD τ) ↦{fullShare} f) ∗ (∃ p, mP.view.loc (c : Thread nD τ) ↦{fullShare} p) ∗ stage c T h (n + 1) ∗ half c h (n + 1 + 1) ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare (k0_pay2 (combC d3 (gath T h ⟨n, hn⟩) ⟨n % 2, Nat.mod_lt _ (by decide)⟩ d4) d5 d6)) -∗ Q ⟨⟩))
      ⊢ wp frame (wpE (defs₀ (F := F)) Variants.none (c : Thread nD τ) none) Set.univ
        (cc0_moe_combine_ln i mT (Memref.isWhole_whole _) mO (Memref.isWhole_whole _) arg3 harg3 arg4 harg4 arg5 harg5 arg6 harg6 arg7 harg7 mX (Memref.isWhole_whole _) mP (Memref.isWhole_whole _) mI (Memref.isWhole_whole _) cc0_scratch3 cc0_scratch4) Q := by
  rw [body_eq]
  simp only [wp_bind]
  iintro ⟨HT, HS, HO, HI, HP, HF, HN, H3, H4, H5, H6, H7, Hk⟩
  iapply (fetch_any c i arg3 harg3 arg4 harg4 arg5 harg5 arg6 harg6 arg7 harg7 T hT h n hn e0 _)
  isplitl [HT]; · iexact HT
  isplitl [HS]; · iexact HS
  isplitl [HO]; · iexact HO
  isplitl [HI]; · iexact HI
  isplitl [HF]; · iexact HF
  iintro ⟨HT, HS, HO, HI, HF⟩
  iapply (next_any c i arg3 harg3 arg4 harg4 arg5 harg5 arg6 harg6 arg7 harg7 T hT h n hn e0 _)
  isplitl [HT]; · iexact HT
  isplitl [HS]; · iexact HS
  isplitl [HO]; · iexact HO
  isplitl [HI]; · iexact HI
  isplitl [HN]; · iexact HN
  iintro ⟨HT, HS, HO, HI, HN⟩
  iapply (drain_run c i arg3 harg3 arg4 harg4 arg5 harg5 arg6 harg6 arg7 harg7 T h ⟨n, hn⟩ e0.symm _)
  isplitl [HO]; · iexact HO
  isplitl [HF]; · iexact HF
  unfold taken
  iintro ⟨HO, HX, HH, HSR⟩
  iapply (work_val c i arg3 harg3 arg4 harg4 arg5 harg5 arg6 harg6 arg7 harg7 n e0.symm (gath T h ⟨n, hn⟩) d3 d4 d5 d6 d7 Q)
  isplitl [H3]; · iexact H3
  isplitl [H4]; · iexact H4
  isplitl [H5]; · iexact H5
  isplitl [H6]; · iexact H6
  isplitl [H7]; · iexact H7
  isplitl [HX]; · iexact HX
  isplitl [HP]; · iexact HP
  iintro ⟨H3, H4, H5, H6, H7, HX, HP⟩
  iapply Hk
  isplitl [HT]; · iexact HT
  isplitl [HS]; · iexact HS
  isplitl [HO]; · iexact HO
  isplitl [HI]; · iexact HI
  isplitl [HP]; · iexact HP
  isplitl [HN]; · iexact HN
  isplitl [HX HH HSR]
  · rw [show n + 1 + 1 = n + 2 from rfl, half_add]
    unfold half
    isplitl [HX]; · iexists _; iexact HX
    isplitl [HH]; · iexact HH
    iexact HSR
  isplitl [H3]; · iexact H3
  isplitl [H4]; · iexact H4
  isplitl [H5]; · iexact H5
  isplitl [H6]; · iexact H6
  iexact H7

end Cert.Kernel10Ideal.Cmb

end
-- ==== Proof.Cmb.Frame.lean ====
/- The launch: the body at every point, from the arrays as @main's host operations leave them. -/
module

public import proofs.«01_k».proof.Proof.Cmb.Point
public import Idealize.ShloMosaic.Lib.Pipeline.Frame
public import Idealize.ShloMosaic.Lib.Pipeline.FrameBody

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic Idealize.ShloMosaic.Pipeline
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer's contents where the region begins: @main's host operations done. -/
def Vh (c : Dev nD) (b : Ref sig .tc) : Buf (Elt F) ((c : Thread nD τ).loc b) :=
  StableHlo.after hostOps0 (fun b => m (c, b)) b

/-- The rows' numbers, in blocks. -/
abbrev Th (c : Dev nD) : S256x4x128.Idx → BitVec 32 := Vh m c main_v0
/-- The experts' rows. -/
abbrev oh (c : Dev nD) : S147456x4096.Idx → Elt F .f32 := Vh m c main_arg1

/-! ## What the launch hands over besides the windows -/

/-- The kernel's own three semaphores. -/
abbrev osem0 : Fin 3 → SemLoc sig := fun j => (![SemLoc.dma 8, SemLoc.dma 9, SemLoc.dma 10] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0) := by
  rw [Pipeline.ownSems0_eq_of_list c osem0 [0, 1, 2] (by decide) (by decide)]; rfl

/-- The arrays the body moves rows of itself. -/
def H0 : Finset (Ref sig .tc) := {main_v0, main_arg1}
theorem H0_sub : H0 ⊆ Pipeline.restRefs sig spec0 := by decide
theorem hPts0_eq (c : Dev nD) :
    (bigSep H0 (fun b => ((c : Thread nD τ).loc b) ↦{fullShare} Vh m c b) : sProp 𝕄)
      = iprop((mT.view.loc (c : Thread nD τ) ↦{fullShare} Th m c) ∗ (mO.view.loc (c : Thread nD τ) ↦{fullShare} oh m c)) := by
  rw [BI.bigSep_eq_bigSepL_of_eq [main_v0, main_arg1] (by decide) (by decide)]; rfl

/-! ## The proof data -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (Vh m c (Pipeline.arrRef spec0 w))

theorem lt_N (t : Fin cfg0.N) : t.val < 256 := lt_of_lt_of_eq t.isLt N_0

/-- What a point leaves in its output block. -/
def rowsOut (c : Dev nD) (t : Fin cfg0.N) : S128x4096.Idx → Elt F .f32 :=
  k0_pay2 (combC (iblk m c 0 t : S128x128.Idx → Elt F .f32) (gath (Th m c) (oh m c) ⟨t.val, lt_N t⟩) ⟨t.val % 2, Nat.mod_lt _ (by decide)⟩ (iblk m c 1 t : S128x4096.Idx → Elt F .f32))
    (iblk m c 2 t : S1x4096.Idx → Elt F .f32) (iblk m c 3 t : S1x4096.Idx → Elt F .f32)

/-- What stands before point `n`. -/
def inv (c : Dev nD) (n : ℕ) : sProp 𝕄 :=
  iprop((∃ r, prngReg c r) ∗ (mT.view.loc (c : Thread nD τ) ↦{fullShare} Th m c) ∗ semVal ((c : Thread nD τ), SemLoc.dma cc0_scratch3.sem) 0
    ∗ (∃ f, mI.view.loc (c : Thread nD τ) ↦{fullShare} f) ∗ (∃ p, mP.view.loc (c : Thread nD τ) ↦{fullShare} p)
    ∗ stage c (Th m c) (oh m c) n ∗ half c (oh m c) (n + 1))

def dats (_ : Fin 1) (c : Dev nD) : Dat τ (Elt F) Unit ℕ (Pipeline.UD sig nD τ) ℕ cfg0 c where
  A w := Vh m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsOut m c t
  Φ t := inv m c t.val
  q _ := fullShare
  owed _ := 0

theorem A_eq (c : Dev nD) (w : Fin cfg0.W) : (dats m 0 c).A w = Vh m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = rowsOut m c t := by dsimp only [dats]

/-- An input window's staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

theorem coords_0 (t : Fin grid0.N) : (grid0.coords t 0).val = t.val := by
  have h := Pipeline.Grid.coords_val t 0 (S := 1) (B := 256) (by decide) rfl
  have h2 : t.val < 256 := lt_of_lt_of_eq t.isLt N_0
  omega

/-- A window's staging buffer at point `t`. -/
abbrev ms (t : Fin cfg0.N) (w : Fin 5) := (cfg0.win w).stage (cfg0.slots t w)

abbrev bodyAt (t : Fin cfg0.N) : Prog (TpuEff nD τ sig (Elt F) Λ₀ .tc) PUnit :=
  cc0_moe_combine_ln (grid0.coords t) mT (Memref.isWhole_whole _) mO (Memref.isWhole_whole _)
    (ms t 0) (hstage0_0 ((cfg0.slots t 0).cast nbuf0_0)) (ms t 1) (hstage0_1 ((cfg0.slots t 1).cast nbuf0_1))
    (ms t 2) (hstage0_2 ((cfg0.slots t 2).cast nbuf0_2)) (ms t 3) (hstage0_3 ((cfg0.slots t 3).cast nbuf0_3))
    (ms t 4) (hstage0_4 ((cfg0.slots t 4).cast nbuf0_4)) mX (Memref.isWhole_whole _) mP (Memref.isWhole_whole _) mI (Memref.isWhole_whole _) cc0_scratch3 cc0_scratch4

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms t 0) fullShare ((dats m 0 c).before 0 t d)) ∗ (∃ d, owns (c : Thread nD τ) (ms t 1) fullShare ((dats m 0 c).before 1 t d))
    ∗ (∃ d, owns (c : Thread nD τ) (ms t 2) fullShare ((dats m 0 c).before 2 t d)) ∗ (∃ d, owns (c : Thread nD τ) (ms t 3) fullShare ((dats m 0 c).before 3 t d))
    ∗ (∃ d, owns (c : Thread nD τ) (ms t 4) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms t 0) fullShare ((dats m 0 c).after 0 t) ∗ owns (c : Thread nD τ) (ms t 1) fullShare ((dats m 0 c).after 1 t)
    ∗ owns (c : Thread nD τ) (ms t 2) fullShare ((dats m 0 c).after 2 t) ∗ owns (c : Thread nD τ) (ms t 3) fullShare ((dats m 0 c).after 3 t)
    ∗ owns (c : Thread nD τ) (ms t 4) fullShare ((dats m 0 c).after 4 t))

theorem inv_castSucc (c : Dev nD) (t : Fin cfg0.N) : (dats m 0 c).Φ t.castSucc = inv m c t.val := by
  dsimp only [dats]; simp only [Fin.val_castSucc]
theorem inv_succ (c : Dev nD) (t : Fin cfg0.N) : (dats m 0 c).Φ t.succ = inv m c (t.val + 1) := by
  dsimp only [dats]; simp only [Fin.val_succ]

theorem sound_body (c : Dev nD) (hT : ∀ j, (Th m c j).toNat < 147456) (t : Fin cfg0.N) :
    bodyPre m c t ⊢ wp frame (wpE (defs₀ (F := F)) Variants.none c none) Set.univ (bodyAt t) (fun _ => bodyPost m c t) := by
  unfold bodyPre bodyPost
  simp only [before0_0, before0_1, before0_2, before0_3]
  rw [inv_castSucc, inv_succ, after0_0, after0_1, after0_2, after0_3, after0_4]
  unfold Dat.owesAt Pipeline.owesWithin inv
  rw [show (dats m 0 c).owed t.castSucc = 0 from rfl, show (dats m 0 c).owed t.succ = 0 from rfl]
  iintro ⟨⟨Hg, HT, HS, HI, HP, HF, HN⟩, ⟨%W, %hW, HO⟩, ⟨%d0, H0⟩, ⟨%d1, H1⟩, ⟨%d2, H2⟩, ⟨%d3, H3⟩, ⟨%d4, H4⟩⟩
  iapply (point_run c (grid0.coords t) (ms t 0) (hstage0_0 ((cfg0.slots t 0).cast nbuf0_0)) (ms t 1) (hstage0_1 ((cfg0.slots t 1).cast nbuf0_1))
    (ms t 2) (hstage0_2 ((cfg0.slots t 2).cast nbuf0_2)) (ms t 3) (hstage0_3 ((cfg0.slots t 3).cast nbuf0_3))
    (ms t 4) (hstage0_4 ((cfg0.slots t 4).cast nbuf0_4)) (Th m c) hT (oh m c) t.val (lt_N t) (coords_0 t) (iblk m c 0 t) (iblk m c 1 t) (iblk m c 2 t) (iblk m c 3 t) _ _)
  isplitl [HT]; · iexact HT
  isplitl [HS]; · iexact HS
  isplitl [HO]; · iexists W; iexact HO
  isplitl [HI]; · iexact HI
  isplitl [HP]; · iexact HP
  isplitl [HF]; · iexact HF
  isplitl [HN]; · iexact HN
  isplitl [H0]; · iexact H0
  isplitl [H1]; · iexact H1
  isplitl [H2]; · iexact H2
  isplitl [H3]; · iexact H3
  isplitl [H4]; · iexact H4
  iintro ⟨HT, HS, ⟨%W', HO⟩, HI, HP, HF, HN, H0, H1, H2, H3, H4⟩
  isplitl [Hg HT HS HI HP HF HN]
  · isplitl [Hg]; · iexact Hg
    isplitl [HT]; · iexact HT
    isplitl [HS]; · iexact HS
    isplitl [HI]; · iexact HI
    isplitl [HP]; · iexact HP
    isplitl [HF]; · iexact HF
    iexact HN
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt t := by
  unfold defs₀; rw [Defs.onTc_tc]

theorem body_obligation (c : Dev nD) (hT : ∀ j, (Th m c j).toNat < 147456) :
    BodyObligation (dats m 0 c) (defs₀ (F := F)) Variants.none () Set.univ := fun t => by
  rw [bigSep_W0, bigSep_W0, defs₀_row]
  exact triple_restated (sound_body m c hT t) rfl .rfl fun _ => .rfl

/-! ## Into the pipeline and out of it -/

theorem half_mod (c : Dev nD) (h : S147456x4096.Idx → Elt F .f32) (p : ℕ) : half c h p = half c h (p % 2) := by
  unfold half slotX shr semR
  simp only [Nat.mod_mod]

/-- The two slots are the buffer. -/
theorem slots_split (c : Dev nD) (g : S2x4x128x4096.Idx → Elt F .f32) :
    (mX.view.loc (c : Thread nD τ) ↦{fullShare} g : sProp 𝕄) ⊢ iprop((mX.view.loc (c : Thread nD τ) ↦[slotX 0]{fullShare} g) ∗ (mX.view.loc (c : Thread nD τ) ↦[slotX 1]{fullShare} g)) := by
  rw [← slotX_compl]
  exact (pointsTo_split_subset (Finset.subset_univ (slotX 0))).1

theorem slots_join (c : Dev nD) (g g' : S2x4x128x4096.Idx → Elt F .f32) :
    iprop((mX.view.loc (c : Thread nD τ) ↦[slotX 0]{fullShare} g) ∗ (mX.view.loc (c : Thread nD τ) ↦[slotX 1]{fullShare} g')) ⊢ (mX.view.loc (c : Thread nD τ) ↦{fullShare} ((slotX 0).piecewise g g') : sProp 𝕄) := by
  rw [← slotX_compl]
  exact pointsTo_join_subset (Finset.subset_univ (slotX 0))

/-- The two read shares are the whole. -/
theorem share_halves (c : Dev nD) (h : S147456x4096.Idx → Elt F .f32) :
    (mO.view.loc (c : Thread nD τ) ↦{fullShare} h : sProp 𝕄) ⊣⊢ iprop((mO.view.loc (c : Thread nD τ) ↦{shr 0} h) ∗ (mO.view.loc (c : Thread nD τ) ↦{shr 1} h)) :=
  pointsTo_share (PosShare.mem_left_op_right fullShare)

theorem enter (c : Dev nD) : Pipeline.ΦD osem0 spec0 H0 (Vh m) c ⊢ (dats m 0 c).Φ 0 := by
  rw [show (dats m 0 c).Φ 0 = inv m c 0 from rfl]
  unfold inv
  rw [Pipeline.ΦD_eq, scopedRest0_eq, ownSems00_eq, hPts0_eq, stage_zero]
  unfold half
  iintro ⟨⟨⟨%g, HX⟩, HP, HI⟩, Hg, ⟨HS3, HS0, HS1⟩, HT, HH⟩
  ihave HX := (slots_split c g) $$ HX
  icases HX with ⟨HX0, HX1⟩
  ihave HH := (share_halves c (oh m c)).1 $$ HH
  icases HH with ⟨HH0, HH1⟩
  isplitl [Hg]; · iexact Hg
  isplitl [HT]; · iexact HT
  isplitl [HS3]; · iexact HS3
  isplitl [HI]; · iexact HI
  isplitl [HP]; · iexact HP
  isplitl [HX0 HH0 HS0]
  · isplitl [HX0]; · iexists g; iexact HX0
    isplitl [HH0]; · iexact HH0
    iexact HS0
  isplitl [HX1]; · iexists g; iexact HX1
  isplitl [HH1]; · iexact HH1
  iexact HS1

theorem leave (c : Dev nD) : (dats m 0 c).Φ (Fin.last cfg0.N) ⊢ Pipeline.ΦD osem0 spec0 H0 (Vh m) c := by
  rw [show (dats m 0 c).Φ (Fin.last cfg0.N) = inv m c 256 from congrArg (inv m c) N_0]
  unfold inv
  rw [Pipeline.ΦD_eq, scopedRest0_eq, ownSems00_eq, hPts0_eq, stage_end c _ _ 256 (by decide), half_mod c _ 256, half_mod c _ (256 + 1),
    show 256 % 2 = 0 from rfl, show (256 + 1) % 2 = 1 from rfl]
  unfold half
  iintro ⟨Hg, HT, HS3, HI, HP, ⟨⟨%g, HX0⟩, HH0, HS0⟩, ⟨⟨%g', HX1⟩, HH1, HS1⟩⟩
  isplitl [HX0 HX1 HP HI]
  · isplitl [HX0 HX1]
    · iexists _
      iapply (slots_join c g g')
      isplitl [HX0]; · iexact HX0
      iexact HX1
    isplitl [HP]; · iexact HP
    iexact HI
  isplitl [Hg]; · iexact Hg
  isplitl [HS3 HS0 HS1]
  · isplitl [HS3]; · iexact HS3
    isplitl [HS0]; · iexact HS0
    iexact HS1
  isplitl [HT]; · iexact HT
  iapply (share_halves c (oh m c)).2
  isplitl [HH0]; · iexact HH0
  iexact HH1

/-! ## The launch -/

theorem hostOps0_fresh : (hostOps0 : List (HloOp τ sig (Elt F))).Forall fun op => op.fresh = ∅ := by
  simp only [List.Forall]; repeat' constructor

set_option backward.isDefEq.respectTransparency.types false in
set_option maxHeartbeats 800000 in
theorem run_main (hT : ∀ c j, (Th m c j).toNat < 147456) :
    θ_run defs (onTc (τ := τ) (main (F := F))) (s₀ m ρ) (fun r => Pipeline.FramePost cfgs (dats m) 0 (Vh m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c (hT c)).loose) (hshare := fun c => (dats m 0 c).share_full fun _ => rfl)
    (howed := fun _ _ => rfl) (V := Vh m)
    (hmain := Pipeline.hmain_prefix cfgs 0 defs₀ Variants.none m main hostOps0 hostOps0_sub hostOps0_fresh main_chain)
    (hA := A_eq m) (hin := enter m) (hout := leave m)

end Cert.Kernel10Ideal.Cmb

end
-- ==== Proof.Cmb.Quiet.lean ====
/- The frame: from numbers in range every run ends quietly with its arguments unchanged. -/
module

public import proofs.«01_k».proof.Pre_slots_in_range
public import proofs.«01_k».proof.Proof.Cmb.Frame
public import proofs.«01_k».proof.Proof.Idl.Ok
public import Idealize.ShloMosaic.Lib.StableHlo.RunRead

@[expose] public section

set_option maxRecDepth 16384

noncomputable section

namespace Cert.Kernel10Ideal.Cmb

open Cert.Kernel10Ideal Cert.Kernel10Ideal.Gen
open Idealize.ShloMosaic Idealize.ShloMosaic.TcCoe Idealize.ShloMosaic.Tactic Idealize.ShloMosaic.Pipeline
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host operations before the region -/

theorem Vh_arg0 (c : Dev nD) : Vh m c main_arg0 = m ((c : Thread nD τ).loc main_arg0) :=
  StableHlo.after_unwritten [main_v0, main_v1, main_v2, main_v3, main_v4] rfl (by decide) _

theorem Vh_arg1 (c : Dev nD) : Vh m c main_arg1 = m ((c : Thread nD τ).loc main_arg1) :=
  StableHlo.after_unwritten [main_v0, main_v1, main_v2, main_v3, main_v4] rfl (by decide) _

theorem Vh_arg2 (c : Dev nD) : Vh m c main_arg2 = m ((c : Thread nD τ).loc main_arg2) :=
  StableHlo.after_unwritten [main_v0, main_v1, main_v2, main_v3, main_v4] rfl (by decide) _

theorem Vh_arg3 (c : Dev nD) : Vh m c main_arg3 = m ((c : Thread nD τ).loc main_arg3) :=
  StableHlo.after_unwritten [main_v0, main_v1, main_v2, main_v3, main_v4] rfl (by decide) _

theorem Vh_arg4 (c : Dev nD) : Vh m c main_arg4 = m ((c : Thread nD τ).loc main_arg4) :=
  StableHlo.after_unwritten [main_v0, main_v1, main_v2, main_v3, main_v4] rfl (by decide) _

theorem Vh_arg5 (c : Dev nD) : Vh m c main_arg5 = m ((c : Thread nD τ).loc main_arg5) :=
  StableHlo.after_unwritten [main_v0, main_v1, main_v2, main_v3, main_v4] rfl (by decide) _

/-- The rows' numbers in blocks are the argument's, in the same order. -/
theorem Vh_v0 (c : Dev nD) : Th m c = shapeCast S256x4x128 (show S131072.Idx → BitVec 32 from m ((c : Thread nD τ).loc main_arg0)) Facts₀.shapeCasts_S131072_S256x4x128 := by
  unfold Th Vh
  refine (StableHlo.after_last_write (i := 0) [main_v1, main_v2, main_v3, main_v4] rfl rfl (by decide) _).trans ?_
  rw [StableHlo.reshape_result]
  rfl

/-! ## The frame -/

instance : Subsingleton Cert.Pre_slots_in_range.S_.Idx := ⟨fun a b => funext fun k => k.elim0⟩

/-- The precondition: each number is that of one of the experts' rows. -/
theorem slots_iff [Cert.Pre_slots_in_range.Facts] (a0 : IVec Cert.Pre_slots_in_range.S131072 32) (a1 : FVec F Cert.Pre_slots_in_range.S147456x4096 .f32)
    (a2 : FVec F Cert.Pre_slots_in_range.S32768x128 .f32) (a3 : FVec F Cert.Pre_slots_in_range.S32768x4096 .f32) (a4 a5 : FVec F Cert.Pre_slots_in_range.S1x4096 .f32)
    (h : Cert.Pre_slots_in_range.fn a0 a1 a2 a3 a4 a5 = fun _ => 1#1) (j) : (a0 j).toNat < 147456 := by
  have h0 := congrFun h (fun k => k.elim0)
  unfold Cert.Pre_slots_in_range.fn at h0
  dsimp only at h0
  exact Cert.KernelIdeal.Exp.word_lt _ 147456#32 (by decide) (Host.reduce_andi_all _ _ _ _ _ h0 j)

/-- What the precondition asks of the argument arrays. -/
def Ranged [Cert.Pre_slots_in_range.Facts] : Prop := ∀ c : Dev nD,
  Cert.Pre_slots_in_range.fn (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1

variable [Cert.Pre_slots_in_range.Facts] {m}

theorem Ranged.rows (h : Ranged m) (c : Dev nD) (j : S256x4x128.Idx) : (Th m c j).toNat < 147456 := by
  rw [Vh_v0]
  exact slots_iff _ _ _ _ _ _ (h c) _

/-- The arguments end as they began. -/
theorem kept {r : PUnit × MemSt nD τ sig (Elt F)} (h : Pipeline.FramePost cfgs (dats m) 0 (Vh m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  ⟨((h c).2 main_arg0 (Pipeline.mem_restRefs_of main_arg0 (by decide) (by decide))).trans (Vh_arg0 m c),
    ((h c).2 main_arg1 (Pipeline.mem_restRefs_of main_arg1 (by decide) (by decide))).trans (Vh_arg1 m c),
    ((h c).1 0).trans (((dats m 0 c).arrAt_in 0 rfl _).trans ((A_eq m c 0).trans (Vh_arg2 m c))),
    ((h c).1 1).trans (((dats m 0 c).arrAt_in 1 rfl _).trans ((A_eq m c 1).trans (Vh_arg3 m c))),
    ((h c).2 main_arg4 (Pipeline.mem_restRefs_of main_arg4 (by decide) (by decide))).trans (Vh_arg4 m c),
    ((h c).2 main_arg5 (Pipeline.mem_restRefs_of main_arg5 (by decide) (by decide))).trans (Vh_arg5 m c)⟩

theorem frame (h : Ranged m) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run _ _ _).mono (fun r hr => ⟨fun c => kept hr.1 c, hr.2⟩) (run_main m ρ h.rows)

end Cert.Kernel10Ideal.Cmb

end
-- ==== Proof.Cmb.Exact.lean ====
module

public import proofs.«01_k».proof.Defs
public import proofs.«01_k».proof.Proof.Gen.Kernel10.Launch
public import proofs.«01_k».proof.Proof.Gen.Pre_slots_in_range
public import proofs.«01_k».proof.Proof.Cmb.Quiet

/-! The bit-level combine kernel runs the very program of the idealized one: the same bodies under
    the same labels, the same entry function. So its frame is the one already proved, read at bits. -/

@[expose] public section

noncomputable section

namespace Cert.Kernel10.Cmb

open Idealize.ShloMosaic Idealize.ShloMosaic.TcCoe Idealize.SL.Sem

set_option maxRecDepth 100000
set_option maxHeartbeats 4000000

variable {F : FTy → Type} [FloatOps F]

/-- The two body tables agree label by label. -/
theorem same_bodies : Cert.Kernel10.defs₀ (F := F) = Cert.Kernel10Ideal.defs₀ (F := F) := by
  unfold Cert.Kernel10.defs₀ Cert.Kernel10Ideal.defs₀
  refine congrArg Defs.onTc (funext fun l => funext fun a => ?_)
  match l, a with
  | ⟨0, _⟩, (t, s) => with_unfolding_all rfl

/-- So do the tables of the pipelines over them. -/
theorem same_defs : Cert.Kernel10.defs (F := F) = Cert.Kernel10Ideal.defs (F := F) := by
  unfold Cert.Kernel10.defs Cert.Kernel10Ideal.defs
  exact congrArg (Idealize.ShloMosaic.Pipeline.defs _) same_bodies

/-- And the entry functions. -/
theorem same_main : Cert.Kernel10.main (F := F) = Cert.Kernel10Ideal.main (F := F) := by
  with_unfolding_all rfl

/-- The bit-level program runs to its end and leaves its arguments as they were. -/
theorem frame : Cert.quiescent_Kernel10 := fun m g h => by
  have e := Cert.Kernel10Ideal.Cmb.frame (F := Bits) (m := m) g h
  rw [← same_defs, ← same_main] at e
  exact e

end Cert.Kernel10.Cmb

end
-- ==== Proof.Cmb.Spec.lean ====
/- What the combination of the experts' rows computes, over the extended reals. -/
module

public import proofs.«01_k».proof.Proof.Ln.Spec

@[expose] public section

noncomputable section

namespace Cert.Cmb

open Idealize.ShloMosaic
open Cert.Mm (Mat)
open scoped BigOperators

/-- The row of the experts' rows that the token `t` names in its place `k` (the last row for a number past the end). -/
def slotOf (d : Fin 131072 → BitVec 32) (t : Fin 32768) (k : Fin 4) : Fin 147456 :=
  ⟨min (d ⟨t.val * 4 + k.val, by omega⟩).toNat 147455, by omega⟩

/-- The weighted sum of the four rows a token names. -/
def weighted (d : Fin 131072 → BitVec 32) (o : Mat 147456 4096) (g : Mat 32768 128) : Mat 32768 4096 :=
  fun i => ∑ k : Fin 4, g (ix2 (n0 := 32768) (i 0) ⟨k.val, by omega⟩) * o (ix2 (n1 := 4096) (slotOf d (i 0) k) (i 1))

/-- The tokens' rows after the mixing: the scaled rows plus the weighted sums, normalized. -/
def combined (d : Fin 131072 → BitVec 32) (o : Mat 147456 4096) (g : Mat 32768 128) (h : Mat 32768 4096) (γ β : Fin 4096 → EReal) : Mat 32768 4096 :=
  Cert.Ln.norm (Cert.Ln.residual h (weighted d o g)) γ β

/-- The index of the row `r` of the block `a` of 128 rows. -/
abbrev row (a : Fin 256) (r : Fin 128) : Fin 32768 := ⟨a.val * 128 + r.val, by omega⟩

/-- Two arrays that agree on every block of 128 rows are the same. -/
theorem ext_rows (f g : Mat 32768 4096) (h : ∀ (a : Fin 256) (r : Fin 128) (q : Fin 4096), f (ix2 (row a r) q) = g (ix2 (row a r) q)) : f = g :=
  Cert.Mm.ext2 _ _ fun r q => by
    have e : r = row ⟨r.val / 128, by omega⟩ ⟨r.val % 128, Nat.mod_lt _ (by decide)⟩ := Fin.ext (Nat.div_add_mod' _ _).symm
    rw [e]
    exact h _ _ _

end Cert.Cmb

end
-- ==== Proof.Cmb.Value.lean ====
/- What the run leaves in the result array: the combination of the experts' rows, normalized. -/
module

public import proofs.«01_k».proof.Proof.Cmb.Spec
public import proofs.«01_k».proof.Proof.Cmb.Quiet
public import Idealize.ShloMosaic.Lib.Pipeline.Value
public import Idealize.ShloMosaic.Lib.StableHlo.Run
public import Idealize.ShloMosaic.Lib.Pointwise.Tactic
public import Idealize.ShloMosaic.Lib.Pointwise.Reduce
public import Idealize.ShloMosaic.Lib.Pointwise.Reshape

@[expose] public section

set_option maxRecDepth 16384

noncomputable section

namespace Cert.Kernel10Ideal.Cmb

open Cert.Kernel10Ideal Cert.Kernel10Ideal.Gen
open Idealize.ShloMosaic Idealize.ShloMosaic.TcCoe Idealize.SL.Sem
open Cert.Cmb (row slotOf weighted combined)
open scoped BigOperators

/-! ## The arithmetic at an index -/

theorem norm_at (x : S128x4096.Idx → EReal) (g b : S1x4096.Idx → EReal) (r : Fin 128) (q : Fin 4096) :
    k0_pay2 (F := Ideal) x g b (ix2 r q) = Cert.Ln.unitRow (fun k => x (ix2 r k)) q * g (ix2 0 q) + b (ix2 0 q) := by
  unfold k0_pay2 Cert.Ln.unitRow Cert.Ln.centred Cert.Ln.mean
  pointwise

theorem mix_at (d : S128x128.Idx → EReal) (x0 x1 x2 x3 : S1x1x128x512.Idx → EReal) (h : S128x512.Idx → EReal) (r : Fin 128) (q : Fin 512) :
    k0_pay15 (F := Ideal) (k0_pay3 d) (k0_pay4 d) (k0_pay5 d) (k0_pay6 d) x0 x1 x2 x3 h (ix2 r q)
      = Ideal.ofBits .f32 0x3F9837F0#32 * h (ix2 r q) + (((d (ix2 r 0) * x0 (ix4 0 0 r q) + d (ix2 r 1) * x1 (ix4 0 0 r q)) + d (ix2 r 2) * x2 (ix4 0 0 r q)) + d (ix2 r 3) * x3 (ix4 0 0 r q)) := by
  unfold k0_pay15 k0_pay3 k0_pay4 k0_pay5 k0_pay6
  pointwise

theorem col_eq (q : Fin 4096) (h : 512 * (q.val / 512) + q.val % 512 < 4096) : (⟨512 * (q.val / 512) + q.val % 512, h⟩ : Fin 4096) = q :=
  Fin.ext (Nat.div_add_mod _ _)

/-- A tile before it is normalized: the scaled rows plus the four weighted ones. -/
theorem comb_at (d : S128x128.Idx → EReal) (g : S2x4x128x4096.Idx → EReal) (s : Fin 2) (h : S128x4096.Idx → EReal) (r : Fin 128) (q : Fin 4096) :
    combC (F := Ideal) d g s h (ix2 r q)
      = Ideal.ofBits .f32 0x3F9837F0#32 * h (ix2 r q) + ∑ k : Fin 4, d (ix2 r ⟨k.val, by omega⟩) * g (ix4 s k r q) := by
  have e := col_eq q (by omega)
  rw [Fin.sum_univ_four]
  refine (mix_at d _ _ _ _ _ r _).trans ?_
  show Ideal.ofBits .f32 0x3F9837F0#32 * h (ix2 r ⟨512 * (q.val / 512) + q.val % 512, _⟩)
    + (((d (ix2 r 0) * g (ix4 s 0 r ⟨512 * (q.val / 512) + q.val % 512, _⟩) + d (ix2 r 1) * g (ix4 s 1 r ⟨512 * (q.val / 512) + q.val % 512, _⟩))
      + d (ix2 r 2) * g (ix4 s 2 r ⟨512 * (q.val / 512) + q.val % 512, _⟩)) + d (ix2 r 3) * g (ix4 s 3 r ⟨512 * (q.val / 512) + q.val % 512, _⟩)) = _
  simp only [e]
  rfl

/-! ## The numbers and the gathered rows -/

variable (m : (ℓ : Loc nD τ sig) → Buf (Elt Ideal) ℓ)

/-- The argument arrays. -/
abbrev dst (c : Dev nD) : S131072.Idx → BitVec 32 := m ((c : Thread nD τ).loc main_arg0)
abbrev own (c : Dev nD) : S147456x4096.Idx → EReal := m ((c : Thread nD τ).loc main_arg1)
abbrev gts (c : Dev nD) : S32768x128.Idx → EReal := m ((c : Thread nD τ).loc main_arg2)
abbrev hid (c : Dev nD) : S32768x4096.Idx → EReal := m ((c : Thread nD τ).loc main_arg3)
abbrev fac (c : Dev nD) : S1x4096.Idx → EReal := m ((c : Thread nD τ).loc main_arg4)
abbrev shf (c : Dev nD) : S1x4096.Idx → EReal := m ((c : Thread nD τ).loc main_arg5)

theorem tiled_at (d : S131072.Idx → BitVec 32) (b : Fin 256) (x : Fin 4) (y : Fin 128) :
    shapeCast S256x4x128 d Facts₀.shapeCasts_S131072_S256x4x128 (ix3 b x y) = d (ix1 ⟨b.val * 512 + x.val * 128 + y.val, by omega⟩) := by
  pointwise

/-- The row that place `k` of the token `r` of tile `b` takes is the one its token names. -/
theorem slot_eq (c : Dev nD) (b : Fin 256) (r : Fin 128) (k : Fin 4) (n : Fin 512) (hn : n.val = 4 * r.val + k.val) :
    rowAt (Th m c) b n = slotOf (fun j => dst m c (ix1 j)) (row b r) k := by
  refine Fin.ext ?_
  show min (tokAt (Th m c) b n).toNat 147455 = min (dst m c (ix1 ⟨(b.val * 128 + r.val) * 4 + k.val, _⟩)).toNat 147455
  have e0 : tokAt (Th m c) b n = dst m c (ix1 ⟨b.val * 512 + n.val / 128 * 128 + n.val % 128, by omega⟩) :=
    (congrFun (Vh_v0 m c) _).trans (tiled_at (dst m c) b ⟨n.val / 128, by omega⟩ ⟨n.val % 128, Nat.mod_lt _ (by decide)⟩)
  have e : ∀ h, (⟨b.val * 512 + n.val / 128 * 128 + n.val % 128, h⟩ : Fin 131072) = ⟨(b.val * 128 + r.val) * 4 + k.val, by omega⟩ := fun h => Fin.ext (by
    show b.val * 512 + n.val / 128 * 128 + n.val % 128 = (b.val * 128 + r.val) * 4 + k.val
    omega)
  rw [e0, e]

theorem gath_at (c : Dev nD) (b : Fin 256) (s : Fin 2) (k : Fin 4) (r : Fin 128) (q : Fin 4096) :
    (gath (Th m c) (oh m c) b (ix4 s k r q) : EReal) = own m c (ix2 (slotOf (fun j => dst m c (ix1 j)) (row b r) k) q) := by
  show oh m c (ix2 (rowAt (Th m c) b (numOf (ix4 s k r q))) q) = _
  rw [slot_eq m c b r k _ rfl]
  exact congrFun (Vh_arg1 m c) _

/-! ## The blocks the windows bring -/

/-- The point that combines the block `a` of 128 rows. -/
abbrev point (a : Fin 256) : Fin grid0.N := ⟨a.val, lt_of_lt_of_eq a.isLt N_0.symm⟩

theorem flush4 : ∀ t : Fin cfg0.N, (cfg0.win 4).flush t = true := (by decide +kernel : ∀ t : Fin grid0.N, win0_4.flush t = true)
theorem idx0 : ∀ a : Fin 256, win0_0.index (point a) = ![a.val, 0] := by decide +kernel
theorem idx1 : ∀ a : Fin 256, win0_1.index (point a) = ![a.val, 0] := by decide +kernel
theorem idx2 : ∀ a : Fin 256, win0_2.index (point a) = ![0, 0] := by decide +kernel
theorem idx3 : ∀ a : Fin 256, win0_3.index (point a) = ![0, 0] := by decide +kernel
theorem idx4 : ∀ a : Fin 256, win0_4.index (point a) = ![a.val, 0] := by decide +kernel

/-- The factors as the region meets them. -/
theorem Vh_v3 (c : Dev nD) : (Vh m c main_v3 : S1x4096.Idx → EReal)
    = shapeCast S1x4096 (shapeCast S4096 (fac m c) Facts₀.shapeCasts_S1x4096_S4096) Facts₀.shapeCasts_S4096_S1x4096 := by
  unfold Vh
  after_results
  rfl

/-- The shifts as the region meets them. -/
theorem Vh_v4 (c : Dev nD) : (Vh m c main_v4 : S1x4096.Idx → EReal)
    = shapeCast S1x4096 (shapeCast S4096 (shf m c) Facts₀.shapeCasts_S1x4096_S4096) Facts₀.shapeCasts_S4096_S1x4096 := by
  unfold Vh
  after_results
  rfl

theorem flat_at (g : S1x4096.Idx → EReal) (q : Fin 4096) :
    (shapeCast S1x4096 (shapeCast S4096 (g : Vec Ideal S1x4096 .f32) Facts₀.shapeCasts_S1x4096_S4096) Facts₀.shapeCasts_S4096_S1x4096 : Vec Ideal S1x4096 .f32) (ix2 0 q) = g (ix2 0 q) := by
  pointwise

theorem blockD (c : Dev nD) (a : Fin 256) (r : Fin 128) (q : Fin 128) :
    (iblk m c 0 (point a) : Vec Ideal S128x128 .f32) (ix2 r q) = gts m c (ix2 (row a r) q) := by
  unfold gts
  rw [← Vh_arg2 m c]
  unfold iblk
  rw [View.read_apply]
  refine congrArg (Vh m c main_arg2) (funext fun d => Fin.ext ?_)
  match d with
  | ⟨0, _⟩ => show win0_0.index (point a) 0 * 128 + 1 * r.val = a.val * 128 + r.val; rw [idx0, Nat.one_mul]; rfl
  | ⟨1, _⟩ => show win0_0.index (point a) 1 * 128 + 1 * q.val = q.val; rw [idx0, Nat.one_mul]; exact Nat.zero_add _

theorem blockH (c : Dev nD) (a : Fin 256) (r : Fin 128) (q : Fin 4096) :
    (iblk m c 1 (point a) : Vec Ideal S128x4096 .f32) (ix2 r q) = hid m c (ix2 (row a r) q) := by
  unfold hid
  rw [← Vh_arg3 m c]
  unfold iblk
  rw [View.read_apply]
  refine congrArg (Vh m c main_arg3) (funext fun d => Fin.ext ?_)
  match d with
  | ⟨0, _⟩ => show win0_1.index (point a) 0 * 128 + 1 * r.val = a.val * 128 + r.val; rw [idx1, Nat.one_mul]; rfl
  | ⟨1, _⟩ => show win0_1.index (point a) 1 * 4096 + 1 * q.val = q.val; rw [idx1, Nat.one_mul]; exact Nat.zero_add _

theorem blockG (c : Dev nD) (a : Fin 256) (q : Fin 4096) : (iblk m c 2 (point a) : Vec Ideal S1x4096 .f32) (ix2 0 q) = fac m c (ix2 0 q) := by
  rw [← flat_at (fac m c) q, ← Vh_v3]
  unfold iblk
  rw [View.read_apply]
  refine congrArg (Vh m c main_v3) (funext fun d => Fin.ext ?_)
  match d with
  | ⟨0, _⟩ => show win0_2.index (point a) 0 * 1 + 1 * 0 = 0; rw [idx2]; rfl
  | ⟨1, _⟩ => show win0_2.index (point a) 1 * 4096 + 1 * q.val = q.val; rw [idx2, Nat.one_mul]; exact Nat.zero_add _

theorem blockB (c : Dev nD) (a : Fin 256) (q : Fin 4096) : (iblk m c 3 (point a) : Vec Ideal S1x4096 .f32) (ix2 0 q) = shf m c (ix2 0 q) := by
  rw [← flat_at (shf m c) q, ← Vh_v4]
  unfold iblk
  rw [View.read_apply]
  refine congrArg (Vh m c main_v4) (funext fun d => Fin.ext ?_)
  match d with
  | ⟨0, _⟩ => show win0_3.index (point a) 0 * 1 + 1 * 0 = 0; rw [idx3]; rfl
  | ⟨1, _⟩ => show win0_3.index (point a) 1 * 4096 + 1 * q.val = q.val; rw [idx3, Nat.one_mul]; exact Nat.zero_add _

/-! ## The result array, block by block -/

/-- What the result holds. -/
abbrev result (c : Dev nD) : Cert.Mm.Mat 32768 4096 :=
  combined (fun j => dst m c (ix1 j)) (own m c) (gts m c) (hid m c) (fun q => fac m c (ix2 0 q)) (fun q => shf m c (ix2 0 q))

theorem block_at (c : Dev nD) (a : Fin 256) (r : Fin 128) (q : Fin 4096) : (rowsOut m c (point a) : S128x4096.Idx → EReal) (ix2 r q) = result m c (ix2 (row a r) q) := by
  unfold rowsOut
  rw [norm_at, blockG, blockB]
  have e : ∀ k : Fin 4096, combC (F := Ideal) (iblk m c 0 (point a) : S128x128.Idx → EReal) (gath (Th m c) (oh m c) ⟨(point a).val, lt_N _⟩) ⟨(point a).val % 2, Nat.mod_lt _ (by decide)⟩ (iblk m c 1 (point a) : S128x4096.Idx → EReal) (ix2 r k)
      = Cert.Ln.residual (hid m c) (weighted (fun j => dst m c (ix1 j)) (own m c) (gts m c)) (ix2 (row a r) k) := fun k => by
    refine (comb_at _ _ _ _ r k).trans ?_
    refine congrArg₂ (Ideal.ofBits .f32 0x3F9837F0#32 * · + ·) (blockH m c a r k) (Finset.sum_congr rfl fun j _ => ?_)
    exact congrArg₂ (· * ·) (blockD m c a r _) (gath_at m c a _ j r k)
  rw [funext e]
  rfl

theorem idx_inj4 : ∀ t t' : Fin cfg0.N, win0_4.index t = win0_4.index t' → t = t' := fun t t' h => by
  have e : ∀ t : Fin grid0.N, win0_4.index t 0 = t.val := fun t => congrFun (idx4 ⟨t.val, lt_N t⟩) 0
  exact Fin.ext ((e t).symm.trans ((congrFun h 0).trans (e t')))

theorem blocks4 (c : Dev nD) (t : Fin cfg0.N) :
    ((cfg0.win 4).blk t).view.read (Elt Ideal) ((dats m 0 c).arrAt 4 cfg0.N) = (cfg0.win 4).cut (grid0.coords t) (rowsOut m c t) := by
  refine ((dats m 0 c).read_blk_arrAt_eq_flushed 4 (fun t t' _ _ hne => (cfg0.win 4).disjoint_blk fun h => hne (idx_inj4 t t' h)) cfg0.N t t.isLt (flush4 t)).trans ?_
  show (cfg0.win 4).cut (grid0.coords t) ((dats m 0 c).after 4 t) = _
  rw [after0_4]

theorem rows_at (c : Dev nD) (a : Fin 256) (r : Fin 128) (q : Fin 4096) :
    ((dats m 0 c).arrAt 4 cfg0.N : Vec Ideal S32768x4096 .f32) (ix2 (row a r) q) = rowsOut m c (point a) (ix2 r q) := by
  have h := congrFun (blocks4 m c (point a)) (ix2 r q)
  rw [View.read_apply] at h
  refine Eq.trans (congrArg ((dats m 0 c).arrAt 4 cfg0.N) (funext fun d => Fin.ext ?_)) (h.trans (congrArg (rowsOut m c (point a)) (funext fun d => Fin.ext ?_)))
  · match d with
    | ⟨0, _⟩ => show a.val * 128 + r.val = win0_4.index (point a) 0 * 128 + 1 * r.val; rw [idx4, Nat.one_mul]; rfl
    | ⟨1, _⟩ => show q.val = win0_4.index (point a) 1 * 4096 + 1 * q.val; rw [idx4, Nat.one_mul]; exact (Nat.zero_add _).symm
  · match d with
    | ⟨0, _⟩ => rfl
    | ⟨1, _⟩ => rfl

theorem result_eq (c : Dev nD) : ((dats m 0 c).arrAt 4 cfg0.N : S32768x4096.Idx → EReal) = result m c :=
  Cert.Cmb.ext_rows _ _ fun a r q => (rows_at m c a r q).trans (block_at m c a r q)

/-- Every run leaves the combination in the result array and the arguments as they were. -/
theorem run_result [Cert.Pre_slots_in_range.Facts] (ρ : Dev nD → PrngReg) (h : Ranged m) :
    θ_run (defs (F := Ideal)) (onTc (τ := τ) (main (F := Ideal))) ⟨m, fun _ => 0, ρ⟩ (fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run _ _ _).mono (fun r hr c => ⟨((hr.1 c).1 4).trans (result_eq m c), kept hr.1 c⟩) (run_main m ρ h.rows)

end Cert.Kernel10Ideal.Cmb

end
-- ==== Proof.Cmb.Ref.lean ====
/- What the reference of the combination computes, over the extended reals. -/
module

public import proofs.«01_k».proof.Proof.Cmb.Spec
public import proofs.«01_k».proof.Proof.Ln.Ref
public import proofs.«01_k».proof.Proof.Val.Gathers
public import proofs.«01_k».proof.Proof.Gen.Reference10Ideal.Run
public import Idealize.ShloMosaic.Lib.ValueIdxCore
public import Idealize.ShloMosaic.Lib.Pointwise.Tactic
public import Idealize.ShloMosaic.Lib.Pointwise.Reduce
public import Idealize.ShloMosaic.Lib.Pointwise.Reshape

@[expose] public section

set_option maxRecDepth 16384

noncomputable section

namespace Cert.Reference10Ideal.Cmb

open Cert.Reference10Ideal Cert.Reference10Ideal.Gen Cert.Reference10Ideal.Value
open Idealize.ShloMosaic Idealize.ShloMosaic.TcCoe Idealize.SL.Sem
open Cert.Experts
open Cert.Cmb (slotOf weighted combined)
open Idealize.ShloMosaic.ValueIdx (eq_zero_of_ne_one select_zero select_one)
open scoped BigOperators

/-- The rows' numbers as a column, a negative one counted from the end. -/
def wrapped (d : IVec S131072 32) : IVec S131072x1 32 :=
  broadcastInDim S131072x1 ![0] bcast_S131072_S131072x1_0 (select (cmpi .slt d (broadcastInDim S131072 ![] bcast_S_S131072 (constantI S_ 32 0#32))) (addi d (broadcastInDim S131072 ![] bcast_S_S131072 (constantI S_ 32 147456#32))) d)

/-- The rows that are named, in the order of the names. -/
def named (d : IVec S131072 32) (o : FVec Ideal S147456x4096 .f32) : FVec Ideal S131072x4096 .f32 :=
  Host.gather gather_S147456x4096_S131072x1_S131072x4096_1_0_n_n_0_1_14096 o (wrapped d)

/-- The weighted sums of the rows `R`, four to a token. -/
def sums (g : FVec Ideal S32768x128 .f32) (R : FVec Ideal S131072x4096 .f32) : FVec Ideal S32768x4096 .f32 :=
  Host.reduceAdd (mulf (broadcastInDim S32768x4x4096 ![0, 1, 2] bcast_S32768x4x1_S32768x4x4096_0_1_2 (broadcastInDim S32768x4x1 ![0, 1] bcast_S32768x4_S32768x4x1_0_1 (extractStridedSlice S32768x4 ![0, 0] g slices_S32768x128_S32768x4_0_0))) (shapeCast _ R shapeCasts_S131072x4096_S32768x4x4096)) (constant S_ .f32 0x00000000#32) reducesTo_S32768x4x4096_S32768x4096_d1 h_S_

theorem wrapped_at (d : IVec S131072 32) (n : Fin 131072) (h : (d (ix1 n)).toNat < 147456) : wrapped d (ix2 n 0) = d (ix1 n) := by
  unfold wrapped
  pointwise
  rw [eq_zero_of_ne_one (not_neg _ (by omega)), select_zero]

theorem named_at (d : IVec S131072 32) (o : FVec Ideal S147456x4096 .f32) (h : ∀ j, (d j).toNat < 147456) (t : Fin 32768) (k : Fin 4) (q : Fin 4096) :
    named d o (ix2 ⟨t.val * 4 + k.val, by omega⟩ q) = o (ix2 (slotOf (fun n => d (ix1 n)) t k) q) := by
  have hw := wrapped_at d ⟨t.val * 4 + k.val, by omega⟩ (h _)
  refine Routing.gather_row _ rfl rfl rfl rfl rfl o (wrapped d) _ q _ (hw.trans (BitVec.eq_of_toNat_eq ?_)) (by decide)
  have h1 := h (ix1 ⟨t.val * 4 + k.val, by omega⟩)
  show _ = (BitVec.ofNat 32 (min (d (ix1 ⟨t.val * 4 + k.val, by omega⟩)).toNat 147455)).toNat
  rw [BitVec.toNat_ofNat]
  omega

theorem sums_at (g : FVec Ideal S32768x128 .f32) (R : FVec Ideal S131072x4096 .f32) (t : Fin 32768) (q : Fin 4096) :
    sums g R (ix2 t q) = ∑ k : Fin 4, g (ix2 t ⟨k.val, by omega⟩) * R (ix2 ⟨t.val * 4 + k.val, by omega⟩ q) := by
  unfold sums
  pointwise

theorem sums_eq (d : IVec S131072 32) (o : FVec Ideal S147456x4096 .f32) (g : FVec Ideal S32768x128 .f32) (h : ∀ j, (d j).toNat < 147456) :
    sums g (named d o) = weighted (fun n => d (ix1 n)) o g :=
  Cert.Mm.ext2 _ _ fun t q => by
    rw [sums_at]
    exact Finset.sum_congr rfl fun k _ => congrArg (g (ix2 t ⟨k.val, by omega⟩) * ·) (named_at d o h t k q)

theorem res_eq (m : (ℓ : Loc nD τ sig) → Buf (Elt Ideal) ℓ) (c : Dev nD) : res_main_v41 m c
    = Cert.Reference8Ideal.Ln.normRows (addf (mulf (broadcastInDim Cert.Reference9Ideal.S32768x4096 ![] Cert.Reference9Ideal.Facts₀.bcast_S_S32768x4096 (constant Cert.Reference9Ideal.S_ .f32 0x3F9837F0#32)) (m ((c.tc : Thread nD τ).loc main_arg3)))
        (sums (m ((c.tc : Thread nD τ).loc main_arg2)) (named (m ((c.tc : Thread nD τ).loc main_arg0)) (m ((c.tc : Thread nD τ).loc main_arg1)))))
      (broadcastInDim Cert.Reference9Ideal.S1x4096 ![1] Cert.Reference9Ideal.Facts₀.bcast_S4096_S1x4096_1 (shapeCast Cert.Reference9Ideal.S4096 (m ((c.tc : Thread nD τ).loc main_arg4) : FVec Ideal S1x4096 .f32) Cert.Reference9Ideal.Facts₀.shapeCasts_S1x4096_S4096))
      (broadcastInDim Cert.Reference9Ideal.S1x4096 ![1] Cert.Reference9Ideal.Facts₀.bcast_S4096_S1x4096_1 (shapeCast Cert.Reference9Ideal.S4096 (m ((c.tc : Thread nD τ).loc main_arg5) : FVec Ideal S1x4096 .f32) Cert.Reference9Ideal.Facts₀.shapeCasts_S1x4096_S4096)) := by
  unfold res_main_v41 sums named wrapped Cert.Reference8Ideal.Ln.normRows Cert.Reference8Ideal.Ln.centredRows Cert.Reference8Ideal.Ln.meanCol
  rfl

/-- The reference computes the combination. -/
theorem result_eq (m : (ℓ : Loc nD τ sig) → Buf (Elt Ideal) ℓ) (c : Dev nD) (d : IVec S131072 32) (o : FVec Ideal S147456x4096 .f32) (g : FVec Ideal S32768x128 .f32)
    (h : FVec Ideal S32768x4096 .f32) (γ β : FVec Ideal S1x4096 .f32)
    (e0 : m ((c.tc : Thread nD τ).loc main_arg0) = d) (e1 : m ((c.tc : Thread nD τ).loc main_arg1) = o) (e2 : m ((c.tc : Thread nD τ).loc main_arg2) = g)
    (e3 : m ((c.tc : Thread nD τ).loc main_arg3) = h) (e4 : m ((c.tc : Thread nD τ).loc main_arg4) = γ) (e5 : m ((c.tc : Thread nD τ).loc main_arg5) = β)
    (hd : ∀ j, (d j).toNat < 147456) :
    (res_main_v41 m c : S32768x4096.Idx → EReal) = combined (fun n => d (ix1 n)) o g h (fun q => γ (ix2 0 q)) (fun q => β (ix2 0 q)) := by
  rw [res_eq, e0, e1, e2, e3, e4, e5, sums_eq d o g hd]
  exact Cert.Reference9Ideal.Ln.result_eq _ _ _ _

end Cert.Reference10Ideal.Cmb

end
-- ==== Proof.Cmb.Claims.lean ====
/- The claims about the combination: every run ends quietly, and the result is the reference's. -/
module

public import proofs.«01_k».proof.Defs
public import proofs.«01_k».proof.Proof.Gen.Pre_slots_in_range
public import proofs.«01_k».proof.Proof.Cmb.Exact
public import proofs.«01_k».proof.Proof.Cmb.Value
public import proofs.«01_k».proof.Proof.Cmb.Ref

@[expose] public section

noncomputable section

namespace Cert.Proof

open Idealize.ShloMosaic Idealize.ShloMosaic.TcCoe Idealize.SL.Sem

/-! ## Every run ends quietly -/

theorem kernel10 : Cert.quiescent_Kernel10 := Cert.Kernel10.Cmb.frame
theorem kernel10Ideal : Cert.quiescent_Kernel10Ideal := fun m g h => Cert.Kernel10Ideal.Cmb.frame g h
theorem reference10Ideal : Cert.quiescent_Reference10Ideal := fun m g _ =>
  (θ_run Cert.Reference10Ideal.defs _ _).mono (fun r h => ⟨fun c => (h c).2, Idealize.ShloMosaic.sem_eq_zero_of_no_sems (by decide) r.2⟩)
    (Cert.Reference10Ideal.Value.run (F := Ideal) m g)

/-! ## The result -/

theorem values10 : Cert.algebraic_Kernel10Ideal_Reference10Ideal := fun m ρ m' ρ' hp hag =>
  ⟨fun c => Cert.Kernel10Ideal.Cmb.result m c,
    Cert.Kernel10Ideal.Cmb.run_result m ρ hp,
    (θ_run Cert.Reference10Ideal.defs _ _).mono (fun _ h c => by
      obtain ⟨e0, e1, e2, e3, e4, e5⟩ := hag c
      exact ⟨(h c).1.trans (Cert.Reference10Ideal.Cmb.result_eq m' c _ _ _ _ _ _ e0 e1 e2 e3 e4 e5
        (Cert.Kernel10Ideal.Cmb.slots_iff _ _ _ _ _ _ (hp c))), (h c).2⟩)
    (Cert.Reference10Ideal.Value.run (F := Ideal) m' ρ')⟩

end Cert.Proof

end
-- ==== Proof.lean ====
/- The claims about the experts' call and about the calls around it, put together. -/
module

public import proofs.«01_k».proof.Defs
public import proofs.«01_k».proof.Proof.Idl.Exact
public import proofs.«01_k».proof.Proof.Gen.Kernel.Loops
public import proofs.«01_k».proof.Proof.Idl.Quiet
public import proofs.«01_k».proof.Proof.Val.Result
public import proofs.«01_k».proof.Proof.Val.Ref
public import proofs.«01_k».proof.Proof.Gen.ReferenceIdeal.Run
public import proofs.«01_k».proof.Proof.Gen.Pre_in_range
public import proofs.«01_k».proof.Proof.Mm.Claims
public import proofs.«01_k».proof.Proof.Ln.Claims
public import proofs.«01_k».proof.Proof.Cmb.Claims
public import proofs.«01_k».proof.Proof.Gen.Kernel10.Launch
public import proofs.«01_k».proof.Proof.Gen.Kernel10Ideal.Launch
public import proofs.«01_k».proof.Proof.Gen.Kernel10Ideal.Loops
public import proofs.«01_k».proof.Proof.Gen.Kernel10.Loops
public import proofs.«01_k».proof.Proof.Gen.Reference10Ideal.Run
public import proofs.«01_k».proof.Proof.Gen.Pre_slots_in_range

@[expose] public section

noncomputable section

namespace Cert.Proof

open Idealize.ShloMosaic Idealize.SL.Sem

theorem kernel : Cert.quiescent_Kernel := Cert.Kernel.Exp.frame
theorem kernelIdeal : Cert.quiescent_KernelIdeal := fun m g h => Cert.KernelIdeal.Exp.frame g h
/-- The reference is a host program of straight-line operations that declares no semaphore. -/
theorem referenceIdeal : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The reference's result is the kernel's, from the same arguments. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.KernelIdeal.Exp.Ranged m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v70 m' c = Cert.KernelIdeal.Exp.result m c := by
  have hin := Cert.KernelIdeal.Exp.in_range_iff _ _ _ _ _ _ _ _ (h c)
  have hall : ∀ (R : Fin 147456) (j : Fin 4096), Cert.ReferenceIdeal.Value.res_main_v70 m' c (ix2 R j) = Cert.KernelIdeal.Exp.result m c (ix2 R j) := fun R j =>
    Cert.ReferenceIdeal.Exp.res_at m' c _ _ _ _ _ _ _ _ e0 e1 e2 e3 e4 e5 e6 e7 R j _ (Cert.Experts.expertOf_val _ hin.1 ⟨R.val / 512, by omega⟩) _ (Cert.Experts.tokenOf_val _ hin.2 R)
  refine funext fun (i : Cert.KernelIdeal.S147456x4096.Idx) => ?_
  have hi : i = ix2 (i 0) (i 1) := funext fun a => by
    match a with
    | ⟨0, _⟩ => rfl
    | ⟨1, _⟩ => rfl
  rw [hi]
  exact hall _ _

theorem values : Cert.algebraic_KernelIdeal_ReferenceIdeal := fun m ρ m' ρ' hp hag =>
  ⟨fun c => Cert.KernelIdeal.Exp.result m c, Cert.KernelIdeal.Exp.run_result m ρ hp,
    (θ_run Cert.ReferenceIdeal.defs _ _).mono (fun _ h c => by
      obtain ⟨e0, e1, e2, e3, e4, e5, e6, e7⟩ := hag c
      exact ⟨(h c).1.trans (same m m' hp c e0 e1 e2 e3 e4 e5 e6 e7), (h c).2⟩)
    (Cert.ReferenceIdeal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_in_range.Gen.facts, Cert.Pre_slots_in_range.Gen.facts,
  kernel, kernelIdeal, referenceIdeal,
  kernel2, kernel2Ideal, reference2Ideal,
  kernel3, kernel3Ideal, reference3Ideal,
  kernel4, kernel4Ideal, reference4Ideal,
  kernel5, kernel5Ideal, reference5Ideal,
  kernel6, kernel6Ideal, reference6Ideal,
  kernel7, kernel7Ideal, reference7Ideal,
  kernel8, kernel8Ideal, reference8Ideal,
  kernel9, kernel9Ideal, reference9Ideal,
  kernel10, kernel10Ideal, reference10Ideal,
  trivial, values, trivial, values2, trivial, values3, trivial, values4, trivial, values5, trivial, values6, trivial, values7,
  trivial, values8, trivial, values9,
  trivial, values10⟩

end Cert.Proof

end
